-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_rows [hPre_finite_rows : Cert.Pre_finite_rows.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_rows [hPre_finite_rows : Cert.Pre_finite_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_rows [hKernelIdeal : Cert.KernelIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_rows [hReferenceIdeal : Cert.ReferenceIdeal.Facts] [hPre_finite_rows : Cert.Pre_finite_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite_rows [hKernelIdeal : Cert.KernelIdeal.Facts] [hReferenceIdeal : Cert.ReferenceIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6_1)) (v1 : (c : Dev Cert.KernelIdeal.nD) → Buf (Elt Ideal) ((c.tc : Thread Cert.KernelIdeal.nD Cert.KernelIdeal.τ).loc Cert.KernelIdeal.main_v6_3)) (v2 : (c : Dev Cert.KernelIdeal.nD) → Buf (Elt Ideal) ((c.tc : Thread Cert.KernelIdeal.nD Cert.KernelIdeal.τ).loc Cert.KernelIdeal.main_v6_4)) (v3 : (c : Dev Cert.KernelIdeal.nD) → Buf (Elt Ideal) ((c.tc : Thread Cert.KernelIdeal.nD Cert.KernelIdeal.τ).loc Cert.KernelIdeal.main_v6_5)) (v4 : (c : Dev Cert.KernelIdeal.nD) → Buf (Elt Ideal) ((c.tc : Thread Cert.KernelIdeal.nD Cert.KernelIdeal.τ).loc Cert.KernelIdeal.main_v6_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_1) = v0 c
          ∧ r.2.mem ((c.tc : Thread Cert.KernelIdeal.nD Cert.KernelIdeal.τ).loc Cert.KernelIdeal.main_v6_3) = v1 c
          ∧ r.2.mem ((c.tc : Thread Cert.KernelIdeal.nD Cert.KernelIdeal.τ).loc Cert.KernelIdeal.main_v6_4) = v2 c
          ∧ r.2.mem ((c.tc : Thread Cert.KernelIdeal.nD Cert.KernelIdeal.τ).loc Cert.KernelIdeal.main_v6_5) = v3 c
          ∧ r.2.mem ((c.tc : Thread Cert.KernelIdeal.nD Cert.KernelIdeal.τ).loc Cert.KernelIdeal.main_v6_6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_0) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_v6_2) = v2 c
          ∧ r.2.mem ((c.tc : Thread Cert.ReferenceIdeal.nD Cert.ReferenceIdeal.τ).loc Cert.ReferenceIdeal.main_v6_3) = v3 c
          ∧ r.2.mem ((c.tc : Thread Cert.ReferenceIdeal.nD Cert.ReferenceIdeal.τ).loc Cert.ReferenceIdeal.main_v6_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_rows : Cert.Pre_finite_rows.Facts),
    quiescent_Kernel (hKernel := hKernel)
    ∧ quiescent_KernelIdeal (hKernelIdeal := hKernelIdeal)
    ∧ quiescent_KernelIdeal_pre_finite_rows (hKernelIdeal := hKernelIdeal) (hPre_finite_rows := hPre_finite_rows)
    ∧ quiescent_ReferenceIdeal (hReferenceIdeal := hReferenceIdeal)
    ∧ quiescent_ReferenceIdeal_pre_finite_rows (hReferenceIdeal := hReferenceIdeal) (hPre_finite_rows := hPre_finite_rows)
    ∧ preserves_Kernel_KernelIdeal
    ∧ algebraic_KernelIdeal_ReferenceIdeal_pre_finite_rows (hKernelIdeal := hKernelIdeal) (hReferenceIdeal := hReferenceIdeal) (hPre_finite_rows := hPre_finite_rows)
-- ==== Pre_finite_rows.lean ====
abbrev S8x1x6144 : Shape := ⟨3, ![8, 1, 6144]⟩
abbrev S6144 : Shape := ⟨1, ![6144]⟩
abbrev S6144x55552 : Shape := ⟨2, ![6144, 55552]⟩
abbrev S55552 : Shape := ⟨1, ![55552]⟩
abbrev S30720x6144 : Shape := ⟨2, ![30720, 6144]⟩
abbrev S8x2048x128 : Shape := ⟨3, ![8, 2048, 128]⟩
abbrev S8 : Shape := ⟨1, ![8]⟩
abbrev S_ : Shape := ⟨0, ![]⟩

class Facts : Prop where
  bitsLt_bf16_f32 : FTy.bits .bf16 < FTy.bits .f32
  bcast_S_S8x1x6144 : S_.BroadcastsInDim S8x1x6144 (![] : Fin 0 → Fin S8x1x6144.rank)
  bcast_S_S6144 : S_.BroadcastsInDim S6144 (![] : Fin 0 → Fin S6144.rank)

variable [Facts]

def fn {F : FTy → Type} [FloatOps F] (main_arg0 : FVec F S8x1x6144 .bf16) (main_arg1 : FVec F S6144 .f32) (main_arg2 : FVec F S6144 .f32) (main_arg3 : FVec F S6144x55552 .fp8e4m3) (main_arg4 : FVec F S55552 .f32) (main_arg5 : FVec F S30720x6144 .fp8e4m3) (main_arg6 : FVec F S6144 .f32) (main_arg7 : FVec F S8x2048x128 .fp8e5m2) (main_arg8 : FVec F S8x2048x128 .fp8e5m2) (main_arg9 : IVec S8 32) (main_arg10 : IVec S8 32) : IVec S8x1x6144 1 × IVec S6144 1 × IVec S6144 1 :=
  let main_v0 : FVec F S8x1x6144 .f32 := (extf .f32 · bitsLt_bf16_f32) main_arg0
  let main_v1 : FVec F S8x1x6144 .f32 := Host.absf main_v0
  let main_cst : FVec F S_ .f32 := constant S_ .f32 0x7F800000#32
  let main_v2 : FVec F S8x1x6144 .f32 := broadcastInDim S8x1x6144 ![] bcast_S_S8x1x6144 main_cst
  let main_v3 : IVec S8x1x6144 1 := cmpf .olt main_v1 main_v2
  let main_v4 : FVec F S6144 .f32 := Host.absf main_arg1
  let main_cst_0 : FVec F S_ .f32 := constant S_ .f32 0x7F800000#32
  let main_v5 : FVec F S6144 .f32 := broadcastInDim S6144 ![] bcast_S_S6144 main_cst_0
  let main_v6 : IVec S6144 1 := cmpf .olt main_v4 main_v5
  let main_v7 : FVec F S6144 .f32 := Host.absf main_arg2
  let main_cst_1 : FVec F S_ .f32 := constant S_ .f32 0x7F800000#32
  let main_v8 : FVec F S6144 .f32 := broadcastInDim S6144 ![] bcast_S_S6144 main_cst_1
  let main_v9 : IVec S6144 1 := cmpf .olt main_v7 main_v8
  (main_v3, main_v6, main_v9)
-- ==== Kernel.lean ====
abbrev S8x1x6144 : Shape := ⟨3, ![8, 1, 6144]⟩
abbrev S6144 : Shape := ⟨1, ![6144]⟩
abbrev S6144x55552 : Shape := ⟨2, ![6144, 55552]⟩
abbrev S55552 : Shape := ⟨1, ![55552]⟩
abbrev S30720x6144 : Shape := ⟨2, ![30720, 6144]⟩
abbrev S8x2048x128 : Shape := ⟨3, ![8, 2048, 128]⟩
abbrev S8 : Shape := ⟨1, ![8]⟩
abbrev S128 : Shape := ⟨1, ![128]⟩
abbrev S1x128 : Shape := ⟨2, ![1, 128]⟩
abbrev S8x6144 : Shape := ⟨2, ![8, 6144]⟩
abbrev S1x6144 : Shape := ⟨2, ![1, 6144]⟩
abbrev S1x55552 : Shape := ⟨2, ![1, 55552]⟩
abbrev S8x55552 : Shape := ⟨2, ![8, 55552]⟩
abbrev S8x48x128 : Shape := ⟨3, ![8, 48, 128]⟩
abbrev S8x1x48 : Shape := ⟨3, ![8, 1, 48]⟩
abbrev S8x128 : Shape := ⟨2, ![8, 128]⟩
abbrev S8x30720 : Shape := ⟨2, ![8, 30720]⟩
abbrev S8x1x240 : Shape := ⟨3, ![8, 1, 240]⟩
abbrev S12x512x7936 : Shape := ⟨3, ![12, 512, 7936]⟩
abbrev S12x16x512 : Shape := ⟨3, ![12, 16, 512]⟩
abbrev S60x16x512 : Shape := ⟨3, ![60, 16, 512]⟩
abbrev S384x128 : Shape := ⟨2, ![384, 128]⟩
abbrev S8x256 : Shape := ⟨2, ![8, 256]⟩
abbrev S12 : Shape := ⟨1, ![12]⟩
abbrev S_ : Shape := ⟨0, ![]⟩
abbrev S1 : Shape := ⟨1, ![1]⟩
abbrev S1x512x7936 : Shape := ⟨3, ![1, 512, 7936]⟩
abbrev S512x7936 : Shape := ⟨2, ![512, 7936]⟩
abbrev S8x1 : Shape := ⟨2, ![8, 1]⟩
abbrev S16x128 : Shape := ⟨2, ![16, 128]⟩
abbrev S1x16x128 : Shape := ⟨3, ![1, 16, 128]⟩
abbrev S8x48 : Shape := ⟨2, ![8, 48]⟩
abbrev S8x7936 : Shape := ⟨2, ![8, 7936]⟩
abbrev S1x512x6144 : Shape := ⟨3, ![1, 512, 6144]⟩
abbrev S512x6144 : Shape := ⟨2, ![512, 6144]⟩
abbrev S1x16x512 : Shape := ⟨3, ![1, 16, 512]⟩
abbrev S16x512 : Shape := ⟨2, ![16, 512]⟩
abbrev S16x7936 : Shape := ⟨2, ![16, 7936]⟩
abbrev S1x7936 : Shape := ⟨2, ![1, 7936]⟩
abbrev S48x128 : Shape := ⟨2, ![48, 128]⟩
abbrev S1x2048x128 : Shape := ⟨3, ![1, 2048, 128]⟩
abbrev S2048x128 : Shape := ⟨2, ![2048, 128]⟩
abbrev S48x2048 : Shape := ⟨2, ![48, 2048]⟩
abbrev S1x2048 : Shape := ⟨2, ![1, 2048]⟩
abbrev S48 : Shape := ⟨1, ![48]⟩
abbrev S48x1 : Shape := ⟨2, ![48, 1]⟩
abbrev S1x48x128 : Shape := ⟨3, ![1, 48, 128]⟩
abbrev S8x240 : Shape := ⟨2, ![8, 240]⟩
abbrev S16x6144 : Shape := ⟨2, ![16, 6144]⟩

abbrev nBuf : Space → Nat
  | .hbm => 27
  | .vmem => 27
  | .smem => 2
  | _ => 0

abbrev bufTy : (tb : Table) → Fin (tcTables nBuf tb) → BufTy
  | .hbm, ⟨0, _⟩ => ⟨S8x1x6144, .bf16⟩
  | .hbm, ⟨1, _⟩ => ⟨S6144, .f32⟩
  | .hbm, ⟨2, _⟩ => ⟨S6144, .f32⟩
  | .hbm, ⟨3, _⟩ => ⟨S6144x55552, .fp8e4m3⟩
  | .hbm, ⟨4, _⟩ => ⟨S55552, .f32⟩
  | .hbm, ⟨5, _⟩ => ⟨S30720x6144, .fp8e4m3⟩
  | .hbm, ⟨6, _⟩ => ⟨S6144, .f32⟩
  | .hbm, ⟨7, _⟩ => ⟨S8x2048x128, .fp8e5m2⟩
  | .hbm, ⟨8, _⟩ => ⟨S8x2048x128, .fp8e5m2⟩
  | .hbm, ⟨9, _⟩ => ⟨S8, .i32⟩
  | .hbm, ⟨10, _⟩ => ⟨S8, .i32⟩
  | .hbm, ⟨11, _⟩ => ⟨S128, .f32⟩
  | .hbm, ⟨12, _⟩ => ⟨S1x128, .f32⟩
  | .hbm, ⟨13, _⟩ => ⟨S8x6144, .bf16⟩
  | .hbm, ⟨14, _⟩ => ⟨S1x6144, .f32⟩
  | .hbm, ⟨15, _⟩ => ⟨S1x6144, .f32⟩
  | .hbm, ⟨16, _⟩ => ⟨S1x55552, .f32⟩
  | .hbm, ⟨17, _⟩ => ⟨S1x6144, .f32⟩
  | .hbm, ⟨18, _⟩ => ⟨S8x6144, .bf16⟩
  | .hbm, ⟨19, _⟩ => ⟨S8x55552, .bf16⟩
  | .hbm, ⟨20, _⟩ => ⟨S8x48x128, .f32⟩
  | .hbm, ⟨21, _⟩ => ⟨S8x6144, .fp8e4m3⟩
  | .hbm, ⟨22, _⟩ => ⟨S8x1x48, .f32⟩
  | .hbm, ⟨23, _⟩ => ⟨S8x128, .fp8e5m2⟩
  | .hbm, ⟨24, _⟩ => ⟨S8x128, .fp8e5m2⟩
  | .hbm, ⟨25, _⟩ => ⟨S8x30720, .fp8e4m3⟩
  | .hbm, ⟨26, _⟩ => ⟨S8x1x240, .f32⟩
  | .local _ .vmem, ⟨0, _⟩ => ⟨S12x512x7936, .fp8e4m3⟩
  | .local _ .vmem, ⟨1, _⟩ => ⟨S8x6144, .bf16⟩
  | .local _ .vmem, ⟨2, _⟩ => ⟨S1x6144, .f32⟩
  | .local _ .vmem, ⟨3, _⟩ => ⟨S1x6144, .f32⟩
  | .local _ .vmem, ⟨4, _⟩ => ⟨S1x55552, .f32⟩
  | .local _ .vmem, ⟨5, _⟩ => ⟨S1x6144, .f32⟩
  | .local _ .vmem, ⟨6, _⟩ => ⟨S8x2048x128, .fp8e5m2⟩
  | .local _ .vmem, ⟨7, _⟩ => ⟨S8x2048x128, .fp8e5m2⟩
  | .local _ .vmem, ⟨8, _⟩ => ⟨S1x128, .f32⟩
  | .local _ .vmem, ⟨9, _⟩ => ⟨S12x16x512, .bf16⟩
  | .local _ .vmem, ⟨10, _⟩ => ⟨S60x16x512, .bf16⟩
  | .local _ .vmem, ⟨11, _⟩ => ⟨S8x55552, .f32⟩
  | .local _ .vmem, ⟨12, _⟩ => ⟨S8x6144, .f32⟩
  | .local _ .vmem, ⟨13, _⟩ => ⟨S8x55552, .bf16⟩
  | .local _ .vmem, ⟨14, _⟩ => ⟨S384x128, .f32⟩
  | .local _ .vmem, ⟨15, _⟩ => ⟨S384x128, .f32⟩
  | .local _ .vmem, ⟨16, _⟩ => ⟨S8x48x128, .f32⟩
  | .local _ .vmem, ⟨17, _⟩ => ⟨S8x6144, .fp8e4m3⟩
  | .local _ .vmem, ⟨18, _⟩ => ⟨S8x1x48, .f32⟩
  | .local _ .vmem, ⟨19, _⟩ => ⟨S8x128, .fp8e5m2⟩
  | .local _ .vmem, ⟨20, _⟩ => ⟨S8x128, .fp8e5m2⟩
  | .local _ .vmem, ⟨21, _⟩ => ⟨S8x128, .f32⟩
  | .local _ .vmem, ⟨22, _⟩ => ⟨S8x128, .f32⟩
  | .local _ .vmem, ⟨23, _⟩ => ⟨S8x30720, .fp8e4m3⟩
  | .local _ .vmem, ⟨24, _⟩ => ⟨S8x1x240, .f32⟩
  | .local _ .vmem, ⟨25, _⟩ => ⟨S8x6144, .bf16⟩
  | .local _ .vmem, ⟨26, _⟩ => ⟨S8x256, .f32⟩
  | .local _ .smem, ⟨0, _⟩ => ⟨S8, .i32⟩
  | .local _ .smem, ⟨1, _⟩ => ⟨S8, .i32⟩
  | _, _ => ⟨S8x1x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v6_3 : Ref sig .tc := ⟨.hbm, 21, rfl⟩
abbrev main_v6_4 : Ref sig .tc := ⟨.hbm, 22, rfl⟩
abbrev main_v6_5 : Ref sig .tc := ⟨.hbm, 23, rfl⟩
abbrev main_v6_6 : Ref sig .tc := ⟨.hbm, 24, rfl⟩
abbrev main_v6_7 : Ref sig .tc := ⟨.hbm, 25, rfl⟩
abbrev main_v6_8 : Ref sig .tc := ⟨.hbm, 26, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch11 : Ref sig .tc := ⟨.vmem, 9, rfl⟩
abbrev cc0_scratch12 : Ref sig .tc := ⟨.vmem, 10, rfl⟩
abbrev cc0_scratch13 : Ref sig .tc := ⟨.vmem, 11, rfl⟩
abbrev cc0_scratch14 : Ref sig .tc := ⟨.vmem, 12, rfl⟩
abbrev cc0_scratch15 : Ref sig .tc := ⟨.vmem, 13, rfl⟩
abbrev cc0_scratch16 : Ref sig .tc := ⟨.vmem, 14, rfl⟩
abbrev cc0_scratch17 : Ref sig .tc := ⟨.vmem, 15, rfl⟩
abbrev cc0_scratch18 : Ref sig .tc := ⟨.vmem, 16, rfl⟩
abbrev cc0_scratch19 : Ref sig .tc := ⟨.vmem, 17, rfl⟩
abbrev cc0_scratch20 : Ref sig .tc := ⟨.vmem, 18, rfl⟩
abbrev cc0_scratch21 : Ref sig .tc := ⟨.vmem, 19, rfl⟩
abbrev cc0_scratch22 : Ref sig .tc := ⟨.vmem, 20, rfl⟩
abbrev cc0_scratch23 : Ref sig .tc := ⟨.vmem, 21, rfl⟩
abbrev cc0_scratch24 : Ref sig .tc := ⟨.vmem, 22, rfl⟩
abbrev cc0_scratch25 : Ref sig .tc := ⟨.vmem, 23, rfl⟩
abbrev cc0_scratch26 : Ref sig .tc := ⟨.vmem, 24, rfl⟩
abbrev cc0_scratch27 : Ref sig .tc := ⟨.vmem, 25, rfl⟩
abbrev cc0_scratch28 : Ref sig .tc := ⟨.vmem, 26, rfl⟩
abbrev cc0_scratch9 : Ref sig .tc := ⟨.smem, 0, rfl⟩
abbrev cc0_scratch10 : Ref sig .tc := ⟨.smem, 1, rfl⟩

abbrev nD : Nat := 1
abbrev τ : Topo := Topo.v7x

variable {F : FTy → Type} [FloatOps F]

abbrev grid0 : Pipeline.Grid := .none

def k0_mult1 : BitVec 32 :=
  let c0_i32 : BitVec 32 := 0#32
  c0_i32
def k0_mult2 : BitVec 32 :=
  let c0_i32_0 : BitVec 32 := 0#32
  c0_i32_0
def k0_mult3 : BitVec 32 :=
  let c512_i32 : BitVec 32 := 512#32
  c512_i32
def k0_mult4 : BitVec 32 :=
  let c0_i32_5 : BitVec 32 := 0#32
  c0_i32_5
def k0_mult5 : BitVec 32 :=
  let c1024_i32 : BitVec 32 := 1024#32
  c1024_i32
def k0_mult6 : BitVec 32 :=
  let c0_i32_9 : BitVec 32 := 0#32
  c0_i32_9
def k0_mult7 : BitVec 32 :=
  let c1536_i32 : BitVec 32 := 1536#32
  c1536_i32
def k0_mult8 : BitVec 32 :=
  let c0_i32_13 : BitVec 32 := 0#32
  c0_i32_13
def k0_mult9 : BitVec 32 :=
  let c2048_i32 : BitVec 32 := 2048#32
  c2048_i32
def k0_mult10 : BitVec 32 :=
  let c0_i32_17 : BitVec 32 := 0#32
  c0_i32_17
def k0_mult11 : BitVec 32 :=
  let c2560_i32 : BitVec 32 := 2560#32
  c2560_i32
def k0_mult12 : BitVec 32 :=
  let c0_i32_21 : BitVec 32 := 0#32
  c0_i32_21
def k0_mult13 : BitVec 32 :=
  let c3072_i32 : BitVec 32 := 3072#32
  c3072_i32
def k0_mult14 : BitVec 32 :=
  let c0_i32_25 : BitVec 32 := 0#32
  c0_i32_25
def k0_mult15 : BitVec 32 :=
  let c3584_i32 : BitVec 32 := 3584#32
  c3584_i32
def k0_mult16 : BitVec 32 :=
  let c0_i32_29 : BitVec 32 := 0#32
  c0_i32_29
def k0_mult17 : BitVec 32 :=
  let c4096_i32 : BitVec 32 := 4096#32
  c4096_i32
def k0_mult18 : BitVec 32 :=
  let c0_i32_33 : BitVec 32 := 0#32
  c0_i32_33
def k0_mult19 : BitVec 32 :=
  let c4608_i32 : BitVec 32 := 4608#32
  c4608_i32
def k0_mult20 : BitVec 32 :=
  let c0_i32_37 : BitVec 32 := 0#32
  c0_i32_37
def k0_mult21 : BitVec 32 :=
  let c5120_i32 : BitVec 32 := 5120#32
  c5120_i32
def k0_mult22 : BitVec 32 :=
  let c0_i32_41 : BitVec 32 := 0#32
  c0_i32_41
@[reducible] def k0_t1_loop : Scf.Loop 32 :=
  let c0_i32_1367 : BitVec 32 := 0#32
  let c7_i32_1368 : BitVec 32 := 7#32
  let v3704 : BitVec 32 := Scalar.addi c0_i32_1367 c7_i32_1368
  let c1_i32_1369 : BitVec 32 := 1#32
  ⟨c0_i32_1367, v3704, c1_i32_1369⟩
def k0_mult23 (k0_t1 : Fin k0_t1_loop.trips) : BitVec 32 :=
  let c0_i32_1367 : BitVec 32 := 0#32
  let c1_i32_1369 : BitVec 32 := 1#32
  let arg61 : BitVec 32 := Scf.iv c0_i32_1367 c1_i32_1369 k0_t1
  let c7936_i32 : BitVec 32 := 7936#32
  let v3731 : BitVec 32 := Scalar.muli arg61 c7936_i32
  v3731
def k0_off1 (k0_t1 : Fin k0_t1_loop.trips) : Fin 2 → Nat :=
  let c0_1400 : Index := 0#32
  let c0_i32_1367 : BitVec 32 := 0#32
  let c1_i32_1369 : BitVec 32 := 1#32
  let arg61 : BitVec 32 := Scf.iv c0_i32_1367 c1_i32_1369 k0_t1
  let c7936_i32 : BitVec 32 := 7936#32
  let v3731 : BitVec 32 := Scalar.muli arg61 c7936_i32
  let v3732 : BitVec 32 := v3731
  let v3734 : Index := Scalar.indexCast v3732
  ![0, v3734.toNat]
@[reducible] def k0_t2_loop : Scf.Loop 32 :=
  let c0_i32_1401 : BitVec 32 := 0#32
  let c12_i32_1402 : BitVec 32 := 12#32
  let v3738 : BitVec 32 := Scalar.addi c0_i32_1401 c12_i32_1402
  let c1_i32_1403 : BitVec 32 := 1#32
  ⟨c0_i32_1401, v3738, c1_i32_1403⟩
def k0_cond1 (k0_t1 : Fin k0_t1_loop.trips) (k0_t2 : Fin k0_t2_loop.trips) : BitVec 1 :=
  let c0_i32_1367 : BitVec 32 := 0#32
  let c1_i32_1369 : BitVec 32 := 1#32
  let arg61 : BitVec 32 := Scf.iv c0_i32_1367 c1_i32_1369 k0_t1
  let c12_i32_1411 : BitVec 32 := 12#32
  let v3758 : BitVec 32 := Scalar.muli arg61 c12_i32_1411
  let c0_i32_1401 : BitVec 32 := 0#32
  let c1_i32_1403 : BitVec 32 := 1#32
  let arg62 : BitVec 32 := Scf.iv c0_i32_1401 c1_i32_1403 k0_t2
  let v3759 : BitVec 32 := Scalar.addi v3758 arg62
  let c11_i32_1413 : BitVec 32 := 11#32
  let v3761 : BitVec 32 := Scalar.addi v3759 c11_i32_1413
  let c84_i32 : BitVec 32 := 84#32
  let v3763 : BitVec 1 := Scalar.cmpi .slt v3761 c84_i32
  let v3764 : BitVec 32 := Scalar.extui v3763
  let c0_i32_1415 : BitVec 32 := 0#32
  let v3765 : BitVec 1 := Scalar.cmpi .ne v3764 c0_i32_1415
  v3765

def k0_mult24 (k0_t1 : Fin k0_t1_loop.trips) (k0_t2 : Fin k0_t2_loop.trips) : BitVec 32 :=
  let c0_i32_1367 : BitVec 32 := 0#32
  let c1_i32_1369 : BitVec 32 := 1#32
  let arg61 : BitVec 32 := Scf.iv c0_i32_1367 c1_i32_1369 k0_t1
  let c12_i32_1411 : BitVec 32 := 12#32
  let v3758 : BitVec 32 := Scalar.muli arg61 c12_i32_1411
  let c0_i32_1401 : BitVec 32 := 0#32
  let c1_i32_1403 : BitVec 32 := 1#32
  let arg62 : BitVec 32 := Scf.iv c0_i32_1401 c1_i32_1403 k0_t2
  let v3759 : BitVec 32 := Scalar.addi v3758 arg62
  let c11_i32_1413 : BitVec 32 := 11#32
  let v3761 : BitVec 32 := Scalar.addi v3759 c11_i32_1413
  let c12_i32_1449 : BitVec 32 := 12#32
  let c0_i32_1450 : BitVec 32 := 0#32
  let v3839 : BitVec 1 := Scalar.cmpi .eq c12_i32_1449 c0_i32_1450
  let c1_i32_1451 : BitVec 32 := 1#32
  let v3840 : BitVec 32 := Scalar.select v3839 c1_i32_1451 c12_i32_1449
  let v3841 : BitVec 32 := Scalar.remsi v3761 v3840
  let c0_i32_1453 : BitVec 32 := 0#32
  let v3843 : BitVec 1 := Scalar.cmpi .slt v3841 c0_i32_1453
  let c0_i32_1454 : BitVec 32 := 0#32
  let v3844 : BitVec 1 := Scalar.cmpi .slt v3840 c0_i32_1454
  let v3845 : BitVec 1 := Scalar.xori v3843 v3844
  let c0_i32_1452 : BitVec 32 := 0#32
  let v3842 : BitVec 1 := Scalar.cmpi .ne v3841 c0_i32_1452
  let v3846 : BitVec 1 := Scalar.andi v3845 v3842
  let v3847 : BitVec 32 := Scalar.addi v3841 v3840
  let v3848 : BitVec 32 := Scalar.select v3846 v3847 v3841
  let c512_i32_1455 : BitVec 32 := 512#32
  let v3849 : BitVec 32 := Scalar.muli v3848 c512_i32_1455
  v3849
def k0_mult25 (k0_t1 : Fin k0_t1_loop.trips) (k0_t2 : Fin k0_t2_loop.trips) : BitVec 32 :=
  let c0_i32_1367 : BitVec 32 := 0#32
  let c1_i32_1369 : BitVec 32 := 1#32
  let arg61 : BitVec 32 := Scf.iv c0_i32_1367 c1_i32_1369 k0_t1
  let c12_i32_1411 : BitVec 32 := 12#32
  let v3758 : BitVec 32 := Scalar.muli arg61 c12_i32_1411
  let c0_i32_1401 : BitVec 32 := 0#32
  let c1_i32_1403 : BitVec 32 := 1#32
  let arg62 : BitVec 32 := Scf.iv c0_i32_1401 c1_i32_1403 k0_t2
  let v3759 : BitVec 32 := Scalar.addi v3758 arg62
  let c11_i32_1413 : BitVec 32 := 11#32
  let v3761 : BitVec 32 := Scalar.addi v3759 c11_i32_1413
  let c0_i32_1443 : BitVec 32 := 0#32
  let v3823 : BitVec 1 := Scalar.cmpi .sgt v3761 c0_i32_1443
  let v3824 : BitVec 32 := Scalar.extui v3823
  let c0_i32_1444 : BitVec 32 := 0#32
  let v3825 : BitVec 1 := Scalar.cmpi .slt v3761 c0_i32_1444
  let v3826 : BitVec 32 := Scalar.extui v3825
  let v3827 : BitVec 32 := Scalar.subi v3824 v3826
  let c12_i32_1442 : BitVec 32 := 12#32
  let c0_i32_1445 : BitVec 32 := 0#32
  let v3828 : BitVec 1 := Scalar.cmpi .sgt c12_i32_1442 c0_i32_1445
  let v3829 : BitVec 32 := Scalar.extui v3828
  let c0_i32_1446 : BitVec 32 := 0#32
  let v3830 : BitVec 1 := Scalar.cmpi .slt c12_i32_1442 c0_i32_1446
  let v3831 : BitVec 32 := Scalar.extui v3830
  let v3832 : BitVec 32 := Scalar.subi v3829 v3831
  let v3833 : BitVec 1 := Scalar.cmpi .ne v3827 v3832
  let v3834 : BitVec 32 := Scalar.remsi v3761 c12_i32_1442
  let c0_i32_1447 : BitVec 32 := 0#32
  let v3835 : BitVec 1 := Scalar.cmpi .ne v3834 c0_i32_1447
  let v3836 : BitVec 1 := Scalar.andi v3833 v3835
  let v3822 : BitVec 32 := Scalar.divsi v3761 c12_i32_1442
  let c1_i32_1448 : BitVec 32 := 1#32
  let v3837 : BitVec 32 := Scalar.subi v3822 c1_i32_1448
  let v3838 : BitVec 32 := Scalar.select v3836 v3837 v3822
  let c7936_i32_1456 : BitVec 32 := 7936#32
  let v3851 : BitVec 32 := Scalar.muli v3838 c7936_i32_1456
  v3851
def k0_off2 (k0_t1 : Fin k0_t1_loop.trips) (k0_t2 : Fin k0_t2_loop.trips) : Fin 1 → Nat :=
  let c0_i32_1367 : BitVec 32 := 0#32
  let c1_i32_1369 : BitVec 32 := 1#32
  let arg61 : BitVec 32 := Scf.iv c0_i32_1367 c1_i32_1369 k0_t1
  let c12_i32_1411 : BitVec 32 := 12#32
  let v3758 : BitVec 32 := Scalar.muli arg61 c12_i32_1411
  let c0_i32_1401 : BitVec 32 := 0#32
  let c1_i32_1403 : BitVec 32 := 1#32
  let arg62 : BitVec 32 := Scf.iv c0_i32_1401 c1_i32_1403 k0_t2
  let v3759 : BitVec 32 := Scalar.addi v3758 arg62
  let c11_i32_1413 : BitVec 32 := 11#32
  let v3761 : BitVec 32 := Scalar.addi v3759 c11_i32_1413
  let c12_i32_1414 : BitVec 32 := 12#32
  let v3762 : BitVec 32 := Scalar.remsi v3761 c12_i32_1414
  ![v3762.toNat]
def k0_off3 (k0_t1 : Fin k0_t1_loop.trips) (k0_t2 : Fin k0_t2_loop.trips) : Fin 3 → Nat :=
  let c0_i32_1367 : BitVec 32 := 0#32
  let c1_i32_1369 : BitVec 32 := 1#32
  let arg61 : BitVec 32 := Scf.iv c0_i32_1367 c1_i32_1369 k0_t1
  let c12_i32_1411 : BitVec 32 := 12#32
  let v3758 : BitVec 32 := Scalar.muli arg61 c12_i32_1411
  let c0_i32_1401 : BitVec 32 := 0#32
  let c1_i32_1403 : BitVec 32 := 1#32
  let arg62 : BitVec 32 := Scf.iv c0_i32_1401 c1_i32_1403 k0_t2
  let v3759 : BitVec 32 := Scalar.addi v3758 arg62
  let c11_i32_1413 : BitVec 32 := 11#32
  let v3761 : BitVec 32 := Scalar.addi v3759 c11_i32_1413
  let c12_i32_1414 : BitVec 32 := 12#32
  let v3762 : BitVec 32 := Scalar.remsi v3761 c12_i32_1414
  let c0_i32_1457 : BitVec 32 := 0#32
  let c0_i32_1458 : BitVec 32 := 0#32
  ![v3762.toNat, 0, 0]
def k0_off4 (k0_t1 : Fin k0_t1_loop.trips) (k0_t2 : Fin k0_t2_loop.trips) : Fin 2 → Nat :=
  let c0_i32_1367 : BitVec 32 := 0#32
  let c1_i32_1369 : BitVec 32 := 1#32
  let arg61 : BitVec 32 := Scf.iv c0_i32_1367 c1_i32_1369 k0_t1
  let c12_i32_1411 : BitVec 32 := 12#32
  let v3758 : BitVec 32 := Scalar.muli arg61 c12_i32_1411
  let c0_i32_1401 : BitVec 32 := 0#32
  let c1_i32_1403 : BitVec 32 := 1#32
  let arg62 : BitVec 32 := Scf.iv c0_i32_1401 c1_i32_1403 k0_t2
  let v3759 : BitVec 32 := Scalar.addi v3758 arg62
  let c11_i32_1413 : BitVec 32 := 11#32
  let v3761 : BitVec 32 := Scalar.addi v3759 c11_i32_1413
  let c12_i32_1449 : BitVec 32 := 12#32
  let c0_i32_1450 : BitVec 32 := 0#32
  let v3839 : BitVec 1 := Scalar.cmpi .eq c12_i32_1449 c0_i32_1450
  let c1_i32_1451 : BitVec 32 := 1#32
  let v3840 : BitVec 32 := Scalar.select v3839 c1_i32_1451 c12_i32_1449
  let v3841 : BitVec 32 := Scalar.remsi v3761 v3840
  let c0_i32_1453 : BitVec 32 := 0#32
  let v3843 : BitVec 1 := Scalar.cmpi .slt v3841 c0_i32_1453
  let c0_i32_1454 : BitVec 32 := 0#32
  let v3844 : BitVec 1 := Scalar.cmpi .slt v3840 c0_i32_1454
  let v3845 : BitVec 1 := Scalar.xori v3843 v3844
  let c0_i32_1452 : BitVec 32 := 0#32
  let v3842 : BitVec 1 := Scalar.cmpi .ne v3841 c0_i32_1452
  let v3846 : BitVec 1 := Scalar.andi v3845 v3842
  let v3847 : BitVec 32 := Scalar.addi v3841 v3840
  let v3848 : BitVec 32 := Scalar.select v3846 v3847 v3841
  let c512_i32_1455 : BitVec 32 := 512#32
  let v3849 : BitVec 32 := Scalar.muli v3848 c512_i32_1455
  let v3850 : BitVec 32 := v3849
  let c0_i32_1443 : BitVec 32 := 0#32
  let v3823 : BitVec 1 := Scalar.cmpi .sgt v3761 c0_i32_1443
  let v3824 : BitVec 32 := Scalar.extui v3823
  let c0_i32_1444 : BitVec 32 := 0#32
  let v3825 : BitVec 1 := Scalar.cmpi .slt v3761 c0_i32_1444
  let v3826 : BitVec 32 := Scalar.extui v3825
  let v3827 : BitVec 32 := Scalar.subi v3824 v3826
  let c12_i32_1442 : BitVec 32 := 12#32
  let c0_i32_1445 : BitVec 32 := 0#32
  let v3828 : BitVec 1 := Scalar.cmpi .sgt c12_i32_1442 c0_i32_1445
  let v3829 : BitVec 32 := Scalar.extui v3828
  let c0_i32_1446 : BitVec 32 := 0#32
  let v3830 : BitVec 1 := Scalar.cmpi .slt c12_i32_1442 c0_i32_1446
  let v3831 : BitVec 32 := Scalar.extui v3830
  let v3832 : BitVec 32 := Scalar.subi v3829 v3831
  let v3833 : BitVec 1 := Scalar.cmpi .ne v3827 v3832
  let v3834 : BitVec 32 := Scalar.remsi v3761 c12_i32_1442
  let c0_i32_1447 : BitVec 32 := 0#32
  let v3835 : BitVec 1 := Scalar.cmpi .ne v3834 c0_i32_1447
  let v3836 : BitVec 1 := Scalar.andi v3833 v3835
  let v3822 : BitVec 32 := Scalar.divsi v3761 c12_i32_1442
  let c1_i32_1448 : BitVec 32 := 1#32
  let v3837 : BitVec 32 := Scalar.subi v3822 c1_i32_1448
  let v3838 : BitVec 32 := Scalar.select v3836 v3837 v3822
  let c7936_i32_1456 : BitVec 32 := 7936#32
  let v3851 : BitVec 32 := Scalar.muli v3838 c7936_i32_1456
  let v3852 : BitVec 32 := v3851
  ![v3850.toNat, v3852.toNat]
def k0_cond2 (k0_t1 : Fin k0_t1_loop.trips) (k0_t2 : Fin k0_t2_loop.trips) : BitVec 1 :=
  let c0_i32_1367 : BitVec 32 := 0#32
  let c1_i32_1369 : BitVec 32 := 1#32
  let arg61 : BitVec 32 := Scf.iv c0_i32_1367 c1_i32_1369 k0_t1
  let c12_i32_1411 : BitVec 32 := 12#32
  let v3758 : BitVec 32 := Scalar.muli arg61 c12_i32_1411
  let c0_i32_1401 : BitVec 32 := 0#32
  let c1_i32_1403 : BitVec 32 := 1#32
  let arg62 : BitVec 32 := Scf.iv c0_i32_1401 c1_i32_1403 k0_t2
  let v3759 : BitVec 32 := Scalar.addi v3758 arg62
  let c11_i32_1413 : BitVec 32 := 11#32
  let v3761 : BitVec 32 := Scalar.addi v3759 c11_i32_1413
  let c84_i32_1416 : BitVec 32 := 84#32
  let v3766 : BitVec 1 := Scalar.cmpi .sge v3761 c84_i32_1416
  let c144_i32 : BitVec 32 := 144#32
  let v3767 : BitVec 1 := Scalar.cmpi .slt v3761 c144_i32
  let v3768 : BitVec 1 := Scalar.andi v3766 v3767
  let v3769 : BitVec 32 := Scalar.extui v3768
  let c0_i32_1417 : BitVec 32 := 0#32
  let v3770 : BitVec 1 := Scalar.cmpi .ne v3769 c0_i32_1417
  v3770

def k0_mult26 (k0_t1 : Fin k0_t1_loop.trips) (k0_t2 : Fin k0_t2_loop.trips) : BitVec 32 :=
  let c0_i32_1367 : BitVec 32 := 0#32
  let c1_i32_1369 : BitVec 32 := 1#32
  let arg61 : BitVec 32 := Scf.iv c0_i32_1367 c1_i32_1369 k0_t1
  let c12_i32_1411 : BitVec 32 := 12#32
  let v3758 : BitVec 32 := Scalar.muli arg61 c12_i32_1411
  let c0_i32_1401 : BitVec 32 := 0#32
  let c1_i32_1403 : BitVec 32 := 1#32
  let arg62 : BitVec 32 := Scf.iv c0_i32_1401 c1_i32_1403 k0_t2
  let v3759 : BitVec 32 := Scalar.addi v3758 arg62
  let c11_i32_1413 : BitVec 32 := 11#32
  let v3761 : BitVec 32 := Scalar.addi v3759 c11_i32_1413
  let c84_i32_1442 : BitVec 32 := 84#32
  let v3822 : BitVec 32 := Scalar.subi v3761 c84_i32_1442
  let c512_i32_1443 : BitVec 32 := 512#32
  let v3823 : BitVec 32 := Scalar.muli v3822 c512_i32_1443
  v3823
def k0_off5 (k0_t1 : Fin k0_t1_loop.trips) (k0_t2 : Fin k0_t2_loop.trips) : Fin 1 → Nat :=
  let c0_i32_1367 : BitVec 32 := 0#32
  let c1_i32_1369 : BitVec 32 := 1#32
  let arg61 : BitVec 32 := Scf.iv c0_i32_1367 c1_i32_1369 k0_t1
  let c12_i32_1411 : BitVec 32 := 12#32
  let v3758 : BitVec 32 := Scalar.muli arg61 c12_i32_1411
  let c0_i32_1401 : BitVec 32 := 0#32
  let c1_i32_1403 : BitVec 32 := 1#32
  let arg62 : BitVec 32 := Scf.iv c0_i32_1401 c1_i32_1403 k0_t2
  let v3759 : BitVec 32 := Scalar.addi v3758 arg62
  let c11_i32_1413 : BitVec 32 := 11#32
  let v3761 : BitVec 32 := Scalar.addi v3759 c11_i32_1413
  let c12_i32_1414 : BitVec 32 := 12#32
  let v3762 : BitVec 32 := Scalar.remsi v3761 c12_i32_1414
  ![v3762.toNat]
def k0_off6 (k0_t1 : Fin k0_t1_loop.trips) (k0_t2 : Fin k0_t2_loop.trips) : Fin 3 → Nat :=
  let c0_i32_1367 : BitVec 32 := 0#32
  let c1_i32_1369 : BitVec 32 := 1#32
  let arg61 : BitVec 32 := Scf.iv c0_i32_1367 c1_i32_1369 k0_t1
  let c12_i32_1411 : BitVec 32 := 12#32
  let v3758 : BitVec 32 := Scalar.muli arg61 c12_i32_1411
  let c0_i32_1401 : BitVec 32 := 0#32
  let c1_i32_1403 : BitVec 32 := 1#32
  let arg62 : BitVec 32 := Scf.iv c0_i32_1401 c1_i32_1403 k0_t2
  let v3759 : BitVec 32 := Scalar.addi v3758 arg62
  let c11_i32_1413 : BitVec 32 := 11#32
  let v3761 : BitVec 32 := Scalar.addi v3759 c11_i32_1413
  let c12_i32_1414 : BitVec 32 := 12#32
  let v3762 : BitVec 32 := Scalar.remsi v3761 c12_i32_1414
  let c0_i32_1444 : BitVec 32 := 0#32
  let c0_i32_1445 : BitVec 32 := 0#32
  ![v3762.toNat, 0, 0]
def k0_off7 (k0_t1 : Fin k0_t1_loop.trips) (k0_t2 : Fin k0_t2_loop.trips) : Fin 2 → Nat :=
  let c0_i32_1367 : BitVec 32 := 0#32
  let c1_i32_1369 : BitVec 32 := 1#32
  let arg61 : BitVec 32 := Scf.iv c0_i32_1367 c1_i32_1369 k0_t1
  let c12_i32_1411 : BitVec 32 := 12#32
  let v3758 : BitVec 32 := Scalar.muli arg61 c12_i32_1411
  let c0_i32_1401 : BitVec 32 := 0#32
  let c1_i32_1403 : BitVec 32 := 1#32
  let arg62 : BitVec 32 := Scf.iv c0_i32_1401 c1_i32_1403 k0_t2
  let v3759 : BitVec 32 := Scalar.addi v3758 arg62
  let c11_i32_1413 : BitVec 32 := 11#32
  let v3761 : BitVec 32 := Scalar.addi v3759 c11_i32_1413
  let c84_i32_1442 : BitVec 32 := 84#32
  let v3822 : BitVec 32 := Scalar.subi v3761 c84_i32_1442
  let c512_i32_1443 : BitVec 32 := 512#32
  let v3823 : BitVec 32 := Scalar.muli v3822 c512_i32_1443
  let v3824 : BitVec 32 := v3823
  let c0_i32_1446 : BitVec 32 := 0#32
  ![v3824.toNat, 0]
def k0_mult27 (k0_t1 : Fin k0_t1_loop.trips) (k0_t2 : Fin k0_t2_loop.trips) : BitVec 32 :=
  let c0_i32_1367 : BitVec 32 := 0#32
  let c1_i32_1369 : BitVec 32 := 1#32
  let arg61 : BitVec 32 := Scf.iv c0_i32_1367 c1_i32_1369 k0_t1
  let c12_i32_1411 : BitVec 32 := 12#32
  let v3758 : BitVec 32 := Scalar.muli arg61 c12_i32_1411
  let c0_i32_1401 : BitVec 32 := 0#32
  let c1_i32_1403 : BitVec 32 := 1#32
  let arg62 : BitVec 32 := Scf.iv c0_i32_1401 c1_i32_1403 k0_t2
  let v3759 : BitVec 32 := Scalar.addi v3758 arg62
  let c12_i32_1425 : BitVec 32 := 12#32
  let c0_i32_1426 : BitVec 32 := 0#32
  let v3788 : BitVec 1 := Scalar.cmpi .eq c12_i32_1425 c0_i32_1426
  let c1_i32_1427 : BitVec 32 := 1#32
  let v3789 : BitVec 32 := Scalar.select v3788 c1_i32_1427 c12_i32_1425
  let v3790 : BitVec 32 := Scalar.remsi v3759 v3789
  let c0_i32_1429 : BitVec 32 := 0#32
  let v3792 : BitVec 1 := Scalar.cmpi .slt v3790 c0_i32_1429
  let c0_i32_1430 : BitVec 32 := 0#32
  let v3793 : BitVec 1 := Scalar.cmpi .slt v3789 c0_i32_1430
  let v3794 : BitVec 1 := Scalar.xori v3792 v3793
  let c0_i32_1428 : BitVec 32 := 0#32
  let v3791 : BitVec 1 := Scalar.cmpi .ne v3790 c0_i32_1428
  let v3795 : BitVec 1 := Scalar.andi v3794 v3791
  let v3796 : BitVec 32 := Scalar.addi v3790 v3789
  let v3797 : BitVec 32 := Scalar.select v3795 v3796 v3790
  let c512_i32_1431 : BitVec 32 := 512#32
  let v3798 : BitVec 32 := Scalar.muli v3797 c512_i32_1431
  v3798
def k0_mult28 (k0_t1 : Fin k0_t1_loop.trips) (k0_t2 : Fin k0_t2_loop.trips) : BitVec 32 :=
  let c0_i32_1367 : BitVec 32 := 0#32
  let c1_i32_1369 : BitVec 32 := 1#32
  let arg61 : BitVec 32 := Scf.iv c0_i32_1367 c1_i32_1369 k0_t1
  let c12_i32_1411 : BitVec 32 := 12#32
  let v3758 : BitVec 32 := Scalar.muli arg61 c12_i32_1411
  let c0_i32_1401 : BitVec 32 := 0#32
  let c1_i32_1403 : BitVec 32 := 1#32
  let arg62 : BitVec 32 := Scf.iv c0_i32_1401 c1_i32_1403 k0_t2
  let v3759 : BitVec 32 := Scalar.addi v3758 arg62
  let c0_i32_1419 : BitVec 32 := 0#32
  let v3772 : BitVec 1 := Scalar.cmpi .sgt v3759 c0_i32_1419
  let v3773 : BitVec 32 := Scalar.extui v3772
  let c0_i32_1420 : BitVec 32 := 0#32
  let v3774 : BitVec 1 := Scalar.cmpi .slt v3759 c0_i32_1420
  let v3775 : BitVec 32 := Scalar.extui v3774
  let v3776 : BitVec 32 := Scalar.subi v3773 v3775
  let c12_i32_1418 : BitVec 32 := 12#32
  let c0_i32_1421 : BitVec 32 := 0#32
  let v3777 : BitVec 1 := Scalar.cmpi .sgt c12_i32_1418 c0_i32_1421
  let v3778 : BitVec 32 := Scalar.extui v3777
  let c0_i32_1422 : BitVec 32 := 0#32
  let v3779 : BitVec 1 := Scalar.cmpi .slt c12_i32_1418 c0_i32_1422
  let v3780 : BitVec 32 := Scalar.extui v3779
  let v3781 : BitVec 32 := Scalar.subi v3778 v3780
  let v3782 : BitVec 1 := Scalar.cmpi .ne v3776 v3781
  let v3783 : BitVec 32 := Scalar.remsi v3759 c12_i32_1418
  let c0_i32_1423 : BitVec 32 := 0#32
  let v3784 : BitVec 1 := Scalar.cmpi .ne v3783 c0_i32_1423
  let v3785 : BitVec 1 := Scalar.andi v3782 v3784
  let v3771 : BitVec 32 := Scalar.divsi v3759 c12_i32_1418
  let c1_i32_1424 : BitVec 32 := 1#32
  let v3786 : BitVec 32 := Scalar.subi v3771 c1_i32_1424
  let v3787 : BitVec 32 := Scalar.select v3785 v3786 v3771
  let c7936_i32_1432 : BitVec 32 := 7936#32
  let v3800 : BitVec 32 := Scalar.muli v3787 c7936_i32_1432
  v3800
def k0_off8 (k0_t1 : Fin k0_t1_loop.trips) (k0_t2 : Fin k0_t2_loop.trips) : Fin 1 → Nat :=
  let c0_i32_1367 : BitVec 32 := 0#32
  let c1_i32_1369 : BitVec 32 := 1#32
  let arg61 : BitVec 32 := Scf.iv c0_i32_1367 c1_i32_1369 k0_t1
  let c12_i32_1411 : BitVec 32 := 12#32
  let v3758 : BitVec 32 := Scalar.muli arg61 c12_i32_1411
  let c0_i32_1401 : BitVec 32 := 0#32
  let c1_i32_1403 : BitVec 32 := 1#32
  let arg62 : BitVec 32 := Scf.iv c0_i32_1401 c1_i32_1403 k0_t2
  let v3759 : BitVec 32 := Scalar.addi v3758 arg62
  let c12_i32_1412 : BitVec 32 := 12#32
  let v3760 : BitVec 32 := Scalar.remsi v3759 c12_i32_1412
  ![v3760.toNat]
def k0_off9 (k0_t1 : Fin k0_t1_loop.trips) (k0_t2 : Fin k0_t2_loop.trips) : Fin 3 → Nat :=
  let c0_i32_1367 : BitVec 32 := 0#32
  let c1_i32_1369 : BitVec 32 := 1#32
  let arg61 : BitVec 32 := Scf.iv c0_i32_1367 c1_i32_1369 k0_t1
  let c12_i32_1411 : BitVec 32 := 12#32
  let v3758 : BitVec 32 := Scalar.muli arg61 c12_i32_1411
  let c0_i32_1401 : BitVec 32 := 0#32
  let c1_i32_1403 : BitVec 32 := 1#32
  let arg62 : BitVec 32 := Scf.iv c0_i32_1401 c1_i32_1403 k0_t2
  let v3759 : BitVec 32 := Scalar.addi v3758 arg62
  let c12_i32_1412 : BitVec 32 := 12#32
  let v3760 : BitVec 32 := Scalar.remsi v3759 c12_i32_1412
  let c0_i32_1433 : BitVec 32 := 0#32
  let c0_i32_1434 : BitVec 32 := 0#32
  ![v3760.toNat, 0, 0]
def k0_off10 (k0_t1 : Fin k0_t1_loop.trips) (k0_t2 : Fin k0_t2_loop.trips) : Fin 2 → Nat :=
  let c0_i32_1367 : BitVec 32 := 0#32
  let c1_i32_1369 : BitVec 32 := 1#32
  let arg61 : BitVec 32 := Scf.iv c0_i32_1367 c1_i32_1369 k0_t1
  let c12_i32_1411 : BitVec 32 := 12#32
  let v3758 : BitVec 32 := Scalar.muli arg61 c12_i32_1411
  let c0_i32_1401 : BitVec 32 := 0#32
  let c1_i32_1403 : BitVec 32 := 1#32
  let arg62 : BitVec 32 := Scf.iv c0_i32_1401 c1_i32_1403 k0_t2
  let v3759 : BitVec 32 := Scalar.addi v3758 arg62
  let c12_i32_1425 : BitVec 32 := 12#32
  let c0_i32_1426 : BitVec 32 := 0#32
  let v3788 : BitVec 1 := Scalar.cmpi .eq c12_i32_1425 c0_i32_1426
  let c1_i32_1427 : BitVec 32 := 1#32
  let v3789 : BitVec 32 := Scalar.select v3788 c1_i32_1427 c12_i32_1425
  let v3790 : BitVec 32 := Scalar.remsi v3759 v3789
  let c0_i32_1429 : BitVec 32 := 0#32
  let v3792 : BitVec 1 := Scalar.cmpi .slt v3790 c0_i32_1429
  let c0_i32_1430 : BitVec 32 := 0#32
  let v3793 : BitVec 1 := Scalar.cmpi .slt v3789 c0_i32_1430
  let v3794 : BitVec 1 := Scalar.xori v3792 v3793
  let c0_i32_1428 : BitVec 32 := 0#32
  let v3791 : BitVec 1 := Scalar.cmpi .ne v3790 c0_i32_1428
  let v3795 : BitVec 1 := Scalar.andi v3794 v3791
  let v3796 : BitVec 32 := Scalar.addi v3790 v3789
  let v3797 : BitVec 32 := Scalar.select v3795 v3796 v3790
  let c512_i32_1431 : BitVec 32 := 512#32
  let v3798 : BitVec 32 := Scalar.muli v3797 c512_i32_1431
  let v3799 : BitVec 32 := v3798
  let c0_i32_1419 : BitVec 32 := 0#32
  let v3772 : BitVec 1 := Scalar.cmpi .sgt v3759 c0_i32_1419
  let v3773 : BitVec 32 := Scalar.extui v3772
  let c0_i32_1420 : BitVec 32 := 0#32
  let v3774 : BitVec 1 := Scalar.cmpi .slt v3759 c0_i32_1420
  let v3775 : BitVec 32 := Scalar.extui v3774
  let v3776 : BitVec 32 := Scalar.subi v3773 v3775
  let c12_i32_1418 : BitVec 32 := 12#32
  let c0_i32_1421 : BitVec 32 := 0#32
  let v3777 : BitVec 1 := Scalar.cmpi .sgt c12_i32_1418 c0_i32_1421
  let v3778 : BitVec 32 := Scalar.extui v3777
  let c0_i32_1422 : BitVec 32 := 0#32
  let v3779 : BitVec 1 := Scalar.cmpi .slt c12_i32_1418 c0_i32_1422
  let v3780 : BitVec 32 := Scalar.extui v3779
  let v3781 : BitVec 32 := Scalar.subi v3778 v3780
  let v3782 : BitVec 1 := Scalar.cmpi .ne v3776 v3781
  let v3783 : BitVec 32 := Scalar.remsi v3759 c12_i32_1418
  let c0_i32_1423 : BitVec 32 := 0#32
  let v3784 : BitVec 1 := Scalar.cmpi .ne v3783 c0_i32_1423
  let v3785 : BitVec 1 := Scalar.andi v3782 v3784
  let v3771 : BitVec 32 := Scalar.divsi v3759 c12_i32_1418
  let c1_i32_1424 : BitVec 32 := 1#32
  let v3786 : BitVec 32 := Scalar.subi v3771 c1_i32_1424
  let v3787 : BitVec 32 := Scalar.select v3785 v3786 v3771
  let c7936_i32_1432 : BitVec 32 := 7936#32
  let v3800 : BitVec 32 := Scalar.muli v3787 c7936_i32_1432
  let v3801 : BitVec 32 := v3800
  ![v3799.toNat, v3801.toNat]
def k0_off11 (k0_t2 : Fin k0_t2_loop.trips) : Fin 3 → Nat :=
  let c0_i32_1401 : BitVec 32 := 0#32
  let c1_i32_1403 : BitVec 32 := 1#32
  let arg62 : BitVec 32 := Scf.iv c0_i32_1401 c1_i32_1403 k0_t2
  let v3807 : Index := Scalar.indexCast arg62
  let c0_1435 : Index := 0#32
  let c0_1436 : Index := 0#32
  ![v3807.toNat, 0, 0]
def k0_off12 (k0_t1 : Fin k0_t1_loop.trips) (k0_t2 : Fin k0_t2_loop.trips) : Fin 3 → Nat :=
  let c0_i32_1367 : BitVec 32 := 0#32
  let c1_i32_1369 : BitVec 32 := 1#32
  let arg61 : BitVec 32 := Scf.iv c0_i32_1367 c1_i32_1369 k0_t1
  let c12_i32_1411 : BitVec 32 := 12#32
  let v3758 : BitVec 32 := Scalar.muli arg61 c12_i32_1411
  let c0_i32_1401 : BitVec 32 := 0#32
  let c1_i32_1403 : BitVec 32 := 1#32
  let arg62 : BitVec 32 := Scf.iv c0_i32_1401 c1_i32_1403 k0_t2
  let v3759 : BitVec 32 := Scalar.addi v3758 arg62
  let c12_i32_1412 : BitVec 32 := 12#32
  let v3760 : BitVec 32 := Scalar.remsi v3759 c12_i32_1412
  let v3810 : Index := Scalar.indexCast v3760
  let c0_1437 : Index := 0#32
  let c0_1438 : Index := 0#32
  ![v3810.toNat, 0, 0]
def k0_off13 (k0_t1 : Fin k0_t1_loop.trips) : Fin 2 → Nat :=
  let c0_1440 : Index := 0#32
  let c0_i32_1367 : BitVec 32 := 0#32
  let c1_i32_1369 : BitVec 32 := 1#32
  let arg61 : BitVec 32 := Scf.iv c0_i32_1367 c1_i32_1369 k0_t1
  let c7936_i32 : BitVec 32 := 7936#32
  let v3731 : BitVec 32 := Scalar.muli arg61 c7936_i32
  let v3732 : BitVec 32 := v3731
  let v3814 : Index := Scalar.indexCast v3732
  ![0, v3814.toNat]
def k0_off14 (k0_t1 : Fin k0_t1_loop.trips) : Fin 2 → Nat :=
  let c0_1406 : Index := 0#32
  let c0_i32_1367 : BitVec 32 := 0#32
  let c1_i32_1369 : BitVec 32 := 1#32
  let arg61 : BitVec 32 := Scf.iv c0_i32_1367 c1_i32_1369 k0_t1
  let c7936_i32 : BitVec 32 := 7936#32
  let v3731 : BitVec 32 := Scalar.muli arg61 c7936_i32
  let v3732 : BitVec 32 := v3731
  let v3741 : Index := Scalar.indexCast v3732
  ![0, v3741.toNat]
def k0_cond3 (k0_t1 : Fin k0_t1_loop.trips) : BitVec 1 :=
  let c0_i32_1367 : BitVec 32 := 0#32
  let c1_i32_1369 : BitVec 32 := 1#32
  let arg61 : BitVec 32 := Scf.iv c0_i32_1367 c1_i32_1369 k0_t1
  let c0_i32_1409 : BitVec 32 := 0#32
  let v3755 : BitVec 1 := Scalar.cmpi .eq arg61 c0_i32_1409
  let v3756 : BitVec 32 := Scalar.extui v3755
  let c0_i32_1410 : BitVec 32 := 0#32
  let v3757 : BitVec 1 := Scalar.cmpi .ne v3756 c0_i32_1410
  v3757

@[reducible] def k0_t3_loop : Scf.Loop 32 :=
  let c0_i32_1622 : BitVec 32 := 0#32
  let c8_i32_1623 : BitVec 32 := 8#32
  let v4172 : BitVec 32 := Scalar.addi c0_i32_1622 c8_i32_1623
  let c1_i32_1624 : BitVec 32 := 1#32
  ⟨c0_i32_1622, v4172, c1_i32_1624⟩
def k0_off15 (k0_t3 : Fin k0_t3_loop.trips) : Fin 2 → Nat :=
  let c0_i32_1622 : BitVec 32 := 0#32
  let c1_i32_1624 : BitVec 32 := 1#32
  let arg62 : BitVec 32 := Scf.iv c0_i32_1622 c1_i32_1624 k0_t3
  let v4173 : Index := Scalar.indexCast arg62
  let c0_1626 : Index := 0#32
  ![v4173.toNat, 0]
def k0_off16 (k0_t3 : Fin k0_t3_loop.trips) : Fin 3 → Nat :=
  let c0_i32_1622 : BitVec 32 := 0#32
  let c1_i32_1624 : BitVec 32 := 1#32
  let arg62 : BitVec 32 := Scf.iv c0_i32_1622 c1_i32_1624 k0_t3
  let v4176 : Index := Scalar.indexCast arg62
  let c0_1627 : Index := 0#32
  let c0_1628 : Index := 0#32
  ![v4176.toNat, 0, 0]
def k0_off17 (k0_t3 : Fin k0_t3_loop.trips) : Fin 1 → Nat :=
  let c0_i32_1622 : BitVec 32 := 0#32
  let c1_i32_1624 : BitVec 32 := 1#32
  let arg62 : BitVec 32 := Scf.iv c0_i32_1622 c1_i32_1624 k0_t3
  let v4185 : Index := Scalar.indexCast arg62
  ![v4185.toNat]
def k0_off18 (k0_t3 : Fin k0_t3_loop.trips) : Fin 2 → Nat :=
  let c0_i32_1622 : BitVec 32 := 0#32
  let c1_i32_1624 : BitVec 32 := 1#32
  let arg62 : BitVec 32 := Scf.iv c0_i32_1622 c1_i32_1624 k0_t3
  let v4194 : Index := Scalar.indexCast arg62
  let c0_1633 : Index := 0#32
  ![v4194.toNat, 0]
def k0_off19 (k0_t3 : Fin k0_t3_loop.trips) : Fin 3 → Nat :=
  let c0_i32_1622 : BitVec 32 := 0#32
  let c1_i32_1624 : BitVec 32 := 1#32
  let arg62 : BitVec 32 := Scf.iv c0_i32_1622 c1_i32_1624 k0_t3
  let v4231 : Index := Scalar.indexCast arg62
  let c0_1643 : Index := 0#32
  let c0_1644 : Index := 0#32
  ![v4231.toNat, 0, 0]
@[reducible] def k0_t4_loop : Scf.Loop 32 :=
  let c0_i32_1374 : BitVec 32 := 0#32
  let c48_i32 : BitVec 32 := 48#32
  let v3709 : BitVec 32 := Scalar.addi c0_i32_1374 c48_i32
  let c1_i32_1375 : BitVec 32 := 1#32
  ⟨c0_i32_1374, v3709, c1_i32_1375⟩
def k0_mult29 (k0_t4 : Fin k0_t4_loop.trips) : BitVec 32 :=
  let c0_i32_1374 : BitVec 32 := 0#32
  let c1_i32_1375 : BitVec 32 := 1#32
  let arg61 : BitVec 32 := Scf.iv c0_i32_1374 c1_i32_1375 k0_t4
  let c8_i32_1399 : BitVec 32 := 8#32
  let v3731 : BitVec 32 := Scalar.muli arg61 c8_i32_1399
  v3731
def k0_off20 (k0_t4 : Fin k0_t4_loop.trips) : Fin 2 → Nat :=
  let c0_i32_1374 : BitVec 32 := 0#32
  let c1_i32_1375 : BitVec 32 := 1#32
  let arg61 : BitVec 32 := Scf.iv c0_i32_1374 c1_i32_1375 k0_t4
  let c8_i32_1399 : BitVec 32 := 8#32
  let v3731 : BitVec 32 := Scalar.muli arg61 c8_i32_1399
  let v3732 : BitVec 32 := v3731
  let v3733 : Index := Scalar.indexCast v3732
  let c0_1400 : Index := 0#32
  ![v3733.toNat, 0]
def k0_mult30 (k0_t4 : Fin k0_t4_loop.trips) : BitVec 32 :=
  let c0_i32_1374 : BitVec 32 := 0#32
  let c1_i32_1375 : BitVec 32 := 1#32
  let arg61 : BitVec 32 := Scf.iv c0_i32_1374 c1_i32_1375 k0_t4
  let c128_i32 : BitVec 32 := 128#32
  let v3783 : BitVec 32 := Scalar.muli arg61 c128_i32
  v3783
def k0_off21 (k0_t4 : Fin k0_t4_loop.trips) : Fin 2 → Nat :=
  let c0_1419 : Index := 0#32
  let c0_i32_1374 : BitVec 32 := 0#32
  let c1_i32_1375 : BitVec 32 := 1#32
  let arg61 : BitVec 32 := Scf.iv c0_i32_1374 c1_i32_1375 k0_t4
  let c128_i32 : BitVec 32 := 128#32
  let v3783 : BitVec 32 := Scalar.muli arg61 c128_i32
  let v3784 : BitVec 32 := v3783
  let v3785 : Index := Scalar.indexCast v3784
  ![0, v3785.toNat]
def k0_mult31 (k0_t4 : Fin k0_t4_loop.trips) : BitVec 32 :=
  let c0_i32_1374 : BitVec 32 := 0#32
  let c1_i32_1375 : BitVec 32 := 1#32
  let arg61 : BitVec 32 := Scf.iv c0_i32_1374 c1_i32_1375 k0_t4
  let c4_i32_1428 : BitVec 32 := 4#32
  let c0_i32_1429 : BitVec 32 := 0#32
  let v3812 : BitVec 1 := Scalar.cmpi .eq c4_i32_1428 c0_i32_1429
  let c1_i32_1430 : BitVec 32 := 1#32
  let v3813 : BitVec 32 := Scalar.select v3812 c1_i32_1430 c4_i32_1428
  let v3814 : BitVec 32 := Scalar.remsi arg61 v3813
  let c0_i32_1432 : BitVec 32 := 0#32
  let v3816 : BitVec 1 := Scalar.cmpi .slt v3814 c0_i32_1432
  let c0_i32_1433 : BitVec 32 := 0#32
  let v3817 : BitVec 1 := Scalar.cmpi .slt v3813 c0_i32_1433
  let v3818 : BitVec 1 := Scalar.xori v3816 v3817
  let c0_i32_1431 : BitVec 32 := 0#32
  let v3815 : BitVec 1 := Scalar.cmpi .ne v3814 c0_i32_1431
  let v3819 : BitVec 1 := Scalar.andi v3818 v3815
  let v3820 : BitVec 32 := Scalar.addi v3814 v3813
  let v3821 : BitVec 32 := Scalar.select v3819 v3820 v3814
  let c128_i32_1434 : BitVec 32 := 128#32
  let v3822 : BitVec 32 := Scalar.muli v3821 c128_i32_1434
  v3822
def k0_off22 (k0_t4 : Fin k0_t4_loop.trips) : Fin 3 → Nat :=
  let c0_i32_1374 : BitVec 32 := 0#32
  let c1_i32_1375 : BitVec 32 := 1#32
  let arg61 : BitVec 32 := Scf.iv c0_i32_1374 c1_i32_1375 k0_t4
  let c0_i32_1422 : BitVec 32 := 0#32
  let v3796 : BitVec 1 := Scalar.cmpi .sgt arg61 c0_i32_1422
  let v3797 : BitVec 32 := Scalar.extui v3796
  let c0_i32_1423 : BitVec 32 := 0#32
  let v3798 : BitVec 1 := Scalar.cmpi .slt arg61 c0_i32_1423
  let v3799 : BitVec 32 := Scalar.extui v3798
  let v3800 : BitVec 32 := Scalar.subi v3797 v3799
  let c4_i32_1421 : BitVec 32 := 4#32
  let c0_i32_1424 : BitVec 32 := 0#32
  let v3801 : BitVec 1 := Scalar.cmpi .sgt c4_i32_1421 c0_i32_1424
  let v3802 : BitVec 32 := Scalar.extui v3801
  let c0_i32_1425 : BitVec 32 := 0#32
  let v3803 : BitVec 1 := Scalar.cmpi .slt c4_i32_1421 c0_i32_1425
  let v3804 : BitVec 32 := Scalar.extui v3803
  let v3805 : BitVec 32 := Scalar.subi v3802 v3804
  let v3806 : BitVec 1 := Scalar.cmpi .ne v3800 v3805
  let v3807 : BitVec 32 := Scalar.remsi arg61 c4_i32_1421
  let c0_i32_1426 : BitVec 32 := 0#32
  let v3808 : BitVec 1 := Scalar.cmpi .ne v3807 c0_i32_1426
  let v3809 : BitVec 1 := Scalar.andi v3806 v3808
  let v3795 : BitVec 32 := Scalar.divsi arg61 c4_i32_1421
  let c1_i32_1427 : BitVec 32 := 1#32
  let v3810 : BitVec 32 := Scalar.subi v3795 c1_i32_1427
  let v3811 : BitVec 32 := Scalar.select v3809 v3810 v3795
  let v3824 : Index := Scalar.indexCast v3811
  let c0_1435 : Index := 0#32
  let c4_i32_1428 : BitVec 32 := 4#32
  let c0_i32_1429 : BitVec 32 := 0#32
  let v3812 : BitVec 1 := Scalar.cmpi .eq c4_i32_1428 c0_i32_1429
  let c1_i32_1430 : BitVec 32 := 1#32
  let v3813 : BitVec 32 := Scalar.select v3812 c1_i32_1430 c4_i32_1428
  let v3814 : BitVec 32 := Scalar.remsi arg61 v3813
  let c0_i32_1432 : BitVec 32 := 0#32
  let v3816 : BitVec 1 := Scalar.cmpi .slt v3814 c0_i32_1432
  let c0_i32_1433 : BitVec 32 := 0#32
  let v3817 : BitVec 1 := Scalar.cmpi .slt v3813 c0_i32_1433
  let v3818 : BitVec 1 := Scalar.xori v3816 v3817
  let c0_i32_1431 : BitVec 32 := 0#32
  let v3815 : BitVec 1 := Scalar.cmpi .ne v3814 c0_i32_1431
  let v3819 : BitVec 1 := Scalar.andi v3818 v3815
  let v3820 : BitVec 32 := Scalar.addi v3814 v3813
  let v3821 : BitVec 32 := Scalar.select v3819 v3820 v3814
  let c128_i32_1434 : BitVec 32 := 128#32
  let v3822 : BitVec 32 := Scalar.muli v3821 c128_i32_1434
  let v3823 : BitVec 32 := v3822
  let v3825 : Index := Scalar.indexCast v3823
  ![v3824.toNat, 0, v3825.toNat]
@[reducible] def k0_t5_loop : Scf.Loop 32 :=
  let c0_i32_1377 : BitVec 32 := 0#32
  let c192_i32 : BitVec 32 := 192#32
  let v3710 : BitVec 32 := Scalar.addi c0_i32_1377 c192_i32
  let c1_i32_1378 : BitVec 32 := 1#32
  ⟨c0_i32_1377, v3710, c1_i32_1378⟩
def k0_mult32 (k0_t5 : Fin k0_t5_loop.trips) : BitVec 32 :=
  let c6400_i32 : BitVec 32 := 6400#32
  let c0_i32_1377 : BitVec 32 := 0#32
  let c1_i32_1378 : BitVec 32 := 1#32
  let arg61 : BitVec 32 := Scf.iv c0_i32_1377 c1_i32_1378 k0_t5
  let c128_i32 : BitVec 32 := 128#32
  let v3731 : BitVec 32 := Scalar.muli arg61 c128_i32
  let v3732 : BitVec 32 := Scalar.addi c6400_i32 v3731
  v3732
def k0_off23 (k0_t5 : Fin k0_t5_loop.trips) (c6400_i32 : BitVec 32) : Fin 2 → Nat :=
  let c0_1399 : Index := 0#32
  let c0_i32_1377 : BitVec 32 := 0#32
  let c1_i32_1378 : BitVec 32 := 1#32
  let arg61 : BitVec 32 := Scf.iv c0_i32_1377 c1_i32_1378 k0_t5
  let c128_i32 : BitVec 32 := 128#32
  let v3731 : BitVec 32 := Scalar.muli arg61 c128_i32
  let v3732 : BitVec 32 := Scalar.addi c6400_i32 v3731
  let v3733 : BitVec 32 := v3732
  let v3734 : Index := Scalar.indexCast v3733
  ![0, v3734.toNat]
def k0_mult33 (k0_t5 : Fin k0_t5_loop.trips) : BitVec 32 :=
  let c30976_i32 : BitVec 32 := 30976#32
  let c0_i32_1377 : BitVec 32 := 0#32
  let c1_i32_1378 : BitVec 32 := 1#32
  let arg61 : BitVec 32 := Scf.iv c0_i32_1377 c1_i32_1378 k0_t5
  let c128_i32_1400 : BitVec 32 := 128#32
  let v3736 : BitVec 32 := Scalar.muli arg61 c128_i32_1400
  let v3737 : BitVec 32 := Scalar.addi c30976_i32 v3736
  v3737
def k0_mult34 (k0_t5 : Fin k0_t5_loop.trips) : BitVec 32 :=
  let c0_i32_1377 : BitVec 32 := 0#32
  let c1_i32_1378 : BitVec 32 := 1#32
  let arg61 : BitVec 32 := Scf.iv c0_i32_1377 c1_i32_1378 k0_t5
  let c48_i32_1402 : BitVec 32 := 48#32
  let v3744 : BitVec 32 := Scalar.addi arg61 c48_i32_1402
  let c128_i32_1421 : BitVec 32 := 128#32
  let v3793 : BitVec 32 := Scalar.muli v3744 c128_i32_1421
  v3793
def k0_off24 (k0_t5 : Fin k0_t5_loop.trips) : Fin 2 → Nat :=
  let c0_1422 : Index := 0#32
  let c0_i32_1377 : BitVec 32 := 0#32
  let c1_i32_1378 : BitVec 32 := 1#32
  let arg61 : BitVec 32 := Scf.iv c0_i32_1377 c1_i32_1378 k0_t5
  let c48_i32_1402 : BitVec 32 := 48#32
  let v3744 : BitVec 32 := Scalar.addi arg61 c48_i32_1402
  let c128_i32_1421 : BitVec 32 := 128#32
  let v3793 : BitVec 32 := Scalar.muli v3744 c128_i32_1421
  let v3794 : BitVec 32 := v3793
  let v3795 : Index := Scalar.indexCast v3794
  ![0, v3795.toNat]
def k0_mult35 (k0_t5 : Fin k0_t5_loop.trips) : BitVec 32 :=
  let c0_i32_1377 : BitVec 32 := 0#32
  let c1_i32_1378 : BitVec 32 := 1#32
  let arg61 : BitVec 32 := Scf.iv c0_i32_1377 c1_i32_1378 k0_t5
  let c48_i32_1402 : BitVec 32 := 48#32
  let v3744 : BitVec 32 := Scalar.addi arg61 c48_i32_1402
  let c4_i32_1431 : BitVec 32 := 4#32
  let c0_i32_1432 : BitVec 32 := 0#32
  let v3822 : BitVec 1 := Scalar.cmpi .eq c4_i32_1431 c0_i32_1432
  let c1_i32_1433 : BitVec 32 := 1#32
  let v3823 : BitVec 32 := Scalar.select v3822 c1_i32_1433 c4_i32_1431
  let v3824 : BitVec 32 := Scalar.remsi v3744 v3823
  let c0_i32_1435 : BitVec 32 := 0#32
  let v3826 : BitVec 1 := Scalar.cmpi .slt v3824 c0_i32_1435
  let c0_i32_1436 : BitVec 32 := 0#32
  let v3827 : BitVec 1 := Scalar.cmpi .slt v3823 c0_i32_1436
  let v3828 : BitVec 1 := Scalar.xori v3826 v3827
  let c0_i32_1434 : BitVec 32 := 0#32
  let v3825 : BitVec 1 := Scalar.cmpi .ne v3824 c0_i32_1434
  let v3829 : BitVec 1 := Scalar.andi v3828 v3825
  let v3830 : BitVec 32 := Scalar.addi v3824 v3823
  let v3831 : BitVec 32 := Scalar.select v3829 v3830 v3824
  let c128_i32_1437 : BitVec 32 := 128#32
  let v3832 : BitVec 32 := Scalar.muli v3831 c128_i32_1437
  v3832
def k0_off25 (k0_t5 : Fin k0_t5_loop.trips) : Fin 3 → Nat :=
  let c0_i32_1377 : BitVec 32 := 0#32
  let c1_i32_1378 : BitVec 32 := 1#32
  let arg61 : BitVec 32 := Scf.iv c0_i32_1377 c1_i32_1378 k0_t5
  let c48_i32_1402 : BitVec 32 := 48#32
  let v3744 : BitVec 32 := Scalar.addi arg61 c48_i32_1402
  let c0_i32_1425 : BitVec 32 := 0#32
  let v3806 : BitVec 1 := Scalar.cmpi .sgt v3744 c0_i32_1425
  let v3807 : BitVec 32 := Scalar.extui v3806
  let c0_i32_1426 : BitVec 32 := 0#32
  let v3808 : BitVec 1 := Scalar.cmpi .slt v3744 c0_i32_1426
  let v3809 : BitVec 32 := Scalar.extui v3808
  let v3810 : BitVec 32 := Scalar.subi v3807 v3809
  let c4_i32_1424 : BitVec 32 := 4#32
  let c0_i32_1427 : BitVec 32 := 0#32
  let v3811 : BitVec 1 := Scalar.cmpi .sgt c4_i32_1424 c0_i32_1427
  let v3812 : BitVec 32 := Scalar.extui v3811
  let c0_i32_1428 : BitVec 32 := 0#32
  let v3813 : BitVec 1 := Scalar.cmpi .slt c4_i32_1424 c0_i32_1428
  let v3814 : BitVec 32 := Scalar.extui v3813
  let v3815 : BitVec 32 := Scalar.subi v3812 v3814
  let v3816 : BitVec 1 := Scalar.cmpi .ne v3810 v3815
  let v3817 : BitVec 32 := Scalar.remsi v3744 c4_i32_1424
  let c0_i32_1429 : BitVec 32 := 0#32
  let v3818 : BitVec 1 := Scalar.cmpi .ne v3817 c0_i32_1429
  let v3819 : BitVec 1 := Scalar.andi v3816 v3818
  let v3805 : BitVec 32 := Scalar.divsi v3744 c4_i32_1424
  let c1_i32_1430 : BitVec 32 := 1#32
  let v3820 : BitVec 32 := Scalar.subi v3805 c1_i32_1430
  let v3821 : BitVec 32 := Scalar.select v3819 v3820 v3805
  let v3834 : Index := Scalar.indexCast v3821
  let c0_1438 : Index := 0#32
  let c4_i32_1431 : BitVec 32 := 4#32
  let c0_i32_1432 : BitVec 32 := 0#32
  let v3822 : BitVec 1 := Scalar.cmpi .eq c4_i32_1431 c0_i32_1432
  let c1_i32_1433 : BitVec 32 := 1#32
  let v3823 : BitVec 32 := Scalar.select v3822 c1_i32_1433 c4_i32_1431
  let v3824 : BitVec 32 := Scalar.remsi v3744 v3823
  let c0_i32_1435 : BitVec 32 := 0#32
  let v3826 : BitVec 1 := Scalar.cmpi .slt v3824 c0_i32_1435
  let c0_i32_1436 : BitVec 32 := 0#32
  let v3827 : BitVec 1 := Scalar.cmpi .slt v3823 c0_i32_1436
  let v3828 : BitVec 1 := Scalar.xori v3826 v3827
  let c0_i32_1434 : BitVec 32 := 0#32
  let v3825 : BitVec 1 := Scalar.cmpi .ne v3824 c0_i32_1434
  let v3829 : BitVec 1 := Scalar.andi v3828 v3825
  let v3830 : BitVec 32 := Scalar.addi v3824 v3823
  let v3831 : BitVec 32 := Scalar.select v3829 v3830 v3824
  let c128_i32_1437 : BitVec 32 := 128#32
  let v3832 : BitVec 32 := Scalar.muli v3831 c128_i32_1437
  let v3833 : BitVec 32 := v3832
  let v3835 : Index := Scalar.indexCast v3833
  ![v3834.toNat, 0, v3835.toNat]
@[reducible] def k0_t6_loop : Scf.Loop 32 :=
  let c0_i32_1388 : BitVec 32 := 0#32
  let c60_i32 : BitVec 32 := 60#32
  let v3719 : BitVec 32 := Scalar.addi c0_i32_1388 c60_i32
  let c1_i32_1389 : BitVec 32 := 1#32
  ⟨c0_i32_1388, v3719, c1_i32_1389⟩
def k0_cond4 (k0_t6 : Fin k0_t6_loop.trips) : BitVec 1 :=
  let c84_i32 : BitVec 32 := 84#32
  let c0_i32_1388 : BitVec 32 := 0#32
  let c1_i32_1389 : BitVec 32 := 1#32
  let arg61 : BitVec 32 := Scf.iv c0_i32_1388 c1_i32_1389 k0_t6
  let v3731 : BitVec 32 := Scalar.addi c84_i32 arg61
  let c11_i32_1400 : BitVec 32 := 11#32
  let v3733 : BitVec 32 := Scalar.addi v3731 c11_i32_1400
  let c84_i32_1402 : BitVec 32 := 84#32
  let v3735 : BitVec 1 := Scalar.cmpi .slt v3733 c84_i32_1402
  let v3736 : BitVec 32 := Scalar.extui v3735
  let c0_i32_1403 : BitVec 32 := 0#32
  let v3737 : BitVec 1 := Scalar.cmpi .ne v3736 c0_i32_1403
  v3737

def k0_mult36 (k0_t6 : Fin k0_t6_loop.trips) : BitVec 32 :=
  let c84_i32 : BitVec 32 := 84#32
  let c0_i32_1388 : BitVec 32 := 0#32
  let c1_i32_1389 : BitVec 32 := 1#32
  let arg61 : BitVec 32 := Scf.iv c0_i32_1388 c1_i32_1389 k0_t6
  let v3731 : BitVec 32 := Scalar.addi c84_i32 arg61
  let c11_i32_1400 : BitVec 32 := 11#32
  let v3733 : BitVec 32 := Scalar.addi v3731 c11_i32_1400
  let c12_i32_1426 : BitVec 32 := 12#32
  let c0_i32_1427 : BitVec 32 := 0#32
  let v3780 : BitVec 1 := Scalar.cmpi .eq c12_i32_1426 c0_i32_1427
  let c1_i32_1428 : BitVec 32 := 1#32
  let v3781 : BitVec 32 := Scalar.select v3780 c1_i32_1428 c12_i32_1426
  let v3782 : BitVec 32 := Scalar.remsi v3733 v3781
  let c0_i32_1430 : BitVec 32 := 0#32
  let v3784 : BitVec 1 := Scalar.cmpi .slt v3782 c0_i32_1430
  let c0_i32_1431 : BitVec 32 := 0#32
  let v3785 : BitVec 1 := Scalar.cmpi .slt v3781 c0_i32_1431
  let v3786 : BitVec 1 := Scalar.xori v3784 v3785
  let c0_i32_1429 : BitVec 32 := 0#32
  let v3783 : BitVec 1 := Scalar.cmpi .ne v3782 c0_i32_1429
  let v3787 : BitVec 1 := Scalar.andi v3786 v3783
  let v3788 : BitVec 32 := Scalar.addi v3782 v3781
  let v3789 : BitVec 32 := Scalar.select v3787 v3788 v3782
  let c512_i32_1432 : BitVec 32 := 512#32
  let v3790 : BitVec 32 := Scalar.muli v3789 c512_i32_1432
  v3790
def k0_mult37 (k0_t6 : Fin k0_t6_loop.trips) : BitVec 32 :=
  let c84_i32 : BitVec 32 := 84#32
  let c0_i32_1388 : BitVec 32 := 0#32
  let c1_i32_1389 : BitVec 32 := 1#32
  let arg61 : BitVec 32 := Scf.iv c0_i32_1388 c1_i32_1389 k0_t6
  let v3731 : BitVec 32 := Scalar.addi c84_i32 arg61
  let c11_i32_1400 : BitVec 32 := 11#32
  let v3733 : BitVec 32 := Scalar.addi v3731 c11_i32_1400
  let c0_i32_1420 : BitVec 32 := 0#32
  let v3764 : BitVec 1 := Scalar.cmpi .sgt v3733 c0_i32_1420
  let v3765 : BitVec 32 := Scalar.extui v3764
  let c0_i32_1421 : BitVec 32 := 0#32
  let v3766 : BitVec 1 := Scalar.cmpi .slt v3733 c0_i32_1421
  let v3767 : BitVec 32 := Scalar.extui v3766
  let v3768 : BitVec 32 := Scalar.subi v3765 v3767
  let c12_i32_1419 : BitVec 32 := 12#32
  let c0_i32_1422 : BitVec 32 := 0#32
  let v3769 : BitVec 1 := Scalar.cmpi .sgt c12_i32_1419 c0_i32_1422
  let v3770 : BitVec 32 := Scalar.extui v3769
  let c0_i32_1423 : BitVec 32 := 0#32
  let v3771 : BitVec 1 := Scalar.cmpi .slt c12_i32_1419 c0_i32_1423
  let v3772 : BitVec 32 := Scalar.extui v3771
  let v3773 : BitVec 32 := Scalar.subi v3770 v3772
  let v3774 : BitVec 1 := Scalar.cmpi .ne v3768 v3773
  let v3775 : BitVec 32 := Scalar.remsi v3733 c12_i32_1419
  let c0_i32_1424 : BitVec 32 := 0#32
  let v3776 : BitVec 1 := Scalar.cmpi .ne v3775 c0_i32_1424
  let v3777 : BitVec 1 := Scalar.andi v3774 v3776
  let v3763 : BitVec 32 := Scalar.divsi v3733 c12_i32_1419
  let c1_i32_1425 : BitVec 32 := 1#32
  let v3778 : BitVec 32 := Scalar.subi v3763 c1_i32_1425
  let v3779 : BitVec 32 := Scalar.select v3777 v3778 v3763
  let c7936_i32 : BitVec 32 := 7936#32
  let v3792 : BitVec 32 := Scalar.muli v3779 c7936_i32
  v3792
def k0_off26 (k0_t6 : Fin k0_t6_loop.trips) : Fin 1 → Nat :=
  let c84_i32 : BitVec 32 := 84#32
  let c0_i32_1388 : BitVec 32 := 0#32
  let c1_i32_1389 : BitVec 32 := 1#32
  let arg61 : BitVec 32 := Scf.iv c0_i32_1388 c1_i32_1389 k0_t6
  let v3731 : BitVec 32 := Scalar.addi c84_i32 arg61
  let c11_i32_1400 : BitVec 32 := 11#32
  let v3733 : BitVec 32 := Scalar.addi v3731 c11_i32_1400
  let c12_i32_1401 : BitVec 32 := 12#32
  let v3734 : BitVec 32 := Scalar.remsi v3733 c12_i32_1401
  ![v3734.toNat]
def k0_off27 (k0_t6 : Fin k0_t6_loop.trips) : Fin 3 → Nat :=
  let c84_i32 : BitVec 32 := 84#32
  let c0_i32_1388 : BitVec 32 := 0#32
  let c1_i32_1389 : BitVec 32 := 1#32
  let arg61 : BitVec 32 := Scf.iv c0_i32_1388 c1_i32_1389 k0_t6
  let v3731 : BitVec 32 := Scalar.addi c84_i32 arg61
  let c11_i32_1400 : BitVec 32 := 11#32
  let v3733 : BitVec 32 := Scalar.addi v3731 c11_i32_1400
  let c12_i32_1401 : BitVec 32 := 12#32
  let v3734 : BitVec 32 := Scalar.remsi v3733 c12_i32_1401
  let c0_i32_1433 : BitVec 32 := 0#32
  let c0_i32_1434 : BitVec 32 := 0#32
  ![v3734.toNat, 0, 0]
def k0_off28 (k0_t6 : Fin k0_t6_loop.trips) : Fin 2 → Nat :=
  let c84_i32 : BitVec 32 := 84#32
  let c0_i32_1388 : BitVec 32 := 0#32
  let c1_i32_1389 : BitVec 32 := 1#32
  let arg61 : BitVec 32 := Scf.iv c0_i32_1388 c1_i32_1389 k0_t6
  let v3731 : BitVec 32 := Scalar.addi c84_i32 arg61
  let c11_i32_1400 : BitVec 32 := 11#32
  let v3733 : BitVec 32 := Scalar.addi v3731 c11_i32_1400
  let c12_i32_1426 : BitVec 32 := 12#32
  let c0_i32_1427 : BitVec 32 := 0#32
  let v3780 : BitVec 1 := Scalar.cmpi .eq c12_i32_1426 c0_i32_1427
  let c1_i32_1428 : BitVec 32 := 1#32
  let v3781 : BitVec 32 := Scalar.select v3780 c1_i32_1428 c12_i32_1426
  let v3782 : BitVec 32 := Scalar.remsi v3733 v3781
  let c0_i32_1430 : BitVec 32 := 0#32
  let v3784 : BitVec 1 := Scalar.cmpi .slt v3782 c0_i32_1430
  let c0_i32_1431 : BitVec 32 := 0#32
  let v3785 : BitVec 1 := Scalar.cmpi .slt v3781 c0_i32_1431
  let v3786 : BitVec 1 := Scalar.xori v3784 v3785
  let c0_i32_1429 : BitVec 32 := 0#32
  let v3783 : BitVec 1 := Scalar.cmpi .ne v3782 c0_i32_1429
  let v3787 : BitVec 1 := Scalar.andi v3786 v3783
  let v3788 : BitVec 32 := Scalar.addi v3782 v3781
  let v3789 : BitVec 32 := Scalar.select v3787 v3788 v3782
  let c512_i32_1432 : BitVec 32 := 512#32
  let v3790 : BitVec 32 := Scalar.muli v3789 c512_i32_1432
  let v3791 : BitVec 32 := v3790
  let c0_i32_1420 : BitVec 32 := 0#32
  let v3764 : BitVec 1 := Scalar.cmpi .sgt v3733 c0_i32_1420
  let v3765 : BitVec 32 := Scalar.extui v3764
  let c0_i32_1421 : BitVec 32 := 0#32
  let v3766 : BitVec 1 := Scalar.cmpi .slt v3733 c0_i32_1421
  let v3767 : BitVec 32 := Scalar.extui v3766
  let v3768 : BitVec 32 := Scalar.subi v3765 v3767
  let c12_i32_1419 : BitVec 32 := 12#32
  let c0_i32_1422 : BitVec 32 := 0#32
  let v3769 : BitVec 1 := Scalar.cmpi .sgt c12_i32_1419 c0_i32_1422
  let v3770 : BitVec 32 := Scalar.extui v3769
  let c0_i32_1423 : BitVec 32 := 0#32
  let v3771 : BitVec 1 := Scalar.cmpi .slt c12_i32_1419 c0_i32_1423
  let v3772 : BitVec 32 := Scalar.extui v3771
  let v3773 : BitVec 32 := Scalar.subi v3770 v3772
  let v3774 : BitVec 1 := Scalar.cmpi .ne v3768 v3773
  let v3775 : BitVec 32 := Scalar.remsi v3733 c12_i32_1419
  let c0_i32_1424 : BitVec 32 := 0#32
  let v3776 : BitVec 1 := Scalar.cmpi .ne v3775 c0_i32_1424
  let v3777 : BitVec 1 := Scalar.andi v3774 v3776
  let v3763 : BitVec 32 := Scalar.divsi v3733 c12_i32_1419
  let c1_i32_1425 : BitVec 32 := 1#32
  let v3778 : BitVec 32 := Scalar.subi v3763 c1_i32_1425
  let v3779 : BitVec 32 := Scalar.select v3777 v3778 v3763
  let c7936_i32 : BitVec 32 := 7936#32
  let v3792 : BitVec 32 := Scalar.muli v3779 c7936_i32
  let v3793 : BitVec 32 := v3792
  ![v3791.toNat, v3793.toNat]
def k0_cond5 (k0_t6 : Fin k0_t6_loop.trips) : BitVec 1 :=
  let c84_i32 : BitVec 32 := 84#32
  let c0_i32_1388 : BitVec 32 := 0#32
  let c1_i32_1389 : BitVec 32 := 1#32
  let arg61 : BitVec 32 := Scf.iv c0_i32_1388 c1_i32_1389 k0_t6
  let v3731 : BitVec 32 := Scalar.addi c84_i32 arg61
  let c11_i32_1400 : BitVec 32 := 11#32
  let v3733 : BitVec 32 := Scalar.addi v3731 c11_i32_1400
  let c84_i32_1404 : BitVec 32 := 84#32
  let v3738 : BitVec 1 := Scalar.cmpi .sge v3733 c84_i32_1404
  let c144_i32 : BitVec 32 := 144#32
  let v3739 : BitVec 1 := Scalar.cmpi .slt v3733 c144_i32
  let v3740 : BitVec 1 := Scalar.andi v3738 v3739
  let v3741 : BitVec 32 := Scalar.extui v3740
  let c0_i32_1405 : BitVec 32 := 0#32
  let v3742 : BitVec 1 := Scalar.cmpi .ne v3741 c0_i32_1405
  v3742

def k0_mult38 (k0_t6 : Fin k0_t6_loop.trips) : BitVec 32 :=
  let c84_i32 : BitVec 32 := 84#32
  let c0_i32_1388 : BitVec 32 := 0#32
  let c1_i32_1389 : BitVec 32 := 1#32
  let arg61 : BitVec 32 := Scf.iv c0_i32_1388 c1_i32_1389 k0_t6
  let v3731 : BitVec 32 := Scalar.addi c84_i32 arg61
  let c11_i32_1400 : BitVec 32 := 11#32
  let v3733 : BitVec 32 := Scalar.addi v3731 c11_i32_1400
  let c84_i32_1419 : BitVec 32 := 84#32
  let v3763 : BitVec 32 := Scalar.subi v3733 c84_i32_1419
  let c512_i32_1420 : BitVec 32 := 512#32
  let v3764 : BitVec 32 := Scalar.muli v3763 c512_i32_1420
  v3764
def k0_off29 (k0_t6 : Fin k0_t6_loop.trips) : Fin 1 → Nat :=
  let c84_i32 : BitVec 32 := 84#32
  let c0_i32_1388 : BitVec 32 := 0#32
  let c1_i32_1389 : BitVec 32 := 1#32
  let arg61 : BitVec 32 := Scf.iv c0_i32_1388 c1_i32_1389 k0_t6
  let v3731 : BitVec 32 := Scalar.addi c84_i32 arg61
  let c11_i32_1400 : BitVec 32 := 11#32
  let v3733 : BitVec 32 := Scalar.addi v3731 c11_i32_1400
  let c12_i32_1401 : BitVec 32 := 12#32
  let v3734 : BitVec 32 := Scalar.remsi v3733 c12_i32_1401
  ![v3734.toNat]
def k0_off30 (k0_t6 : Fin k0_t6_loop.trips) : Fin 3 → Nat :=
  let c84_i32 : BitVec 32 := 84#32
  let c0_i32_1388 : BitVec 32 := 0#32
  let c1_i32_1389 : BitVec 32 := 1#32
  let arg61 : BitVec 32 := Scf.iv c0_i32_1388 c1_i32_1389 k0_t6
  let v3731 : BitVec 32 := Scalar.addi c84_i32 arg61
  let c11_i32_1400 : BitVec 32 := 11#32
  let v3733 : BitVec 32 := Scalar.addi v3731 c11_i32_1400
  let c12_i32_1401 : BitVec 32 := 12#32
  let v3734 : BitVec 32 := Scalar.remsi v3733 c12_i32_1401
  let c0_i32_1421 : BitVec 32 := 0#32
  let c0_i32_1422 : BitVec 32 := 0#32
  ![v3734.toNat, 0, 0]
def k0_off31 (k0_t6 : Fin k0_t6_loop.trips) : Fin 2 → Nat :=
  let c84_i32 : BitVec 32 := 84#32
  let c0_i32_1388 : BitVec 32 := 0#32
  let c1_i32_1389 : BitVec 32 := 1#32
  let arg61 : BitVec 32 := Scf.iv c0_i32_1388 c1_i32_1389 k0_t6
  let v3731 : BitVec 32 := Scalar.addi c84_i32 arg61
  let c11_i32_1400 : BitVec 32 := 11#32
  let v3733 : BitVec 32 := Scalar.addi v3731 c11_i32_1400
  let c84_i32_1419 : BitVec 32 := 84#32
  let v3763 : BitVec 32 := Scalar.subi v3733 c84_i32_1419
  let c512_i32_1420 : BitVec 32 := 512#32
  let v3764 : BitVec 32 := Scalar.muli v3763 c512_i32_1420
  let v3765 : BitVec 32 := v3764
  let c0_i32_1423 : BitVec 32 := 0#32
  ![v3765.toNat, 0]
def k0_mult39 (k0_t6 : Fin k0_t6_loop.trips) : BitVec 32 :=
  let c0_i32_1388 : BitVec 32 := 0#32
  let c1_i32_1389 : BitVec 32 := 1#32
  let arg61 : BitVec 32 := Scf.iv c0_i32_1388 c1_i32_1389 k0_t6
  let c512_i32_1406 : BitVec 32 := 512#32
  let v3743 : BitVec 32 := Scalar.muli arg61 c512_i32_1406
  v3743
def k0_off32 (k0_t6 : Fin k0_t6_loop.trips) : Fin 1 → Nat :=
  let c84_i32 : BitVec 32 := 84#32
  let c0_i32_1388 : BitVec 32 := 0#32
  let c1_i32_1389 : BitVec 32 := 1#32
  let arg61 : BitVec 32 := Scf.iv c0_i32_1388 c1_i32_1389 k0_t6
  let v3731 : BitVec 32 := Scalar.addi c84_i32 arg61
  let c12_i32_1399 : BitVec 32 := 12#32
  let v3732 : BitVec 32 := Scalar.remsi v3731 c12_i32_1399
  ![v3732.toNat]
def k0_off33 (k0_t6 : Fin k0_t6_loop.trips) : Fin 3 → Nat :=
  let c84_i32 : BitVec 32 := 84#32
  let c0_i32_1388 : BitVec 32 := 0#32
  let c1_i32_1389 : BitVec 32 := 1#32
  let arg61 : BitVec 32 := Scf.iv c0_i32_1388 c1_i32_1389 k0_t6
  let v3731 : BitVec 32 := Scalar.addi c84_i32 arg61
  let c12_i32_1399 : BitVec 32 := 12#32
  let v3732 : BitVec 32 := Scalar.remsi v3731 c12_i32_1399
  let c0_i32_1407 : BitVec 32 := 0#32
  let c0_i32_1408 : BitVec 32 := 0#32
  ![v3732.toNat, 0, 0]
def k0_off34 (k0_t6 : Fin k0_t6_loop.trips) : Fin 2 → Nat :=
  let c0_i32_1388 : BitVec 32 := 0#32
  let c1_i32_1389 : BitVec 32 := 1#32
  let arg61 : BitVec 32 := Scf.iv c0_i32_1388 c1_i32_1389 k0_t6
  let c512_i32_1406 : BitVec 32 := 512#32
  let v3743 : BitVec 32 := Scalar.muli arg61 c512_i32_1406
  let v3744 : BitVec 32 := v3743
  let c0_i32_1409 : BitVec 32 := 0#32
  ![v3744.toNat, 0]
def k0_off35 (k0_t6 : Fin k0_t6_loop.trips) : Fin 3 → Nat :=
  let c0_i32_1388 : BitVec 32 := 0#32
  let c1_i32_1389 : BitVec 32 := 1#32
  let arg61 : BitVec 32 := Scf.iv c0_i32_1388 c1_i32_1389 k0_t6
  let v3750 : Index := Scalar.indexCast arg61
  let c0_1410 : Index := 0#32
  let c0_1411 : Index := 0#32
  ![v3750.toNat, 0, 0]
def k0_off36 (k0_t6 : Fin k0_t6_loop.trips) : Fin 3 → Nat :=
  let c84_i32 : BitVec 32 := 84#32
  let c0_i32_1388 : BitVec 32 := 0#32
  let c1_i32_1389 : BitVec 32 := 1#32
  let arg61 : BitVec 32 := Scf.iv c0_i32_1388 c1_i32_1389 k0_t6
  let v3731 : BitVec 32 := Scalar.addi c84_i32 arg61
  let c12_i32_1399 : BitVec 32 := 12#32
  let v3732 : BitVec 32 := Scalar.remsi v3731 c12_i32_1399
  let v3753 : Index := Scalar.indexCast v3732
  let c0_1412 : Index := 0#32
  let c0_1413 : Index := 0#32
  ![v3753.toNat, 0, 0]
-- ==== ReferenceIdeal.lean ====
abbrev S8x1x6144 : Shape := ⟨3, ![8, 1, 6144]⟩
abbrev S6144 : Shape := ⟨1, ![6144]⟩
abbrev S6144x55552 : Shape := ⟨2, ![6144, 55552]⟩
abbrev S55552 : Shape := ⟨1, ![55552]⟩
abbrev S30720x6144 : Shape := ⟨2, ![30720, 6144]⟩
abbrev S8x2048x128 : Shape := ⟨3, ![8, 2048, 128]⟩
abbrev S8 : Shape := ⟨1, ![8]⟩
abbrev S64 : Shape := ⟨1, ![64]⟩
abbrev S8x6144 : Shape := ⟨2, ![8, 6144]⟩
abbrev S1x6144 : Shape := ⟨2, ![1, 6144]⟩
abbrev S1x55552 : Shape := ⟨2, ![1, 55552]⟩
abbrev S8x1 : Shape := ⟨2, ![8, 1]⟩
abbrev S1x64 : Shape := ⟨2, ![1, 64]⟩
abbrev S8x55552 : Shape := ⟨2, ![8, 55552]⟩
abbrev S8x1x48 : Shape := ⟨3, ![8, 1, 48]⟩
abbrev S8x128 : Shape := ⟨2, ![8, 128]⟩
abbrev S8x48x128 : Shape := ⟨3, ![8, 48, 128]⟩
abbrev S8x48 : Shape := ⟨2, ![8, 48]⟩
abbrev S8x48x1 : Shape := ⟨3, ![8, 48, 1]⟩
abbrev S8x64 : Shape := ⟨2, ![8, 64]⟩

abbrev nBuf : Space → Nat
  | .hbm => 23
  | .vmem => 12
  | .smem => 0
  | _ => 0

abbrev bufTy : (tb : Table) → Fin (tcTables nBuf tb) → BufTy
  | .hbm, ⟨0, _⟩ => ⟨S8x1x6144, .bf16⟩
  | .hbm, ⟨1, _⟩ => ⟨S6144, .f32⟩
  | .hbm, ⟨2, _⟩ => ⟨S6144, .f32⟩
  | .hbm, ⟨3, _⟩ => ⟨S6144x55552, .fp8e4m3⟩
  | .hbm, ⟨4, _⟩ => ⟨S55552, .f32⟩
  | .hbm, ⟨5, _⟩ => ⟨S30720x6144, .fp8e4m3⟩
  | .hbm, ⟨6, _⟩ => ⟨S6144, .f32⟩
  | .hbm, ⟨7, _⟩ => ⟨S8x2048x128, .fp8e5m2⟩
  | .hbm, ⟨8, _⟩ => ⟨S8x2048x128, .fp8e5m2⟩
  | .hbm, ⟨9, _⟩ => ⟨S8, .i32⟩
  | .hbm, ⟨10, _⟩ => ⟨S8, .i32⟩
  | .hbm, ⟨11, _⟩ => ⟨S64, .f32⟩
  | .hbm, ⟨12, _⟩ => ⟨S8x6144, .bf16⟩
  | .hbm, ⟨13, _⟩ => ⟨S1x6144, .f32⟩
  | .hbm, ⟨14, _⟩ => ⟨S1x6144, .f32⟩
  | .hbm, ⟨15, _⟩ => ⟨S1x55552, .f32⟩
  | .hbm, ⟨16, _⟩ => ⟨S8x1, .i32⟩
  | .hbm, ⟨17, _⟩ => ⟨S1x64, .f32⟩
  | .hbm, ⟨18, _⟩ => ⟨S8x55552, .bf16⟩
  | .hbm, ⟨19, _⟩ => ⟨S8x6144, .fp8e4m3⟩
  | .hbm, ⟨20, _⟩ => ⟨S8x1x48, .f32⟩
  | .hbm, ⟨21, _⟩ => ⟨S8x128, .fp8e5m2⟩
  | .hbm, ⟨22, _⟩ => ⟨S8x128, .fp8e5m2⟩
  | .local _ .vmem, ⟨0, _⟩ => ⟨S8x6144, .bf16⟩
  | .local _ .vmem, ⟨1, _⟩ => ⟨S1x6144, .f32⟩
  | .local _ .vmem, ⟨2, _⟩ => ⟨S1x6144, .f32⟩
  | .local _ .vmem, ⟨3, _⟩ => ⟨S6144x55552, .fp8e4m3⟩
  | .local _ .vmem, ⟨4, _⟩ => ⟨S1x55552, .f32⟩
  | .local _ .vmem, ⟨5, _⟩ => ⟨S8x1, .i32⟩
  | .local _ .vmem, ⟨6, _⟩ => ⟨S1x64, .f32⟩
  | .local _ .vmem, ⟨7, _⟩ => ⟨S8x55552, .bf16⟩
  | .local _ .vmem, ⟨8, _⟩ => ⟨S8x6144, .fp8e4m3⟩
  | .local _ .vmem, ⟨9, _⟩ => ⟨S8x1x48, .f32⟩
  | .local _ .vmem, ⟨10, _⟩ => ⟨S8x128, .fp8e5m2⟩
  | .local _ .vmem, ⟨11, _⟩ => ⟨S8x128, .fp8e5m2⟩
  | _, _ => ⟨S8x1x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v6_3 : Ref sig .tc := ⟨.hbm, 21, rfl⟩
abbrev main_v6_4 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S8x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x55552 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x55552 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x55552 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x6144 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x1x48 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x128 .fp8e5m2 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x128 .fp8e5m2 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Base.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's resource algebra. -/
local notation "𝕄" => MT nD τ sig Unit (Elt F) ℕ (Pipeline.UD sig nD τ) ℕ

/-! ## The body's operands -/

abbrev A0 : Memref sig .tc .hbm S8x6144 .bf16 := Memref.whole main_v1
theorem hA0 : A0.IsWhole := Memref.isWhole_whole _
abbrev A1 : Memref sig .tc .hbm S1x6144 .f32 := Memref.whole main_v2
theorem hA1 : A1.IsWhole := Memref.isWhole_whole _
abbrev A2 : Memref sig .tc .hbm S1x6144 .f32 := Memref.whole main_v3
theorem hA2 : A2.IsWhole := Memref.isWhole_whole _
abbrev A3 : Memref sig .tc .hbm S6144x55552 .fp8e4m3 := Memref.whole main_arg3
theorem hA3 : A3.IsWhole := Memref.isWhole_whole _
abbrev A4 : Memref sig .tc .hbm S1x55552 .f32 := Memref.whole main_v4
theorem hA4 : A4.IsWhole := Memref.isWhole_whole _
abbrev A5 : Memref sig .tc .hbm S30720x6144 .fp8e4m3 := Memref.whole main_arg5
theorem hA5 : A5.IsWhole := Memref.isWhole_whole _
abbrev A6 : Memref sig .tc .hbm S1x6144 .f32 := Memref.whole main_v5
theorem hA6 : A6.IsWhole := Memref.isWhole_whole _
abbrev A7 : Memref sig .tc .hbm S8x2048x128 .fp8e5m2 := Memref.whole main_arg7
theorem hA7 : A7.IsWhole := Memref.isWhole_whole _
abbrev A8 : Memref sig .tc .hbm S8x2048x128 .fp8e5m2 := Memref.whole main_arg8
theorem hA8 : A8.IsWhole := Memref.isWhole_whole _
abbrev A9 : Memref sig .tc .hbm S8 .i32 := Memref.whole main_arg9
theorem hA9 : A9.IsWhole := Memref.isWhole_whole _
abbrev A10 : Memref sig .tc .hbm S8 .i32 := Memref.whole main_arg10
theorem hA10 : A10.IsWhole := Memref.isWhole_whole _
abbrev A11 : Memref sig .tc .hbm S1x128 .f32 := Memref.whole main_v0
theorem hA11 : A11.IsWhole := Memref.isWhole_whole _
abbrev A12 : Memref sig .tc .hbm S8x6144 .bf16 := Memref.whole main_v6_0
theorem hA12 : A12.IsWhole := Memref.isWhole_whole _
abbrev A13 : Memref sig .tc .hbm S8x55552 .bf16 := Memref.whole main_v6_1
theorem hA13 : A13.IsWhole := Memref.isWhole_whole _
abbrev A14 : Memref sig .tc .hbm S8x48x128 .f32 := Memref.whole main_v6_2
theorem hA14 : A14.IsWhole := Memref.isWhole_whole _
abbrev A15 : Memref sig .tc .hbm S8x6144 .fp8e4m3 := Memref.whole main_v6_3
theorem hA15 : A15.IsWhole := Memref.isWhole_whole _
abbrev A16 : Memref sig .tc .hbm S8x1x48 .f32 := Memref.whole main_v6_4
theorem hA16 : A16.IsWhole := Memref.isWhole_whole _
abbrev A17 : Memref sig .tc .hbm S8x128 .fp8e5m2 := Memref.whole main_v6_5
theorem hA17 : A17.IsWhole := Memref.isWhole_whole _
abbrev A18 : Memref sig .tc .hbm S8x128 .fp8e5m2 := Memref.whole main_v6_6
theorem hA18 : A18.IsWhole := Memref.isWhole_whole _
abbrev A19 : Memref sig .tc .hbm S8x30720 .fp8e4m3 := Memref.whole main_v6_7
theorem hA19 : A19.IsWhole := Memref.isWhole_whole _
abbrev A20 : Memref sig .tc .hbm S8x1x240 .f32 := Memref.whole main_v6_8
theorem hA20 : A20.IsWhole := Memref.isWhole_whole _
abbrev A21 : Memref sig .tc .vmem S12x512x7936 .fp8e4m3 := Memref.whole cc0_scratch0
theorem hA21 : A21.IsWhole := Memref.isWhole_whole _
abbrev A22 : Memref sig .tc .vmem S8x6144 .bf16 := Memref.whole cc0_scratch1
theorem hA22 : A22.IsWhole := Memref.isWhole_whole _
abbrev A23 : Memref sig .tc .vmem S1x6144 .f32 := Memref.whole cc0_scratch2
theorem hA23 : A23.IsWhole := Memref.isWhole_whole _
abbrev A24 : Memref sig .tc .vmem S1x6144 .f32 := Memref.whole cc0_scratch3
theorem hA24 : A24.IsWhole := Memref.isWhole_whole _
abbrev A25 : Memref sig .tc .vmem S1x55552 .f32 := Memref.whole cc0_scratch4
theorem hA25 : A25.IsWhole := Memref.isWhole_whole _
abbrev A26 : Memref sig .tc .vmem S1x6144 .f32 := Memref.whole cc0_scratch5
theorem hA26 : A26.IsWhole := Memref.isWhole_whole _
abbrev A27 : Memref sig .tc .vmem S8x2048x128 .fp8e5m2 := Memref.whole cc0_scratch6
theorem hA27 : A27.IsWhole := Memref.isWhole_whole _
abbrev A28 : Memref sig .tc .vmem S8x2048x128 .fp8e5m2 := Memref.whole cc0_scratch7
theorem hA28 : A28.IsWhole := Memref.isWhole_whole _
abbrev A29 : Memref sig .tc .vmem S1x128 .f32 := Memref.whole cc0_scratch8
theorem hA29 : A29.IsWhole := Memref.isWhole_whole _
abbrev A30 : Memref sig .tc .smem S8 .i32 := Memref.whole cc0_scratch9
theorem hA30 : A30.IsWhole := Memref.isWhole_whole _
abbrev A31 : Memref sig .tc .smem S8 .i32 := Memref.whole cc0_scratch10
theorem hA31 : A31.IsWhole := Memref.isWhole_whole _
abbrev A32 : Memref sig .tc .vmem S12x16x512 .bf16 := Memref.whole cc0_scratch11
theorem hA32 : A32.IsWhole := Memref.isWhole_whole _
abbrev A33 : Memref sig .tc .vmem S60x16x512 .bf16 := Memref.whole cc0_scratch12
theorem hA33 : A33.IsWhole := Memref.isWhole_whole _
abbrev A34 : Memref sig .tc .vmem S8x55552 .f32 := Memref.whole cc0_scratch13
theorem hA34 : A34.IsWhole := Memref.isWhole_whole _
abbrev A35 : Memref sig .tc .vmem S8x6144 .f32 := Memref.whole cc0_scratch14
theorem hA35 : A35.IsWhole := Memref.isWhole_whole _
abbrev A36 : Memref sig .tc .vmem S8x55552 .bf16 := Memref.whole cc0_scratch15
theorem hA36 : A36.IsWhole := Memref.isWhole_whole _
abbrev A37 : Memref sig .tc .vmem S384x128 .f32 := Memref.whole cc0_scratch16
theorem hA37 : A37.IsWhole := Memref.isWhole_whole _
abbrev A38 : Memref sig .tc .vmem S384x128 .f32 := Memref.whole cc0_scratch17
theorem hA38 : A38.IsWhole := Memref.isWhole_whole _
abbrev A39 : Memref sig .tc .vmem S8x48x128 .f32 := Memref.whole cc0_scratch18
theorem hA39 : A39.IsWhole := Memref.isWhole_whole _
abbrev A40 : Memref sig .tc .vmem S8x6144 .fp8e4m3 := Memref.whole cc0_scratch19
theorem hA40 : A40.IsWhole := Memref.isWhole_whole _
abbrev A41 : Memref sig .tc .vmem S8x1x48 .f32 := Memref.whole cc0_scratch20
theorem hA41 : A41.IsWhole := Memref.isWhole_whole _
abbrev A42 : Memref sig .tc .vmem S8x128 .fp8e5m2 := Memref.whole cc0_scratch21
theorem hA42 : A42.IsWhole := Memref.isWhole_whole _
abbrev A43 : Memref sig .tc .vmem S8x128 .fp8e5m2 := Memref.whole cc0_scratch22
theorem hA43 : A43.IsWhole := Memref.isWhole_whole _
abbrev A44 : Memref sig .tc .vmem S8x128 .f32 := Memref.whole cc0_scratch23
theorem hA44 : A44.IsWhole := Memref.isWhole_whole _
abbrev A45 : Memref sig .tc .vmem S8x128 .f32 := Memref.whole cc0_scratch24
theorem hA45 : A45.IsWhole := Memref.isWhole_whole _
abbrev A46 : Memref sig .tc .vmem S8x30720 .fp8e4m3 := Memref.whole cc0_scratch25
theorem hA46 : A46.IsWhole := Memref.isWhole_whole _
abbrev A47 : Memref sig .tc .vmem S8x1x240 .f32 := Memref.whole cc0_scratch26
theorem hA47 : A47.IsWhole := Memref.isWhole_whole _
abbrev A48 : Memref sig .tc .vmem S8x6144 .bf16 := Memref.whole cc0_scratch27
theorem hA48 : A48.IsWhole := Memref.isWhole_whole _
abbrev A49 : Memref sig .tc .vmem S8x256 .f32 := Memref.whole cc0_scratch28
theorem hA49 : A49.IsWhole := Memref.isWhole_whole _

/-- The contents of a memref's buffer on core `c`. -/
abbrev BufOf (c : Dev nD) {sp : Space} {S : Shape} {e : EltTy} (M : Memref sig .tc sp S e) : Type := Buf (Elt F) (M.view.loc (c : Thread nD τ))
/-- A memref's buffer, whole, at contents `f`. -/
abbrev pt (c : Dev nD) {sp : Space} {S : Shape} {e : EltTy} (M : Memref sig .tc sp S e) (f : BufOf (F := F) c M) : sProp 𝕄 :=
  M.view.loc (c : Thread nD τ) ↦{fullShare} f
/-- Read token `s` of twelve of a buffer. -/
abbrev tk (c : Dev nD) {sp : Space} {S : Shape} {e : EltTy} (M : Memref sig .tc sp S e) (s : Fin 12) (f : BufOf (F := F) c M) : sProp 𝕄 :=
  M.view.loc (c : Thread nD τ) ↦{Transfers.shareTok fullShare 12 s} f
/-- A semaphore's counter at zero. -/
abbrev sm0 (c : Dev nD) (sm : SemLoc sig) : sProp 𝕄 := semVal ((c : Thread nD τ), sm) 0

/-- The slot of the ring at an offset, as the transfers name it. -/
abbrev slotM (o : Fin 3 → ℕ) (h : ∀ a, o a + S1x512x7936.size a ≤ S12x512x7936.size a) : Memref sig .tc .vmem S512x7936 .fp8e4m3 :=
  (A21.slice (Rect.unit (s := S12x512x7936) o S1x512x7936.size h) (fun _ => rfl)).squeeze S512x7936 squeezes_S1x512x7936_S512x7936
/-- A slot of the ring at contents `f` (a function on the whole ring). -/
abbrev slotPt (c : Dev nD) (o : Fin 3 → ℕ) (h : ∀ a, o a + S1x512x7936.size a ≤ S12x512x7936.size a) (f : BufOf (F := F) c A21) : sProp 𝕄 :=
  (slotM o h).view.loc (c : Thread nD τ) ↦[(slotM o h).view.set]{fullShare} f
/-- A block of the first weight, as the transfers name it. -/
abbrev winM (o : Fin 2 → ℕ) (h : ∀ a, o a + S512x7936.size a ≤ S6144x55552.size a) : Memref sig .tc .hbm S512x7936 .fp8e4m3 :=
  A3.slice (Rect.unit (s := S6144x55552) o S512x7936.size h) (fun _ => rfl)
/-- A ring cell at an offset, as the transfers name it. -/
abbrev cellS (o : Fin 1 → ℕ) (h : ∀ a, o a + S1.size a ≤ S12.size a) : DmaSem sig :=
  ((cc0_scratch29.slice (Rect.unit (s := S12) o S1.size h)).squeeze S_ squeezes_S1_S_).sem

end Cert.Kernel.Hand
-- ==== Proof.RingFam.lean ====
module

public import proofs.«01_k».proof.Proof.Base

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's resource algebra. -/
local notation "𝕄" => MT nD τ sig Unit (Elt F) ℕ (Pipeline.UD sig nD τ) ℕ

/-! ## The ring of weight blocks -/

theorem slot_inb (s : Fin 12) : ∀ a, (![s.val, 0, 0] : Fin 3 → ℕ) a + S1x512x7936.size a ≤ S12x512x7936.size a := by revert s; decide
theorem sub_inb (s : Fin 12) : ∀ a, (![s.val, 0, 0] : Fin 3 → ℕ) a + S1x512x6144.size a ≤ S12x512x7936.size a := by revert s; decide
theorem cell_inb (s : Fin 12) : ∀ a, (![s.val] : Fin 1 → ℕ) a + S1.size a ≤ S12.size a := by revert s; decide
/-- Where block `b` of the first weight lies in it. -/
abbrev winO (b : ℕ) : Fin 2 → ℕ := ![512 * (b % 12), 7936 * (b / 12)]
/-- Where block `b` (numbered on from the first weight's 84) of the second weight lies in it. -/
abbrev woutO (b : ℕ) : Fin 2 → ℕ := ![512 * (b - 84), 0]
theorem win_inb (b : ℕ) (h : b < 84) : ∀ a, winO b a + S512x7936.size a ≤ S6144x55552.size a := by
  have key : ∀ b : Fin 84, ∀ a, winO b.val a + S512x7936.size a ≤ S6144x55552.size a := by decide
  exact key ⟨b, h⟩
theorem wout_inb (b : ℕ) (h : b < 144) : ∀ a, woutO b a + S512x6144.size a ≤ S30720x6144.size a := by
  have key : ∀ b : Fin 144, ∀ a, woutO b.val a + S512x6144.size a ≤ S30720x6144.size a := by decide
  exact key ⟨b, h⟩

/-- The part of a ring slot a block of the second weight takes. -/
abbrev subM (o : Fin 3 → ℕ) (h : ∀ a, o a + S1x512x6144.size a ≤ S12x512x7936.size a) : Memref sig .tc .vmem S512x6144 .fp8e4m3 :=
  (A21.slice (Rect.unit (s := S12x512x7936) o S1x512x6144.size h) (fun _ => rfl)).squeeze S512x6144 squeezes_S1x512x6144_S512x6144
/-- A block of the second weight, as the transfers name it. -/
abbrev woutM (o : Fin 2 → ℕ) (h : ∀ a, o a + S512x6144.size a ≤ S30720x6144.size a) : Memref sig .tc .hbm S512x6144 .fp8e4m3 :=
  A5.slice (Rect.unit (s := S30720x6144) o S512x6144.size h) (fun _ => rfl)

/-- A block of the first weight on its way into a slot, with the rest of the weight's read token. -/
abbrev flW (c : Dev nD) (w : BufOf (F := F) c A3) (q : Fin 1 → ℕ) (hq : ∀ a, q a + S1.size a ≤ S12.size a)
    (o : Fin 3 → ℕ) (h : ∀ a, o a + S1x512x7936.size a ≤ S12x512x7936.size a)
    (u : Fin 2 → ℕ) (hu : ∀ a, u a + S512x7936.size a ≤ S6144x55552.size a) (s : Fin 12) (f0 : BufOf (F := F) c A21) : sProp 𝕄 :=
  iprop(Transfers.Flight countersEmb (c : Thread nD τ) (SemLoc.dma (cellS q hq)) () 126976
      iprop(((slotM o h).view.loc (c : Thread nD τ) ↦[(slotM o h).view.set]{fullShare}
          (slotM o h).view.writes (Elt F) f0 [⟨Rect.whole S512x7936, ReadAs.same.apply ((winM u hu).view.read (Elt F) w)⟩])
        ∗ (A3.view.loc (c : Thread nD τ) ↦[(winM u hu).view.set]{Transfers.shareTok fullShare 12 s} w))
    ∗ (A3.view.loc (c : Thread nD τ) ↦[Finset.univ \ (winM u hu).view.set]{Transfers.shareTok fullShare 12 s} w))
theorem flW_congr (c : Dev nD) (w : BufOf (F := F) c A3) {q q' hq hq' o o' h h' u u' hu hu'} (s : Fin 12) (f0 : BufOf (F := F) c A21)
    (e1 : q = q') (e2 : o = o') (e3 : u = u') : flW c w q hq o h u hu s f0 = flW c w q' hq' o' h' u' hu' s f0 := by
  subst e1; subst e2; subst e3; rfl

/-- A block of the second weight on its way into a slot, with the rest of the slot and of the weight's read token. -/
abbrev flO (c : Dev nD) (w : BufOf (F := F) c A5) (q : Fin 1 → ℕ) (hq : ∀ a, q a + S1.size a ≤ S12.size a)
    (o : Fin 3 → ℕ) (h : ∀ a, o a + S1x512x7936.size a ≤ S12x512x7936.size a) (h' : ∀ a, o a + S1x512x6144.size a ≤ S12x512x7936.size a)
    (u : Fin 2 → ℕ) (hu : ∀ a, u a + S512x6144.size a ≤ S30720x6144.size a) (s : Fin 12) (f0 : BufOf (F := F) c A21) : sProp 𝕄 :=
  iprop(Transfers.Flight countersEmb (c : Thread nD τ) (SemLoc.dma (cellS q hq)) () 98304
      iprop(((subM o h').view.loc (c : Thread nD τ) ↦[(subM o h').view.set]{fullShare}
          (subM o h').view.writes (Elt F) f0 [⟨Rect.whole S512x6144, ReadAs.same.apply ((woutM u hu).view.read (Elt F) w)⟩])
        ∗ (A5.view.loc (c : Thread nD τ) ↦[(woutM u hu).view.set]{Transfers.shareTok fullShare 12 s} w))
    ∗ (A5.view.loc (c : Thread nD τ) ↦[Finset.univ \ (woutM u hu).view.set]{Transfers.shareTok fullShare 12 s} w)
    ∗ ((slotM o h).view.loc (c : Thread nD τ) ↦[(slotM o h).view.set \ (subM o h').view.set]{fullShare} f0))
theorem flO_congr (c : Dev nD) (w : BufOf (F := F) c A5) {q q' hq hq' o o' h h' k k' u u' hu hu'} (s : Fin 12) (f0 : BufOf (F := F) c A21)
    (e1 : q = q') (e2 : o = o') (e3 : u = u') : flO c w q hq o h k u hu s f0 = flO c w q' hq' o' h' k' u' hu' s f0 := by
  subst e1; subst e2; subst e3; rfl

/-- A ring slot at rest: its cell at zero, its elements at anything, its read tokens of both weights. -/
def free (c : Dev nD) (w : BufOf (F := F) c A3) (v : BufOf (F := F) c A5) (s : Fin 12) : sProp 𝕄 :=
  iprop(sm0 c (SemLoc.dma (cellS ![s.val] (cell_inb s))) ∗ (∃ f, slotPt c ![s.val, 0, 0] (slot_inb s) f) ∗ tk c A3 s w ∗ tk c A5 s v)
/-- A ring slot with block `b` on its way in. -/
def role (c : Dev nD) (w : BufOf (F := F) c A3) (v : BufOf (F := F) c A5) (s : Fin 12) (b : ℕ) : sProp 𝕄 :=
  if h : b < 84 then iprop((∃ f0, flW c w ![s.val] (cell_inb s) ![s.val, 0, 0] (slot_inb s) (winO b) (win_inb b h) s f0) ∗ tk c A5 s v)
  else if h : b < 144 then iprop((∃ f0, flO c v ![s.val] (cell_inb s) ![s.val, 0, 0] (slot_inb s) (sub_inb s) (woutO b) (wout_inb b h) s f0) ∗ tk c A3 s w)
  else free c w v s
/-- The least block from `i` on that slot `s` carries. -/
def nxt (i : ℕ) (s : Fin 12) : ℕ := i + (s.val + 12 - i % 12) % 12
/-- The slots before step `i`: eleven blocks on their way, one slot at rest. -/
def slotAt (c : Dev nD) (w : BufOf (F := F) c A3) (v : BufOf (F := F) c A5) (i : ℕ) (s : Fin 12) : sProp 𝕄 :=
  if nxt i s = i + 11 then free c w v s else role c w v s (nxt i s)
@[irreducible] def ringAt (c : Dev nD) (w : BufOf (F := F) c A3) (v : BufOf (F := F) c A5) (i : ℕ) : sProp 𝕄 :=
  bigSep Finset.univ (slotAt c w v i)
/-- The ten slots step `i` does not touch. -/
def ringRest (c : Dev nD) (w : BufOf (F := F) c A3) (v : BufOf (F := F) c A5) (i : ℕ) : sProp 𝕄 :=
  bigSep ((Finset.univ.erase (Fin.ofNat 12 (i + 11))).erase (Fin.ofNat 12 i)) (slotAt c w v i)

theorem ring_open (c : Dev nD) (w : BufOf (F := F) c A3) (v : BufOf (F := F) c A5) (i : ℕ) :
    ringAt c w v i = iprop(free c w v (Fin.ofNat 12 (i + 11)) ∗ role c w v (Fin.ofNat 12 i) i ∗ ringRest c w v i) := by
  have hne : Fin.ofNat 12 i ≠ Fin.ofNat 12 (i + 11) := fun h => by
    have := congrArg Fin.val h; simp only [Fin.val_ofNat] at this; omega
  unfold ringAt ringRest
  rw [BI.bigSep_erase (Finset.mem_univ (Fin.ofNat 12 (i + 11))),
    BI.bigSep_erase (Finset.mem_erase.mpr ⟨hne, Finset.mem_univ (Fin.ofNat 12 i)⟩)]
  have h1 : nxt i (Fin.ofNat 12 (i + 11)) = i + 11 := by simp only [nxt, Fin.val_ofNat]; omega
  have h2 : nxt i (Fin.ofNat 12 i) = i := by simp only [nxt, Fin.val_ofNat]; omega
  have e1 : slotAt c w v i (Fin.ofNat 12 (i + 11)) = free c w v (Fin.ofNat 12 (i + 11)) := if_pos h1
  have e2 : slotAt c w v i (Fin.ofNat 12 i) = role c w v (Fin.ofNat 12 i) i := by
    unfold slotAt; rw [h2, if_neg (by omega)]
  rw [e1, e2]; rfl

theorem ring_close (c : Dev nD) (w : BufOf (F := F) c A3) (v : BufOf (F := F) c A5) (i : ℕ) :
    ringAt c w v (i + 1) = iprop(role c w v (Fin.ofNat 12 (i + 11)) (i + 11) ∗ free c w v (Fin.ofNat 12 i) ∗ ringRest c w v i) := by
  have hne : Fin.ofNat 12 i ≠ Fin.ofNat 12 (i + 11) := fun h => by
    have := congrArg Fin.val h; simp only [Fin.val_ofNat] at this; omega
  unfold ringAt ringRest
  rw [BI.bigSep_erase (Finset.mem_univ (Fin.ofNat 12 (i + 11))),
    BI.bigSep_erase (Finset.mem_erase.mpr ⟨hne, Finset.mem_univ (Fin.ofNat 12 i)⟩)]
  have h1 : nxt (i + 1) (Fin.ofNat 12 (i + 11)) = i + 11 := by simp only [nxt, Fin.val_ofNat]; omega
  have h2 : nxt (i + 1) (Fin.ofNat 12 i) = i + 12 := by simp only [nxt, Fin.val_ofNat]; omega
  have e1 : slotAt c w v (i + 1) (Fin.ofNat 12 (i + 11)) = role c w v (Fin.ofNat 12 (i + 11)) (i + 11) := by
    unfold slotAt; rw [h1, if_neg (by omega)]
  have e2 : slotAt c w v (i + 1) (Fin.ofNat 12 i) = free c w v (Fin.ofNat 12 i) := if_pos (by rw [h2])
  rw [e1, e2]
  have e3 : bigSep ((Finset.univ.erase (Fin.ofNat 12 (i + 11))).erase (Fin.ofNat 12 i)) (slotAt c w v (i + 1))
      = bigSep ((Finset.univ.erase (Fin.ofNat 12 (i + 11))).erase (Fin.ofNat 12 i)) (slotAt c w v i) := by
    refine BI.bigSep_congr fun s hs => ?_
    have hs1 : s ≠ Fin.ofNat 12 i := (Finset.mem_erase.mp hs).1
    have hs2 : s ≠ Fin.ofNat 12 (i + 11) := (Finset.mem_erase.mp (Finset.mem_erase.mp hs).2).1
    have n1 : s.val ≠ i % 12 := fun h => hs1 (Fin.ext h)
    have n2 : s.val ≠ (i + 11) % 12 := fun h => hs2 (Fin.ext h)
    have hl := s.isLt
    have : nxt (i + 1) s = nxt i s := by simp only [nxt]; omega
    unfold slotAt
    rw [this, if_neg (by simp only [nxt]; omega), if_neg (by simp only [nxt]; omega)]
  rw [e3]; rfl

end Cert.Kernel.Hand
-- ==== Proof.Trip.lean ====
module

public import proofs.«01_k».proof.Proof.RingFam

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's resource algebra. -/
local notation "𝕄" => MT nD τ sig Unit (Elt F) ℕ (Pipeline.UD sig nD τ) ℕ

/-! ## The ring's states at offsets spelled otherwise -/

theorem free_eq (c : Dev nD) (w : BufOf (F := F) c A3) (v : BufOf (F := F) c A5) (s : Fin 12) {q hq o h} (e1 : q = ![s.val]) (e2 : o = ![s.val, 0, 0]) :
    free c w v s = iprop(sm0 c (SemLoc.dma (cellS q hq)) ∗ (∃ f, slotPt c o h f) ∗ tk c A3 s w ∗ tk c A5 s v) := by
  subst e1; subst e2; rfl
theorem role_w_eq (c : Dev nD) (w : BufOf (F := F) c A3) (v : BufOf (F := F) c A5) (s : Fin 12) (b : ℕ) (hb : b < 84) {q hq o h u hu}
    (e1 : q = ![s.val]) (e2 : o = ![s.val, 0, 0]) (e3 : u = winO b) :
    role c w v s b = iprop((∃ f0, flW c w q hq o h u hu s f0) ∗ tk c A5 s v) := by
  subst e1; subst e2; subst e3; exact dif_pos hb
theorem role_o_eq (c : Dev nD) (w : BufOf (F := F) c A3) (v : BufOf (F := F) c A5) (s : Fin 12) (b : ℕ) (hn : ¬ b < 84) (hb : b < 144) {q hq o h h' u hu}
    (e1 : q = ![s.val]) (e2 : o = ![s.val, 0, 0]) (e3 : u = woutO b) :
    role c w v s b = iprop((∃ f0, flO c v q hq o h h' u hu s f0) ∗ tk c A3 s w) := by
  subst e1; subst e2; subst e3; exact (dif_neg hn).trans (dif_pos hb)

/-! ## One step of the first product -/

theorem off4_eq : ∀ (g : Fin k0_t1_loop.trips) (k : Fin k0_t2_loop.trips), k0_cond1 g k = 1#1 →
    k0_off4 g k = winO (12 * g.val + k.val + 11) := by decide +kernel
theorem off10_eq : ∀ (g : Fin k0_t1_loop.trips) (k : Fin k0_t2_loop.trips),
    k0_off10 g k = winO (12 * g.val + k.val) := by decide +kernel
theorem off7_eq : ∀ (g : Fin k0_t1_loop.trips) (k : Fin k0_t2_loop.trips), k0_cond2 g k = 1#1 →
    k0_off7 g k = woutO (12 * g.val + k.val + 11) := by decide +kernel
theorem cond1_iff : ∀ (g : Fin k0_t1_loop.trips) (k : Fin k0_t2_loop.trips), k0_cond1 g k = 1#1 ↔ 12 * g.val + k.val + 11 < 84 := by decide +kernel
theorem cond2_iff : ∀ (g : Fin k0_t1_loop.trips) (k : Fin k0_t2_loop.trips), k0_cond2 g k = 1#1 ↔ ¬ 12 * g.val + k.val + 11 < 84 := by decide +kernel
theorem trips1 : k0_t1_loop.trips = 7 := by decide +kernel
theorem trips2 : k0_t2_loop.trips = 12 := by decide +kernel

/-- The elements of a ring slot. -/
theorem slot_set (o : Fin 3 → ℕ) (h : ∀ a, o a + S1x512x7936.size a ≤ S12x512x7936.size a) :
    (slotM o h).view.set = (Rect.unit (s := S12x512x7936) o S1x512x7936.size h).set.map A21.view.emb :=
  (View.set_reshape (v := A21.view.slice (Rect.unit (s := S12x512x7936) o S1x512x7936.size h)) _).trans (View.set_slice _ _)
/-- The elements of a slot a block of the second weight takes. -/
theorem sub_set (o : Fin 3 → ℕ) (h : ∀ a, o a + S1x512x6144.size a ≤ S12x512x7936.size a) :
    (subM o h).view.set = (Rect.unit (s := S12x512x7936) o S1x512x6144.size h).set.map A21.view.emb :=
  (View.set_reshape (v := A21.view.slice (Rect.unit (s := S12x512x7936) o S1x512x6144.size h)) _).trans (View.set_slice _ _)

/-- Loading a slot through the ring reads the slot's own elements. -/
theorem slot_access (o : Fin 3 → ℕ) (h : ∀ a, o a + S1x512x7936.size a ≤ S12x512x7936.size a) (o' : Fin 3 → ℕ) (h' : ∀ a, o' a + S1x512x7936.size a ≤ S12x512x7936.size a) (e : o = o') :
    (A21.access (Rect.unit (s := S12x512x7936) o S1x512x7936.size h)).set ⊆ (slotM o' h').view.set := by
  subst e
  rw [slot_set]
  exact (A21.set_access_subset_setOn _).trans subset_rfl

/-- A ring slot is the part a block of the second weight takes and the rest. -/
theorem slot_split (c : Dev nD) (o : Fin 3 → ℕ) (h : ∀ a, o a + S1x512x7936.size a ≤ S12x512x7936.size a) (h' : ∀ a, o a + S1x512x6144.size a ≤ S12x512x7936.size a) (f : BufOf (F := F) c A21) :
    slotPt c o h f ⊣⊢ iprop(((subM o h').view.loc (c : Thread nD τ) ↦[(subM o h').view.set]{fullShare} f)
      ∗ ((slotM o h).view.loc (c : Thread nD τ) ↦[(slotM o h).view.set \ (subM o h').view.set]{fullShare} f)) := by
  refine pointsTo_split_subset ?_
  rw [slot_set o h, sub_set o h']
  refine Finset.map_subset_map.mpr fun x hx => ?_
  rw [Rect.mem_set_unit] at hx ⊢
  intro a
  have := hx a
  fin_cases a
  · exact this
  · exact this
  · exact ⟨this.1, this.2.trans_le (Nat.add_le_add_left (by decide) _)⟩

/-- The block of the first weight the step multiplies by, read out of the ring slot it landed in. -/
def wblk (c : Dev nD) (w : BufOf (F := F) c A3) (g : Fin k0_t1_loop.trips) (k : Fin k0_t2_loop.trips) : Vec F S1x512x7936 .fp8e4m3 :=
  A21.view.readAt (Elt F) (Rect.unit (s := S12x512x7936) (k0_off12 g k) S1x512x7936.size (k0_off12_inb g k)).toLoadRect
    ((slotM (k0_off9 g k) (k0_off9_inb g k)).view.writes (Elt F) (slotM (k0_off9 g k) (k0_off9_inb g k)).view.junk
      [⟨Rect.whole S512x7936, ReadAs.same.apply ((winM (k0_off10 g k) (k0_off10_inb g k)).view.read (Elt F) w)⟩])
/-- The running sums after one step: the group's sums plus the step's product. -/
def accNext (c : Dev nD) (w : BufOf (F := F) c A3) (la : BufOf (F := F) c A32) (g : Fin k0_t1_loop.trips) (k : Fin k0_t2_loop.trips) (acc : BufOf (F := F) c A34) : BufOf (F := F) c A34 :=
  A34.view.writes (Elt F) acc [⟨Rect.unit (s := S8x55552) (k0_off13 g) S8x7936.size (k0_off13_inb g),
    k0_pay590 (A32.view.readAt (Elt F) (Rect.unit (s := S12x16x512) (k0_off11 k) S1x16x512.size (k0_off11_inb k)).toLoadRect la)
      (wblk c w g k)
      (A34.view.readAt (Elt F) (Rect.unit (s := S8x55552) (k0_off13 g) S8x7936.size (k0_off13_inb g)).toLoadRect acc)⟩]

theorem trip2 (c : Dev nD) (w : BufOf (F := F) c A3) (v : BufOf (F := F) c A5) (g : Fin k0_t1_loop.trips) (k : Fin k0_t2_loop.trips)
    (x1 x2 x3 x4 x5) (la : BufOf (F := F) c A32) (acc : BufOf (F := F) c A34) (W : Waits sig Unit) :
    iprop(ringAt c w v (12 * g.val + k.val) ∗ pt c A32 la ∗ pt c A34 acc ∗ owes (c : Thread nD τ) 0 W)
      ⊢ wp frame (wpE (defs₀ (F := F)) Variants.none c none) Set.univ
        (k0_t2_body A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 hA34 A35 hA35 A36 hA36 A37 hA37 A38 hA38 A39 hA39 A40 hA40 A41 hA41 A42 hA42 A43 hA43 A44 hA44 A45 hA45 A46 hA46 A47 hA47 A48 hA48 A49 hA49 cc0_scratch29 cc0_scratch30 cc0_scratch31 cc0_scratch32 cc0_scratch33 cc0_scratch34 cc0_scratch35 cc0_scratch36 cc0_scratch37 cc0_scratch38 cc0_scratch39 x1 x2 x3 x4 g x5 k ())
        (fun _ => iprop(ringAt c w v (12 * g.val + (k.val + 1)) ∗ pt c A32 la ∗ pt c A34 (accNext c w la g k acc) ∗ ∃ W', owes (c : Thread nD τ) 0 W')) := by
  have hg : g.val < 7 := trips1 ▸ g.isLt
  have hk : k.val < 12 := trips2 ▸ k.isLt
  have hcell := slot_access (k0_off12 g k) (k0_off12_inb g k) (k0_off9 g k) (k0_off9_inb g k) ((k0_off12_eq g k).trans (k0_off9_eq g k).symm)
  rw [← Nat.add_assoc, ring_open, ring_close]
  have hb : 12 * g.val + k.val < 84 := by omega
  rw [role_w_eq c w v _ _ hb (hq := k0_off8_inb g k) (h := k0_off9_inb g k) (hu := k0_off10_inb g k) (k0_off8_eq g k) (k0_off9_eq g k) (off10_eq g k),
    free_eq c w v (Fin.ofNat 12 (12 * g.val + k.val)) (hq := k0_off8_inb g k) (h := k0_off9_inb g k) (k0_off8_eq g k) (k0_off9_eq g k)]
  unfold k0_t2_body
  by_cases h1 : 12 * g.val + k.val + 11 < 84
  · have c1 := (cond1_iff g k).mpr h1
    have c2 : ¬ k0_cond2 g k = 1#1 := fun h => (cond2_iff g k).mp h h1
    rw [role_w_eq c w v _ _ h1 (hq := k0_off2_inb g k c1) (h := k0_off3_inb g k c1) (hu := k0_off4_inb g k c1) (k0_off2_eq g k) (k0_off3_eq g k) (off4_eq g k c1),
      free_eq c w v (Fin.ofNat 12 (12 * g.val + k.val + 11)) (hq := k0_off2_inb g k c1) (h := k0_off3_inb g k c1) (k0_off2_eq g k) (k0_off3_eq g k)]
    iintro ⟨⟨⟨Hqa, ⟨%fa, Hsa⟩, Hwa, Hva⟩, ⟨⟨%f0, Hfb, Hrb⟩, Hvb⟩, Hrest⟩, Hla, Hacc, HO⟩
    sl_exec
    sl_step
    isplitr [Hla Hacc HO]
    · isplitl [Hqa Hwa Hva]
      · isplitl [Hqa Hwa]
        · iexists fa
          isplitl [Hqa]; · iexact Hqa
          iexact Hwa
        iexact Hva
      isplitr [Hrest]
      · isplitl [Hfb]; · iexact Hfb
        isplitl [Hfb_dst]; · iexists _; iexact Hfb_dst
        isplitl [Hrb]; · iexact Hrb
        iexact Hvb
      iexact Hrest
    isplitl [Hla]; · iexact Hla
    isplitl [Hacc]; · iexact Hacc
    iexists _; iexact HO
  · have c1 : ¬ k0_cond1 g k = 1#1 := fun h => h1 ((cond1_iff g k).mp h)
    have c2 := (cond2_iff g k).mpr h1
    have hs6 : ∀ a, k0_off6 g k a + S1x512x7936.size a ≤ S12x512x7936.size a := by
      rw [k0_off6_eq]; exact slot_inb (Fin.ofNat 12 (12 * g.val + k.val + 11))
    rw [role_o_eq c w v _ _ h1 (by omega) (hq := k0_off5_inb g k c2) (h := hs6) (h' := k0_off6_inb g k c2) (hu := k0_off7_inb g k c2) (k0_off5_eq g k) (k0_off6_eq g k) (off7_eq g k c2),
      free_eq c w v (Fin.ofNat 12 (12 * g.val + k.val + 11)) (hq := k0_off5_inb g k c2) (h := hs6) (k0_off5_eq g k) (k0_off6_eq g k)]
    iintro ⟨⟨⟨Hqa, ⟨%fa, Hsa⟩, Hwa, Hva⟩, ⟨⟨%f0, Hfb, Hrb⟩, Hvb⟩, Hrest⟩, Hla, Hacc, HO⟩
    ihave Hs2 := (slot_split c (k0_off6 g k) hs6 (k0_off6_inb g k c2) fa).1 $$ Hsa
    icases Hs2 with ⟨Hsa, Hsr⟩
    sl_exec
    sl_step
    isplitr [Hla Hacc HO]
    · isplitl [Hqa Hwa Hva Hsr]
      · isplitl [Hqa Hva Hsr]
        · iexists fa
          isplitl [Hqa]; · iexact Hqa
          isplitl [Hva]; · iexact Hva
          iexact Hsr
        iexact Hwa
      isplitr [Hrest]
      · isplitl [Hfb]; · iexact Hfb
        isplitl [Hfb_dst]; · iexists _; iexact Hfb_dst
        isplitl [Hrb]; · iexact Hrb
        iexact Hvb
      iexact Hrest
    isplitl [Hla]; · iexact Hla
    isplitl [Hacc]; · iexact Hacc
    iexists _; iexact HO

end Cert.Kernel.Hand
-- ==== Proof.Loops.lean ====
module

public import proofs.«01_k».proof.Proof.Trip
public import proofs.«01_k».proof.Proof.Gen.Kernel.Loops

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's resource algebra. -/
local notation "𝕄" => MT nD τ sig Unit (Elt F) ℕ (Pipeline.UD sig nD τ) ℕ

/-! ## The loop over a group's twelve steps -/

/-- The running sums before step `n` of a group. -/
def accRec (c : Dev nD) (w : BufOf (F := F) c A3) (la : BufOf (F := F) c A32) (g : Fin k0_t1_loop.trips) (acc : BufOf (F := F) c A34) : ℕ → BufOf (F := F) c A34
  | 0 => acc
  | n + 1 => if h : n < k0_t2_loop.trips then accNext c w la g ⟨n, h⟩ (accRec c w la g acc n) else accRec c w la g acc n
theorem accRec_succ (c : Dev nD) (w : BufOf (F := F) c A3) (la : BufOf (F := F) c A32) (g : Fin k0_t1_loop.trips) (acc : BufOf (F := F) c A34) (k : Fin k0_t2_loop.trips) :
    accRec c w la g acc (k.val + 1) = accNext c w la g k (accRec c w la g acc k.val) := dif_pos k.isLt

set_option warn.classDefReducibility false in
@[sl_loop] def loopInv2 (c : Dev nD) (w : BufOf (F := F) c A3) (v : BufOf (F := F) c A5) (la : BufOf (F := F) c A32) (acc : BufOf (F := F) c A34) (x1 x2 x3 x4) (g : Fin k0_t1_loop.trips) (x5) :
    LoopInvTy_k0_t2 (F := F) Unit ℕ (Pipeline.UD sig nD τ) ℕ Variants.none c none Set.univ A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 hA34 A35 hA35 A36 hA36 A37 hA37 A38 hA38 A39 hA39 A40 hA40 A41 hA41 A42 hA42 A43 hA43 A44 hA44 A45 hA45 A46 hA46 A47 hA47 A48 hA48 A49 hA49 cc0_scratch29 cc0_scratch30 cc0_scratch31 cc0_scratch32 cc0_scratch33 cc0_scratch34 cc0_scratch35 cc0_scratch36 cc0_scratch37 cc0_scratch38 cc0_scratch39 x1 x2 x3 x4 g x5 where
  inv k _ := iprop(ringAt c w v (12 * g.val + k) ∗ pt c A32 la ∗ pt c A34 (accRec c w la g acc k) ∗ ∃ W, owes (c : Thread nD τ) 0 W)
  step k _ := by
    rw [accRec_succ]
    iintro ⟨Hr, Hla, Hacc, %W, HO⟩
    iapply (trip2 c w v g k x1 x2 x3 x4 x5 la _ W)
    isplitl [Hr]; · iexact Hr
    isplitl [Hla]; · iexact Hla
    isplitl [Hacc]; · iexact Hacc
    iexact HO

/-! ## The loop over the batch rows' attention -/

set_option warn.classDefReducibility false in
@[sl_loop] def loopInv3 (c : Dev nD) (kb : BufOf (F := F) c A27) (vb : BufOf (F := F) c A28) (len : BufOf (F := F) c A30) (q : BufOf (F := F) c A37) (vf : BufOf (F := F) c A44) (kf : BufOf (F := F) c A45)
    (x1 x2 x3 x4) (g : Fin k0_t1_loop.trips) (x5) :
    LoopInvTy_k0_t3 (F := F) Unit ℕ (Pipeline.UD sig nD τ) ℕ Variants.none c none Set.univ A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 hA34 A35 hA35 A36 hA36 A37 hA37 A38 hA38 A39 hA39 A40 hA40 A41 hA41 A42 hA42 A43 hA43 A44 hA44 A45 hA45 A46 hA46 A47 hA47 A48 hA48 A49 hA49 cc0_scratch29 cc0_scratch30 cc0_scratch31 cc0_scratch32 cc0_scratch33 cc0_scratch34 cc0_scratch35 cc0_scratch36 cc0_scratch37 cc0_scratch38 cc0_scratch39 x1 x2 x3 x4 g x5 where
  inv k _ := iprop(pt c A27 kb ∗ pt c A28 vb ∗ pt c A30 len ∗ pt c A37 q ∗ pt c A44 vf ∗ pt c A45 kf ∗ (∃ f, pt c A38 f) ∗ ∃ f, pt c A39 f)
  step k _ := by
    unfold k0_t3_body
    iintro ⟨H1, H2, H3, H4, H5, H6, ⟨%f7, H7⟩, %f8, H8⟩
    sl_exec
    sl_step
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8

/-! ## The loops that quantise the second product's operand -/

set_option warn.classDefReducibility false in
@[sl_loop] def loopInv4 (c : Dev nD) (o : BufOf (F := F) c A38) :
    LoopInvTy_k0_t4 (F := F) Unit ℕ (Pipeline.UD sig nD τ) ℕ Variants.none c none Set.univ A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 hA34 A35 hA35 A36 hA36 A37 hA37 A38 hA38 A39 hA39 A40 hA40 A41 hA41 A42 hA42 A43 hA43 A44 hA44 A45 hA45 A46 hA46 A47 hA47 A48 hA48 A49 hA49 cc0_scratch29 cc0_scratch30 cc0_scratch31 cc0_scratch32 cc0_scratch33 cc0_scratch34 cc0_scratch35 cc0_scratch36 cc0_scratch37 cc0_scratch38 cc0_scratch39 where
  inv k _ := iprop(pt c A38 o ∗ (∃ f, pt c A33 f) ∗ (∃ f, pt c A46 f) ∗ ∃ f, pt c A49 f)
  step k _ := by
    unfold k0_t4_body
    iintro ⟨H1, ⟨%f2, H2⟩, ⟨%f3, H3⟩, %f4, H4⟩
    sl_exec
    sl_step
    isplitl [H1]; · iexact H1
    isplitl [H2]; · iexists _; iexact H2
    isplitl [H3]; · iexists _; iexact H3
    iexists _; iexact H4

set_option warn.classDefReducibility false in
@[sl_loop] def loopInv5 (c : Dev nD) (acc : BufOf (F := F) c A34) :
    LoopInvTy_k0_t5 (F := F) Unit ℕ (Pipeline.UD sig nD τ) ℕ Variants.none c none Set.univ A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 hA34 A35 hA35 A36 hA36 A37 hA37 A38 hA38 A39 hA39 A40 hA40 A41 hA41 A42 hA42 A43 hA43 A44 hA44 A45 hA45 A46 hA46 A47 hA47 A48 hA48 A49 hA49 cc0_scratch29 cc0_scratch30 cc0_scratch31 cc0_scratch32 cc0_scratch33 cc0_scratch34 cc0_scratch35 cc0_scratch36 cc0_scratch37 cc0_scratch38 cc0_scratch39 where
  inv k _ := iprop(pt c A34 acc ∗ (∃ f, pt c A33 f) ∗ (∃ f, pt c A46 f) ∗ ∃ f, pt c A49 f)
  step k _ := by
    unfold k0_t5_body
    iintro ⟨H1, ⟨%f2, H2⟩, ⟨%f3, H3⟩, %f4, H4⟩
    sl_exec
    sl_step
    isplitl [H1]; · iexact H1
    isplitl [H2]; · iexists _; iexact H2
    isplitl [H3]; · iexists _; iexact H3
    iexists _; iexact H4

end Cert.Kernel.Hand
-- ==== Proof.Trip1.lean ====
module

public import proofs.«01_k».proof.Proof.Loops

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's resource algebra. -/
local notation "𝕄" => MT nD τ sig Unit (Elt F) ℕ (Pipeline.UD sig nD τ) ℕ

/-! ## One group of columns of the first product -/

theorem cond3_iff : ∀ g : Fin k0_t1_loop.trips, k0_cond3 g = 1#1 ↔ g.val = 0 := by decide +kernel

theorem pt_of_set {sp : Space} {s : Shape} {e : EltTy} (c : Dev nD) (M : Memref sig .tc sp s e) (h : M.view.set = Finset.univ) (f : BufOf (F := F) c M) :
    (M.view.loc (c : Thread nD τ) ↦[M.view.set]{fullShare} f : sProp 𝕄) ⊢ pt c M f := by rw [h]

/-- What a whole copy leaves in its destination: the source's contents. -/
abbrev landed {sp sp' : Space} {s : Shape} {e : EltTy} (c : Dev nD) (S : Memref sig .tc sp s e) (D : Memref sig .tc sp' s e) (f : BufOf (F := F) c S) : BufOf (F := F) c D :=
  D.view.writes (Elt F) D.view.junk [⟨Rect.whole s, ReadAs.same.apply (S.view.read (Elt F) f)⟩]
/-- What the two copies of the caches deliver. -/
def kvD (c : Dev nD) (f7 : BufOf (F := F) c A7) (f8 : BufOf (F := F) c A8) : Fin 2 → sProp 𝕄
  | 0 => iprop((A27.view.loc (c : Thread nD τ) ↦[A27.view.set]{fullShare} landed c A7 A27 f7) ∗ (A7.view.loc (c : Thread nD τ) ↦[A7.view.set]{fullShare} f7))
  | 1 => iprop((A28.view.loc (c : Thread nD τ) ↦[A28.view.set]{fullShare} landed c A8 A28 f8) ∗ (A8.view.loc (c : Thread nD τ) ↦[A8.view.set]{fullShare} f8))
instance kvD_storable (c : Dev nD) (f7 : BufOf (F := F) c A7) (f8 : BufOf (F := F) c A8) (t : Fin 2) : Storable (upEmb : UEmb _ 𝕄) (kvD c f7 f8 t) := by
  fin_cases t <;> simp only [kvD] <;> infer_instance
/-- The caches: on their way before the first group, in place after it. -/
@[irreducible] def kvAt (c : Dev nD) (f7 : BufOf (F := F) c A7) (f8 : BufOf (F := F) c A8) (n : ℕ) : sProp 𝕄 :=
  if n = 0 then Transfers.Batch countersEmb (c : Thread nD τ) (SemLoc.dma cc0_scratch31.sem) () 65536 (kvD c f7 f8) 2 0
  else iprop(sm0 c (SemLoc.dma cc0_scratch31.sem) ∗ pt c A27 (landed c A7 A27 f7) ∗ pt c A28 (landed c A8 A28 f8) ∗ pt c A7 f7 ∗ pt c A8 f8)

/-- The sums of a group after its twelve steps, from zero. -/
def accZ (c : Dev nD) (w : BufOf (F := F) c A3) (la : BufOf (F := F) c A32) (g : Fin k0_t1_loop.trips) (acc : BufOf (F := F) c A34) : BufOf (F := F) c A34 :=
  accRec c w la g (A34.view.writes (Elt F) acc [⟨Rect.unit (s := S8x55552) (k0_off1 g) S8x7936.size (k0_off1_inb g), k0_pay589 (F := F)⟩]) k0_t2_loop.trips
/-- A group's sums as read back. -/
def sumG (c : Dev nD) (w : BufOf (F := F) c A3) (la : BufOf (F := F) c A32) (g : Fin k0_t1_loop.trips) (acc : BufOf (F := F) c A34) : Vec F S8x7936 .f32 :=
  A34.view.readAt (Elt F) (Rect.unit (s := S8x55552) (k0_off1 g) S8x7936.size (k0_off1_inb g)).toLoadRect (accZ c w la g acc)
/-- A group's scales. -/
def scaleG (c : Dev nD) (sc : BufOf (F := F) c A25) (g : Fin k0_t1_loop.trips) : Vec F S1x7936 .f32 :=
  A25.view.readAt (Elt F) (Rect.unit (s := S1x55552) (k0_off14 g) S1x7936.size (k0_off14_inb g)).toLoadRect sc
/-- The sums after a group: the group's columns at the scaled sums. -/
def accS (c : Dev nD) (w : BufOf (F := F) c A3) (la : BufOf (F := F) c A32) (sc : BufOf (F := F) c A25) (g : Fin k0_t1_loop.trips) (acc : BufOf (F := F) c A34) : BufOf (F := F) c A34 :=
  A34.view.writes (Elt F) (accZ c w la g acc) [⟨Rect.unit (s := S8x55552) (k0_off1 g) S8x7936.size (k0_off1_inb g), k0_pay593 (sumG c w la g acc) (scaleG c sc g)⟩]
/-- The projection after a group. -/
def projS (c : Dev nD) (w : BufOf (F := F) c A3) (la : BufOf (F := F) c A32) (sc : BufOf (F := F) c A25) (g : Fin k0_t1_loop.trips) (acc : BufOf (F := F) c A34) (pj : BufOf (F := F) c A36) : BufOf (F := F) c A36 :=
  A36.view.writes (Elt F) pj [⟨Rect.unit (s := S8x55552) (k0_off1 g) S8x7936.size (k0_off1_inb g), k0_pay592 (sumG c w la g acc) (scaleG c sc g)⟩]
/-- The sums before group `n`. -/
def accG (c : Dev nD) (w : BufOf (F := F) c A3) (la : BufOf (F := F) c A32) (sc : BufOf (F := F) c A25) (acc : BufOf (F := F) c A34) : ℕ → BufOf (F := F) c A34
  | 0 => acc
  | n + 1 => if h : n < k0_t1_loop.trips then accS c w la sc ⟨n, h⟩ (accG c w la sc acc n) else accG c w la sc acc n
theorem accG_succ (c : Dev nD) (w : BufOf (F := F) c A3) (la : BufOf (F := F) c A32) (sc : BufOf (F := F) c A25) (acc : BufOf (F := F) c A34) (g : Fin k0_t1_loop.trips) :
    accG c w la sc acc (g.val + 1) = accS c w la sc g (accG c w la sc acc g.val) := dif_pos g.isLt
/-- The projection before group `n`. -/
def projG (c : Dev nD) (w : BufOf (F := F) c A3) (la : BufOf (F := F) c A32) (sc : BufOf (F := F) c A25) (acc : BufOf (F := F) c A34) (pj : BufOf (F := F) c A36) : ℕ → BufOf (F := F) c A36
  | 0 => pj
  | n + 1 => if h : n < k0_t1_loop.trips then projS c w la sc ⟨n, h⟩ (accG c w la sc acc n) (projG c w la sc acc pj n) else projG c w la sc acc pj n
theorem projG_succ (c : Dev nD) (w : BufOf (F := F) c A3) (la : BufOf (F := F) c A32) (sc : BufOf (F := F) c A25) (acc : BufOf (F := F) c A34) (pj : BufOf (F := F) c A36) (g : Fin k0_t1_loop.trips) :
    projG c w la sc acc pj (g.val + 1) = projS c w la sc g (accG c w la sc acc g.val) (projG c w la sc acc pj g.val) := dif_pos g.isLt

/-- The new keys, from the first group's scaled sums and the rotation's cosine and sine. -/
def knS (c : Dev nD) (co si : FVec F S8x128 .f32) (acc1 : BufOf (F := F) c A34) : BufOf (F := F) c A42 :=
  A42.view.writes (Elt F) A42.view.junk [⟨Rect.unit (s := S8x128) ![0, 0] S8x128.size inb_S8x128_S8x128_0_0,
    k0_pay11 co si (A34.view.readAt (Elt F) (Rect.unit (s := S8x55552) ![0, 6144] S8x128.size inb_S8x55552_S8x128_0_6144).toLoadRect acc1)⟩]
/-- The new values, from the first group's scaled sums. -/
def vnS (c : Dev nD) (acc1 : BufOf (F := F) c A34) : BufOf (F := F) c A43 :=
  A43.view.writes (Elt F) A43.view.junk [⟨Rect.unit (s := S8x128) ![0, 0] S8x128.size inb_S8x128_S8x128_0_0,
    k0_pay12 (A34.view.readAt (Elt F) (Rect.unit (s := S8x55552) ![0, 6272] S8x128.size inb_S8x55552_S8x128_0_6272).toLoadRect acc1)⟩]
/-- The new keys before group `n`: written within the first. -/
def knG (c : Dev nD) (co si : FVec F S8x128 .f32) (acc1 : BufOf (F := F) c A34) (kn : BufOf (F := F) c A42) (n : ℕ) : BufOf (F := F) c A42 := if n = 0 then kn else knS c co si acc1
/-- The new values before group `n`: written within the first. -/
def vnG (c : Dev nD) (acc1 : BufOf (F := F) c A34) (vn : BufOf (F := F) c A43) (n : ℕ) : BufOf (F := F) c A43 := if n = 0 then vn else vnS c acc1

/-- The buffers the attention works in, at anything. -/
def scr (c : Dev nD) : sProp 𝕄 :=
  iprop((∃ f, pt (F := F) c A37 f) ∗ (∃ f, pt (F := F) c A38 f) ∗ (∃ f, pt (F := F) c A39 f) ∗ (∃ f, pt (F := F) c A44 f) ∗ ∃ f, pt (F := F) c A45 f)

/-- What the loop over the groups holds before group `n`. -/
def inv1 (c : Dev nD) (w : BufOf (F := F) c A3) (v : BufOf (F := F) c A5) (f7 : BufOf (F := F) c A7) (f8 : BufOf (F := F) c A8) (sc : BufOf (F := F) c A25) (len : BufOf (F := F) c A30)
    (la : BufOf (F := F) c A32) (acc : BufOf (F := F) c A34) (pj : BufOf (F := F) c A36) (kn : BufOf (F := F) c A42) (vn : BufOf (F := F) c A43) (co si : FVec F S8x128 .f32) (n : ℕ) : sProp 𝕄 :=
  iprop(ringAt c w v (12 * n) ∗ kvAt c f7 f8 n ∗ pt c A25 sc ∗ pt c A30 len ∗ pt c A32 la ∗ pt c A34 (accG c w la sc acc n) ∗ pt c A36 (projG c w la sc acc pj n)
    ∗ pt c A42 (knG c co si (accG c w la sc acc 1) kn n) ∗ pt c A43 (vnG c (accG c w la sc acc 1) vn n) ∗ scr (F := F) c ∗ ∃ W, owes (c : Thread nD τ) 0 W)

theorem trip1 (c : Dev nD) (w : BufOf (F := F) c A3) (v : BufOf (F := F) c A5) (f7 : BufOf (F := F) c A7) (f8 : BufOf (F := F) c A8) (sc : BufOf (F := F) c A25) (len : BufOf (F := F) c A30)
    (la : BufOf (F := F) c A32) (acc : BufOf (F := F) c A34) (pj : BufOf (F := F) c A36) (kn : BufOf (F := F) c A42) (vn : BufOf (F := F) c A43) (v93 v3651 v3672 v3674 v3675 v3680 v3685 v3690 v3694) (g : Fin k0_t1_loop.trips) :
    inv1 c w v f7 f8 sc len la acc pj kn vn (k0_pay587 v3651 v3672 v3674 v3675 v3680 v3685 v3690 v3694) (k0_pay588 v93 v3651 v3672 v3674 v3675 v3680 v3685 v3690 v3694) g.val
      ⊢ wp frame (wpE (defs₀ (F := F)) Variants.none c none) Set.univ
        (k0_t1_body A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 hA34 A35 hA35 A36 hA36 A37 hA37 A38 hA38 A39 hA39 A40 hA40 A41 hA41 A42 hA42 A43 hA43 A44 hA44 A45 hA45 A46 hA46 A47 hA47 A48 hA48 A49 hA49 cc0_scratch29 cc0_scratch30 cc0_scratch31 cc0_scratch32 cc0_scratch33 cc0_scratch34 cc0_scratch35 cc0_scratch36 cc0_scratch37 cc0_scratch38 cc0_scratch39 v93 v3651 v3672 v3674 v3675 v3680 v3685 v3690 v3694 g ())
        (fun _ => inv1 c w v f7 f8 sc len la acc pj kn vn (k0_pay587 v3651 v3672 v3674 v3675 v3680 v3685 v3690 v3694) (k0_pay588 v93 v3651 v3672 v3674 v3675 v3680 v3685 v3690 v3694) (g.val + 1)) := by
  have hg : g.val < 7 := trips1 ▸ g.isLt
  unfold inv1
  have hr : 12 * (g.val + 1) = 12 * g.val + k0_t2_loop.trips := by rw [trips2]; omega
  have e27 : A27.view.set = Finset.univ := View.set_whole _
  have e28 : A28.view.set = Finset.univ := View.set_whole _
  have e7 : A7.view.set = Finset.univ := View.set_whole _
  have e8 : A8.view.set = Finset.univ := View.set_whole _
  rw [accG_succ, projG_succ, hr]
  by_cases h0 : g.val = 0
  · have c3 := (cond3_iff g).mpr h0
    have e0 : kvAt c f7 f8 g.val = Transfers.Batch countersEmb (c : Thread nD τ) (SemLoc.dma cc0_scratch31.sem) () 65536 (kvD c f7 f8) 2 0 := by unfold kvAt; exact if_pos h0
    have e1 : kvAt c f7 f8 (g.val + 1) = iprop(sm0 c (SemLoc.dma cc0_scratch31.sem) ∗ pt c A27 (landed c A7 A27 f7) ∗ pt c A28 (landed c A8 A28 f8) ∗ pt c A7 f7 ∗ pt c A8 f8) := by unfold kvAt; exact if_neg (by omega)
    have e2 : ∀ a co si, knG c co si a kn g.val = kn := fun a co si => if_pos h0
    have e3 : ∀ a, vnG c a vn g.val = vn := fun a => if_pos h0
    have e4 : ∀ a co si, knG c co si a kn (g.val + 1) = knS c co si a := fun a co si => if_neg (by omega)
    have e5 : ∀ a, vnG c a vn (g.val + 1) = vnS c a := fun a => if_neg (by omega)
    have e6 : accG c w la sc acc 1 = accS c w la sc g (accG c w la sc acc g.val) := by
      rw [← accG_succ]; congr 1; omega
    rw [e0, e1, e2, e3, e4, e5, e6]
    unfold k0_t1_body scr kvD
    iintro ⟨Hr, HB, Hsc, Hlen, Hla, Hacc, Hpj, Hkn, Hvn, ⟨⟨%f37, H37⟩, ⟨%f38, H38⟩, ⟨%f39, H39⟩, ⟨%f44, H44⟩, %f45, H45⟩, %W, HO⟩
    sl_exec
    ihave HB_dst0 := (pt_of_set c A27 e27 _) $$ HB_dst0
    ihave HB_dst1 := (pt_of_set c A28 e28 _) $$ HB_dst1
    ihave HB_src0 := (pt_of_set c A7 e7 _) $$ HB_src0
    ihave HB_src1 := (pt_of_set c A8 e8 _) $$ HB_src1
    sl_exec
    sl_step
    isplitl [Hr]; · iexact Hr
    isplitl [HB HB_dst0 HB_dst1 HB_src0 HB_src1]
    · isplitl [HB]; · iexact HB
      isplitl [HB_dst0]; · iexact HB_dst0
      isplitl [HB_dst1]; · iexact HB_dst1
      isplitl [HB_src0]; · iexact HB_src0
      iexact HB_src1
    isplitl [Hsc]; · iexact Hsc
    isplitl [Hlen]; · iexact Hlen
    isplitl [Hla]; · iexact Hla
    isplitl [Hacc]; · iexact Hacc
    isplitl [Hpj]; · iexact Hpj
    isplitl [Hkn]; · iexact Hkn
    isplitl [Hvn]; · iexact Hvn
    isplitl [H37 H38 H39 H44 H45]
    · isplitl [H37]; · iexists _; iexact H37
      isplitl [H38]; · iexists _; iexact H38
      isplitl [H39]; · iexists _; iexact H39
      isplitl [H44]; · iexists _; iexact H44
      iexists _; iexact H45
    iexists _; iexact HO
  · have c3 : ¬ k0_cond3 g = 1#1 := fun h => h0 ((cond3_iff g).mp h)
    have e1 : kvAt c f7 f8 (g.val + 1) = kvAt c f7 f8 g.val := by unfold kvAt; rw [if_neg h0, if_neg (by omega)]
    have e2 : ∀ a co si, knG c co si a kn (g.val + 1) = knG c co si a kn g.val := fun a co si => by unfold knG; rw [if_neg h0, if_neg (by omega)]
    have e3 : ∀ a, vnG c a vn (g.val + 1) = vnG c a vn g.val := fun a => by unfold vnG; rw [if_neg h0, if_neg (by omega)]
    rw [e1, e2, e3]
    unfold k0_t1_body scr
    iintro ⟨Hr, HB, Hsc, Hlen, Hla, Hacc, Hpj, Hkn, Hvn, ⟨⟨%f37, H37⟩, ⟨%f38, H38⟩, ⟨%f39, H39⟩, ⟨%f44, H44⟩, %f45, H45⟩, %W, HO⟩
    sl_exec
    sl_step
    isplitl [Hr]; · iexact Hr
    isplitl [HB]; · iexact HB
    isplitl [Hsc]; · iexact Hsc
    isplitl [Hlen]; · iexact Hlen
    isplitl [Hla]; · iexact Hla
    isplitl [Hacc]; · iexact Hacc
    isplitl [Hpj]; · iexact Hpj
    isplitl [Hkn]; · iexact Hkn
    isplitl [Hvn]; · iexact Hvn
    isplitl [H37 H38 H39 H44 H45]
    · isplitl [H37]; · iexists _; iexact H37
      isplitl [H38]; · iexists _; iexact H38
      isplitl [H39]; · iexists _; iexact H39
      isplitl [H44]; · iexists _; iexact H44
      iexists _; iexact H45
    iexists _; iexact HO

set_option warn.classDefReducibility false in
@[sl_loop] def loopInv1 (c : Dev nD) (w : BufOf (F := F) c A3) (v : BufOf (F := F) c A5) (f7 : BufOf (F := F) c A7) (f8 : BufOf (F := F) c A8) (sc : BufOf (F := F) c A25) (len : BufOf (F := F) c A30)
    (la : BufOf (F := F) c A32) (acc : BufOf (F := F) c A34) (pj : BufOf (F := F) c A36) (kn : BufOf (F := F) c A42) (vn : BufOf (F := F) c A43) (v93 v3651 v3672 v3674 v3675 v3680 v3685 v3690 v3694) :
    LoopInvTy_k0_t1 (F := F) Unit ℕ (Pipeline.UD sig nD τ) ℕ Variants.none c none Set.univ A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 hA34 A35 hA35 A36 hA36 A37 hA37 A38 hA38 A39 hA39 A40 hA40 A41 hA41 A42 hA42 A43 hA43 A44 hA44 A45 hA45 A46 hA46 A47 hA47 A48 hA48 A49 hA49 cc0_scratch29 cc0_scratch30 cc0_scratch31 cc0_scratch32 cc0_scratch33 cc0_scratch34 cc0_scratch35 cc0_scratch36 cc0_scratch37 cc0_scratch38 cc0_scratch39 v93 v3651 v3672 v3674 v3675 v3680 v3685 v3690 v3694 where
  inv n _ := inv1 c w v f7 f8 sc len la acc pj kn vn (k0_pay587 v3651 v3672 v3674 v3675 v3680 v3685 v3690 v3694) (k0_pay588 v93 v3651 v3672 v3674 v3675 v3680 v3685 v3690 v3694) n
  step g _ := trip1 c w v f7 f8 sc len la acc pj kn vn v93 v3651 v3672 v3674 v3675 v3680 v3685 v3690 v3694 g

end Cert.Kernel.Hand
-- ==== Proof.Trip6.lean ====
module

public import proofs.«01_k».proof.Proof.Trip
public import proofs.«01_k».proof.Proof.Gen.Kernel.Loops

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's resource algebra. -/
local notation "𝕄" => MT nD τ sig Unit (Elt F) ℕ (Pipeline.UD sig nD τ) ℕ

/-! ## One step of the second product -/

theorem off34_eq' : ∀ k : Fin k0_t6_loop.trips, k0_off34 k = woutO (k.val + 84) := by decide +kernel
theorem off31_eq' : ∀ k : Fin k0_t6_loop.trips, k0_cond5 k = 1#1 → k0_off31 k = woutO (k.val + 84 + 11) := by decide +kernel
theorem cond4_not : ∀ k : Fin k0_t6_loop.trips, ¬ k0_cond4 k = 1#1 := by decide +kernel
theorem cond5_iff : ∀ k : Fin k0_t6_loop.trips, k0_cond5 k = 1#1 ↔ k.val + 84 + 11 < 144 := by decide +kernel
theorem trips6 : k0_t6_loop.trips = 60 := by decide +kernel

theorem sub_access (o : Fin 3 → ℕ) (h : ∀ a, o a + S1x512x6144.size a ≤ S12x512x7936.size a) (o' : Fin 3 → ℕ) (h' : ∀ a, o' a + S1x512x6144.size a ≤ S12x512x7936.size a) (e : o = o') :
    (A21.access (Rect.unit (s := S12x512x7936) o S1x512x6144.size h)).set ⊆ (subM o' h').view.set := by
  subst e
  rw [sub_set]
  exact (A21.set_access_subset_setOn _).trans subset_rfl

/-- Past the last block a slot stays at rest. -/
theorem role_done (c : Dev nD) (w : BufOf (F := F) c A3) (v : BufOf (F := F) c A5) (s : Fin 12) (b : ℕ) (h : ¬ b < 144) : role c w v s b = free c w v s := by
  unfold role; rw [dif_neg (by omega), dif_neg h]

/-- A slot's two parts, whatever each holds, make the slot. -/
theorem slot_join (c : Dev nD) (o : Fin 3 → ℕ) (h : ∀ a, o a + S1x512x7936.size a ≤ S12x512x7936.size a) (h' : ∀ a, o a + S1x512x6144.size a ≤ S12x512x7936.size a) (f f' : BufOf (F := F) c A21) :
    iprop(((subM o h').view.loc (c : Thread nD τ) ↦[(subM o h').view.set]{fullShare} f)
      ∗ ((slotM o h).view.loc (c : Thread nD τ) ↦[(slotM o h).view.set \ (subM o h').view.set]{fullShare} f')) ⊢ iprop(∃ f, slotPt c o h f) := by
  have e1 : ((subM o h').view.loc (c : Thread nD τ) ↦[(subM o h').view.set]{fullShare} f : sProp 𝕄)
      = ((subM o h').view.loc (c : Thread nD τ) ↦[(subM o h').view.set]{fullShare} (fun i => if i ∈ (subM o h').view.set then f i else f' i)) :=
    pointsTo_congr fun i hi => (if_pos hi).symm
  have e2 : ((slotM o h).view.loc (c : Thread nD τ) ↦[(slotM o h).view.set \ (subM o h').view.set]{fullShare} f' : sProp 𝕄)
      = ((slotM o h).view.loc (c : Thread nD τ) ↦[(slotM o h).view.set \ (subM o h').view.set]{fullShare} (fun i => if i ∈ (subM o h').view.set then f i else f' i)) :=
    pointsTo_congr fun i hi => (if_neg (Finset.mem_sdiff.mp hi).2).symm
  rw [e1, e2]
  iintro H
  iexists _
  iapply (slot_split c o h h' _).2
  iexact H

/-- The block of the second weight the step multiplies by, read out of the ring slot it landed in. -/
def oblk (c : Dev nD) (v : BufOf (F := F) c A5) (k : Fin k0_t6_loop.trips) : Vec F S1x512x6144 .fp8e4m3 :=
  A21.view.readAt (Elt F) (Rect.unit (s := S12x512x7936) (k0_off36 k) S1x512x6144.size (k0_off36_inb k)).toLoadRect
    ((subM (k0_off33 k) (k0_off33_inb k)).view.writes (Elt F) (subM (k0_off33 k) (k0_off33_inb k)).view.junk
      [⟨Rect.whole S512x6144, ReadAs.same.apply ((woutM (k0_off34 k) (k0_off34_inb k)).view.read (Elt F) v)⟩])
/-- The second product's running sums after one step. -/
def acc2Next (c : Dev nD) (v : BufOf (F := F) c A5) (lb : BufOf (F := F) c A33) (k : Fin k0_t6_loop.trips) (acc : BufOf (F := F) c A35) : BufOf (F := F) c A35 :=
  A35.view.writes (Elt F) acc [⟨Rect.unit (s := S8x6144) ![0, 0] S8x6144.size inb_S8x6144_S8x6144_0_0,
    k0_pay605 (A33.view.readAt (Elt F) (Rect.unit (s := S60x16x512) (k0_off35 k) S1x16x512.size (k0_off35_inb k)).toLoadRect lb)
      (oblk c v k)
      (A35.view.readAt (Elt F) (Rect.unit (s := S8x6144) ![0, 0] S8x6144.size inb_S8x6144_S8x6144_0_0).toLoadRect acc)⟩]

theorem trip6 (c : Dev nD) (w : BufOf (F := F) c A3) (v : BufOf (F := F) c A5) (k : Fin k0_t6_loop.trips)
    (lb : BufOf (F := F) c A33) (acc : BufOf (F := F) c A35) (W : Waits sig Unit) :
    iprop(ringAt c w v (k.val + 84) ∗ pt c A33 lb ∗ pt c A35 acc ∗ owes (c : Thread nD τ) 0 W)
      ⊢ wp frame (wpE (defs₀ (F := F)) Variants.none c none) Set.univ
        (k0_t6_body A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 hA34 A35 hA35 A36 hA36 A37 hA37 A38 hA38 A39 hA39 A40 hA40 A41 hA41 A42 hA42 A43 hA43 A44 hA44 A45 hA45 A46 hA46 A47 hA47 A48 hA48 A49 hA49 cc0_scratch29 cc0_scratch30 cc0_scratch31 cc0_scratch32 cc0_scratch33 cc0_scratch34 cc0_scratch35 cc0_scratch36 cc0_scratch37 cc0_scratch38 cc0_scratch39 k ())
        (fun _ => iprop(ringAt c w v (k.val + 84 + 1) ∗ pt c A33 lb ∗ pt c A35 (acc2Next c v lb k acc) ∗ ∃ W', owes (c : Thread nD τ) 0 W')) := by
  have hk : k.val < 60 := trips6 ▸ k.isLt
  have hcell := sub_access (k0_off36 k) (k0_off36_inb k) (k0_off33 k) (k0_off33_inb k) ((k0_off36_eq k).trans (k0_off33_eq k).symm)
  have c4 := cond4_not k
  rw [ring_open, ring_close]
  have hb : ¬ k.val + 84 < 84 := by omega
  have hs : ∀ a, k0_off33 k a + S1x512x7936.size a ≤ S12x512x7936.size a := by
    rw [k0_off33_eq]; exact slot_inb (Fin.ofNat 12 (k.val + 84))
  rw [role_o_eq c w v _ _ hb (by omega) (hq := k0_off32_inb k) (h := hs) (h' := k0_off33_inb k) (hu := k0_off34_inb k) (k0_off32_eq k) (k0_off33_eq k) (off34_eq' k),
    free_eq c w v (Fin.ofNat 12 (k.val + 84)) (hq := k0_off32_inb k) (h := hs) (k0_off32_eq k) (k0_off33_eq k)]
  unfold k0_t6_body
  by_cases h1 : k.val + 84 + 11 < 144
  · have c5 := (cond5_iff k).mpr h1
    have hs6 : ∀ a, k0_off30 k a + S1x512x7936.size a ≤ S12x512x7936.size a := by
      rw [k0_off30_eq]; exact slot_inb (Fin.ofNat 12 (k.val + 84 + 11))
    rw [role_o_eq c w v _ (k.val + 84 + 11) (by omega) h1 (hq := k0_off29_inb k c5) (h := hs6) (h' := k0_off30_inb k c5) (hu := k0_off31_inb k c5) (k0_off29_eq k) (k0_off30_eq k) (off31_eq' k c5),
      free_eq c w v (Fin.ofNat 12 (k.val + 84 + 11)) (hq := k0_off29_inb k c5) (h := hs6) (k0_off29_eq k) (k0_off30_eq k)]
    iintro ⟨⟨⟨Hqa, ⟨%fa, Hsa⟩, Hwa, Hva⟩, ⟨⟨%f0, Hfb, Hrb, Hsrb⟩, Hvb⟩, Hrest⟩, Hla, Hacc, HO⟩
    ihave Hs2 := (slot_split c (k0_off30 k) hs6 (k0_off30_inb k c5) fa).1 $$ Hsa
    icases Hs2 with ⟨Hsa, Hsr⟩
    sl_exec
    sl_step
    isplitr [Hla Hacc HO]
    · isplitl [Hqa Hwa Hva Hsr]
      · isplitl [Hqa Hva Hsr]
        · iexists fa
          isplitl [Hqa]; · iexact Hqa
          isplitl [Hva]; · iexact Hva
          iexact Hsr
        iexact Hwa
      isplitr [Hrest]
      · isplitl [Hfb]; · iexact Hfb
        isplitl [Hfb_dst Hsrb]
        · iapply (slot_join c (k0_off33 k) hs (k0_off33_inb k) _ _)
          isplitl [Hfb_dst]; · iexact Hfb_dst
          iexact Hsrb
        isplitl [Hvb]; · iexact Hvb
        iexact Hrb
      iexact Hrest
    isplitl [Hla]; · iexact Hla
    isplitl [Hacc]; · iexact Hacc
    iexists _; iexact HO
  · have c5 : ¬ k0_cond5 k = 1#1 := fun h => h1 ((cond5_iff k).mp h)
    rw [role_done c w v _ _ h1]
    iintro ⟨⟨Ha, ⟨⟨%f0, Hfb, Hrb, Hsrb⟩, Hvb⟩, Hrest⟩, Hla, Hacc, HO⟩
    sl_exec
    sl_step
    isplitr [Hla Hacc HO]
    · isplitl [Ha]; · iexact Ha
      isplitr [Hrest]
      · isplitl [Hfb]; · iexact Hfb
        isplitl [Hfb_dst Hsrb]
        · iapply (slot_join c (k0_off33 k) hs (k0_off33_inb k) _ _)
          isplitl [Hfb_dst]; · iexact Hfb_dst
          iexact Hsrb
        isplitl [Hvb]; · iexact Hvb
        iexact Hrb
      iexact Hrest
    isplitl [Hla]; · iexact Hla
    isplitl [Hacc]; · iexact Hacc
    iexists _; iexact HO

/-- The second product's running sums before step `n`. -/
def acc2Rec (c : Dev nD) (v : BufOf (F := F) c A5) (lb : BufOf (F := F) c A33) (acc : BufOf (F := F) c A35) : ℕ → BufOf (F := F) c A35
  | 0 => acc
  | n + 1 => if h : n < k0_t6_loop.trips then acc2Next c v lb ⟨n, h⟩ (acc2Rec c v lb acc n) else acc2Rec c v lb acc n
theorem acc2Rec_succ (c : Dev nD) (v : BufOf (F := F) c A5) (lb : BufOf (F := F) c A33) (acc : BufOf (F := F) c A35) (k : Fin k0_t6_loop.trips) :
    acc2Rec c v lb acc (k.val + 1) = acc2Next c v lb k (acc2Rec c v lb acc k.val) := dif_pos k.isLt

set_option warn.classDefReducibility false in
@[sl_loop] def loopInv6 (c : Dev nD) (w : BufOf (F := F) c A3) (v : BufOf (F := F) c A5) (lb : BufOf (F := F) c A33) (acc : BufOf (F := F) c A35) :
    LoopInvTy_k0_t6 (F := F) Unit ℕ (Pipeline.UD sig nD τ) ℕ Variants.none c none Set.univ A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 hA34 A35 hA35 A36 hA36 A37 hA37 A38 hA38 A39 hA39 A40 hA40 A41 hA41 A42 hA42 A43 hA43 A44 hA44 A45 hA45 A46 hA46 A47 hA47 A48 hA48 A49 hA49 cc0_scratch29 cc0_scratch30 cc0_scratch31 cc0_scratch32 cc0_scratch33 cc0_scratch34 cc0_scratch35 cc0_scratch36 cc0_scratch37 cc0_scratch38 cc0_scratch39 where
  inv k _ := iprop(ringAt c w v (k + 84) ∗ pt c A33 lb ∗ pt c A35 (acc2Rec c v lb acc k) ∗ ∃ W, owes (c : Thread nD τ) 0 W)
  step k _ := by
    rw [acc2Rec_succ, Nat.add_right_comm]
    iintro ⟨Hr, Hla, Hacc, %W, HO⟩
    iapply (trip6 c w v k lb _ W)
    isplitl [Hr]; · iexact Hr
    isplitl [Hla]; · iexact Hla
    isplitl [Hacc]; · iexact Hacc
    iexact HO

end Cert.Kernel.Hand
-- ==== Proof.Body.lean ====
module

public import proofs.«01_k».proof.Proof.Trip1
public import proofs.«01_k».proof.Proof.Trip6

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's resource algebra. -/
local notation "𝕄" => MT nD τ sig Unit (Elt F) ℕ (Pipeline.UD sig nD τ) ℕ

/-! ## The whole body -/

theorem bigSep_fin12 (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-- Every ring slot at rest. -/
def ringFree (c : Dev nD) (w : BufOf (F := F) c A3) (v : BufOf (F := F) c A5) : sProp 𝕄 := bigSep Finset.univ (free c w v)

theorem ringAt_zero (c : Dev nD) (w : BufOf (F := F) c A3) (v : BufOf (F := F) c A5) :
    ringAt c w v (12 * 0) = iprop(role c w v 0 0 ∗ role c w v 1 1 ∗ role c w v 2 2 ∗ role c w v 3 3 ∗ role c w v 4 4 ∗ role c w v 5 5 ∗ role c w v 6 6
      ∗ role c w v 7 7 ∗ role c w v 8 8 ∗ role c w v 9 9 ∗ role c w v 10 10 ∗ free c w v 11) := by
  unfold ringAt; exact bigSep_fin12 _
theorem ringAt_end (c : Dev nD) (w : BufOf (F := F) c A3) (v : BufOf (F := F) c A5) : ringAt c w v 144 = ringFree c w v := by
  unfold ringAt ringFree
  refine BI.bigSep_congr fun s _ => ?_
  unfold slotAt
  split
  · rfl
  · exact role_done c w v s _ (by unfold nxt; omega)

/-- A whole copy over what the destination held. -/
abbrev landW {sp sp' : Space} {s : Shape} {e : EltTy} (c : Dev nD) (S : Memref sig .tc sp s e) (D : Memref sig .tc sp' s e) (f : BufOf (F := F) c S) (fd : BufOf (F := F) c D) : BufOf (F := F) c D :=
  View.write (Elt F) D.view fd (ReadAs.same.apply (S.view.read (Elt F) f)) Finset.univ
theorem landW_eq {sp sp' : Space} {s : Shape} {e : EltTy} (c : Dev nD) (S : Memref sig .tc sp s e) (D : Memref sig .tc sp' s e) (hD : D.IsWhole) (f : BufOf (F := F) c S) (fd : BufOf (F := F) c D) :
    landW c S D f fd = landed c S D f := by
  obtain ⟨b, rfl, rfl, rfl, h⟩ := hD; cases h
  funext y
  refine (congrFun (View.write_univ_eq_writes_whole (View.whole b) fd [] _) y).trans ?_
  exact View.read_writes_apply_eq (View.whole b) fd (View.whole b) (View.whole b).junk y _ ⟨_, List.mem_singleton_self _, by rw [Rect.set_whole]; exact Finset.mem_univ y⟩

/-- What the copies of the small operands deliver. -/
def inD (c : Dev nD) (f0 : BufOf (F := F) c A0) (f1 : BufOf (F := F) c A1) (f2 : BufOf (F := F) c A2) (f4 : BufOf (F := F) c A4) (f6 : BufOf (F := F) c A6) (f11 : BufOf (F := F) c A11) (f22 : BufOf (F := F) c A22) (f23 : BufOf (F := F) c A23) (f24 : BufOf (F := F) c A24) (f25 : BufOf (F := F) c A25) (f26 : BufOf (F := F) c A26) (f29 : BufOf (F := F) c A29) : Fin 6 → sProp 𝕄
  | 0 => iprop((A22.view.loc (c : Thread nD τ) ↦{fullShare} landW c A0 A22 f0 f22) ∗ (A0.view.loc (c : Thread nD τ) ↦[A0.view.set]{fullShare} f0))
  | 1 => iprop((A23.view.loc (c : Thread nD τ) ↦{fullShare} landW c A1 A23 f1 f23) ∗ (A1.view.loc (c : Thread nD τ) ↦[A1.view.set]{fullShare} f1))
  | 2 => iprop((A24.view.loc (c : Thread nD τ) ↦{fullShare} landW c A2 A24 f2 f24) ∗ (A2.view.loc (c : Thread nD τ) ↦[A2.view.set]{fullShare} f2))
  | 3 => iprop((A25.view.loc (c : Thread nD τ) ↦{fullShare} landW c A4 A25 f4 f25) ∗ (A4.view.loc (c : Thread nD τ) ↦[A4.view.set]{fullShare} f4))
  | 4 => iprop((A26.view.loc (c : Thread nD τ) ↦{fullShare} landW c A6 A26 f6 f26) ∗ (A6.view.loc (c : Thread nD τ) ↦[A6.view.set]{fullShare} f6))
  | 5 => iprop((A29.view.loc (c : Thread nD τ) ↦{fullShare} landW c A11 A29 f11 f29) ∗ (A11.view.loc (c : Thread nD τ) ↦[A11.view.set]{fullShare} f11))
instance inD_storable (c : Dev nD) (f0 : BufOf (F := F) c A0) (f1 : BufOf (F := F) c A1) (f2 : BufOf (F := F) c A2) (f4 : BufOf (F := F) c A4) (f6 : BufOf (F := F) c A6) (f11 : BufOf (F := F) c A11) (f22 : BufOf (F := F) c A22) (f23 : BufOf (F := F) c A23) (f24 : BufOf (F := F) c A24) (f25 : BufOf (F := F) c A25) (f26 : BufOf (F := F) c A26) (f29 : BufOf (F := F) c A29) (t : Fin 6) :
    Storable (upEmb : UEmb _ 𝕄) (inD c f0 f1 f2 f4 f6 f11 f22 f23 f24 f25 f26 f29 t) := by
  fin_cases t <;> simp only [inD] <;> infer_instance
/-- What the copies of the two word arrays deliver. -/
def wdD (c : Dev nD) (f9 : BufOf (F := F) c A9) (f10 : BufOf (F := F) c A10) (f30 : BufOf (F := F) c A30) (f31 : BufOf (F := F) c A31) : Fin 2 → sProp 𝕄
  | 0 => iprop((A30.view.loc (c : Thread nD τ) ↦{fullShare} landW c A9 A30 f9 f30) ∗ (A9.view.loc (c : Thread nD τ) ↦[A9.view.set]{fullShare} f9))
  | 1 => iprop((A31.view.loc (c : Thread nD τ) ↦{fullShare} landW c A10 A31 f10 f31) ∗ (A10.view.loc (c : Thread nD τ) ↦[A10.view.set]{fullShare} f10))
instance wdD_storable (c : Dev nD) (f9 : BufOf (F := F) c A9) (f10 : BufOf (F := F) c A10) (f30 : BufOf (F := F) c A30) (f31 : BufOf (F := F) c A31) (t : Fin 2) : Storable (upEmb : UEmb _ 𝕄) (wdD c f9 f10 f30 f31 t) := by
  fin_cases t <;> simp only [wdD] <;> infer_instance

/-- What the copies of the two caches deliver. -/
def kvDW (c : Dev nD) (f7 : BufOf (F := F) c A7) (f8 : BufOf (F := F) c A8) (f27 : BufOf (F := F) c A27) (f28 : BufOf (F := F) c A28) : Fin 2 → sProp 𝕄
  | 0 => iprop((A27.view.loc (c : Thread nD τ) ↦{fullShare} landW c A7 A27 f7 f27) ∗ (A7.view.loc (c : Thread nD τ) ↦[A7.view.set]{fullShare} f7))
  | 1 => iprop((A28.view.loc (c : Thread nD τ) ↦{fullShare} landW c A8 A28 f8 f28) ∗ (A8.view.loc (c : Thread nD τ) ↦[A8.view.set]{fullShare} f8))
instance kvDW_storable (c : Dev nD) (f7 : BufOf (F := F) c A7) (f8 : BufOf (F := F) c A8) (f27 : BufOf (F := F) c A27) (f28 : BufOf (F := F) c A28) (t : Fin 2) : Storable (upEmb : UEmb _ 𝕄) (kvDW c f7 f8 f27 f28 t) := by
  fin_cases t <;> simp only [kvDW] <;> infer_instance
theorem kvDW_eq (c : Dev nD) (f7 : BufOf (F := F) c A7) (f8 : BufOf (F := F) c A8) (f27 : BufOf (F := F) c A27) (f28 : BufOf (F := F) c A28) : kvDW c f7 f8 f27 f28 = kvD c f7 f8 := by
  have e27 : A27.view.set = Finset.univ := View.set_whole _
  have e28 : A28.view.set = Finset.univ := View.set_whole _
  funext t
  fin_cases t
  · show iprop(_ ∗ _) = iprop(_ ∗ _)
    rw [landW_eq c A7 A27 hA27, e27]
  · show iprop(_ ∗ _) = iprop(_ ∗ _)
    rw [landW_eq c A8 A28 hA28, e28]

/-- What a whole copy of a buffer held at some contents delivers. -/
abbrev exD {sp sp' : Space} {s : Shape} {e : EltTy} (c : Dev nD) (S : Memref sig .tc sp s e) (D : Memref sig .tc sp' s e) (fd : BufOf (F := F) c D) : sProp 𝕄 :=
  iprop(∃ f, (D.view.loc (c : Thread nD τ) ↦{fullShare} landW c S D f fd) ∗ (S.view.loc (c : Thread nD τ) ↦[S.view.set]{fullShare} f))
theorem exD_storable {sp sp' : Space} {s : Shape} {e : EltTy} (c : Dev nD) (S : Memref sig .tc sp s e) (D : Memref sig .tc sp' s e) (fd : BufOf (F := F) c D) :
    Storable (upEmb : UEmb _ 𝕄) (exD c S D fd) := by unfold exD; infer_instance
/-- The same, sealed. -/
@[irreducible] def exI (n : ℕ) {sp sp' : Space} {s : Shape} {e : EltTy} (c : Dev nD) (S : Memref sig .tc sp s e) (D : Memref sig .tc sp' s e) (fd : BufOf (F := F) c D) : sProp 𝕄 := exD c S D fd
theorem exI_storable (n : ℕ) {sp sp' : Space} {s : Shape} {e : EltTy} (c : Dev nD) (S : Memref sig .tc sp s e) (D : Memref sig .tc sp' s e) (fd : BufOf (F := F) c D) :
    Storable (upEmb : UEmb _ 𝕄) (exI n c S D fd) := by unfold exI; exact exD_storable c S D fd
theorem exI_open (n : ℕ) {sp sp' : Space} {s : Shape} {e : EltTy} (c : Dev nD) (S : Memref sig .tc sp s e) (D : Memref sig .tc sp' s e) (fd : BufOf (F := F) c D) : exI n c S D fd ⊢ exD c S D fd := by
  unfold exI; exact BIBase.Entails.rfl
theorem exI_of (n : ℕ) {sp sp' : Space} {s : Shape} {e : EltTy} (c : Dev nD) (S : Memref sig .tc sp s e) (D : Memref sig .tc sp' s e) (f : BufOf (F := F) c S) (fd : BufOf (F := F) c D) :
    iprop((D.view.loc (c : Thread nD τ) ↦{fullShare} landW c S D f fd) ∗ (S.view.loc (c : Thread nD τ) ↦[S.view.set]{fullShare} f)) ⊢ exI n c S D fd := by
  unfold exI exD; iintro H; iexists f; iexact H

/-- What the copies of the projection, the attention output and the result deliver; the last two at some contents. -/
def outD (c : Dev nD) (pj : BufOf (F := F) c A36) (f12 : BufOf (F := F) c A12) (f13 : BufOf (F := F) c A13) (f14 : BufOf (F := F) c A14) : Fin 3 → sProp 𝕄
  | 0 => iprop((A13.view.loc (c : Thread nD τ) ↦{fullShare} landW c A36 A13 pj f13) ∗ (A36.view.loc (c : Thread nD τ) ↦[A36.view.set]{fullShare} pj))
  | 1 => exI 1 c A39 A14 f14
  | 2 => exI 2 c A48 A12 f12
instance outD_storable (c : Dev nD) (pj : BufOf (F := F) c A36) (f12 : BufOf (F := F) c A12) (f13 : BufOf (F := F) c A13) (f14 : BufOf (F := F) c A14) (t : Fin 3) : Storable (upEmb : UEmb _ 𝕄) (outD c pj f12 f13 f14 t) := by
  fin_cases t
  · simp only [outD]; infer_instance
  · exact exI_storable 1 c A39 A14 f14
  · exact exI_storable 2 c A48 A12 f12

/-- A resource set aside. -/
@[irreducible] def held (P : sProp 𝕄) : sProp 𝕄 := P
theorem held_eq (P : sProp 𝕄) : held P = P := by unfold held; rfl

theorem role_of (c : Dev nD) (w : BufOf (F := F) c A3) (v : BufOf (F := F) c A5) (s : Fin 12) (b : ℕ) (hb : b < 84) (f0 : BufOf (F := F) c A21) {q hq o h u hu}
    (e1 : q = ![s.val]) (e2 : o = ![s.val, 0, 0]) (e3 : u = winO b) :
    iprop(flW c w q hq o h u hu s f0 ∗ tk c A5 s v) ⊢ role c w v s b := by
  rw [role_w_eq c w v s b hb (hq := hq) (h := h) (hu := hu) e1 e2 e3]
  iintro ⟨H, Hv⟩
  isplitl [H]
  · iexists f0; iexact H
  iexact Hv

theorem kvAt_zero (c : Dev nD) (f7 : BufOf (F := F) c A7) (f8 : BufOf (F := F) c A8) (f27 : BufOf (F := F) c A27) (f28 : BufOf (F := F) c A28) :
    kvAt c f7 f8 0 = Transfers.Batch countersEmb (c : Thread nD τ) (SemLoc.dma cc0_scratch31.sem) () 65536 (kvDW c f7 f8 f27 f28) 2 0 := by
  rw [kvDW_eq]; unfold kvAt; exact if_pos rfl
theorem kvAt_end (c : Dev nD) (f7 : BufOf (F := F) c A7) (f8 : BufOf (F := F) c A8) :
    kvAt c f7 f8 (Scf.trips k0_t1_loop.lb k0_t1_loop.ub k0_t1_loop.st) ⊢ iprop(sm0 c (SemLoc.dma cc0_scratch31.sem) ∗ pt c A27 (landed c A7 A27 f7) ∗ pt c A28 (landed c A8 A28 f8) ∗ pt c A7 f7 ∗ pt c A8 f8) := by
  unfold kvAt; rw [if_neg (by rw [show (Scf.trips k0_t1_loop.lb k0_t1_loop.ub k0_t1_loop.st) = 7 from trips1]; omega)]
theorem ring_mid (c : Dev nD) (w : BufOf (F := F) c A3) (v : BufOf (F := F) c A5) : ringAt c w v (12 * (Scf.trips k0_t1_loop.lb k0_t1_loop.ub k0_t1_loop.st)) ⊢ ringAt c w v (0 + 84) := by
  rw [show (Scf.trips k0_t1_loop.lb k0_t1_loop.ub k0_t1_loop.st) = 7 from trips1]
theorem ring_last (c : Dev nD) (w : BufOf (F := F) c A3) (v : BufOf (F := F) c A5) : ringAt c w v ((Scf.trips k0_t6_loop.lb k0_t6_loop.ub k0_t6_loop.st) + 84) ⊢ ringFree c w v := by
  rw [show (Scf.trips k0_t6_loop.lb k0_t6_loop.ub k0_t6_loop.st) = 60 from trips6, ← ringAt_end]

theorem out_alloc (c : Dev nD) {w : BufOf (F := F) c A3} {la : BufOf (F := F) c A32} {sc : BufOf (F := F) c A25} (f34 : BufOf (F := F) c A34) (f36 : BufOf (F := F) c A36)
    (f12 : BufOf (F := F) c A12) (f13 : BufOf (F := F) c A13) (f14 : BufOf (F := F) c A14) :
    iprop(held (sm0 c (SemLoc.dma cc0_scratch32.sem)) ∗ pt c A36 (projG c w la sc f34 f36 (Scf.trips k0_t1_loop.lb k0_t1_loop.ub k0_t1_loop.st)))
      ⊢ |={Set.univ}=> iprop(Transfers.MixedBatch countersEmb (c : Thread nD τ) (SemLoc.dma cc0_scratch32.sem) () ![27776, 6144, 3072] (outD c (projG c w la sc f34 f36 (Scf.trips k0_t1_loop.lb k0_t1_loop.ub k0_t1_loop.st)) f12 f13 f14) 0 0
        ∗ pt c A36 (projG c w la sc f34 f36 (Scf.trips k0_t1_loop.lb k0_t1_loop.ub k0_t1_loop.st))) := by
  rw [held_eq]
  iintro ⟨Hq, H⟩
  imod (Transfers.mixedBatch_alloc' (Lvl := ℕ) (countersEmb (U := Pipeline.UD sig nD τ)) (c : Thread nD τ) () ![27776, 6144, 3072] (outD c (projG c w la sc f34 f36 (Scf.trips k0_t1_loop.lb k0_t1_loop.ub k0_t1_loop.st)) f12 f13 f14) (sm := SemLoc.dma cc0_scratch32.sem) (E := Set.univ)) $$ Hq with HB
  imodintro
  isplitl [HB]; · iexact HB
  iexact H

/-- What the body starts from: the operands, the results, the scratch buffers, every cell at zero. -/
def bodyPre (c : Dev nD) (f0 : BufOf (F := F) c A0) (f1 : BufOf (F := F) c A1) (f2 : BufOf (F := F) c A2) (f3 : BufOf (F := F) c A3) (f4 : BufOf (F := F) c A4) (f5 : BufOf (F := F) c A5) (f6 : BufOf (F := F) c A6) (f7 : BufOf (F := F) c A7) (f8 : BufOf (F := F) c A8) (f9 : BufOf (F := F) c A9) (f10 : BufOf (F := F) c A10) (f11 : BufOf (F := F) c A11) (f12 : BufOf (F := F) c A12) (f13 : BufOf (F := F) c A13) (f14 : BufOf (F := F) c A14) (f15 : BufOf (F := F) c A15) (f16 : BufOf (F := F) c A16) (f17 : BufOf (F := F) c A17) (f18 : BufOf (F := F) c A18) (f19 : BufOf (F := F) c A19) (f20 : BufOf (F := F) c A20) (f22 : BufOf (F := F) c A22) (f23 : BufOf (F := F) c A23) (f24 : BufOf (F := F) c A24) (f25 : BufOf (F := F) c A25) (f26 : BufOf (F := F) c A26) (f27 : BufOf (F := F) c A27) (f28 : BufOf (F := F) c A28) (f29 : BufOf (F := F) c A29) (f30 : BufOf (F := F) c A30) (f31 : BufOf (F := F) c A31) (f32 : BufOf (F := F) c A32) (f33 : BufOf (F := F) c A33) (f34 : BufOf (F := F) c A34) (f35 : BufOf (F := F) c A35) (f36 : BufOf (F := F) c A36) (f37 : BufOf (F := F) c A37) (f38 : BufOf (F := F) c A38) (f39 : BufOf (F := F) c A39) (f40 : BufOf (F := F) c A40) (f41 : BufOf (F := F) c A41) (f42 : BufOf (F := F) c A42) (f43 : BufOf (F := F) c A43) (f44 : BufOf (F := F) c A44) (f45 : BufOf (F := F) c A45) (f46 : BufOf (F := F) c A46) (f47 : BufOf (F := F) c A47) (f48 : BufOf (F := F) c A48) (f49 : BufOf (F := F) c A49) : sProp 𝕄 :=
  iprop(ringFree c f3 f5 ∗ pt c A0 f0 ∗ pt c A1 f1 ∗ pt c A2 f2 ∗ pt c A4 f4 ∗ pt c A6 f6 ∗ pt c A7 f7 ∗ pt c A8 f8 ∗ pt c A9 f9 ∗ pt c A10 f10 ∗ pt c A11 f11 ∗ pt c A12 f12 ∗ pt c A13 f13 ∗ pt c A14 f14 ∗ pt c A15 f15 ∗ pt c A16 f16 ∗ pt c A17 f17 ∗ pt c A18 f18 ∗ pt c A19 f19 ∗ pt c A20 f20 ∗ pt c A22 f22 ∗ pt c A23 f23 ∗ pt c A24 f24 ∗ pt c A25 f25 ∗ pt c A26 f26 ∗ pt c A27 f27 ∗ pt c A28 f28 ∗ pt c A29 f29 ∗ pt c A30 f30 ∗ pt c A31 f31 ∗ pt c A32 f32 ∗ pt c A33 f33 ∗ pt c A34 f34 ∗ pt c A35 f35 ∗ pt c A36 f36 ∗ pt c A37 f37 ∗ pt c A38 f38 ∗ pt c A39 f39 ∗ pt c A40 f40 ∗ pt c A41 f41 ∗ pt c A42 f42 ∗ pt c A43 f43 ∗ pt c A44 f44 ∗ pt c A45 f45 ∗ pt c A46 f46 ∗ pt c A47 f47 ∗ pt c A48 f48 ∗ pt c A49 f49 ∗ sm0 c (SemLoc.dma cc0_scratch30.sem) ∗ sm0 c (SemLoc.dma cc0_scratch31.sem) ∗ sm0 c (SemLoc.dma cc0_scratch32.sem) ∗ sm0 c (SemLoc.dma cc0_scratch33.sem) ∗ sm0 c (SemLoc.dma cc0_scratch34.sem) ∗ sm0 c (SemLoc.dma cc0_scratch35.sem) ∗ sm0 c (SemLoc.dma cc0_scratch36.sem) ∗ sm0 c (SemLoc.dma cc0_scratch37.sem) ∗ sm0 c (SemLoc.dma cc0_scratch38.sem) ∗ sm0 c (SemLoc.dma cc0_scratch39.sem) ∗ ∃ W, owes (c : Thread nD τ) 0 W)
/-- What the body ends with: the operands and cells as at the start; the projection, the codes and scales of the
    normalised rows, the new keys and values at their contents (`la` the codes as the first product reads them, `co`
    and `si` the rotation); the rest at some contents. -/
def bodyPost (c : Dev nD) (f0 : BufOf (F := F) c A0) (f1 : BufOf (F := F) c A1) (f2 : BufOf (F := F) c A2) (f3 : BufOf (F := F) c A3) (f4 : BufOf (F := F) c A4) (f5 : BufOf (F := F) c A5) (f6 : BufOf (F := F) c A6) (f7 : BufOf (F := F) c A7) (f8 : BufOf (F := F) c A8) (f9 : BufOf (F := F) c A9) (f10 : BufOf (F := F) c A10) (f11 : BufOf (F := F) c A11) (f12 : BufOf (F := F) c A12) (f13 : BufOf (F := F) c A13) (f14 : BufOf (F := F) c A14) (f15 : BufOf (F := F) c A15) (f16 : BufOf (F := F) c A16) (f17 : BufOf (F := F) c A17) (f18 : BufOf (F := F) c A18) (f19 : BufOf (F := F) c A19) (f20 : BufOf (F := F) c A20) (f22 : BufOf (F := F) c A22) (f23 : BufOf (F := F) c A23) (f24 : BufOf (F := F) c A24) (f25 : BufOf (F := F) c A25) (f26 : BufOf (F := F) c A26) (f27 : BufOf (F := F) c A27) (f28 : BufOf (F := F) c A28) (f29 : BufOf (F := F) c A29) (f30 : BufOf (F := F) c A30) (f31 : BufOf (F := F) c A31) (f32 : BufOf (F := F) c A32) (f33 : BufOf (F := F) c A33) (f34 : BufOf (F := F) c A34) (f35 : BufOf (F := F) c A35) (f36 : BufOf (F := F) c A36) (f37 : BufOf (F := F) c A37) (f38 : BufOf (F := F) c A38) (f39 : BufOf (F := F) c A39) (f40 : BufOf (F := F) c A40) (f41 : BufOf (F := F) c A41) (f42 : BufOf (F := F) c A42) (f43 : BufOf (F := F) c A43) (f44 : BufOf (F := F) c A44) (f45 : BufOf (F := F) c A45) (f46 : BufOf (F := F) c A46) (f47 : BufOf (F := F) c A47) (f48 : BufOf (F := F) c A48) (f49 : BufOf (F := F) c A49) (la : BufOf (F := F) c A32) (hc : BufOf (F := F) c A40) (hs : BufOf (F := F) c A41) (co si : FVec F S8x128 .f32) : sProp 𝕄 :=
  iprop(ringFree c f3 f5 ∗ pt c A0 f0 ∗ pt c A1 f1 ∗ pt c A2 f2 ∗ pt c A4 f4 ∗ pt c A6 f6 ∗ pt c A7 f7 ∗ pt c A8 f8 ∗ pt c A9 f9 ∗ pt c A10 f10 ∗ pt c A11 f11 ∗ pt c A32 la ∗ pt c A40 hc ∗ pt c A41 hs ∗ pt c A42 (knG c co si (accG c f3 la (landW c A4 A25 f4 f25) f34 1) f42 (Scf.trips k0_t1_loop.lb k0_t1_loop.ub k0_t1_loop.st)) ∗ pt c A13 (landW c A36 A13 (projG c f3 la (landW c A4 A25 f4 f25) f34 f36 (Scf.trips k0_t1_loop.lb k0_t1_loop.ub k0_t1_loop.st)) f13) ∗ pt c A15 (landW c A40 A15 hc f15) ∗ pt c A16 (landW c A41 A16 hs f16) ∗ pt c A17 (landW c A42 A17 (knG c co si (accG c f3 la (landW c A4 A25 f4 f25) f34 1) f42 (Scf.trips k0_t1_loop.lb k0_t1_loop.ub k0_t1_loop.st)) f17) ∗ pt c A18 (landW c A43 A18 (vnG c (accG c f3 la (landW c A4 A25 f4 f25) f34 1) f43 (Scf.trips k0_t1_loop.lb k0_t1_loop.ub k0_t1_loop.st)) f18) ∗ (∃ f, pt c A12 f) ∗ (∃ f, pt c A14 f) ∗ (∃ f, pt c A19 f) ∗ (∃ f, pt c A20 f) ∗ (∃ f, pt c A22 f) ∗ (∃ f, pt c A23 f) ∗ (∃ f, pt c A24 f) ∗ (∃ f, pt c A25 f) ∗ (∃ f, pt c A26 f) ∗ (∃ f, pt c A27 f) ∗ (∃ f, pt c A28 f) ∗ (∃ f, pt c A29 f) ∗ (∃ f, pt c A30 f) ∗ (∃ f, pt c A31 f) ∗ (∃ f, pt c A33 f) ∗ (∃ f, pt c A34 f) ∗ (∃ f, pt c A35 f) ∗ (∃ f, pt c A36 f) ∗ (∃ f, pt c A37 f) ∗ (∃ f, pt c A38 f) ∗ (∃ f, pt c A39 f) ∗ (∃ f, pt c A43 f) ∗ (∃ f, pt c A44 f) ∗ (∃ f, pt c A45 f) ∗ (∃ f, pt c A46 f) ∗ (∃ f, pt c A47 f) ∗ (∃ f, pt c A48 f) ∗ (∃ f, pt c A49 f) ∗ sm0 c (SemLoc.dma cc0_scratch30.sem) ∗ sm0 c (SemLoc.dma cc0_scratch31.sem) ∗ sm0 c (SemLoc.dma cc0_scratch32.sem) ∗ sm0 c (SemLoc.dma cc0_scratch33.sem) ∗ sm0 c (SemLoc.dma cc0_scratch34.sem) ∗ sm0 c (SemLoc.dma cc0_scratch35.sem) ∗ sm0 c (SemLoc.dma cc0_scratch36.sem) ∗ sm0 c (SemLoc.dma cc0_scratch37.sem) ∗ sm0 c (SemLoc.dma cc0_scratch38.sem) ∗ sm0 c (SemLoc.dma cc0_scratch39.sem) ∗ ∃ W, owes (c : Thread nD τ) 0 W)

set_option maxHeartbeats 0 in
set_option maxRecDepth 8000 in
/-- The body run from its start; the contents it ends with are found by the run. -/
def bodyRun (c : Dev nD) (f0 : BufOf (F := F) c A0) (f1 : BufOf (F := F) c A1) (f2 : BufOf (F := F) c A2) (f3 : BufOf (F := F) c A3) (f4 : BufOf (F := F) c A4) (f5 : BufOf (F := F) c A5) (f6 : BufOf (F := F) c A6) (f7 : BufOf (F := F) c A7) (f8 : BufOf (F := F) c A8) (f9 : BufOf (F := F) c A9) (f10 : BufOf (F := F) c A10) (f11 : BufOf (F := F) c A11) (f12 : BufOf (F := F) c A12) (f13 : BufOf (F := F) c A13) (f14 : BufOf (F := F) c A14) (f15 : BufOf (F := F) c A15) (f16 : BufOf (F := F) c A16) (f17 : BufOf (F := F) c A17) (f18 : BufOf (F := F) c A18) (f19 : BufOf (F := F) c A19) (f20 : BufOf (F := F) c A20) (f22 : BufOf (F := F) c A22) (f23 : BufOf (F := F) c A23) (f24 : BufOf (F := F) c A24) (f25 : BufOf (F := F) c A25) (f26 : BufOf (F := F) c A26) (f27 : BufOf (F := F) c A27) (f28 : BufOf (F := F) c A28) (f29 : BufOf (F := F) c A29) (f30 : BufOf (F := F) c A30) (f31 : BufOf (F := F) c A31) (f32 : BufOf (F := F) c A32) (f33 : BufOf (F := F) c A33) (f34 : BufOf (F := F) c A34) (f35 : BufOf (F := F) c A35) (f36 : BufOf (F := F) c A36) (f37 : BufOf (F := F) c A37) (f38 : BufOf (F := F) c A38) (f39 : BufOf (F := F) c A39) (f40 : BufOf (F := F) c A40) (f41 : BufOf (F := F) c A41) (f42 : BufOf (F := F) c A42) (f43 : BufOf (F := F) c A43) (f44 : BufOf (F := F) c A44) (f45 : BufOf (F := F) c A45) (f46 : BufOf (F := F) c A46) (f47 : BufOf (F := F) c A47) (f48 : BufOf (F := F) c A48) (f49 : BufOf (F := F) c A49) :
    { o : BufOf (F := F) c A32 × BufOf (F := F) c A40 × BufOf (F := F) c A41 × FVec F S8x128 .f32 × FVec F S8x128 .f32 //
      bodyPre c f0 f1 f2 f3 f4 f5 f6 f7 f8 f9 f10 f11 f12 f13 f14 f15 f16 f17 f18 f19 f20 f22 f23 f24 f25 f26 f27 f28 f29 f30 f31 f32 f33 f34 f35 f36 f37 f38 f39 f40 f41 f42 f43 f44 f45 f46 f47 f48 f49
      ⊢ wp frame (wpE (defs₀ (F := F)) Variants.none c none) Set.univ (cc0_decode_block A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 hA34 A35 hA35 A36 hA36 A37 hA37 A38 hA38 A39 hA39 A40 hA40 A41 hA41 A42 hA42 A43 hA43 A44 hA44 A45 hA45 A46 hA46 A47 hA47 A48 hA48 A49 hA49 cc0_scratch29 cc0_scratch30 cc0_scratch31 cc0_scratch32 cc0_scratch33 cc0_scratch34 cc0_scratch35 cc0_scratch36 cc0_scratch37 cc0_scratch38 cc0_scratch39)
        (fun _ => bodyPost c f0 f1 f2 f3 f4 f5 f6 f7 f8 f9 f10 f11 f12 f13 f14 f15 f16 f17 f18 f19 f20 f22 f23 f24 f25 f26 f27 f28 f29 f30 f31 f32 f33 f34 f35 f36 f37 f38 f39 f40 f41 f42 f43 f44 f45 f46 f47 f48 f49 o.1 o.2.1 o.2.2.1 o.2.2.2.1 o.2.2.2.2) } := by
  refine ⟨⟨?la, ?hc, ?hs, ?co, ?si⟩, ?run⟩
  case run =>
  dsimp only
  have e36 : A36.view.set = Finset.univ := View.set_whole _
  have e39 : A39.view.set = Finset.univ := View.set_whole _
  have e48 : A48.view.set = Finset.univ := View.set_whole _
  unfold bodyPre
  have e7 : A7.view.set = Finset.univ := View.set_whole _
  have e8 : A8.view.set = Finset.univ := View.set_whole _
  unfold ringFree
  rw [bigSep_fin12]
  unfold free
  iintro ⟨⟨⟨Hc0, ⟨%s0, Hs0⟩, Hw0, Hv0⟩, ⟨Hc1, ⟨%s1, Hs1⟩, Hw1, Hv1⟩, ⟨Hc2, ⟨%s2, Hs2⟩, Hw2, Hv2⟩, ⟨Hc3, ⟨%s3, Hs3⟩, Hw3, Hv3⟩, ⟨Hc4, ⟨%s4, Hs4⟩, Hw4, Hv4⟩, ⟨Hc5, ⟨%s5, Hs5⟩, Hw5, Hv5⟩, ⟨Hc6, ⟨%s6, Hs6⟩, Hw6, Hv6⟩, ⟨Hc7, ⟨%s7, Hs7⟩, Hw7, Hv7⟩, ⟨Hc8, ⟨%s8, Hs8⟩, Hw8, Hv8⟩, ⟨Hc9, ⟨%s9, Hs9⟩, Hw9, Hv9⟩, ⟨Hc10, ⟨%s10, Hs10⟩, Hw10, Hv10⟩, ⟨Hc11, ⟨%s11, Hs11⟩, Hw11, Hv11⟩⟩, H0, H1, H2, H4, H6, H7, H8, H9, H10, H11, H12, H13, H14, H15, H16, H17, H18, H19, H20, H22, H23, H24, H25, H26, H27, H28, H29, H30, H31, H32, H33, H34, H35, H36, H37, H38, H39, H40, H41, H42, H43, H44, H45, H46, H47, H48, H49, Hq30, Hq31, Hq32, Hq33, Hq34, Hq35, Hq36, Hq37, Hq38, Hq39, %W, HO⟩
  imod (Transfers.mixedBatch_alloc' (Lvl := ℕ) (countersEmb (U := Pipeline.UD sig nD τ)) (c : Thread nD τ) () ![3072, 768, 768, 6944, 768, 16] (inD c f0 f1 f2 f4 f6 f11 f22 f23 f24 f25 f26 f29) (sm := SemLoc.dma cc0_scratch30.sem) (E := Set.univ)) $$ Hq30 with HB
  imod (Transfers.batch_alloc' (Lvl := ℕ) (countersEmb (U := Pipeline.UD sig nD τ)) (c : Thread nD τ) () 16 (wdD c f9 f10 f30 f31) (sm := SemLoc.dma cc0_scratch33.sem) (E := Set.univ)) $$ Hq33 with HWB
  imod (Transfers.batch_alloc' (Lvl := ℕ) (countersEmb (U := Pipeline.UD sig nD τ)) (c : Thread nD τ) () 65536 (kvDW c f7 f8 f27 f28) (sm := SemLoc.dma cc0_scratch31.sem) (E := Set.univ)) $$ Hq31 with HKB
  unfold inD wdD kvDW
  sl_exec
  ihave Hr0 := (role_of c f3 f5 0 0 (by decide) s0 (hq := cell_inb 0) (h := slot_inb 0) (hu := win_inb 0 (by decide)) rfl rfl rfl) $$ [Hc0 Hw0 Hv0]
  · isplitl [Hc0 Hw0]
    · isplitl [Hc0]; · iexact Hc0
      iexact Hw0
    iexact Hv0
  ihave Hr1 := (role_of c f3 f5 1 1 (by decide) s1 (hq := cell_inb 1) (h := slot_inb 1) (hu := win_inb 1 (by decide)) rfl rfl rfl) $$ [Hc1 Hw1 Hv1]
  · isplitl [Hc1 Hw1]
    · isplitl [Hc1]; · iexact Hc1
      iexact Hw1
    iexact Hv1
  ihave Hr2 := (role_of c f3 f5 2 2 (by decide) s2 (hq := cell_inb 2) (h := slot_inb 2) (hu := win_inb 2 (by decide)) rfl rfl rfl) $$ [Hc2 Hw2 Hv2]
  · isplitl [Hc2 Hw2]
    · isplitl [Hc2]; · iexact Hc2
      iexact Hw2
    iexact Hv2
  ihave Hr3 := (role_of c f3 f5 3 3 (by decide) s3 (hq := cell_inb 3) (h := slot_inb 3) (hu := win_inb 3 (by decide)) rfl rfl rfl) $$ [Hc3 Hw3 Hv3]
  · isplitl [Hc3 Hw3]
    · isplitl [Hc3]; · iexact Hc3
      iexact Hw3
    iexact Hv3
  ihave Hr4 := (role_of c f3 f5 4 4 (by decide) s4 (hq := cell_inb 4) (h := slot_inb 4) (hu := win_inb 4 (by decide)) rfl rfl rfl) $$ [Hc4 Hw4 Hv4]
  · isplitl [Hc4 Hw4]
    · isplitl [Hc4]; · iexact Hc4
      iexact Hw4
    iexact Hv4
  ihave Hr5 := (role_of c f3 f5 5 5 (by decide) s5 (hq := cell_inb 5) (h := slot_inb 5) (hu := win_inb 5 (by decide)) rfl rfl rfl) $$ [Hc5 Hw5 Hv5]
  · isplitl [Hc5 Hw5]
    · isplitl [Hc5]; · iexact Hc5
      iexact Hw5
    iexact Hv5
  ihave Hr6 := (role_of c f3 f5 6 6 (by decide) s6 (hq := cell_inb 6) (h := slot_inb 6) (hu := win_inb 6 (by decide)) rfl rfl rfl) $$ [Hc6 Hw6 Hv6]
  · isplitl [Hc6 Hw6]
    · isplitl [Hc6]; · iexact Hc6
      iexact Hw6
    iexact Hv6
  ihave Hr7 := (role_of c f3 f5 7 7 (by decide) s7 (hq := cell_inb 7) (h := slot_inb 7) (hu := win_inb 7 (by decide)) rfl rfl rfl) $$ [Hc7 Hw7 Hv7]
  · isplitl [Hc7 Hw7]
    · isplitl [Hc7]; · iexact Hc7
      iexact Hw7
    iexact Hv7
  ihave Hr8 := (role_of c f3 f5 8 8 (by decide) s8 (hq := cell_inb 8) (h := slot_inb 8) (hu := win_inb 8 (by decide)) rfl rfl rfl) $$ [Hc8 Hw8 Hv8]
  · isplitl [Hc8 Hw8]
    · isplitl [Hc8]; · iexact Hc8
      iexact Hw8
    iexact Hv8
  ihave Hr9 := (role_of c f3 f5 9 9 (by decide) s9 (hq := cell_inb 9) (h := slot_inb 9) (hu := win_inb 9 (by decide)) rfl rfl rfl) $$ [Hc9 Hw9 Hv9]
  · isplitl [Hc9 Hw9]
    · isplitl [Hc9]; · iexact Hc9
      iexact Hw9
    iexact Hv9
  ihave Hr10 := (role_of c f3 f5 10 10 (by decide) s10 (hq := cell_inb 10) (h := slot_inb 10) (hu := win_inb 10 (by decide)) rfl rfl rfl) $$ [Hc10 Hw10 Hv10]
  · isplitl [Hc10 Hw10]
    · isplitl [Hc10]; · iexact Hc10
      iexact Hw10
    iexact Hv10
  ihave HR := (show iprop(role c f3 f5 0 0 ∗ role c f3 f5 1 1 ∗ role c f3 f5 2 2 ∗ role c f3 f5 3 3 ∗ role c f3 f5 4 4 ∗ role c f3 f5 5 5 ∗ role c f3 f5 6 6
      ∗ role c f3 f5 7 7 ∗ role c f3 f5 8 8 ∗ role c f3 f5 9 9 ∗ role c f3 f5 10 10 ∗ free c f3 f5 11) ⊢ ringAt c f3 f5 (12 * 0) from by rw [ringAt_zero]) $$ [Hr0 Hr1 Hr2 Hr3 Hr4 Hr5 Hr6 Hr7 Hr8 Hr9 Hr10 Hc11 Hs11 Hw11 Hv11]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    unfold free
    isplitl [Hc11]; · iexact Hc11
    isplitl [Hs11]; · iexists s11; iexact Hs11
    isplitl [Hw11]; · iexact Hw11
    iexact Hv11
  have hk : Transfers.Batch countersEmb (c : Thread nD τ) (SemLoc.dma cc0_scratch31.sem) () 65536 (kvDW c f7 f8 f27 f28) 2 0 ⊢ kvAt c f7 f8 0 := by rw [kvAt_zero c f7 f8 f27 f28]
  unfold kvDW at hk
  ihave HK := hk $$ HKB
  iclear H7
  iclear H8
  ihave Hq32 := (show sm0 c (SemLoc.dma cc0_scratch32.sem) ⊢ held (sm0 c (SemLoc.dma cc0_scratch32.sem)) from by rw [held_eq]) $$ Hq32
  sl_exec
  ihave HR := (ring_mid c f3 f5) $$ HR
  ihave HK := (kvAt_end c f7 f8) $$ HK
  icases HK with ⟨Hq31, H27, H28, H7, H8⟩
  imod (out_alloc c f34 f36 f12 f13 f14) $$ [Hq32 H36] with ⟨HOB, H36⟩
  · isplitl [Hq32]; · iexact Hq32
    iexact H36
  unfold outD
  sl_exec (disch := first | (show _ ⊢ exI 1 c A39 A14 f14; exact exI_of 1 c A39 A14 _ f14) | (show _ ⊢ exI 2 c A48 A12 f12; exact exI_of 2 c A48 A12 _ f12))
  sl_step
  ihave H14 := (exI_open 1 c A39 A14 f14) $$ HOB_1
  ihave H12 := (exI_open 2 c A48 A12 f12) $$ HOB_2
  iclear H39
  iclear H48
  icases H14 with ⟨%g14, H14, H39⟩
  icases H12 with ⟨%g12, H12, H48⟩
  ihave H39 := (pt_of_set c A39 e39 _) $$ H39
  ihave H48 := (pt_of_set c A48 e48 _) $$ H48
  ihave HR := (ring_last c f3 f5) $$ HR
  unfold bodyPost
  isplitl [HR]; · iexact HR
  isplitl [H0]; · iexact H0
  isplitl [H1]; · iexact H1
  isplitl [H2]; · iexact H2
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H32]; · iexact H32
  isplitl [H40]; · iexact H40
  isplitl [H41]; · iexact H41
  isplitl [H42]; · iexact H42
  isplitl [HOB_dst0]; · iexact HOB_dst0
  isplitl [H15]; · iexact H15
  isplitl [H16]; · iexact H16
  isplitl [H17]; · iexact H17
  isplitl [H18]; · iexact H18
  isplitl [H12]; · iexists _; iexact H12
  isplitl [H14]; · iexists _; iexact H14
  isplitl [H19]; · iexists _; iexact H19
  isplitl [H20]; · iexists _; iexact H20
  isplitl [HB_dst0]; · iexists _; iexact HB_dst0
  isplitl [HB_dst1]; · iexists _; iexact HB_dst1
  isplitl [HB_dst2]; · iexists _; iexact HB_dst2
  isplitl [HB_dst3]; · iexists _; iexact HB_dst3
  isplitl [HB_dst4]; · iexists _; iexact HB_dst4
  isplitl [H27]; · iexists _; iexact H27
  isplitl [H28]; · iexists _; iexact H28
  isplitl [HB_dst5]; · iexists _; iexact HB_dst5
  isplitl [HWB_dst0]; · iexists _; iexact HWB_dst0
  isplitl [HWB_dst1]; · iexists _; iexact HWB_dst1
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [HB]; · iexact HB
  isplitl [Hq31]; · iexact Hq31
  isplitl [HOB]; · iexact HOB
  isplitl [HWB]; · iexact HWB
  isplitl [Hq34]; · iexact Hq34
  isplitl [Hq35]; · iexact Hq35
  isplitl [Hq36]; · iexact Hq36
  isplitl [Hq37]; · iexact Hq37
  isplitl [Hq38]; · iexact Hq38
  isplitl [Hq39]; · iexact Hq39
  iexists _; iexact HO

end Cert.Kernel.Hand
-- ==== Proof.Launch.lean ====
module

public import proofs.«01_k».proof.Proof.Body
public import proofs.«01_k».proof.Proof.Gen.Kernel.Frame
public import Idealize.ShloMosaic.Lib.Pipeline.FrameValue

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra. -/
local notation "𝕄" => MT nD τ sig Unit (Elt F) ℕ (Pipeline.UD sig nD τ) ℕ

variable (m : (ℓ : Loc nD τ sig) → Buf (Elt F) ℓ) (ρ : Dev nD → PrngReg)

/-! ## The launch -/

set_option maxHeartbeats 800000 in
/-- @main up to the kernel's call, at this proof's resource algebra. -/
theorem hmain (𝒱₀ : Variants) : Pipeline.HMain (Ix := Unit) (Name := ℕ) (U := Pipeline.UD sig nD τ) (Lvl := ℕ) cfgs 0 defs₀ 𝒱₀ m (main (F := F)) (V m) := by
  exact Pipeline.hmain_prefix (U := Pipeline.UD sig nD τ) cfgs 0 defs₀ 𝒱₀ m main hostOps0 hostOps0_sub hostOps0_fresh main_chain

/-- The results the body writes. -/
def R0 : Finset (Ref sig .tc) := {main_v6_0, main_v6_1, main_v6_2, main_v6_3, main_v6_4, main_v6_5, main_v6_6, main_v6_7, main_v6_8}
/-- The operands the body reads. -/
def H0 : Finset (Ref sig .tc) := {main_v1, main_v2, main_v3, main_arg3, main_v4, main_arg5, main_v5, main_arg7, main_arg8, main_arg9, main_arg10, main_v0}
theorem H0_sub : H0 ⊆ Pipeline.restRefs sig cfg0.spec := by decide
theorem R0_sub : R0 ⊆ Pipeline.restRefs sig cfg0.spec \ H0 := by decide

/-- A ring slot's semaphore. -/
abbrev cell (s : Fin 12) : SemLoc sig := SemLoc.dma (cellS ![s.val] (cell_inb s))
/-- The body's own semaphores: the ring's twelve, then the ten single ones. -/
abbrev osem0 : Fin 22 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21] : Fin 22 → SemLoc sig) j
theorem ownSemFacts0 : Pipeline.OwnSemFacts cfg0.spec osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(sm0 c (cell 0) ∗ sm0 c (cell 1) ∗ sm0 c (cell 2) ∗ sm0 c (cell 3) ∗ sm0 c (cell 4) ∗ sm0 c (cell 5) ∗ sm0 c (cell 6) ∗ sm0 c (cell 7) ∗ sm0 c (cell 8) ∗ sm0 c (cell 9) ∗ sm0 c (cell 10) ∗ sm0 c (cell 11) ∗ sm0 c (SemLoc.dma cc0_scratch30.sem) ∗ sm0 c (SemLoc.dma cc0_scratch31.sem) ∗ sm0 c (SemLoc.dma cc0_scratch32.sem) ∗ sm0 c (SemLoc.dma cc0_scratch33.sem) ∗ sm0 c (SemLoc.dma cc0_scratch34.sem) ∗ sm0 c (SemLoc.dma cc0_scratch35.sem) ∗ sm0 c (SemLoc.dma cc0_scratch36.sem) ∗ sm0 c (SemLoc.dma cc0_scratch37.sem) ∗ sm0 c (SemLoc.dma cc0_scratch38.sem) ∗ sm0 c (SemLoc.dma cc0_scratch39.sem)) := by
  rw [Pipeline.ownSems0_eq_of_list c osem0 [0, 1, 2, 3, 4, 5, 6, 7, 8, 9, 10, 11, 12, 13, 14, 15, 16, 17, 18, 19, 20, 21] (by decide) (by decide)]; rfl
theorem hbmPts0_eq (c : Dev nD) :
    (bigSep H0 (fun b => ((c : Thread nD τ).loc b) ↦{fullShare} V m c b) : sProp 𝕄)
      = iprop(pt c A0 (V m c main_v1) ∗ pt c A1 (V m c main_v2) ∗ pt c A2 (V m c main_v3) ∗ pt c A3 (V m c main_arg3) ∗ pt c A4 (V m c main_v4) ∗ pt c A5 (V m c main_arg5) ∗ pt c A6 (V m c main_v5) ∗ pt c A7 (V m c main_arg7) ∗ pt c A8 (V m c main_arg8) ∗ pt c A9 (V m c main_arg9) ∗ pt c A10 (V m c main_arg10) ∗ pt c A11 (V m c main_v0)) := by
  rw [BI.bigSep_eq_bigSepL_of_eq [main_v1, main_v2, main_v3, main_arg3, main_v4, main_arg5, main_v5, main_arg7, main_arg8, main_arg9, main_arg10, main_v0] (by decide) (by decide)]; rfl
theorem routed0_eq (c : Dev nD) (W : (b : Ref sig .tc) → Buf (Elt F) ((c : Thread nD τ).loc b)) :
    (Pipeline.routed R0 c W : sProp 𝕄) = iprop(pt c A12 (W main_v6_0) ∗ pt c A13 (W main_v6_1) ∗ pt c A14 (W main_v6_2) ∗ pt c A15 (W main_v6_3) ∗ pt c A16 (W main_v6_4) ∗ pt c A17 (W main_v6_5) ∗ pt c A18 (W main_v6_6) ∗ pt c A19 (W main_v6_7) ∗ pt c A20 (W main_v6_8)) := by
  unfold Pipeline.routed; rw [BI.bigSep_eq_bigSepL_of_eq [main_v6_0, main_v6_1, main_v6_2, main_v6_3, main_v6_4, main_v6_5, main_v6_6, main_v6_7, main_v6_8] (by decide) (by decide)]; rfl
theorem scoped0_eq (c : Dev nD) :
    (Pipeline.scopedRest (Ix := Unit) (Name := ℕ) (U := Pipeline.UD sig nD τ) (Lvl := ℕ) (Val := Elt F) cfg0.spec c : sProp 𝕄)
      = iprop((∃ f : BufOf (F := F) c A21, pt c A21 f) ∗ (∃ f : BufOf (F := F) c A22, pt c A22 f) ∗ (∃ f : BufOf (F := F) c A23, pt c A23 f) ∗ (∃ f : BufOf (F := F) c A24, pt c A24 f) ∗ (∃ f : BufOf (F := F) c A25, pt c A25 f) ∗ (∃ f : BufOf (F := F) c A26, pt c A26 f) ∗ (∃ f : BufOf (F := F) c A27, pt c A27 f) ∗ (∃ f : BufOf (F := F) c A28, pt c A28 f) ∗ (∃ f : BufOf (F := F) c A29, pt c A29 f) ∗ (∃ f : BufOf (F := F) c A32, pt c A32 f) ∗ (∃ f : BufOf (F := F) c A33, pt c A33 f) ∗ (∃ f : BufOf (F := F) c A34, pt c A34 f) ∗ (∃ f : BufOf (F := F) c A35, pt c A35 f) ∗ (∃ f : BufOf (F := F) c A36, pt c A36 f) ∗ (∃ f : BufOf (F := F) c A37, pt c A37 f) ∗ (∃ f : BufOf (F := F) c A38, pt c A38 f) ∗ (∃ f : BufOf (F := F) c A39, pt c A39 f) ∗ (∃ f : BufOf (F := F) c A40, pt c A40 f) ∗ (∃ f : BufOf (F := F) c A41, pt c A41 f) ∗ (∃ f : BufOf (F := F) c A42, pt c A42 f) ∗ (∃ f : BufOf (F := F) c A43, pt c A43 f) ∗ (∃ f : BufOf (F := F) c A44, pt c A44 f) ∗ (∃ f : BufOf (F := F) c A45, pt c A45 f) ∗ (∃ f : BufOf (F := F) c A46, pt c A46 f) ∗ (∃ f : BufOf (F := F) c A47, pt c A47 f) ∗ (∃ f : BufOf (F := F) c A48, pt c A48 f) ∗ (∃ f : BufOf (F := F) c A49, pt c A49 f) ∗ (∃ f : BufOf (F := F) c A30, pt c A30 f) ∗ (∃ f : BufOf (F := F) c A31, pt c A31 f)) := by
  exact scopedRest0_eq c

/-- Contents of the nine results, gathered. -/
def gather (c : Dev nD) (g12 : BufOf (F := F) c A12) (g13 : BufOf (F := F) c A13) (g14 : BufOf (F := F) c A14) (g15 : BufOf (F := F) c A15) (g16 : BufOf (F := F) c A16) (g17 : BufOf (F := F) c A17) (g18 : BufOf (F := F) c A18) (g19 : BufOf (F := F) c A19) (g20 : BufOf (F := F) c A20) : (b : Ref sig .tc) → Buf (Elt F) ((c : Thread nD τ).loc b) :=
  fun b => if h : b = main_v6_0 then h ▸ g12 else if h : b = main_v6_1 then h ▸ g13 else if h : b = main_v6_2 then h ▸ g14 else if h : b = main_v6_3 then h ▸ g15 else if h : b = main_v6_4 then h ▸ g16 else if h : b = main_v6_5 then h ▸ g17 else if h : b = main_v6_6 then h ▸ g18 else if h : b = main_v6_7 then h ▸ g19 else if h : b = main_v6_8 then h ▸ g20 else V m c b
theorem gather_routed (c : Dev nD) (g12 : BufOf (F := F) c A12) (g13 : BufOf (F := F) c A13) (g14 : BufOf (F := F) c A14) (g15 : BufOf (F := F) c A15) (g16 : BufOf (F := F) c A16) (g17 : BufOf (F := F) c A17) (g18 : BufOf (F := F) c A18) (g19 : BufOf (F := F) c A19) (g20 : BufOf (F := F) c A20) (P : ((b : Ref sig .tc) → Buf (Elt F) ((c : Thread nD τ).loc b)) → Prop) (hP : P (gather m c g12 g13 g14 g15 g16 g17 g18 g19 g20)) :
    (iprop(pt c A12 g12 ∗ pt c A13 g13 ∗ pt c A14 g14 ∗ pt c A15 g15 ∗ pt c A16 g16 ∗ pt c A17 g17 ∗ pt c A18 g18 ∗ pt c A19 g19 ∗ pt c A20 g20) : sProp 𝕄) ⊢ Pipeline.routedSat R0 c P := by
  unfold Pipeline.routedSat
  iintro H
  iexists gather m c g12 g13 g14 g15 g16 g17 g18 g19 g20
  isplitr; · ipureintro; exact hP
  rw [routed0_eq]
  iexact H

/-! ## The ring and the weights' read shares, opened and closed -/

theorem slotSet (s : Fin 12) : (slotM ![s.val, 0, 0] (slot_inb s)).view.set = (Rect.unit (s := S12x512x7936) ![s.val, 0, 0] S1x512x7936.size (slot_inb s)).set :=
  (View.set_reshape _ _).trans (View.set_slice_whole _ _)
/-- The elements of the ring in slot `s`. -/
def slotJ (s : Fin 12) : Finset S12x512x7936.Idx := (Rect.unit (s := S12x512x7936) ![s.val, 0, 0] S1x512x7936.size (slot_inb s)).set
theorem mem_slotJ (s : Fin 12) (i : S12x512x7936.Idx) : i ∈ slotJ s ↔ (i 0).val = s.val := by
  unfold slotJ
  rw [Rect.mem_set_unit]
  constructor
  · intro h
    have h0 := h 0
    simp only [Matrix.cons_val_zero] at h0
    have : S1x512x7936.size 0 = 1 := rfl
    omega
  · intro h a
    have hi := (i a).isLt
    match a with
    | ⟨0, _⟩ => exact ⟨h.ge, by show (i 0).val < s.val + 1; omega⟩
    | ⟨1, _⟩ => exact ⟨Nat.zero_le _, by show (i 1).val < 0 + 512; have : (i 1).val < 512 := (i 1).isLt; omega⟩
    | ⟨2, _⟩ => exact ⟨Nat.zero_le _, by show (i 2).val < 0 + 7936; have : (i 2).val < 7936 := (i 2).isLt; omega⟩
theorem slotJ_disj (s s' : Fin 12) (h : s ≠ s') : Disjoint (slotJ s) (slotJ s') := by
  rw [Finset.disjoint_left]
  intro i h1 h2
  rw [mem_slotJ] at h1 h2
  exact h (Fin.ext (h1.symm.trans h2))
theorem slotJ_cover : Finset.univ.biUnion slotJ = Finset.univ := by
  ext i
  simp only [Finset.mem_biUnion, Finset.mem_univ, true_and, iff_true]
  exact ⟨⟨(i 0).val, (i 0).isLt⟩, (mem_slotJ _ i).mpr rfl⟩
theorem slotPt_eq (c : Dev nD) (s : Fin 12) (f : BufOf (F := F) c A21) :
    (slotPt c ![s.val, 0, 0] (slot_inb s) f : sProp 𝕄) = (A21.view.loc (c : Thread nD τ) ↦[slotJ s]{fullShare} f) := by
  unfold slotPt; rw [slotSet]; rfl
theorem slots_eq (c : Dev nD) : (bigSep Finset.univ (fun s : Fin 12 => iprop(∃ f, slotPt (F := F) c ![s.val, 0, 0] (slot_inb s) f)) : sProp 𝕄)
    = bigSep Finset.univ (fun s : Fin 12 => iprop(∃ f : BufOf (F := F) c A21, A21.view.loc (c : Thread nD τ) ↦[slotJ s]{fullShare} f)) := by
  simp only [slotPt_eq]

/-- What is left of a weight's share when its twelve read tokens are dealt out. -/
abbrev left (c : Dev nD) {sp : Space} {S : Shape} {e : EltTy} (M : Memref sig .tc sp S e) (f : BufOf (F := F) c M) : sProp 𝕄 :=
  M.view.loc (c : Thread nD τ) ↦{Transfers.shareDrop fullShare 12} f

theorem ringFree_eq (c : Dev nD) (w : BufOf (F := F) c A3) (v : BufOf (F := F) c A5) :
    ringFree c w v = iprop((bigSep Finset.univ fun s => sm0 c (cell s)) ∗ (bigSep Finset.univ (fun s : Fin 12 => iprop(∃ f, slotPt (F := F) c ![s.val, 0, 0] (slot_inb s) f)))
      ∗ (bigSep Finset.univ fun s => tk c A3 s w) ∗ bigSep Finset.univ fun s => tk c A5 s v) := by
  unfold ringFree free
  refine (BI.bigSep_sep Finset.univ (fun s => sm0 c (cell s)) _).trans (congrArg (fun X => iprop((bigSep Finset.univ fun s => sm0 c (cell s)) ∗ X)) ?_)
  refine (BI.bigSep_sep Finset.univ (fun s : Fin 12 => iprop(∃ f, slotPt (F := F) c ![s.val, 0, 0] (slot_inb s) f)) _).trans (congrArg (fun X => iprop((bigSep Finset.univ (fun s : Fin 12 => iprop(∃ f, slotPt (F := F) c ![s.val, 0, 0] (slot_inb s) f))) ∗ X)) ?_)
  exact BI.bigSep_sep Finset.univ (fun s => tk c A3 s w) (fun s => tk c A5 s v)
theorem ringOpen (c : Dev nD) (w : BufOf (F := F) c A3) (v : BufOf (F := F) c A5) :
    (iprop((bigSep Finset.univ fun s => sm0 c (cell s)) ∗ (∃ f, pt (F := F) c A21 f) ∗ pt c A3 w ∗ pt c A5 v) : sProp 𝕄)
      ⊢ iprop(ringFree c w v ∗ left c A3 w ∗ left c A5 v) := by
  rw [ringFree_eq, slots_eq]
  iintro ⟨Hs, ⟨%f, Hr⟩, Hw, Hv⟩
  ihave Hw := (Transfers.pointsTo_toks_split fullShare 12) $$ Hw
  ihave Hv := (Transfers.pointsTo_toks_split fullShare 12) $$ Hv
  icases Hw with ⟨Hw, Hwt⟩
  icases Hv with ⟨Hv, Hvt⟩
  isplitl [Hs Hr Hwt Hvt]
  · isplitl [Hs]; · iexact Hs
    isplitl [Hr]
    · iapply (show (pt c A21 f : sProp 𝕄) ⊢ bigSep Finset.univ (fun s : Fin 12 => iprop(∃ f : BufOf (F := F) c A21, A21.view.loc (c : Thread nD τ) ↦[slotJ s]{fullShare} f)) from by
        rw [pt, Ring.pointsTo_blocks slotJ slotJ_disj slotJ_cover f]
        exact BI.bigSep_mono fun s _ => show _ ⊢ iprop(∃ f : BufOf (F := F) c A21, A21.view.loc (c : Thread nD τ) ↦[slotJ s]{fullShare} f) from by iintro H; iexists f; iexact H)
      iexact Hr
    isplitl [Hwt]; · iexact Hwt
    iexact Hvt
  isplitl [Hw]; · iexact Hw
  iexact Hv
theorem ringClose (c : Dev nD) (w : BufOf (F := F) c A3) (v : BufOf (F := F) c A5) (f0 : BufOf (F := F) c A21) :
    (iprop(ringFree c w v ∗ left c A3 w ∗ left c A5 v) : sProp 𝕄)
      ⊢ iprop((bigSep Finset.univ fun s => sm0 c (cell s)) ∗ (∃ f, pt (F := F) c A21 f) ∗ pt c A3 w ∗ pt c A5 v) := by
  rw [ringFree_eq, slots_eq]
  iintro ⟨⟨Hs, Hr, Hwt, Hvt⟩, Hw, Hv⟩
  isplitl [Hs]; · iexact Hs
  isplitl [Hr]; · iapply (Ring.pointsTo_blocks_join_exists slotJ slotJ_disj slotJ_cover f0); iexact Hr
  isplitl [Hw Hwt]
  · iapply (Transfers.pointsTo_toks_join fullShare 12)
    isplitl [Hw]; · iexact Hw
    iexact Hwt
  iapply (Transfers.pointsTo_toks_join fullShare 12)
  isplitl [Hv]; · iexact Hv
  iexact Hvt

/-- The ring's semaphores, one by one. -/
theorem cells_open (c : Dev nD) : (bigSep Finset.univ (fun s => sm0 c (cell s)) : sProp 𝕄) ⊢ iprop(sm0 c (cell 0) ∗ sm0 c (cell 1) ∗ sm0 c (cell 2) ∗ sm0 c (cell 3) ∗ sm0 c (cell 4) ∗ sm0 c (cell 5) ∗ sm0 c (cell 6) ∗ sm0 c (cell 7) ∗ sm0 c (cell 8) ∗ sm0 c (cell 9) ∗ sm0 c (cell 10) ∗ sm0 c (cell 11)) := by
  rw [bigSep_fin12]; try exact .rfl

/-- The contents the body's run names, from the operands as launched and scratch contents. -/
abbrev runV (c : Dev nD) (f22 : BufOf (F := F) c A22) (f23 : BufOf (F := F) c A23) (f24 : BufOf (F := F) c A24) (f25 : BufOf (F := F) c A25) (f26 : BufOf (F := F) c A26) (f27 : BufOf (F := F) c A27) (f28 : BufOf (F := F) c A28) (f29 : BufOf (F := F) c A29) (f30 : BufOf (F := F) c A30) (f31 : BufOf (F := F) c A31) (f32 : BufOf (F := F) c A32) (f33 : BufOf (F := F) c A33) (f34 : BufOf (F := F) c A34) (f35 : BufOf (F := F) c A35) (f36 : BufOf (F := F) c A36) (f37 : BufOf (F := F) c A37) (f38 : BufOf (F := F) c A38) (f39 : BufOf (F := F) c A39) (f40 : BufOf (F := F) c A40) (f41 : BufOf (F := F) c A41) (f42 : BufOf (F := F) c A42) (f43 : BufOf (F := F) c A43) (f44 : BufOf (F := F) c A44) (f45 : BufOf (F := F) c A45) (f46 : BufOf (F := F) c A46) (f47 : BufOf (F := F) c A47) (f48 : BufOf (F := F) c A48) (f49 : BufOf (F := F) c A49) :=
  (bodyRun c (V m c main_v1) (V m c main_v2) (V m c main_v3) (V m c main_arg3) (V m c main_v4) (V m c main_arg5) (V m c main_v5) (V m c main_arg7) (V m c main_arg8) (V m c main_arg9) (V m c main_arg10) (V m c main_v0) (V m c main_v6_0) (V m c main_v6_1) (V m c main_v6_2) (V m c main_v6_3) (V m c main_v6_4) (V m c main_v6_5) (V m c main_v6_6) (V m c main_v6_7) (V m c main_v6_8) f22 f23 f24 f25 f26 f27 f28 f29 f30 f31 f32 f33 f34 f35 f36 f37 f38 f39 f40 f41 f42 f43 f44 f45 f46 f47 f48 f49).1

/-- The results the body's run names, for some scratch contents it started from. -/
def Named (c : Dev nD) (W : (b : Ref sig .tc) → Buf (Elt F) ((c : Thread nD τ).loc b)) : Prop :=
  ∃ (f22 : BufOf (F := F) c A22) (f23 : BufOf (F := F) c A23) (f24 : BufOf (F := F) c A24) (f25 : BufOf (F := F) c A25) (f26 : BufOf (F := F) c A26) (f27 : BufOf (F := F) c A27) (f28 : BufOf (F := F) c A28) (f29 : BufOf (F := F) c A29) (f30 : BufOf (F := F) c A30) (f31 : BufOf (F := F) c A31) (f32 : BufOf (F := F) c A32) (f33 : BufOf (F := F) c A33) (f34 : BufOf (F := F) c A34) (f35 : BufOf (F := F) c A35) (f36 : BufOf (F := F) c A36) (f37 : BufOf (F := F) c A37) (f38 : BufOf (F := F) c A38) (f39 : BufOf (F := F) c A39) (f40 : BufOf (F := F) c A40) (f41 : BufOf (F := F) c A41) (f42 : BufOf (F := F) c A42) (f43 : BufOf (F := F) c A43) (f44 : BufOf (F := F) c A44) (f45 : BufOf (F := F) c A45) (f46 : BufOf (F := F) c A46) (f47 : BufOf (F := F) c A47) (f48 : BufOf (F := F) c A48) (f49 : BufOf (F := F) c A49),
    W main_v6_1 = landW c A36 A13 (projG c (V m c main_arg3) (runV m c f22 f23 f24 f25 f26 f27 f28 f29 f30 f31 f32 f33 f34 f35 f36 f37 f38 f39 f40 f41 f42 f43 f44 f45 f46 f47 f48 f49).1 (landW c A4 A25 (V m c main_v4) f25) f34 f36 (Scf.trips k0_t1_loop.lb k0_t1_loop.ub k0_t1_loop.st)) (V m c main_v6_1)
    ∧ W main_v6_3 = landW c A40 A15 (runV m c f22 f23 f24 f25 f26 f27 f28 f29 f30 f31 f32 f33 f34 f35 f36 f37 f38 f39 f40 f41 f42 f43 f44 f45 f46 f47 f48 f49).2.1 (V m c main_v6_3)
    ∧ W main_v6_4 = landW c A41 A16 (runV m c f22 f23 f24 f25 f26 f27 f28 f29 f30 f31 f32 f33 f34 f35 f36 f37 f38 f39 f40 f41 f42 f43 f44 f45 f46 f47 f48 f49).2.2.1 (V m c main_v6_4)
    ∧ W main_v6_5 = landW c A42 A17 (knG c (runV m c f22 f23 f24 f25 f26 f27 f28 f29 f30 f31 f32 f33 f34 f35 f36 f37 f38 f39 f40 f41 f42 f43 f44 f45 f46 f47 f48 f49).2.2.2.1 (runV m c f22 f23 f24 f25 f26 f27 f28 f29 f30 f31 f32 f33 f34 f35 f36 f37 f38 f39 f40 f41 f42 f43 f44 f45 f46 f47 f48 f49).2.2.2.2 (accG c (V m c main_arg3) (runV m c f22 f23 f24 f25 f26 f27 f28 f29 f30 f31 f32 f33 f34 f35 f36 f37 f38 f39 f40 f41 f42 f43 f44 f45 f46 f47 f48 f49).1 (landW c A4 A25 (V m c main_v4) f25) f34 1) f42 (Scf.trips k0_t1_loop.lb k0_t1_loop.ub k0_t1_loop.st)) (V m c main_v6_5)
    ∧ W main_v6_6 = landW c A43 A18 (vnG c (accG c (V m c main_arg3) (runV m c f22 f23 f24 f25 f26 f27 f28 f29 f30 f31 f32 f33 f34 f35 f36 f37 f38 f39 f40 f41 f42 f43 f44 f45 f46 f47 f48 f49).1 (landW c A4 A25 (V m c main_v4) f25) f34 1) f43 (Scf.trips k0_t1_loop.lb k0_t1_loop.ub k0_t1_loop.st)) (V m c main_v6_6)
theorem gather_12 (c : Dev nD) (g12 : BufOf (F := F) c A12) (g13 : BufOf (F := F) c A13) (g14 : BufOf (F := F) c A14) (g15 : BufOf (F := F) c A15) (g16 : BufOf (F := F) c A16) (g17 : BufOf (F := F) c A17) (g18 : BufOf (F := F) c A18) (g19 : BufOf (F := F) c A19) (g20 : BufOf (F := F) c A20) : gather m c g12 g13 g14 g15 g16 g17 g18 g19 g20 main_v6_0 = g12 := by
  unfold gather; rw [dif_pos rfl]
theorem gather_13 (c : Dev nD) (g12 : BufOf (F := F) c A12) (g13 : BufOf (F := F) c A13) (g14 : BufOf (F := F) c A14) (g15 : BufOf (F := F) c A15) (g16 : BufOf (F := F) c A16) (g17 : BufOf (F := F) c A17) (g18 : BufOf (F := F) c A18) (g19 : BufOf (F := F) c A19) (g20 : BufOf (F := F) c A20) : gather m c g12 g13 g14 g15 g16 g17 g18 g19 g20 main_v6_1 = g13 := by
  unfold gather; rw [dif_neg (by decide), dif_pos rfl]
theorem gather_14 (c : Dev nD) (g12 : BufOf (F := F) c A12) (g13 : BufOf (F := F) c A13) (g14 : BufOf (F := F) c A14) (g15 : BufOf (F := F) c A15) (g16 : BufOf (F := F) c A16) (g17 : BufOf (F := F) c A17) (g18 : BufOf (F := F) c A18) (g19 : BufOf (F := F) c A19) (g20 : BufOf (F := F) c A20) : gather m c g12 g13 g14 g15 g16 g17 g18 g19 g20 main_v6_2 = g14 := by
  unfold gather; rw [dif_neg (by decide), dif_neg (by decide), dif_pos rfl]
theorem gather_15 (c : Dev nD) (g12 : BufOf (F := F) c A12) (g13 : BufOf (F := F) c A13) (g14 : BufOf (F := F) c A14) (g15 : BufOf (F := F) c A15) (g16 : BufOf (F := F) c A16) (g17 : BufOf (F := F) c A17) (g18 : BufOf (F := F) c A18) (g19 : BufOf (F := F) c A19) (g20 : BufOf (F := F) c A20) : gather m c g12 g13 g14 g15 g16 g17 g18 g19 g20 main_v6_3 = g15 := by
  unfold gather; rw [dif_neg (by decide), dif_neg (by decide), dif_neg (by decide), dif_pos rfl]
theorem gather_16 (c : Dev nD) (g12 : BufOf (F := F) c A12) (g13 : BufOf (F := F) c A13) (g14 : BufOf (F := F) c A14) (g15 : BufOf (F := F) c A15) (g16 : BufOf (F := F) c A16) (g17 : BufOf (F := F) c A17) (g18 : BufOf (F := F) c A18) (g19 : BufOf (F := F) c A19) (g20 : BufOf (F := F) c A20) : gather m c g12 g13 g14 g15 g16 g17 g18 g19 g20 main_v6_4 = g16 := by
  unfold gather; rw [dif_neg (by decide), dif_neg (by decide), dif_neg (by decide), dif_neg (by decide), dif_pos rfl]
theorem gather_17 (c : Dev nD) (g12 : BufOf (F := F) c A12) (g13 : BufOf (F := F) c A13) (g14 : BufOf (F := F) c A14) (g15 : BufOf (F := F) c A15) (g16 : BufOf (F := F) c A16) (g17 : BufOf (F := F) c A17) (g18 : BufOf (F := F) c A18) (g19 : BufOf (F := F) c A19) (g20 : BufOf (F := F) c A20) : gather m c g12 g13 g14 g15 g16 g17 g18 g19 g20 main_v6_5 = g17 := by
  unfold gather; rw [dif_neg (by decide), dif_neg (by decide), dif_neg (by decide), dif_neg (by decide), dif_neg (by decide), dif_pos rfl]
theorem gather_18 (c : Dev nD) (g12 : BufOf (F := F) c A12) (g13 : BufOf (F := F) c A13) (g14 : BufOf (F := F) c A14) (g15 : BufOf (F := F) c A15) (g16 : BufOf (F := F) c A16) (g17 : BufOf (F := F) c A17) (g18 : BufOf (F := F) c A18) (g19 : BufOf (F := F) c A19) (g20 : BufOf (F := F) c A20) : gather m c g12 g13 g14 g15 g16 g17 g18 g19 g20 main_v6_6 = g18 := by
  unfold gather; rw [dif_neg (by decide), dif_neg (by decide), dif_neg (by decide), dif_neg (by decide), dif_neg (by decide), dif_neg (by decide), dif_pos rfl]
theorem gather_19 (c : Dev nD) (g12 : BufOf (F := F) c A12) (g13 : BufOf (F := F) c A13) (g14 : BufOf (F := F) c A14) (g15 : BufOf (F := F) c A15) (g16 : BufOf (F := F) c A16) (g17 : BufOf (F := F) c A17) (g18 : BufOf (F := F) c A18) (g19 : BufOf (F := F) c A19) (g20 : BufOf (F := F) c A20) : gather m c g12 g13 g14 g15 g16 g17 g18 g19 g20 main_v6_7 = g19 := by
  unfold gather; rw [dif_neg (by decide), dif_neg (by decide), dif_neg (by decide), dif_neg (by decide), dif_neg (by decide), dif_neg (by decide), dif_neg (by decide), dif_pos rfl]
theorem gather_20 (c : Dev nD) (g12 : BufOf (F := F) c A12) (g13 : BufOf (F := F) c A13) (g14 : BufOf (F := F) c A14) (g15 : BufOf (F := F) c A15) (g16 : BufOf (F := F) c A16) (g17 : BufOf (F := F) c A17) (g18 : BufOf (F := F) c A18) (g19 : BufOf (F := F) c A19) (g20 : BufOf (F := F) c A20) : gather m c g12 g13 g14 g15 g16 g17 g18 g19 g20 main_v6_8 = g20 := by
  unfold gather; rw [dif_neg (by decide), dif_neg (by decide), dif_neg (by decide), dif_neg (by decide), dif_neg (by decide), dif_neg (by decide), dif_neg (by decide), dif_neg (by decide), dif_pos rfl]

/-- The invariant: before the point the launch contents, after it the named results. -/
def inv (c : Dev nD) (i : ℕ) : sProp 𝕄 :=
  if i = 0 then Pipeline.ΦDRG osem0 cfg0.spec H0 R0 (V m) (V m) c
  else iprop(Pipeline.ΦD osem0 cfg0.spec H0 (V m) c ∗ Pipeline.routedSat R0 c (Named m c))

def dats (_ : Fin 1) (c : Dev nD) : Dat τ (Elt F) Unit ℕ (Pipeline.UD sig nD τ) ℕ cfg0 c where
  A w := V m c (Pipeline.arrRef cfg0.spec w)
  after w _ := w.elim0
  Φ i := inv m c i.val
  q _ := fullShare
  owed _ := 0

theorem A_eq (c : Dev nD) (w : Fin cfg0.W) : (dats m 0 c).A w = V m c (Pipeline.arrRef cfg0.spec w) := by
  dsimp only [dats]

set_option maxHeartbeats 0 in
/-- The body, from the launch contents to the named results. -/
theorem body_named (c : Dev nD) :
    (iprop(Pipeline.ΦDRG osem0 cfg0.spec H0 R0 (V m) (V m) c ∗ ∃ W, owes (c : Thread nD τ) 0 W) : sProp 𝕄)
      ⊢ wp frame (wpE (defs₀ (F := F)) Variants.none c none) Set.univ (cc0_decode_block A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 hA34 A35 hA35 A36 hA36 A37 hA37 A38 hA38 A39 hA39 A40 hA40 A41 hA41 A42 hA42 A43 hA43 A44 hA44 A45 hA45 A46 hA46 A47 hA47 A48 hA48 A49 hA49 cc0_scratch29 cc0_scratch30 cc0_scratch31 cc0_scratch32 cc0_scratch33 cc0_scratch34 cc0_scratch35 cc0_scratch36 cc0_scratch37 cc0_scratch38 cc0_scratch39)
        (fun _ => iprop((Pipeline.ΦD osem0 cfg0.spec H0 (V m) c ∗ Pipeline.routedSat R0 c (Named m c)) ∗ ∃ W, owes (c : Thread nD τ) 0 W)) := by
  rw [Pipeline.ΦDRG_eq, Pipeline.ΦD_eq, scoped0_eq, ownSems00_eq, hbmPts0_eq, routed0_eq]
  iintro ⟨⟨⟨⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f32, H32⟩, ⟨%f33, H33⟩, ⟨%f34, H34⟩, ⟨%f35, H35⟩, ⟨%f36, H36⟩, ⟨%f37, H37⟩, ⟨%f38, H38⟩, ⟨%f39, H39⟩, ⟨%f40, H40⟩, ⟨%f41, H41⟩, ⟨%f42, H42⟩, ⟨%f43, H43⟩, ⟨%f44, H44⟩, ⟨%f45, H45⟩, ⟨%f46, H46⟩, ⟨%f47, H47⟩, ⟨%f48, H48⟩, ⟨%f49, H49⟩, ⟨%f30, H30⟩, ⟨%f31, H31⟩⟩, Hg, ⟨Hc0, Hc1, Hc2, Hc3, Hc4, Hc5, Hc6, Hc7, Hc8, Hc9, Hc10, Hc11, Hq30, Hq31, Hq32, Hq33, Hq34, Hq35, Hq36, Hq37, Hq38, Hq39⟩, ⟨H0, H1, H2, H3, H4, H5, H6, H7, H8, H9, H10, H11⟩, H12, H13, H14, H15, H16, H17, H18, H19, H20⟩, HO⟩
  ihave HR := (ringOpen c (V m c main_arg3) (V m c main_arg5)) $$ [Hc0 Hc1 Hc2 Hc3 Hc4 Hc5 Hc6 Hc7 Hc8 Hc9 Hc10 Hc11 H21 H3 H5]
  · isplitl [Hc0 Hc1 Hc2 Hc3 Hc4 Hc5 Hc6 Hc7 Hc8 Hc9 Hc10 Hc11]
    · rw [bigSep_fin12]
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      iexact Hc11
    isplitl [H21]; · iexists f21; iexact H21
    isplitl [H3]; · iexact H3
    iexact H5
  icases HR with ⟨HR, Hl3, Hl5⟩
  iapply (wp_wand_r Idealize.ShloMosaic.frame (wpE (defs₀ (F := F)) Variants.none c none))
  isplitl [HR HO H0 H1 H2 H4 H6 H7 H8 H9 H10 H11 H12 H13 H14 H15 H16 H17 H18 H19 H20 H22 H23 H24 H25 H26 H27 H28 H29 H30 H31 H32 H33 H34 H35 H36 H37 H38 H39 H40 H41 H42 H43 H44 H45 H46 H47 H48 H49 Hq30 Hq31 Hq32 Hq33 Hq34 Hq35 Hq36 Hq37 Hq38 Hq39]
  · iapply (bodyRun c (V m c main_v1) (V m c main_v2) (V m c main_v3) (V m c main_arg3) (V m c main_v4) (V m c main_arg5) (V m c main_v5) (V m c main_arg7) (V m c main_arg8) (V m c main_arg9) (V m c main_arg10) (V m c main_v0) (V m c main_v6_0) (V m c main_v6_1) (V m c main_v6_2) (V m c main_v6_3) (V m c main_v6_4) (V m c main_v6_5) (V m c main_v6_6) (V m c main_v6_7) (V m c main_v6_8) f22 f23 f24 f25 f26 f27 f28 f29 f30 f31 f32 f33 f34 f35 f36 f37 f38 f39 f40 f41 f42 f43 f44 f45 f46 f47 f48 f49).2
    unfold bodyPre
    isplitl [HR]; · iexact HR
    isplitl [H0]; · iexact H0
    isplitl [H1]; · iexact H1
    isplitl [H2]; · iexact H2
    isplitl [H4]; · iexact H4
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H36]; · iexact H36
    isplitl [H37]; · iexact H37
    isplitl [H38]; · iexact H38
    isplitl [H39]; · iexact H39
    isplitl [H40]; · iexact H40
    isplitl [H41]; · iexact H41
    isplitl [H42]; · iexact H42
    isplitl [H43]; · iexact H43
    isplitl [H44]; · iexact H44
    isplitl [H45]; · iexact H45
    isplitl [H46]; · iexact H46
    isplitl [H47]; · iexact H47
    isplitl [H48]; · iexact H48
    isplitl [H49]; · iexact H49
    isplitl [Hq30]; · iexact Hq30
    isplitl [Hq31]; · iexact Hq31
    isplitl [Hq32]; · iexact Hq32
    isplitl [Hq33]; · iexact Hq33
    isplitl [Hq34]; · iexact Hq34
    isplitl [Hq35]; · iexact Hq35
    isplitl [Hq36]; · iexact Hq36
    isplitl [Hq37]; · iexact Hq37
    isplitl [Hq38]; · iexact Hq38
    isplitl [Hq39]; · iexact Hq39
    iexact HO
  iintro %_ Hpost
  unfold bodyPost
  icases Hpost with ⟨HR, H0, H1, H2, H4, H6, H7, H8, H9, H10, H11, H32, H40, H41, H42, H13, H15, H16, H17, H18, ⟨%e12, H12⟩, ⟨%e14, H14⟩, ⟨%e19, H19⟩, ⟨%e20, H20⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩, ⟨%e31, H31⟩, ⟨%e33, H33⟩, ⟨%e34, H34⟩, ⟨%e35, H35⟩, ⟨%e36, H36⟩, ⟨%e37, H37⟩, ⟨%e38, H38⟩, ⟨%e39, H39⟩, ⟨%e43, H43⟩, ⟨%e44, H44⟩, ⟨%e45, H45⟩, ⟨%e46, H46⟩, ⟨%e47, H47⟩, ⟨%e48, H48⟩, ⟨%e49, H49⟩, Hq30, Hq31, Hq32, Hq33, Hq34, Hq35, Hq36, Hq37, Hq38, Hq39, HO⟩
  ihave HR := (ringClose c (V m c main_arg3) (V m c main_arg5) f21) $$ [HR Hl3 Hl5]
  · isplitl [HR]; · iexact HR
    isplitl [Hl3]; · iexact Hl3
    iexact Hl5
  icases HR with ⟨Hc, ⟨%e21, H21⟩, H3, H5⟩
  ihave Hc := (cells_open c) $$ Hc
  icases Hc with ⟨Hc0, Hc1, Hc2, Hc3, Hc4, Hc5, Hc6, Hc7, Hc8, Hc9, Hc10, Hc11⟩
  isplitr [HO]; swap; · iexact HO
  isplitr [H12 H13 H14 H15 H16 H17 H18 H19 H20]
  · isplitl [H21 H22 H23 H24 H25 H26 H27 H28 H29 H32 H33 H34 H35 H36 H37 H38 H39 H40 H41 H42 H43 H44 H45 H46 H47 H48 H49 H30 H31]
    · isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [H32]; · iexists _; iexact H32
      isplitl [H33]; · iexists _; iexact H33
      isplitl [H34]; · iexists _; iexact H34
      isplitl [H35]; · iexists _; iexact H35
      isplitl [H36]; · iexists _; iexact H36
      isplitl [H37]; · iexists _; iexact H37
      isplitl [H38]; · iexists _; iexact H38
      isplitl [H39]; · iexists _; iexact H39
      isplitl [H40]; · iexists _; iexact H40
      isplitl [H41]; · iexists _; iexact H41
      isplitl [H42]; · iexists _; iexact H42
      isplitl [H43]; · iexists _; iexact H43
      isplitl [H44]; · iexists _; iexact H44
      isplitl [H45]; · iexists _; iexact H45
      isplitl [H46]; · iexists _; iexact H46
      isplitl [H47]; · iexists _; iexact H47
      isplitl [H48]; · iexists _; iexact H48
      isplitl [H49]; · iexists _; iexact H49
      isplitl [H30]; · iexists _; iexact H30
      iexists _; iexact H31
    isplitl [Hg]; · iexact Hg
    isplitl [Hc0 Hc1 Hc2 Hc3 Hc4 Hc5 Hc6 Hc7 Hc8 Hc9 Hc10 Hc11 Hq30 Hq31 Hq32 Hq33 Hq34 Hq35 Hq36 Hq37 Hq38 Hq39]
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hq30]; · iexact Hq30
      isplitl [Hq31]; · iexact Hq31
      isplitl [Hq32]; · iexact Hq32
      isplitl [Hq33]; · iexact Hq33
      isplitl [Hq34]; · iexact Hq34
      isplitl [Hq35]; · iexact Hq35
      isplitl [Hq36]; · iexact Hq36
      isplitl [Hq37]; · iexact Hq37
      isplitl [Hq38]; · iexact Hq38
      iexact Hq39
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iapply (gather_routed m c e12 (landW c A36 A13 (projG c (V m c main_arg3) (runV m c f22 f23 f24 f25 f26 f27 f28 f29 f30 f31 f32 f33 f34 f35 f36 f37 f38 f39 f40 f41 f42 f43 f44 f45 f46 f47 f48 f49).1 (landW c A4 A25 (V m c main_v4) f25) f34 f36 (Scf.trips k0_t1_loop.lb k0_t1_loop.ub k0_t1_loop.st)) (V m c main_v6_1)) e14 (landW c A40 A15 (runV m c f22 f23 f24 f25 f26 f27 f28 f29 f30 f31 f32 f33 f34 f35 f36 f37 f38 f39 f40 f41 f42 f43 f44 f45 f46 f47 f48 f49).2.1 (V m c main_v6_3)) (landW c A41 A16 (runV m c f22 f23 f24 f25 f26 f27 f28 f29 f30 f31 f32 f33 f34 f35 f36 f37 f38 f39 f40 f41 f42 f43 f44 f45 f46 f47 f48 f49).2.2.1 (V m c main_v6_4)) (landW c A42 A17 (knG c (runV m c f22 f23 f24 f25 f26 f27 f28 f29 f30 f31 f32 f33 f34 f35 f36 f37 f38 f39 f40 f41 f42 f43 f44 f45 f46 f47 f48 f49).2.2.2.1 (runV m c f22 f23 f24 f25 f26 f27 f28 f29 f30 f31 f32 f33 f34 f35 f36 f37 f38 f39 f40 f41 f42 f43 f44 f45 f46 f47 f48 f49).2.2.2.2 (accG c (V m c main_arg3) (runV m c f22 f23 f24 f25 f26 f27 f28 f29 f30 f31 f32 f33 f34 f35 f36 f37 f38 f39 f40 f41 f42 f43 f44 f45 f46 f47 f48 f49).1 (landW c A4 A25 (V m c main_v4) f25) f34 1) f42 (Scf.trips k0_t1_loop.lb k0_t1_loop.ub k0_t1_loop.st)) (V m c main_v6_5)) (landW c A43 A18 (vnG c (accG c (V m c main_arg3) (runV m c f22 f23 f24 f25 f26 f27 f28 f29 f30 f31 f32 f33 f34 f35 f36 f37 f38 f39 f40 f41 f42 f43 f44 f45 f46 f47 f48 f49).1 (landW c A4 A25 (V m c main_v4) f25) f34 1) f43 (Scf.trips k0_t1_loop.lb k0_t1_loop.ub k0_t1_loop.st)) (V m c main_v6_6)) e19 e20 (Named m c) ⟨f22, f23, f24, f25, f26, f27, f28, f29, f30, f31, f32, f33, f34, f35, f36, f37, f38, f39, f40, f41, f42, f43, f44, f45, f46, f47, f48, f49, gather_13 m c _ _ _ _ _ _ _ _ _, gather_15 m c _ _ _ _ _ _ _ _ _, gather_16 m c _ _ _ _ _ _ _ _ _, gather_17 m c _ _ _ _ _ _ _ _ _, gather_18 m c _ _ _ _ _ _ _ _ _⟩)
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

theorem defs₀_row (t : Fin cfg0.N) :
    defs₀ (F := F) .tc cfg0.body (cfg0.bodyArgs t (cfg0.slots t)) = bodyAt0 t := by
  unfold defs₀; rw [Defs.onTc_tc]

theorem bigSep_none (Φ : Fin cfg0.W → sProp 𝕄) : bigSep Finset.univ Φ = iprop(emp) := by
  rw [show (Finset.univ : Finset (Fin cfg0.W)) = ∅ from by decide, BI.bigSep_empty]; rfl

theorem body_obligation (c : Dev nD) : BodyObligation (dats (F := F) m 0 c) (defs₀ (F := F)) Variants.none () Set.univ := fun t => by
  rw [bigSep_none, bigSep_none, defs₀_row, fin_N0 t]
  rw [show (dats m 0 c).Φ t0_0.castSucc = Pipeline.ΦDRG osem0 cfg0.spec H0 R0 (V m) (V m) c from by dsimp only [dats]; unfold inv; exact if_pos rfl,
    show (dats m 0 c).Φ t0_0.succ = iprop(Pipeline.ΦD osem0 cfg0.spec H0 (V m) c ∗ Pipeline.routedSat R0 c (Named m c)) from by dsimp only [dats]; unfold inv; exact if_neg (by decide)]
  unfold Dat.owesAt Pipeline.owesWithin
  refine triple_restated (P := iprop(Pipeline.ΦDRG osem0 cfg0.spec H0 R0 (V m) (V m) c ∗ ∃ W, owes (c : Thread nD τ) 0 W)) (body_named m c) rfl ?_ fun _ => ?_
  · iintro ⟨Hi, ⟨%W, -, HW⟩, -⟩
    isplitl [Hi]; · iexact Hi
    iexists W; iexact HW
  · iintro ⟨Hi, %W, HW⟩
    isplitl [Hi]; · iexact Hi
    isplitl [HW]
    · iexists W; isplitr; · ipureintro; exact fun _ _ => Or.inl trivial
      iexact HW
    iempintro

/-! ## The run and the frame -/

set_option backward.isDefEq.respectTransparency.types false in
/-- The run: every buffer no result's is unchanged, the results are as named, every counter ends at zero. -/
theorem run_main : θ_run defs (onTc (τ := τ) (main (F := F))) (s₀ m ρ) (fun r =>
    (Pipeline.RDat.FramePostR cfg0 (fun c => (dats m 0 c).toR) R0 (V m) r
      ∧ ∀ c : Dev nD, ∃ W : (b : Ref sig .tc) → Buf (Elt F) ((c : Thread nD τ).loc b),
          Named m c W ∧ ∀ b ∈ R0, r.2.mem ((c : Thread nD τ).loc b) = W b) ∧ r.2.sem = fun _ => 0) :=
  have hrest : Pipeline.restRefs sig cfg0.spec ⊆ Pipeline.restRefsP sig Pipeline.Prefetch.none cfg0.spec :=
    fun b hb => Finset.mem_sdiff.mpr ⟨hb, fun h => ((Finset.mem_image.mp h).elim fun k _ => k.elim0)⟩
  Pipeline.RDat.θ_run_frameP_dmaRSat_shared (Q' := _) (fun q => (cfgs q).toPCfg (Val := Elt F)) (fun q => (cfgs q).toPCfg_adm) (0 : Fin 1)
    launch0.to₀.toP osem0 defs₀ Variants.none (fun c => (dats m 0 c).toR) ownSemFacts0 H0 R0
    (H0_sub.trans hrest) (R0_sub.trans (Finset.sdiff_subset_sdiff hrest subset_rfl)) m ρ main
    (fun c => (body_obligation m c).loose.toR) (fun c w => w.elim0) (fun _ _ => rfl) (V m) (hmain m Variants.none) (A_eq m) (fun _ k => k.elim0)
    (Named m)
    (fun c => show _ ⊢ Pipeline.ΦDRG osem0 cfg0.spec H0 R0 (V m) (V m) c from by iintro ⟨H, -⟩; iexact H)
    (fun c => .rfl)

/-- THE FRAME: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c),
      ((h.1.1 c).2 main_arg6 (Finset.mem_sdiff.mpr ⟨Pipeline.mem_restRefs_of main_arg6 (by decide) (by decide), by decide⟩)).trans (V_main_arg6 m c),
      ((h.1.1 c).2 main_arg7 (Finset.mem_sdiff.mpr ⟨Pipeline.mem_restRefs_of main_arg7 (by decide) (by decide), by decide⟩)).trans (V_main_arg7 m c),
      ((h.1.1 c).2 main_arg8 (Finset.mem_sdiff.mpr ⟨Pipeline.mem_restRefs_of main_arg8 (by decide) (by decide), by decide⟩)).trans (V_main_arg8 m c),
      ((h.1.1 c).2 main_arg9 (Finset.mem_sdiff.mpr ⟨Pipeline.mem_restRefs_of main_arg9 (by decide) (by decide), by decide⟩)).trans (V_main_arg9 m c),
      ((h.1.1 c).2 main_arg10 (Finset.mem_sdiff.mpr ⟨Pipeline.mem_restRefs_of main_arg10 (by decide) (by decide), by decide⟩)).trans (V_main_arg10 m c)⟩, h.2⟩) (run_main m ρ)

end Cert.Kernel.Hand
-- ==== Proof.IdealBase.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's resource algebra. -/
local notation "𝕄" => MT nD τ sig Unit (Elt F) ℕ (Pipeline.UD sig nD τ) ℕ

/-! ## The body's operands -/

abbrev A0 : Memref sig .tc .hbm S8x6144 .bf16 := Memref.whole main_v1
theorem hA0 : A0.IsWhole := Memref.isWhole_whole _
abbrev A1 : Memref sig .tc .hbm S1x6144 .f32 := Memref.whole main_v2
theorem hA1 : A1.IsWhole := Memref.isWhole_whole _
abbrev A2 : Memref sig .tc .hbm S1x6144 .f32 := Memref.whole main_v3
theorem hA2 : A2.IsWhole := Memref.isWhole_whole _
abbrev A3 : Memref sig .tc .hbm S6144x55552 .fp8e4m3 := Memref.whole main_arg3
theorem hA3 : A3.IsWhole := Memref.isWhole_whole _
abbrev A4 : Memref sig .tc .hbm S1x55552 .f32 := Memref.whole main_v4
theorem hA4 : A4.IsWhole := Memref.isWhole_whole _
abbrev A5 : Memref sig .tc .hbm S30720x6144 .fp8e4m3 := Memref.whole main_arg5
theorem hA5 : A5.IsWhole := Memref.isWhole_whole _
abbrev A6 : Memref sig .tc .hbm S1x6144 .f32 := Memref.whole main_v5
theorem hA6 : A6.IsWhole := Memref.isWhole_whole _
abbrev A7 : Memref sig .tc .hbm S8x2048x128 .fp8e5m2 := Memref.whole main_arg7
theorem hA7 : A7.IsWhole := Memref.isWhole_whole _
abbrev A8 : Memref sig .tc .hbm S8x2048x128 .fp8e5m2 := Memref.whole main_arg8
theorem hA8 : A8.IsWhole := Memref.isWhole_whole _
abbrev A9 : Memref sig .tc .hbm S8 .i32 := Memref.whole main_arg9
theorem hA9 : A9.IsWhole := Memref.isWhole_whole _
abbrev A10 : Memref sig .tc .hbm S8 .i32 := Memref.whole main_arg10
theorem hA10 : A10.IsWhole := Memref.isWhole_whole _
abbrev A11 : Memref sig .tc .hbm S1x128 .f32 := Memref.whole main_v0
theorem hA11 : A11.IsWhole := Memref.isWhole_whole _
abbrev A12 : Memref sig .tc .hbm S8x6144 .bf16 := Memref.whole main_v6_0
theorem hA12 : A12.IsWhole := Memref.isWhole_whole _
abbrev A13 : Memref sig .tc .hbm S8x55552 .bf16 := Memref.whole main_v6_1
theorem hA13 : A13.IsWhole := Memref.isWhole_whole _
abbrev A14 : Memref sig .tc .hbm S8x48x128 .f32 := Memref.whole main_v6_2
theorem hA14 : A14.IsWhole := Memref.isWhole_whole _
abbrev A15 : Memref sig .tc .hbm S8x6144 .fp8e4m3 := Memref.whole main_v6_3
theorem hA15 : A15.IsWhole := Memref.isWhole_whole _
abbrev A16 : Memref sig .tc .hbm S8x1x48 .f32 := Memref.whole main_v6_4
theorem hA16 : A16.IsWhole := Memref.isWhole_whole _
abbrev A17 : Memref sig .tc .hbm S8x128 .fp8e5m2 := Memref.whole main_v6_5
theorem hA17 : A17.IsWhole := Memref.isWhole_whole _
abbrev A18 : Memref sig .tc .hbm S8x128 .fp8e5m2 := Memref.whole main_v6_6
theorem hA18 : A18.IsWhole := Memref.isWhole_whole _
abbrev A19 : Memref sig .tc .hbm S8x30720 .fp8e4m3 := Memref.whole main_v6_7
theorem hA19 : A19.IsWhole := Memref.isWhole_whole _
abbrev A20 : Memref sig .tc .hbm S8x1x240 .f32 := Memref.whole main_v6_8
theorem hA20 : A20.IsWhole := Memref.isWhole_whole _
abbrev A21 : Memref sig .tc .vmem S12x512x7936 .fp8e4m3 := Memref.whole cc0_scratch0
theorem hA21 : A21.IsWhole := Memref.isWhole_whole _
abbrev A22 : Memref sig .tc .vmem S8x6144 .bf16 := Memref.whole cc0_scratch1
theorem hA22 : A22.IsWhole := Memref.isWhole_whole _
abbrev A23 : Memref sig .tc .vmem S1x6144 .f32 := Memref.whole cc0_scratch2
theorem hA23 : A23.IsWhole := Memref.isWhole_whole _
abbrev A24 : Memref sig .tc .vmem S1x6144 .f32 := Memref.whole cc0_scratch3
theorem hA24 : A24.IsWhole := Memref.isWhole_whole _
abbrev A25 : Memref sig .tc .vmem S1x55552 .f32 := Memref.whole cc0_scratch4
theorem hA25 : A25.IsWhole := Memref.isWhole_whole _
abbrev A26 : Memref sig .tc .vmem S1x6144 .f32 := Memref.whole cc0_scratch5
theorem hA26 : A26.IsWhole := Memref.isWhole_whole _
abbrev A27 : Memref sig .tc .vmem S8x2048x128 .fp8e5m2 := Memref.whole cc0_scratch6
theorem hA27 : A27.IsWhole := Memref.isWhole_whole _
abbrev A28 : Memref sig .tc .vmem S8x2048x128 .fp8e5m2 := Memref.whole cc0_scratch7
theorem hA28 : A28.IsWhole := Memref.isWhole_whole _
abbrev A29 : Memref sig .tc .vmem S1x128 .f32 := Memref.whole cc0_scratch8
theorem hA29 : A29.IsWhole := Memref.isWhole_whole _
abbrev A30 : Memref sig .tc .smem S8 .i32 := Memref.whole cc0_scratch9
theorem hA30 : A30.IsWhole := Memref.isWhole_whole _
abbrev A31 : Memref sig .tc .smem S8 .i32 := Memref.whole cc0_scratch10
theorem hA31 : A31.IsWhole := Memref.isWhole_whole _
abbrev A32 : Memref sig .tc .vmem S12x16x512 .bf16 := Memref.whole cc0_scratch11
theorem hA32 : A32.IsWhole := Memref.isWhole_whole _
abbrev A33 : Memref sig .tc .vmem S60x16x512 .bf16 := Memref.whole cc0_scratch12
theorem hA33 : A33.IsWhole := Memref.isWhole_whole _
abbrev A34 : Memref sig .tc .vmem S8x55552 .f32 := Memref.whole cc0_scratch13
theorem hA34 : A34.IsWhole := Memref.isWhole_whole _
abbrev A35 : Memref sig .tc .vmem S8x6144 .f32 := Memref.whole cc0_scratch14
theorem hA35 : A35.IsWhole := Memref.isWhole_whole _
abbrev A36 : Memref sig .tc .vmem S8x55552 .bf16 := Memref.whole cc0_scratch15
theorem hA36 : A36.IsWhole := Memref.isWhole_whole _
abbrev A37 : Memref sig .tc .vmem S384x128 .f32 := Memref.whole cc0_scratch16
theorem hA37 : A37.IsWhole := Memref.isWhole_whole _
abbrev A38 : Memref sig .tc .vmem S384x128 .f32 := Memref.whole cc0_scratch17
theorem hA38 : A38.IsWhole := Memref.isWhole_whole _
abbrev A39 : Memref sig .tc .vmem S8x48x128 .f32 := Memref.whole cc0_scratch18
theorem hA39 : A39.IsWhole := Memref.isWhole_whole _
abbrev A40 : Memref sig .tc .vmem S8x6144 .fp8e4m3 := Memref.whole cc0_scratch19
theorem hA40 : A40.IsWhole := Memref.isWhole_whole _
abbrev A41 : Memref sig .tc .vmem S8x1x48 .f32 := Memref.whole cc0_scratch20
theorem hA41 : A41.IsWhole := Memref.isWhole_whole _
abbrev A42 : Memref sig .tc .vmem S8x128 .fp8e5m2 := Memref.whole cc0_scratch21
theorem hA42 : A42.IsWhole := Memref.isWhole_whole _
abbrev A43 : Memref sig .tc .vmem S8x128 .fp8e5m2 := Memref.whole cc0_scratch22
theorem hA43 : A43.IsWhole := Memref.isWhole_whole _
abbrev A44 : Memref sig .tc .vmem S8x128 .f32 := Memref.whole cc0_scratch23
theorem hA44 : A44.IsWhole := Memref.isWhole_whole _
abbrev A45 : Memref sig .tc .vmem S8x128 .f32 := Memref.whole cc0_scratch24
theorem hA45 : A45.IsWhole := Memref.isWhole_whole _
abbrev A46 : Memref sig .tc .vmem S8x30720 .fp8e4m3 := Memref.whole cc0_scratch25
theorem hA46 : A46.IsWhole := Memref.isWhole_whole _
abbrev A47 : Memref sig .tc .vmem S8x1x240 .f32 := Memref.whole cc0_scratch26
theorem hA47 : A47.IsWhole := Memref.isWhole_whole _
abbrev A48 : Memref sig .tc .vmem S8x6144 .bf16 := Memref.whole cc0_scratch27
theorem hA48 : A48.IsWhole := Memref.isWhole_whole _
abbrev A49 : Memref sig .tc .vmem S8x256 .f32 := Memref.whole cc0_scratch28
theorem hA49 : A49.IsWhole := Memref.isWhole_whole _

/-- The contents of a memref's buffer on core `c`. -/
abbrev BufOf (c : Dev nD) {sp : Space} {S : Shape} {e : EltTy} (M : Memref sig .tc sp S e) : Type := Buf (Elt F) (M.view.loc (c : Thread nD τ))
/-- A memref's buffer, whole, at contents `f`. -/
abbrev pt (c : Dev nD) {sp : Space} {S : Shape} {e : EltTy} (M : Memref sig .tc sp S e) (f : BufOf (F := F) c M) : sProp 𝕄 :=
  M.view.loc (c : Thread nD τ) ↦{fullShare} f
/-- Read token `s` of twelve of a buffer. -/
abbrev tk (c : Dev nD) {sp : Space} {S : Shape} {e : EltTy} (M : Memref sig .tc sp S e) (s : Fin 12) (f : BufOf (F := F) c M) : sProp 𝕄 :=
  M.view.loc (c : Thread nD τ) ↦{Transfers.shareTok fullShare 12 s} f
/-- A semaphore's counter at zero. -/
abbrev sm0 (c : Dev nD) (sm : SemLoc sig) : sProp 𝕄 := semVal ((c : Thread nD τ), sm) 0

/-- The slot of the ring at an offset, as the transfers name it. -/
abbrev slotM (o : Fin 3 → ℕ) (h : ∀ a, o a + S1x512x7936.size a ≤ S12x512x7936.size a) : Memref sig .tc .vmem S512x7936 .fp8e4m3 :=
  (A21.slice (Rect.unit (s := S12x512x7936) o S1x512x7936.size h) (fun _ => rfl)).squeeze S512x7936 squeezes_S1x512x7936_S512x7936
/-- A slot of the ring at contents `f` (a function on the whole ring). -/
abbrev slotPt (c : Dev nD) (o : Fin 3 → ℕ) (h : ∀ a, o a + S1x512x7936.size a ≤ S12x512x7936.size a) (f : BufOf (F := F) c A21) : sProp 𝕄 :=
  (slotM o h).view.loc (c : Thread nD τ) ↦[(slotM o h).view.set]{fullShare} f
/-- A block of the first weight, as the transfers name it. -/
abbrev winM (o : Fin 2 → ℕ) (h : ∀ a, o a + S512x7936.size a ≤ S6144x55552.size a) : Memref sig .tc .hbm S512x7936 .fp8e4m3 :=
  A3.slice (Rect.unit (s := S6144x55552) o S512x7936.size h) (fun _ => rfl)
/-- A ring cell at an offset, as the transfers name it. -/
abbrev cellS (o : Fin 1 → ℕ) (h : ∀ a, o a + S1.size a ≤ S12.size a) : DmaSem sig :=
  ((cc0_scratch29.slice (Rect.unit (s := S12) o S1.size h)).squeeze S_ squeezes_S1_S_).sem

end Cert.KernelIdeal.Hand
-- ==== Proof.IdealRingFam.lean ====
module

public import proofs.«01_k».proof.Proof.IdealBase

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's resource algebra. -/
local notation "𝕄" => MT nD τ sig Unit (Elt F) ℕ (Pipeline.UD sig nD τ) ℕ

/-! ## The ring of weight blocks -/

theorem slot_inb (s : Fin 12) : ∀ a, (![s.val, 0, 0] : Fin 3 → ℕ) a + S1x512x7936.size a ≤ S12x512x7936.size a := by revert s; decide
theorem sub_inb (s : Fin 12) : ∀ a, (![s.val, 0, 0] : Fin 3 → ℕ) a + S1x512x6144.size a ≤ S12x512x7936.size a := by revert s; decide
theorem cell_inb (s : Fin 12) : ∀ a, (![s.val] : Fin 1 → ℕ) a + S1.size a ≤ S12.size a := by revert s; decide
/-- Where block `b` of the first weight lies in it. -/
abbrev winO (b : ℕ) : Fin 2 → ℕ := ![512 * (b % 12), 7936 * (b / 12)]
/-- Where block `b` (numbered on from the first weight's 84) of the second weight lies in it. -/
abbrev woutO (b : ℕ) : Fin 2 → ℕ := ![512 * (b - 84), 0]
theorem win_inb (b : ℕ) (h : b < 84) : ∀ a, winO b a + S512x7936.size a ≤ S6144x55552.size a := by
  have key : ∀ b : Fin 84, ∀ a, winO b.val a + S512x7936.size a ≤ S6144x55552.size a := by decide
  exact key ⟨b, h⟩
theorem wout_inb (b : ℕ) (h : b < 144) : ∀ a, woutO b a + S512x6144.size a ≤ S30720x6144.size a := by
  have key : ∀ b : Fin 144, ∀ a, woutO b.val a + S512x6144.size a ≤ S30720x6144.size a := by decide
  exact key ⟨b, h⟩

/-- The part of a ring slot a block of the second weight takes. -/
abbrev subM (o : Fin 3 → ℕ) (h : ∀ a, o a + S1x512x6144.size a ≤ S12x512x7936.size a) : Memref sig .tc .vmem S512x6144 .fp8e4m3 :=
  (A21.slice (Rect.unit (s := S12x512x7936) o S1x512x6144.size h) (fun _ => rfl)).squeeze S512x6144 squeezes_S1x512x6144_S512x6144
/-- A block of the second weight, as the transfers name it. -/
abbrev woutM (o : Fin 2 → ℕ) (h : ∀ a, o a + S512x6144.size a ≤ S30720x6144.size a) : Memref sig .tc .hbm S512x6144 .fp8e4m3 :=
  A5.slice (Rect.unit (s := S30720x6144) o S512x6144.size h) (fun _ => rfl)

/-- A block of the first weight on its way into a slot, with the rest of the weight's read token. -/
abbrev flW (c : Dev nD) (w : BufOf (F := F) c A3) (q : Fin 1 → ℕ) (hq : ∀ a, q a + S1.size a ≤ S12.size a)
    (o : Fin 3 → ℕ) (h : ∀ a, o a + S1x512x7936.size a ≤ S12x512x7936.size a)
    (u : Fin 2 → ℕ) (hu : ∀ a, u a + S512x7936.size a ≤ S6144x55552.size a) (s : Fin 12) (f0 : BufOf (F := F) c A21) : sProp 𝕄 :=
  iprop(Transfers.Flight countersEmb (c : Thread nD τ) (SemLoc.dma (cellS q hq)) () 126976
      iprop(((slotM o h).view.loc (c : Thread nD τ) ↦[(slotM o h).view.set]{fullShare}
          (slotM o h).view.writes (Elt F) f0 [⟨Rect.whole S512x7936, ReadAs.same.apply ((winM u hu).view.read (Elt F) w)⟩])
        ∗ (A3.view.loc (c : Thread nD τ) ↦[(winM u hu).view.set]{Transfers.shareTok fullShare 12 s} w))
    ∗ (A3.view.loc (c : Thread nD τ) ↦[Finset.univ \ (winM u hu).view.set]{Transfers.shareTok fullShare 12 s} w))
theorem flW_congr (c : Dev nD) (w : BufOf (F := F) c A3) {q q' hq hq' o o' h h' u u' hu hu'} (s : Fin 12) (f0 : BufOf (F := F) c A21)
    (e1 : q = q') (e2 : o = o') (e3 : u = u') : flW c w q hq o h u hu s f0 = flW c w q' hq' o' h' u' hu' s f0 := by
  subst e1; subst e2; subst e3; rfl

/-- A block of the second weight on its way into a slot, with the rest of the slot and of the weight's read token. -/
abbrev flO (c : Dev nD) (w : BufOf (F := F) c A5) (q : Fin 1 → ℕ) (hq : ∀ a, q a + S1.size a ≤ S12.size a)
    (o : Fin 3 → ℕ) (h : ∀ a, o a + S1x512x7936.size a ≤ S12x512x7936.size a) (h' : ∀ a, o a + S1x512x6144.size a ≤ S12x512x7936.size a)
    (u : Fin 2 → ℕ) (hu : ∀ a, u a + S512x6144.size a ≤ S30720x6144.size a) (s : Fin 12) (f0 : BufOf (F := F) c A21) : sProp 𝕄 :=
  iprop(Transfers.Flight countersEmb (c : Thread nD τ) (SemLoc.dma (cellS q hq)) () 98304
      iprop(((subM o h').view.loc (c : Thread nD τ) ↦[(subM o h').view.set]{fullShare}
          (subM o h').view.writes (Elt F) f0 [⟨Rect.whole S512x6144, ReadAs.same.apply ((woutM u hu).view.read (Elt F) w)⟩])
        ∗ (A5.view.loc (c : Thread nD τ) ↦[(woutM u hu).view.set]{Transfers.shareTok fullShare 12 s} w))
    ∗ (A5.view.loc (c : Thread nD τ) ↦[Finset.univ \ (woutM u hu).view.set]{Transfers.shareTok fullShare 12 s} w)
    ∗ ((slotM o h).view.loc (c : Thread nD τ) ↦[(slotM o h).view.set \ (subM o h').view.set]{fullShare} f0))
theorem flO_congr (c : Dev nD) (w : BufOf (F := F) c A5) {q q' hq hq' o o' h h' k k' u u' hu hu'} (s : Fin 12) (f0 : BufOf (F := F) c A21)
    (e1 : q = q') (e2 : o = o') (e3 : u = u') : flO c w q hq o h k u hu s f0 = flO c w q' hq' o' h' k' u' hu' s f0 := by
  subst e1; subst e2; subst e3; rfl

/-- A ring slot at rest: its cell at zero, its elements at anything, its read tokens of both weights. -/
def free (c : Dev nD) (w : BufOf (F := F) c A3) (v : BufOf (F := F) c A5) (s : Fin 12) : sProp 𝕄 :=
  iprop(sm0 c (SemLoc.dma (cellS ![s.val] (cell_inb s))) ∗ (∃ f, slotPt c ![s.val, 0, 0] (slot_inb s) f) ∗ tk c A3 s w ∗ tk c A5 s v)
/-- A ring slot with block `b` on its way in. -/
def role (c : Dev nD) (w : BufOf (F := F) c A3) (v : BufOf (F := F) c A5) (s : Fin 12) (b : ℕ) : sProp 𝕄 :=
  if h : b < 84 then iprop((∃ f0, flW c w ![s.val] (cell_inb s) ![s.val, 0, 0] (slot_inb s) (winO b) (win_inb b h) s f0) ∗ tk c A5 s v)
  else if h : b < 144 then iprop((∃ f0, flO c v ![s.val] (cell_inb s) ![s.val, 0, 0] (slot_inb s) (sub_inb s) (woutO b) (wout_inb b h) s f0) ∗ tk c A3 s w)
  else free c w v s
/-- The least block from `i` on that slot `s` carries. -/
def nxt (i : ℕ) (s : Fin 12) : ℕ := i + (s.val + 12 - i % 12) % 12
/-- The slots before step `i`: eleven blocks on their way, one slot at rest. -/
def slotAt (c : Dev nD) (w : BufOf (F := F) c A3) (v : BufOf (F := F) c A5) (i : ℕ) (s : Fin 12) : sProp 𝕄 :=
  if nxt i s = i + 11 then free c w v s else role c w v s (nxt i s)
@[irreducible] def ringAt (c : Dev nD) (w : BufOf (F := F) c A3) (v : BufOf (F := F) c A5) (i : ℕ) : sProp 𝕄 :=
  bigSep Finset.univ (slotAt c w v i)
/-- The ten slots step `i` does not touch. -/
def ringRest (c : Dev nD) (w : BufOf (F := F) c A3) (v : BufOf (F := F) c A5) (i : ℕ) : sProp 𝕄 :=
  bigSep ((Finset.univ.erase (Fin.ofNat 12 (i + 11))).erase (Fin.ofNat 12 i)) (slotAt c w v i)

theorem ring_open (c : Dev nD) (w : BufOf (F := F) c A3) (v : BufOf (F := F) c A5) (i : ℕ) :
    ringAt c w v i = iprop(free c w v (Fin.ofNat 12 (i + 11)) ∗ role c w v (Fin.ofNat 12 i) i ∗ ringRest c w v i) := by
  have hne : Fin.ofNat 12 i ≠ Fin.ofNat 12 (i + 11) := fun h => by
    have := congrArg Fin.val h; simp only [Fin.val_ofNat] at this; omega
  unfold ringAt ringRest
  rw [BI.bigSep_erase (Finset.mem_univ (Fin.ofNat 12 (i + 11))),
    BI.bigSep_erase (Finset.mem_erase.mpr ⟨hne, Finset.mem_univ (Fin.ofNat 12 i)⟩)]
  have h1 : nxt i (Fin.ofNat 12 (i + 11)) = i + 11 := by simp only [nxt, Fin.val_ofNat]; omega
  have h2 : nxt i (Fin.ofNat 12 i) = i := by simp only [nxt, Fin.val_ofNat]; omega
  have e1 : slotAt c w v i (Fin.ofNat 12 (i + 11)) = free c w v (Fin.ofNat 12 (i + 11)) := if_pos h1
  have e2 : slotAt c w v i (Fin.ofNat 12 i) = role c w v (Fin.ofNat 12 i) i := by
    unfold slotAt; rw [h2, if_neg (by omega)]
  rw [e1, e2]; rfl

theorem ring_close (c : Dev nD) (w : BufOf (F := F) c A3) (v : BufOf (F := F) c A5) (i : ℕ) :
    ringAt c w v (i + 1) = iprop(role c w v (Fin.ofNat 12 (i + 11)) (i + 11) ∗ free c w v (Fin.ofNat 12 i) ∗ ringRest c w v i) := by
  have hne : Fin.ofNat 12 i ≠ Fin.ofNat 12 (i + 11) := fun h => by
    have := congrArg Fin.val h; simp only [Fin.val_ofNat] at this; omega
  unfold ringAt ringRest
  rw [BI.bigSep_erase (Finset.mem_univ (Fin.ofNat 12 (i + 11))),
    BI.bigSep_erase (Finset.mem_erase.mpr ⟨hne, Finset.mem_univ (Fin.ofNat 12 i)⟩)]
  have h1 : nxt (i + 1) (Fin.ofNat 12 (i + 11)) = i + 11 := by simp only [nxt, Fin.val_ofNat]; omega
  have h2 : nxt (i + 1) (Fin.ofNat 12 i) = i + 12 := by simp only [nxt, Fin.val_ofNat]; omega
  have e1 : slotAt c w v (i + 1) (Fin.ofNat 12 (i + 11)) = role c w v (Fin.ofNat 12 (i + 11)) (i + 11) := by
    unfold slotAt; rw [h1, if_neg (by omega)]
  have e2 : slotAt c w v (i + 1) (Fin.ofNat 12 i) = free c w v (Fin.ofNat 12 i) := if_pos (by rw [h2])
  rw [e1, e2]
  have e3 : bigSep ((Finset.univ.erase (Fin.ofNat 12 (i + 11))).erase (Fin.ofNat 12 i)) (slotAt c w v (i + 1))
      = bigSep ((Finset.univ.erase (Fin.ofNat 12 (i + 11))).erase (Fin.ofNat 12 i)) (slotAt c w v i) := by
    refine BI.bigSep_congr fun s hs => ?_
    have hs1 : s ≠ Fin.ofNat 12 i := (Finset.mem_erase.mp hs).1
    have hs2 : s ≠ Fin.ofNat 12 (i + 11) := (Finset.mem_erase.mp (Finset.mem_erase.mp hs).2).1
    have n1 : s.val ≠ i % 12 := fun h => hs1 (Fin.ext h)
    have n2 : s.val ≠ (i + 11) % 12 := fun h => hs2 (Fin.ext h)
    have hl := s.isLt
    have : nxt (i + 1) s = nxt i s := by simp only [nxt]; omega
    unfold slotAt
    rw [this, if_neg (by simp only [nxt]; omega), if_neg (by simp only [nxt]; omega)]
  rw [e3]; rfl

end Cert.KernelIdeal.Hand
-- ==== Proof.IdealTrip.lean ====
module

public import proofs.«01_k».proof.Proof.IdealRingFam

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's resource algebra. -/
local notation "𝕄" => MT nD τ sig Unit (Elt F) ℕ (Pipeline.UD sig nD τ) ℕ

/-! ## The ring's states at offsets spelled otherwise -/

theorem free_eq (c : Dev nD) (w : BufOf (F := F) c A3) (v : BufOf (F := F) c A5) (s : Fin 12) {q hq o h} (e1 : q = ![s.val]) (e2 : o = ![s.val, 0, 0]) :
    free c w v s = iprop(sm0 c (SemLoc.dma (cellS q hq)) ∗ (∃ f, slotPt c o h f) ∗ tk c A3 s w ∗ tk c A5 s v) := by
  subst e1; subst e2; rfl
theorem role_w_eq (c : Dev nD) (w : BufOf (F := F) c A3) (v : BufOf (F := F) c A5) (s : Fin 12) (b : ℕ) (hb : b < 84) {q hq o h u hu}
    (e1 : q = ![s.val]) (e2 : o = ![s.val, 0, 0]) (e3 : u = winO b) :
    role c w v s b = iprop((∃ f0, flW c w q hq o h u hu s f0) ∗ tk c A5 s v) := by
  subst e1; subst e2; subst e3; exact dif_pos hb
theorem role_o_eq (c : Dev nD) (w : BufOf (F := F) c A3) (v : BufOf (F := F) c A5) (s : Fin 12) (b : ℕ) (hn : ¬ b < 84) (hb : b < 144) {q hq o h h' u hu}
    (e1 : q = ![s.val]) (e2 : o = ![s.val, 0, 0]) (e3 : u = woutO b) :
    role c w v s b = iprop((∃ f0, flO c v q hq o h h' u hu s f0) ∗ tk c A3 s w) := by
  subst e1; subst e2; subst e3; exact (dif_neg hn).trans (dif_pos hb)

/-! ## One step of the first product -/

theorem off4_eq : ∀ (g : Fin k0_t1_loop.trips) (k : Fin k0_t2_loop.trips), k0_cond1 g k = 1#1 →
    k0_off4 g k = winO (12 * g.val + k.val + 11) := by decide +kernel
theorem off10_eq : ∀ (g : Fin k0_t1_loop.trips) (k : Fin k0_t2_loop.trips),
    k0_off10 g k = winO (12 * g.val + k.val) := by decide +kernel
theorem off7_eq : ∀ (g : Fin k0_t1_loop.trips) (k : Fin k0_t2_loop.trips), k0_cond2 g k = 1#1 →
    k0_off7 g k = woutO (12 * g.val + k.val + 11) := by decide +kernel
theorem cond1_iff : ∀ (g : Fin k0_t1_loop.trips) (k : Fin k0_t2_loop.trips), k0_cond1 g k = 1#1 ↔ 12 * g.val + k.val + 11 < 84 := by decide +kernel
theorem cond2_iff : ∀ (g : Fin k0_t1_loop.trips) (k : Fin k0_t2_loop.trips), k0_cond2 g k = 1#1 ↔ ¬ 12 * g.val + k.val + 11 < 84 := by decide +kernel
theorem trips1 : k0_t1_loop.trips = 7 := by decide +kernel
theorem trips2 : k0_t2_loop.trips = 12 := by decide +kernel

/-- The elements of a ring slot. -/
theorem slot_set (o : Fin 3 → ℕ) (h : ∀ a, o a + S1x512x7936.size a ≤ S12x512x7936.size a) :
    (slotM o h).view.set = (Rect.unit (s := S12x512x7936) o S1x512x7936.size h).set.map A21.view.emb :=
  (View.set_reshape (v := A21.view.slice (Rect.unit (s := S12x512x7936) o S1x512x7936.size h)) _).trans (View.set_slice _ _)
/-- The elements of a slot a block of the second weight takes. -/
theorem sub_set (o : Fin 3 → ℕ) (h : ∀ a, o a + S1x512x6144.size a ≤ S12x512x7936.size a) :
    (subM o h).view.set = (Rect.unit (s := S12x512x7936) o S1x512x6144.size h).set.map A21.view.emb :=
  (View.set_reshape (v := A21.view.slice (Rect.unit (s := S12x512x7936) o S1x512x6144.size h)) _).trans (View.set_slice _ _)

/-- Loading a slot through the ring reads the slot's own elements. -/
theorem slot_access (o : Fin 3 → ℕ) (h : ∀ a, o a + S1x512x7936.size a ≤ S12x512x7936.size a) (o' : Fin 3 → ℕ) (h' : ∀ a, o' a + S1x512x7936.size a ≤ S12x512x7936.size a) (e : o = o') :
    (A21.access (Rect.unit (s := S12x512x7936) o S1x512x7936.size h)).set ⊆ (slotM o' h').view.set := by
  subst e
  rw [slot_set]
  exact (A21.set_access_subset_setOn _).trans subset_rfl

/-- A ring slot is the part a block of the second weight takes and the rest. -/
theorem slot_split (c : Dev nD) (o : Fin 3 → ℕ) (h : ∀ a, o a + S1x512x7936.size a ≤ S12x512x7936.size a) (h' : ∀ a, o a + S1x512x6144.size a ≤ S12x512x7936.size a) (f : BufOf (F := F) c A21) :
    slotPt c o h f ⊣⊢ iprop(((subM o h').view.loc (c : Thread nD τ) ↦[(subM o h').view.set]{fullShare} f)
      ∗ ((slotM o h).view.loc (c : Thread nD τ) ↦[(slotM o h).view.set \ (subM o h').view.set]{fullShare} f)) := by
  refine pointsTo_split_subset ?_
  rw [slot_set o h, sub_set o h']
  refine Finset.map_subset_map.mpr fun x hx => ?_
  rw [Rect.mem_set_unit] at hx ⊢
  intro a
  have := hx a
  fin_cases a
  · exact this
  · exact this
  · exact ⟨this.1, this.2.trans_le (Nat.add_le_add_left (by decide) _)⟩

/-- The block of the first weight the step multiplies by, read out of the ring slot it landed in. -/
def wblk (c : Dev nD) (w : BufOf (F := F) c A3) (g : Fin k0_t1_loop.trips) (k : Fin k0_t2_loop.trips) : Vec F S1x512x7936 .fp8e4m3 :=
  A21.view.readAt (Elt F) (Rect.unit (s := S12x512x7936) (k0_off12 g k) S1x512x7936.size (k0_off12_inb g k)).toLoadRect
    ((slotM (k0_off9 g k) (k0_off9_inb g k)).view.writes (Elt F) (slotM (k0_off9 g k) (k0_off9_inb g k)).view.junk
      [⟨Rect.whole S512x7936, ReadAs.same.apply ((winM (k0_off10 g k) (k0_off10_inb g k)).view.read (Elt F) w)⟩])
/-- The running sums after one step: the group's sums plus the step's product. -/
def accNext (c : Dev nD) (w : BufOf (F := F) c A3) (la : BufOf (F := F) c A32) (g : Fin k0_t1_loop.trips) (k : Fin k0_t2_loop.trips) (acc : BufOf (F := F) c A34) : BufOf (F := F) c A34 :=
  A34.view.writes (Elt F) acc [⟨Rect.unit (s := S8x55552) (k0_off13 g) S8x7936.size (k0_off13_inb g),
    k0_pay590 (A32.view.readAt (Elt F) (Rect.unit (s := S12x16x512) (k0_off11 k) S1x16x512.size (k0_off11_inb k)).toLoadRect la)
      (wblk c w g k)
      (A34.view.readAt (Elt F) (Rect.unit (s := S8x55552) (k0_off13 g) S8x7936.size (k0_off13_inb g)).toLoadRect acc)⟩]

theorem trip2 (c : Dev nD) (w : BufOf (F := F) c A3) (v : BufOf (F := F) c A5) (g : Fin k0_t1_loop.trips) (k : Fin k0_t2_loop.trips)
    (x1 x2 x3 x4 x5) (la : BufOf (F := F) c A32) (acc : BufOf (F := F) c A34) (W : Waits sig Unit) :
    iprop(ringAt c w v (12 * g.val + k.val) ∗ pt c A32 la ∗ pt c A34 acc ∗ owes (c : Thread nD τ) 0 W)
      ⊢ wp frame (wpE (defs₀ (F := F)) Variants.none c none) Set.univ
        (k0_t2_body A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 hA34 A35 hA35 A36 hA36 A37 hA37 A38 hA38 A39 hA39 A40 hA40 A41 hA41 A42 hA42 A43 hA43 A44 hA44 A45 hA45 A46 hA46 A47 hA47 A48 hA48 A49 hA49 cc0_scratch29 cc0_scratch30 cc0_scratch31 cc0_scratch32 cc0_scratch33 cc0_scratch34 cc0_scratch35 cc0_scratch36 cc0_scratch37 cc0_scratch38 cc0_scratch39 x1 x2 x3 x4 g x5 k ())
        (fun _ => iprop(ringAt c w v (12 * g.val + (k.val + 1)) ∗ pt c A32 la ∗ pt c A34 (accNext c w la g k acc) ∗ ∃ W', owes (c : Thread nD τ) 0 W')) := by
  have hg : g.val < 7 := trips1 ▸ g.isLt
  have hk : k.val < 12 := trips2 ▸ k.isLt
  have hcell := slot_access (k0_off12 g k) (k0_off12_inb g k) (k0_off9 g k) (k0_off9_inb g k) ((k0_off12_eq g k).trans (k0_off9_eq g k).symm)
  rw [← Nat.add_assoc, ring_open, ring_close]
  have hb : 12 * g.val + k.val < 84 := by omega
  rw [role_w_eq c w v _ _ hb (hq := k0_off8_inb g k) (h := k0_off9_inb g k) (hu := k0_off10_inb g k) (k0_off8_eq g k) (k0_off9_eq g k) (off10_eq g k),
    free_eq c w v (Fin.ofNat 12 (12 * g.val + k.val)) (hq := k0_off8_inb g k) (h := k0_off9_inb g k) (k0_off8_eq g k) (k0_off9_eq g k)]
  unfold k0_t2_body
  by_cases h1 : 12 * g.val + k.val + 11 < 84
  · have c1 := (cond1_iff g k).mpr h1
    have c2 : ¬ k0_cond2 g k = 1#1 := fun h => (cond2_iff g k).mp h h1
    rw [role_w_eq c w v _ _ h1 (hq := k0_off2_inb g k c1) (h := k0_off3_inb g k c1) (hu := k0_off4_inb g k c1) (k0_off2_eq g k) (k0_off3_eq g k) (off4_eq g k c1),
      free_eq c w v (Fin.ofNat 12 (12 * g.val + k.val + 11)) (hq := k0_off2_inb g k c1) (h := k0_off3_inb g k c1) (k0_off2_eq g k) (k0_off3_eq g k)]
    iintro ⟨⟨⟨Hqa, ⟨%fa, Hsa⟩, Hwa, Hva⟩, ⟨⟨%f0, Hfb, Hrb⟩, Hvb⟩, Hrest⟩, Hla, Hacc, HO⟩
    sl_exec
    sl_step
    isplitr [Hla Hacc HO]
    · isplitl [Hqa Hwa Hva]
      · isplitl [Hqa Hwa]
        · iexists fa
          isplitl [Hqa]; · iexact Hqa
          iexact Hwa
        iexact Hva
      isplitr [Hrest]
      · isplitl [Hfb]; · iexact Hfb
        isplitl [Hfb_dst]; · iexists _; iexact Hfb_dst
        isplitl [Hrb]; · iexact Hrb
        iexact Hvb
      iexact Hrest
    isplitl [Hla]; · iexact Hla
    isplitl [Hacc]; · iexact Hacc
    iexists _; iexact HO
  · have c1 : ¬ k0_cond1 g k = 1#1 := fun h => h1 ((cond1_iff g k).mp h)
    have c2 := (cond2_iff g k).mpr h1
    have hs6 : ∀ a, k0_off6 g k a + S1x512x7936.size a ≤ S12x512x7936.size a := by
      rw [k0_off6_eq]; exact slot_inb (Fin.ofNat 12 (12 * g.val + k.val + 11))
    rw [role_o_eq c w v _ _ h1 (by omega) (hq := k0_off5_inb g k c2) (h := hs6) (h' := k0_off6_inb g k c2) (hu := k0_off7_inb g k c2) (k0_off5_eq g k) (k0_off6_eq g k) (off7_eq g k c2),
      free_eq c w v (Fin.ofNat 12 (12 * g.val + k.val + 11)) (hq := k0_off5_inb g k c2) (h := hs6) (k0_off5_eq g k) (k0_off6_eq g k)]
    iintro ⟨⟨⟨Hqa, ⟨%fa, Hsa⟩, Hwa, Hva⟩, ⟨⟨%f0, Hfb, Hrb⟩, Hvb⟩, Hrest⟩, Hla, Hacc, HO⟩
    ihave Hs2 := (slot_split c (k0_off6 g k) hs6 (k0_off6_inb g k c2) fa).1 $$ Hsa
    icases Hs2 with ⟨Hsa, Hsr⟩
    sl_exec
    sl_step
    isplitr [Hla Hacc HO]
    · isplitl [Hqa Hwa Hva Hsr]
      · isplitl [Hqa Hva Hsr]
        · iexists fa
          isplitl [Hqa]; · iexact Hqa
          isplitl [Hva]; · iexact Hva
          iexact Hsr
        iexact Hwa
      isplitr [Hrest]
      · isplitl [Hfb]; · iexact Hfb
        isplitl [Hfb_dst]; · iexists _; iexact Hfb_dst
        isplitl [Hrb]; · iexact Hrb
        iexact Hvb
      iexact Hrest
    isplitl [Hla]; · iexact Hla
    isplitl [Hacc]; · iexact Hacc
    iexists _; iexact HO

end Cert.KernelIdeal.Hand
-- ==== Proof.IdealLoops.lean ====
module

public import proofs.«01_k».proof.Proof.IdealTrip
public import proofs.«01_k».proof.Proof.Gen.KernelIdeal.Loops

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's resource algebra. -/
local notation "𝕄" => MT nD τ sig Unit (Elt F) ℕ (Pipeline.UD sig nD τ) ℕ

/-! ## The loop over a group's twelve steps -/

/-- The running sums before step `n` of a group. -/
def accRec (c : Dev nD) (w : BufOf (F := F) c A3) (la : BufOf (F := F) c A32) (g : Fin k0_t1_loop.trips) (acc : BufOf (F := F) c A34) : ℕ → BufOf (F := F) c A34
  | 0 => acc
  | n + 1 => if h : n < k0_t2_loop.trips then accNext c w la g ⟨n, h⟩ (accRec c w la g acc n) else accRec c w la g acc n
theorem accRec_succ (c : Dev nD) (w : BufOf (F := F) c A3) (la : BufOf (F := F) c A32) (g : Fin k0_t1_loop.trips) (acc : BufOf (F := F) c A34) (k : Fin k0_t2_loop.trips) :
    accRec c w la g acc (k.val + 1) = accNext c w la g k (accRec c w la g acc k.val) := dif_pos k.isLt

set_option warn.classDefReducibility false in
@[sl_loop] def loopInv2 (c : Dev nD) (w : BufOf (F := F) c A3) (v : BufOf (F := F) c A5) (la : BufOf (F := F) c A32) (acc : BufOf (F := F) c A34) (x1 x2 x3 x4) (g : Fin k0_t1_loop.trips) (x5) :
    LoopInvTy_k0_t2 (F := F) Unit ℕ (Pipeline.UD sig nD τ) ℕ Variants.none c none Set.univ A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 hA34 A35 hA35 A36 hA36 A37 hA37 A38 hA38 A39 hA39 A40 hA40 A41 hA41 A42 hA42 A43 hA43 A44 hA44 A45 hA45 A46 hA46 A47 hA47 A48 hA48 A49 hA49 cc0_scratch29 cc0_scratch30 cc0_scratch31 cc0_scratch32 cc0_scratch33 cc0_scratch34 cc0_scratch35 cc0_scratch36 cc0_scratch37 cc0_scratch38 cc0_scratch39 x1 x2 x3 x4 g x5 where
  inv k _ := iprop(ringAt c w v (12 * g.val + k) ∗ pt c A32 la ∗ pt c A34 (accRec c w la g acc k) ∗ ∃ W, owes (c : Thread nD τ) 0 W)
  step k _ := by
    rw [accRec_succ]
    iintro ⟨Hr, Hla, Hacc, %W, HO⟩
    iapply (trip2 c w v g k x1 x2 x3 x4 x5 la _ W)
    isplitl [Hr]; · iexact Hr
    isplitl [Hla]; · iexact Hla
    isplitl [Hacc]; · iexact Hacc
    iexact HO

/-! ## The loop over the batch rows' attention -/

set_option warn.classDefReducibility false in
@[sl_loop] def loopInv3 (c : Dev nD) (kb : BufOf (F := F) c A27) (vb : BufOf (F := F) c A28) (len : BufOf (F := F) c A30) (q : BufOf (F := F) c A37) (vf : BufOf (F := F) c A44) (kf : BufOf (F := F) c A45)
    (x1 x2 x3 x4) (g : Fin k0_t1_loop.trips) (x5) :
    LoopInvTy_k0_t3 (F := F) Unit ℕ (Pipeline.UD sig nD τ) ℕ Variants.none c none Set.univ A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 hA34 A35 hA35 A36 hA36 A37 hA37 A38 hA38 A39 hA39 A40 hA40 A41 hA41 A42 hA42 A43 hA43 A44 hA44 A45 hA45 A46 hA46 A47 hA47 A48 hA48 A49 hA49 cc0_scratch29 cc0_scratch30 cc0_scratch31 cc0_scratch32 cc0_scratch33 cc0_scratch34 cc0_scratch35 cc0_scratch36 cc0_scratch37 cc0_scratch38 cc0_scratch39 x1 x2 x3 x4 g x5 where
  inv k _ := iprop(pt c A27 kb ∗ pt c A28 vb ∗ pt c A30 len ∗ pt c A37 q ∗ pt c A44 vf ∗ pt c A45 kf ∗ (∃ f, pt c A38 f) ∗ ∃ f, pt c A39 f)
  step k _ := by
    unfold k0_t3_body
    iintro ⟨H1, H2, H3, H4, H5, H6, ⟨%f7, H7⟩, %f8, H8⟩
    sl_exec
    sl_step
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8

/-! ## The loops that quantise the second product's operand -/

set_option warn.classDefReducibility false in
@[sl_loop] def loopInv4 (c : Dev nD) (o : BufOf (F := F) c A38) :
    LoopInvTy_k0_t4 (F := F) Unit ℕ (Pipeline.UD sig nD τ) ℕ Variants.none c none Set.univ A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 hA34 A35 hA35 A36 hA36 A37 hA37 A38 hA38 A39 hA39 A40 hA40 A41 hA41 A42 hA42 A43 hA43 A44 hA44 A45 hA45 A46 hA46 A47 hA47 A48 hA48 A49 hA49 cc0_scratch29 cc0_scratch30 cc0_scratch31 cc0_scratch32 cc0_scratch33 cc0_scratch34 cc0_scratch35 cc0_scratch36 cc0_scratch37 cc0_scratch38 cc0_scratch39 where
  inv k _ := iprop(pt c A38 o ∗ (∃ f, pt c A33 f) ∗ (∃ f, pt c A46 f) ∗ ∃ f, pt c A49 f)
  step k _ := by
    unfold k0_t4_body
    iintro ⟨H1, ⟨%f2, H2⟩, ⟨%f3, H3⟩, %f4, H4⟩
    sl_exec
    sl_step
    isplitl [H1]; · iexact H1
    isplitl [H2]; · iexists _; iexact H2
    isplitl [H3]; · iexists _; iexact H3
    iexists _; iexact H4

set_option warn.classDefReducibility false in
@[sl_loop] def loopInv5 (c : Dev nD) (acc : BufOf (F := F) c A34) :
    LoopInvTy_k0_t5 (F := F) Unit ℕ (Pipeline.UD sig nD τ) ℕ Variants.none c none Set.univ A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 hA34 A35 hA35 A36 hA36 A37 hA37 A38 hA38 A39 hA39 A40 hA40 A41 hA41 A42 hA42 A43 hA43 A44 hA44 A45 hA45 A46 hA46 A47 hA47 A48 hA48 A49 hA49 cc0_scratch29 cc0_scratch30 cc0_scratch31 cc0_scratch32 cc0_scratch33 cc0_scratch34 cc0_scratch35 cc0_scratch36 cc0_scratch37 cc0_scratch38 cc0_scratch39 where
  inv k _ := iprop(pt c A34 acc ∗ (∃ f, pt c A33 f) ∗ (∃ f, pt c A46 f) ∗ ∃ f, pt c A49 f)
  step k _ := by
    unfold k0_t5_body
    iintro ⟨H1, ⟨%f2, H2⟩, ⟨%f3, H3⟩, %f4, H4⟩
    sl_exec
    sl_step
    isplitl [H1]; · iexact H1
    isplitl [H2]; · iexists _; iexact H2
    isplitl [H3]; · iexists _; iexact H3
    iexists _; iexact H4

end Cert.KernelIdeal.Hand
-- ==== Proof.IdealTrip1.lean ====
module

public import proofs.«01_k».proof.Proof.IdealLoops

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's resource algebra. -/
local notation "𝕄" => MT nD τ sig Unit (Elt F) ℕ (Pipeline.UD sig nD τ) ℕ

/-! ## One group of columns of the first product -/

theorem cond3_iff : ∀ g : Fin k0_t1_loop.trips, k0_cond3 g = 1#1 ↔ g.val = 0 := by decide +kernel

theorem pt_of_set {sp : Space} {s : Shape} {e : EltTy} (c : Dev nD) (M : Memref sig .tc sp s e) (h : M.view.set = Finset.univ) (f : BufOf (F := F) c M) :
    (M.view.loc (c : Thread nD τ) ↦[M.view.set]{fullShare} f : sProp 𝕄) ⊢ pt c M f := by rw [h]

/-- What a whole copy leaves in its destination: the source's contents. -/
abbrev landed {sp sp' : Space} {s : Shape} {e : EltTy} (c : Dev nD) (S : Memref sig .tc sp s e) (D : Memref sig .tc sp' s e) (f : BufOf (F := F) c S) : BufOf (F := F) c D :=
  D.view.writes (Elt F) D.view.junk [⟨Rect.whole s, ReadAs.same.apply (S.view.read (Elt F) f)⟩]
/-- What the two copies of the caches deliver. -/
def kvD (c : Dev nD) (f7 : BufOf (F := F) c A7) (f8 : BufOf (F := F) c A8) : Fin 2 → sProp 𝕄
  | 0 => iprop((A27.view.loc (c : Thread nD τ) ↦[A27.view.set]{fullShare} landed c A7 A27 f7) ∗ (A7.view.loc (c : Thread nD τ) ↦[A7.view.set]{fullShare} f7))
  | 1 => iprop((A28.view.loc (c : Thread nD τ) ↦[A28.view.set]{fullShare} landed c A8 A28 f8) ∗ (A8.view.loc (c : Thread nD τ) ↦[A8.view.set]{fullShare} f8))
instance kvD_storable (c : Dev nD) (f7 : BufOf (F := F) c A7) (f8 : BufOf (F := F) c A8) (t : Fin 2) : Storable (upEmb : UEmb _ 𝕄) (kvD c f7 f8 t) := by
  fin_cases t <;> simp only [kvD] <;> infer_instance
/-- The caches: on their way before the first group, in place after it. -/
@[irreducible] def kvAt (c : Dev nD) (f7 : BufOf (F := F) c A7) (f8 : BufOf (F := F) c A8) (n : ℕ) : sProp 𝕄 :=
  if n = 0 then Transfers.Batch countersEmb (c : Thread nD τ) (SemLoc.dma cc0_scratch31.sem) () 65536 (kvD c f7 f8) 2 0
  else iprop(sm0 c (SemLoc.dma cc0_scratch31.sem) ∗ pt c A27 (landed c A7 A27 f7) ∗ pt c A28 (landed c A8 A28 f8) ∗ pt c A7 f7 ∗ pt c A8 f8)

/-- The sums of a group after its twelve steps, from zero. -/
def accZ (c : Dev nD) (w : BufOf (F := F) c A3) (la : BufOf (F := F) c A32) (g : Fin k0_t1_loop.trips) (acc : BufOf (F := F) c A34) : BufOf (F := F) c A34 :=
  accRec c w la g (A34.view.writes (Elt F) acc [⟨Rect.unit (s := S8x55552) (k0_off1 g) S8x7936.size (k0_off1_inb g), k0_pay589 (F := F)⟩]) k0_t2_loop.trips
/-- A group's sums as read back. -/
def sumG (c : Dev nD) (w : BufOf (F := F) c A3) (la : BufOf (F := F) c A32) (g : Fin k0_t1_loop.trips) (acc : BufOf (F := F) c A34) : Vec F S8x7936 .f32 :=
  A34.view.readAt (Elt F) (Rect.unit (s := S8x55552) (k0_off1 g) S8x7936.size (k0_off1_inb g)).toLoadRect (accZ c w la g acc)
/-- A group's scales. -/
def scaleG (c : Dev nD) (sc : BufOf (F := F) c A25) (g : Fin k0_t1_loop.trips) : Vec F S1x7936 .f32 :=
  A25.view.readAt (Elt F) (Rect.unit (s := S1x55552) (k0_off14 g) S1x7936.size (k0_off14_inb g)).toLoadRect sc
/-- The sums after a group: the group's columns at the scaled sums. -/
def accS (c : Dev nD) (w : BufOf (F := F) c A3) (la : BufOf (F := F) c A32) (sc : BufOf (F := F) c A25) (g : Fin k0_t1_loop.trips) (acc : BufOf (F := F) c A34) : BufOf (F := F) c A34 :=
  A34.view.writes (Elt F) (accZ c w la g acc) [⟨Rect.unit (s := S8x55552) (k0_off1 g) S8x7936.size (k0_off1_inb g), k0_pay593 (sumG c w la g acc) (scaleG c sc g)⟩]
/-- The projection after a group. -/
def projS (c : Dev nD) (w : BufOf (F := F) c A3) (la : BufOf (F := F) c A32) (sc : BufOf (F := F) c A25) (g : Fin k0_t1_loop.trips) (acc : BufOf (F := F) c A34) (pj : BufOf (F := F) c A36) : BufOf (F := F) c A36 :=
  A36.view.writes (Elt F) pj [⟨Rect.unit (s := S8x55552) (k0_off1 g) S8x7936.size (k0_off1_inb g), k0_pay592 (sumG c w la g acc) (scaleG c sc g)⟩]
/-- The sums before group `n`. -/
def accG (c : Dev nD) (w : BufOf (F := F) c A3) (la : BufOf (F := F) c A32) (sc : BufOf (F := F) c A25) (acc : BufOf (F := F) c A34) : ℕ → BufOf (F := F) c A34
  | 0 => acc
  | n + 1 => if h : n < k0_t1_loop.trips then accS c w la sc ⟨n, h⟩ (accG c w la sc acc n) else accG c w la sc acc n
theorem accG_succ (c : Dev nD) (w : BufOf (F := F) c A3) (la : BufOf (F := F) c A32) (sc : BufOf (F := F) c A25) (acc : BufOf (F := F) c A34) (g : Fin k0_t1_loop.trips) :
    accG c w la sc acc (g.val + 1) = accS c w la sc g (accG c w la sc acc g.val) := dif_pos g.isLt
/-- The projection before group `n`. -/
def projG (c : Dev nD) (w : BufOf (F := F) c A3) (la : BufOf (F := F) c A32) (sc : BufOf (F := F) c A25) (acc : BufOf (F := F) c A34) (pj : BufOf (F := F) c A36) : ℕ → BufOf (F := F) c A36
  | 0 => pj
  | n + 1 => if h : n < k0_t1_loop.trips then projS c w la sc ⟨n, h⟩ (accG c w la sc acc n) (projG c w la sc acc pj n) else projG c w la sc acc pj n
theorem projG_succ (c : Dev nD) (w : BufOf (F := F) c A3) (la : BufOf (F := F) c A32) (sc : BufOf (F := F) c A25) (acc : BufOf (F := F) c A34) (pj : BufOf (F := F) c A36) (g : Fin k0_t1_loop.trips) :
    projG c w la sc acc pj (g.val + 1) = projS c w la sc g (accG c w la sc acc g.val) (projG c w la sc acc pj g.val) := dif_pos g.isLt

/-- The new keys, from the first group's scaled sums and the rotation's cosine and sine. -/
def knS (c : Dev nD) (co si : FVec F S8x128 .f32) (acc1 : BufOf (F := F) c A34) : BufOf (F := F) c A42 :=
  A42.view.writes (Elt F) A42.view.junk [⟨Rect.unit (s := S8x128) ![0, 0] S8x128.size inb_S8x128_S8x128_0_0,
    k0_pay11 co si (A34.view.readAt (Elt F) (Rect.unit (s := S8x55552) ![0, 6144] S8x128.size inb_S8x55552_S8x128_0_6144).toLoadRect acc1)⟩]
/-- The new values, from the first group's scaled sums. -/
def vnS (c : Dev nD) (acc1 : BufOf (F := F) c A34) : BufOf (F := F) c A43 :=
  A43.view.writes (Elt F) A43.view.junk [⟨Rect.unit (s := S8x128) ![0, 0] S8x128.size inb_S8x128_S8x128_0_0,
    k0_pay12 (A34.view.readAt (Elt F) (Rect.unit (s := S8x55552) ![0, 6272] S8x128.size inb_S8x55552_S8x128_0_6272).toLoadRect acc1)⟩]
/-- The new keys before group `n`: written within the first. -/
def knG (c : Dev nD) (co si : FVec F S8x128 .f32) (acc1 : BufOf (F := F) c A34) (kn : BufOf (F := F) c A42) (n : ℕ) : BufOf (F := F) c A42 := if n = 0 then kn else knS c co si acc1
/-- The new values before group `n`: written within the first. -/
def vnG (c : Dev nD) (acc1 : BufOf (F := F) c A34) (vn : BufOf (F := F) c A43) (n : ℕ) : BufOf (F := F) c A43 := if n = 0 then vn else vnS c acc1

/-- The buffers the attention works in, at anything. -/
def scr (c : Dev nD) : sProp 𝕄 :=
  iprop((∃ f, pt (F := F) c A37 f) ∗ (∃ f, pt (F := F) c A38 f) ∗ (∃ f, pt (F := F) c A39 f) ∗ (∃ f, pt (F := F) c A44 f) ∗ ∃ f, pt (F := F) c A45 f)

/-- What the loop over the groups holds before group `n`. -/
def inv1 (c : Dev nD) (w : BufOf (F := F) c A3) (v : BufOf (F := F) c A5) (f7 : BufOf (F := F) c A7) (f8 : BufOf (F := F) c A8) (sc : BufOf (F := F) c A25) (len : BufOf (F := F) c A30)
    (la : BufOf (F := F) c A32) (acc : BufOf (F := F) c A34) (pj : BufOf (F := F) c A36) (kn : BufOf (F := F) c A42) (vn : BufOf (F := F) c A43) (co si : FVec F S8x128 .f32) (n : ℕ) : sProp 𝕄 :=
  iprop(ringAt c w v (12 * n) ∗ kvAt c f7 f8 n ∗ pt c A25 sc ∗ pt c A30 len ∗ pt c A32 la ∗ pt c A34 (accG c w la sc acc n) ∗ pt c A36 (projG c w la sc acc pj n)
    ∗ pt c A42 (knG c co si (accG c w la sc acc 1) kn n) ∗ pt c A43 (vnG c (accG c w la sc acc 1) vn n) ∗ scr (F := F) c ∗ ∃ W, owes (c : Thread nD τ) 0 W)

theorem trip1 (c : Dev nD) (w : BufOf (F := F) c A3) (v : BufOf (F := F) c A5) (f7 : BufOf (F := F) c A7) (f8 : BufOf (F := F) c A8) (sc : BufOf (F := F) c A25) (len : BufOf (F := F) c A30)
    (la : BufOf (F := F) c A32) (acc : BufOf (F := F) c A34) (pj : BufOf (F := F) c A36) (kn : BufOf (F := F) c A42) (vn : BufOf (F := F) c A43) (v93 v3651 v3672 v3674 v3675 v3680 v3685 v3690 v3694) (g : Fin k0_t1_loop.trips) :
    inv1 c w v f7 f8 sc len la acc pj kn vn (k0_pay587 v3651 v3672 v3674 v3675 v3680 v3685 v3690 v3694) (k0_pay588 v93 v3651 v3672 v3674 v3675 v3680 v3685 v3690 v3694) g.val
      ⊢ wp frame (wpE (defs₀ (F := F)) Variants.none c none) Set.univ
        (k0_t1_body A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 hA34 A35 hA35 A36 hA36 A37 hA37 A38 hA38 A39 hA39 A40 hA40 A41 hA41 A42 hA42 A43 hA43 A44 hA44 A45 hA45 A46 hA46 A47 hA47 A48 hA48 A49 hA49 cc0_scratch29 cc0_scratch30 cc0_scratch31 cc0_scratch32 cc0_scratch33 cc0_scratch34 cc0_scratch35 cc0_scratch36 cc0_scratch37 cc0_scratch38 cc0_scratch39 v93 v3651 v3672 v3674 v3675 v3680 v3685 v3690 v3694 g ())
        (fun _ => inv1 c w v f7 f8 sc len la acc pj kn vn (k0_pay587 v3651 v3672 v3674 v3675 v3680 v3685 v3690 v3694) (k0_pay588 v93 v3651 v3672 v3674 v3675 v3680 v3685 v3690 v3694) (g.val + 1)) := by
  have hg : g.val < 7 := trips1 ▸ g.isLt
  unfold inv1
  have hr : 12 * (g.val + 1) = 12 * g.val + k0_t2_loop.trips := by rw [trips2]; omega
  have e27 : A27.view.set = Finset.univ := View.set_whole _
  have e28 : A28.view.set = Finset.univ := View.set_whole _
  have e7 : A7.view.set = Finset.univ := View.set_whole _
  have e8 : A8.view.set = Finset.univ := View.set_whole _
  rw [accG_succ, projG_succ, hr]
  by_cases h0 : g.val = 0
  · have c3 := (cond3_iff g).mpr h0
    have e0 : kvAt c f7 f8 g.val = Transfers.Batch countersEmb (c : Thread nD τ) (SemLoc.dma cc0_scratch31.sem) () 65536 (kvD c f7 f8) 2 0 := by unfold kvAt; exact if_pos h0
    have e1 : kvAt c f7 f8 (g.val + 1) = iprop(sm0 c (SemLoc.dma cc0_scratch31.sem) ∗ pt c A27 (landed c A7 A27 f7) ∗ pt c A28 (landed c A8 A28 f8) ∗ pt c A7 f7 ∗ pt c A8 f8) := by unfold kvAt; exact if_neg (by omega)
    have e2 : ∀ a co si, knG c co si a kn g.val = kn := fun a co si => if_pos h0
    have e3 : ∀ a, vnG c a vn g.val = vn := fun a => if_pos h0
    have e4 : ∀ a co si, knG c co si a kn (g.val + 1) = knS c co si a := fun a co si => if_neg (by omega)
    have e5 : ∀ a, vnG c a vn (g.val + 1) = vnS c a := fun a => if_neg (by omega)
    have e6 : accG c w la sc acc 1 = accS c w la sc g (accG c w la sc acc g.val) := by
      rw [← accG_succ]; congr 1; omega
    rw [e0, e1, e2, e3, e4, e5, e6]
    unfold k0_t1_body scr kvD
    iintro ⟨Hr, HB, Hsc, Hlen, Hla, Hacc, Hpj, Hkn, Hvn, ⟨⟨%f37, H37⟩, ⟨%f38, H38⟩, ⟨%f39, H39⟩, ⟨%f44, H44⟩, %f45, H45⟩, %W, HO⟩
    sl_exec
    ihave HB_dst0 := (pt_of_set c A27 e27 _) $$ HB_dst0
    ihave HB_dst1 := (pt_of_set c A28 e28 _) $$ HB_dst1
    ihave HB_src0 := (pt_of_set c A7 e7 _) $$ HB_src0
    ihave HB_src1 := (pt_of_set c A8 e8 _) $$ HB_src1
    sl_exec
    sl_step
    isplitl [Hr]; · iexact Hr
    isplitl [HB HB_dst0 HB_dst1 HB_src0 HB_src1]
    · isplitl [HB]; · iexact HB
      isplitl [HB_dst0]; · iexact HB_dst0
      isplitl [HB_dst1]; · iexact HB_dst1
      isplitl [HB_src0]; · iexact HB_src0
      iexact HB_src1
    isplitl [Hsc]; · iexact Hsc
    isplitl [Hlen]; · iexact Hlen
    isplitl [Hla]; · iexact Hla
    isplitl [Hacc]; · iexact Hacc
    isplitl [Hpj]; · iexact Hpj
    isplitl [Hkn]; · iexact Hkn
    isplitl [Hvn]; · iexact Hvn
    isplitl [H37 H38 H39 H44 H45]
    · isplitl [H37]; · iexists _; iexact H37
      isplitl [H38]; · iexists _; iexact H38
      isplitl [H39]; · iexists _; iexact H39
      isplitl [H44]; · iexists _; iexact H44
      iexists _; iexact H45
    iexists _; iexact HO
  · have c3 : ¬ k0_cond3 g = 1#1 := fun h => h0 ((cond3_iff g).mp h)
    have e1 : kvAt c f7 f8 (g.val + 1) = kvAt c f7 f8 g.val := by unfold kvAt; rw [if_neg h0, if_neg (by omega)]
    have e2 : ∀ a co si, knG c co si a kn (g.val + 1) = knG c co si a kn g.val := fun a co si => by unfold knG; rw [if_neg h0, if_neg (by omega)]
    have e3 : ∀ a, vnG c a vn (g.val + 1) = vnG c a vn g.val := fun a => by unfold vnG; rw [if_neg h0, if_neg (by omega)]
    rw [e1, e2, e3]
    unfold k0_t1_body scr
    iintro ⟨Hr, HB, Hsc, Hlen, Hla, Hacc, Hpj, Hkn, Hvn, ⟨⟨%f37, H37⟩, ⟨%f38, H38⟩, ⟨%f39, H39⟩, ⟨%f44, H44⟩, %f45, H45⟩, %W, HO⟩
    sl_exec
    sl_step
    isplitl [Hr]; · iexact Hr
    isplitl [HB]; · iexact HB
    isplitl [Hsc]; · iexact Hsc
    isplitl [Hlen]; · iexact Hlen
    isplitl [Hla]; · iexact Hla
    isplitl [Hacc]; · iexact Hacc
    isplitl [Hpj]; · iexact Hpj
    isplitl [Hkn]; · iexact Hkn
    isplitl [Hvn]; · iexact Hvn
    isplitl [H37 H38 H39 H44 H45]
    · isplitl [H37]; · iexists _; iexact H37
      isplitl [H38]; · iexists _; iexact H38
      isplitl [H39]; · iexists _; iexact H39
      isplitl [H44]; · iexists _; iexact H44
      iexists _; iexact H45
    iexists _; iexact HO

set_option warn.classDefReducibility false in
@[sl_loop] def loopInv1 (c : Dev nD) (w : BufOf (F := F) c A3) (v : BufOf (F := F) c A5) (f7 : BufOf (F := F) c A7) (f8 : BufOf (F := F) c A8) (sc : BufOf (F := F) c A25) (len : BufOf (F := F) c A30)
    (la : BufOf (F := F) c A32) (acc : BufOf (F := F) c A34) (pj : BufOf (F := F) c A36) (kn : BufOf (F := F) c A42) (vn : BufOf (F := F) c A43) (v93 v3651 v3672 v3674 v3675 v3680 v3685 v3690 v3694) :
    LoopInvTy_k0_t1 (F := F) Unit ℕ (Pipeline.UD sig nD τ) ℕ Variants.none c none Set.univ A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 hA34 A35 hA35 A36 hA36 A37 hA37 A38 hA38 A39 hA39 A40 hA40 A41 hA41 A42 hA42 A43 hA43 A44 hA44 A45 hA45 A46 hA46 A47 hA47 A48 hA48 A49 hA49 cc0_scratch29 cc0_scratch30 cc0_scratch31 cc0_scratch32 cc0_scratch33 cc0_scratch34 cc0_scratch35 cc0_scratch36 cc0_scratch37 cc0_scratch38 cc0_scratch39 v93 v3651 v3672 v3674 v3675 v3680 v3685 v3690 v3694 where
  inv n _ := inv1 c w v f7 f8 sc len la acc pj kn vn (k0_pay587 v3651 v3672 v3674 v3675 v3680 v3685 v3690 v3694) (k0_pay588 v93 v3651 v3672 v3674 v3675 v3680 v3685 v3690 v3694) n
  step g _ := trip1 c w v f7 f8 sc len la acc pj kn vn v93 v3651 v3672 v3674 v3675 v3680 v3685 v3690 v3694 g

end Cert.KernelIdeal.Hand
-- ==== Proof.IdealTrip6.lean ====
module

public import proofs.«01_k».proof.Proof.IdealTrip
public import proofs.«01_k».proof.Proof.Gen.KernelIdeal.Loops

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's resource algebra. -/
local notation "𝕄" => MT nD τ sig Unit (Elt F) ℕ (Pipeline.UD sig nD τ) ℕ

/-! ## One step of the second product -/

theorem off34_eq' : ∀ k : Fin k0_t6_loop.trips, k0_off34 k = woutO (k.val + 84) := by decide +kernel
theorem off31_eq' : ∀ k : Fin k0_t6_loop.trips, k0_cond5 k = 1#1 → k0_off31 k = woutO (k.val + 84 + 11) := by decide +kernel
theorem cond4_not : ∀ k : Fin k0_t6_loop.trips, ¬ k0_cond4 k = 1#1 := by decide +kernel
theorem cond5_iff : ∀ k : Fin k0_t6_loop.trips, k0_cond5 k = 1#1 ↔ k.val + 84 + 11 < 144 := by decide +kernel
theorem trips6 : k0_t6_loop.trips = 60 := by decide +kernel

theorem sub_access (o : Fin 3 → ℕ) (h : ∀ a, o a + S1x512x6144.size a ≤ S12x512x7936.size a) (o' : Fin 3 → ℕ) (h' : ∀ a, o' a + S1x512x6144.size a ≤ S12x512x7936.size a) (e : o = o') :
    (A21.access (Rect.unit (s := S12x512x7936) o S1x512x6144.size h)).set ⊆ (subM o' h').view.set := by
  subst e
  rw [sub_set]
  exact (A21.set_access_subset_setOn _).trans subset_rfl

/-- Past the last block a slot stays at rest. -/
theorem role_done (c : Dev nD) (w : BufOf (F := F) c A3) (v : BufOf (F := F) c A5) (s : Fin 12) (b : ℕ) (h : ¬ b < 144) : role c w v s b = free c w v s := by
  unfold role; rw [dif_neg (by omega), dif_neg h]

/-- A slot's two parts, whatever each holds, make the slot. -/
theorem slot_join (c : Dev nD) (o : Fin 3 → ℕ) (h : ∀ a, o a + S1x512x7936.size a ≤ S12x512x7936.size a) (h' : ∀ a, o a + S1x512x6144.size a ≤ S12x512x7936.size a) (f f' : BufOf (F := F) c A21) :
    iprop(((subM o h').view.loc (c : Thread nD τ) ↦[(subM o h').view.set]{fullShare} f)
      ∗ ((slotM o h).view.loc (c : Thread nD τ) ↦[(slotM o h).view.set \ (subM o h').view.set]{fullShare} f')) ⊢ iprop(∃ f, slotPt c o h f) := by
  have e1 : ((subM o h').view.loc (c : Thread nD τ) ↦[(subM o h').view.set]{fullShare} f : sProp 𝕄)
      = ((subM o h').view.loc (c : Thread nD τ) ↦[(subM o h').view.set]{fullShare} (fun i => if i ∈ (subM o h').view.set then f i else f' i)) :=
    pointsTo_congr fun i hi => (if_pos hi).symm
  have e2 : ((slotM o h).view.loc (c : Thread nD τ) ↦[(slotM o h).view.set \ (subM o h').view.set]{fullShare} f' : sProp 𝕄)
      = ((slotM o h).view.loc (c : Thread nD τ) ↦[(slotM o h).view.set \ (subM o h').view.set]{fullShare} (fun i => if i ∈ (subM o h').view.set then f i else f' i)) :=
    pointsTo_congr fun i hi => (if_neg (Finset.mem_sdiff.mp hi).2).symm
  rw [e1, e2]
  iintro H
  iexists _
  iapply (slot_split c o h h' _).2
  iexact H

/-- The block of the second weight the step multiplies by, read out of the ring slot it landed in. -/
def oblk (c : Dev nD) (v : BufOf (F := F) c A5) (k : Fin k0_t6_loop.trips) : Vec F S1x512x6144 .fp8e4m3 :=
  A21.view.readAt (Elt F) (Rect.unit (s := S12x512x7936) (k0_off36 k) S1x512x6144.size (k0_off36_inb k)).toLoadRect
    ((subM (k0_off33 k) (k0_off33_inb k)).view.writes (Elt F) (subM (k0_off33 k) (k0_off33_inb k)).view.junk
      [⟨Rect.whole S512x6144, ReadAs.same.apply ((woutM (k0_off34 k) (k0_off34_inb k)).view.read (Elt F) v)⟩])
/-- The second product's running sums after one step. -/
def acc2Next (c : Dev nD) (v : BufOf (F := F) c A5) (lb : BufOf (F := F) c A33) (k : Fin k0_t6_loop.trips) (acc : BufOf (F := F) c A35) : BufOf (F := F) c A35 :=
  A35.view.writes (Elt F) acc [⟨Rect.unit (s := S8x6144) ![0, 0] S8x6144.size inb_S8x6144_S8x6144_0_0,
    k0_pay605 (A33.view.readAt (Elt F) (Rect.unit (s := S60x16x512) (k0_off35 k) S1x16x512.size (k0_off35_inb k)).toLoadRect lb)
      (oblk c v k)
      (A35.view.readAt (Elt F) (Rect.unit (s := S8x6144) ![0, 0] S8x6144.size inb_S8x6144_S8x6144_0_0).toLoadRect acc)⟩]

theorem trip6 (c : Dev nD) (w : BufOf (F := F) c A3) (v : BufOf (F := F) c A5) (k : Fin k0_t6_loop.trips)
    (lb : BufOf (F := F) c A33) (acc : BufOf (F := F) c A35) (W : Waits sig Unit) :
    iprop(ringAt c w v (k.val + 84) ∗ pt c A33 lb ∗ pt c A35 acc ∗ owes (c : Thread nD τ) 0 W)
      ⊢ wp frame (wpE (defs₀ (F := F)) Variants.none c none) Set.univ
        (k0_t6_body A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 hA34 A35 hA35 A36 hA36 A37 hA37 A38 hA38 A39 hA39 A40 hA40 A41 hA41 A42 hA42 A43 hA43 A44 hA44 A45 hA45 A46 hA46 A47 hA47 A48 hA48 A49 hA49 cc0_scratch29 cc0_scratch30 cc0_scratch31 cc0_scratch32 cc0_scratch33 cc0_scratch34 cc0_scratch35 cc0_scratch36 cc0_scratch37 cc0_scratch38 cc0_scratch39 k ())
        (fun _ => iprop(ringAt c w v (k.val + 84 + 1) ∗ pt c A33 lb ∗ pt c A35 (acc2Next c v lb k acc) ∗ ∃ W', owes (c : Thread nD τ) 0 W')) := by
  have hk : k.val < 60 := trips6 ▸ k.isLt
  have hcell := sub_access (k0_off36 k) (k0_off36_inb k) (k0_off33 k) (k0_off33_inb k) ((k0_off36_eq k).trans (k0_off33_eq k).symm)
  have c4 := cond4_not k
  rw [ring_open, ring_close]
  have hb : ¬ k.val + 84 < 84 := by omega
  have hs : ∀ a, k0_off33 k a + S1x512x7936.size a ≤ S12x512x7936.size a := by
    rw [k0_off33_eq]; exact slot_inb (Fin.ofNat 12 (k.val + 84))
  rw [role_o_eq c w v _ _ hb (by omega) (hq := k0_off32_inb k) (h := hs) (h' := k0_off33_inb k) (hu := k0_off34_inb k) (k0_off32_eq k) (k0_off33_eq k) (off34_eq' k),
    free_eq c w v (Fin.ofNat 12 (k.val + 84)) (hq := k0_off32_inb k) (h := hs) (k0_off32_eq k) (k0_off33_eq k)]
  unfold k0_t6_body
  by_cases h1 : k.val + 84 + 11 < 144
  · have c5 := (cond5_iff k).mpr h1
    have hs6 : ∀ a, k0_off30 k a + S1x512x7936.size a ≤ S12x512x7936.size a := by
      rw [k0_off30_eq]; exact slot_inb (Fin.ofNat 12 (k.val + 84 + 11))
    rw [role_o_eq c w v _ (k.val + 84 + 11) (by omega) h1 (hq := k0_off29_inb k c5) (h := hs6) (h' := k0_off30_inb k c5) (hu := k0_off31_inb k c5) (k0_off29_eq k) (k0_off30_eq k) (off31_eq' k c5),
      free_eq c w v (Fin.ofNat 12 (k.val + 84 + 11)) (hq := k0_off29_inb k c5) (h := hs6) (k0_off29_eq k) (k0_off30_eq k)]
    iintro ⟨⟨⟨Hqa, ⟨%fa, Hsa⟩, Hwa, Hva⟩, ⟨⟨%f0, Hfb, Hrb, Hsrb⟩, Hvb⟩, Hrest⟩, Hla, Hacc, HO⟩
    ihave Hs2 := (slot_split c (k0_off30 k) hs6 (k0_off30_inb k c5) fa).1 $$ Hsa
    icases Hs2 with ⟨Hsa, Hsr⟩
    sl_exec
    sl_step
    isplitr [Hla Hacc HO]
    · isplitl [Hqa Hwa Hva Hsr]
      · isplitl [Hqa Hva Hsr]
        · iexists fa
          isplitl [Hqa]; · iexact Hqa
          isplitl [Hva]; · iexact Hva
          iexact Hsr
        iexact Hwa
      isplitr [Hrest]
      · isplitl [Hfb]; · iexact Hfb
        isplitl [Hfb_dst Hsrb]
        · iapply (slot_join c (k0_off33 k) hs (k0_off33_inb k) _ _)
          isplitl [Hfb_dst]; · iexact Hfb_dst
          iexact Hsrb
        isplitl [Hvb]; · iexact Hvb
        iexact Hrb
      iexact Hrest
    isplitl [Hla]; · iexact Hla
    isplitl [Hacc]; · iexact Hacc
    iexists _; iexact HO
  · have c5 : ¬ k0_cond5 k = 1#1 := fun h => h1 ((cond5_iff k).mp h)
    rw [role_done c w v _ _ h1]
    iintro ⟨⟨Ha, ⟨⟨%f0, Hfb, Hrb, Hsrb⟩, Hvb⟩, Hrest⟩, Hla, Hacc, HO⟩
    sl_exec
    sl_step
    isplitr [Hla Hacc HO]
    · isplitl [Ha]; · iexact Ha
      isplitr [Hrest]
      · isplitl [Hfb]; · iexact Hfb
        isplitl [Hfb_dst Hsrb]
        · iapply (slot_join c (k0_off33 k) hs (k0_off33_inb k) _ _)
          isplitl [Hfb_dst]; · iexact Hfb_dst
          iexact Hsrb
        isplitl [Hvb]; · iexact Hvb
        iexact Hrb
      iexact Hrest
    isplitl [Hla]; · iexact Hla
    isplitl [Hacc]; · iexact Hacc
    iexists _; iexact HO

/-- The second product's running sums before step `n`. -/
def acc2Rec (c : Dev nD) (v : BufOf (F := F) c A5) (lb : BufOf (F := F) c A33) (acc : BufOf (F := F) c A35) : ℕ → BufOf (F := F) c A35
  | 0 => acc
  | n + 1 => if h : n < k0_t6_loop.trips then acc2Next c v lb ⟨n, h⟩ (acc2Rec c v lb acc n) else acc2Rec c v lb acc n
theorem acc2Rec_succ (c : Dev nD) (v : BufOf (F := F) c A5) (lb : BufOf (F := F) c A33) (acc : BufOf (F := F) c A35) (k : Fin k0_t6_loop.trips) :
    acc2Rec c v lb acc (k.val + 1) = acc2Next c v lb k (acc2Rec c v lb acc k.val) := dif_pos k.isLt

set_option warn.classDefReducibility false in
@[sl_loop] def loopInv6 (c : Dev nD) (w : BufOf (F := F) c A3) (v : BufOf (F := F) c A5) (lb : BufOf (F := F) c A33) (acc : BufOf (F := F) c A35) :
    LoopInvTy_k0_t6 (F := F) Unit ℕ (Pipeline.UD sig nD τ) ℕ Variants.none c none Set.univ A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 hA34 A35 hA35 A36 hA36 A37 hA37 A38 hA38 A39 hA39 A40 hA40 A41 hA41 A42 hA42 A43 hA43 A44 hA44 A45 hA45 A46 hA46 A47 hA47 A48 hA48 A49 hA49 cc0_scratch29 cc0_scratch30 cc0_scratch31 cc0_scratch32 cc0_scratch33 cc0_scratch34 cc0_scratch35 cc0_scratch36 cc0_scratch37 cc0_scratch38 cc0_scratch39 where
  inv k _ := iprop(ringAt c w v (k + 84) ∗ pt c A33 lb ∗ pt c A35 (acc2Rec c v lb acc k) ∗ ∃ W, owes (c : Thread nD τ) 0 W)
  step k _ := by
    rw [acc2Rec_succ, Nat.add_right_comm]
    iintro ⟨Hr, Hla, Hacc, %W, HO⟩
    iapply (trip6 c w v k lb _ W)
    isplitl [Hr]; · iexact Hr
    isplitl [Hla]; · iexact Hla
    isplitl [Hacc]; · iexact Hacc
    iexact HO

end Cert.KernelIdeal.Hand
-- ==== Proof.IdealBody.lean ====
module

public import proofs.«01_k».proof.Proof.IdealTrip1
public import proofs.«01_k».proof.Proof.IdealTrip6

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's resource algebra. -/
local notation "𝕄" => MT nD τ sig Unit (Elt F) ℕ (Pipeline.UD sig nD τ) ℕ

/-! ## The whole body -/

theorem bigSep_fin12 (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-- Every ring slot at rest. -/
def ringFree (c : Dev nD) (w : BufOf (F := F) c A3) (v : BufOf (F := F) c A5) : sProp 𝕄 := bigSep Finset.univ (free c w v)

theorem ringAt_zero (c : Dev nD) (w : BufOf (F := F) c A3) (v : BufOf (F := F) c A5) :
    ringAt c w v (12 * 0) = iprop(role c w v 0 0 ∗ role c w v 1 1 ∗ role c w v 2 2 ∗ role c w v 3 3 ∗ role c w v 4 4 ∗ role c w v 5 5 ∗ role c w v 6 6
      ∗ role c w v 7 7 ∗ role c w v 8 8 ∗ role c w v 9 9 ∗ role c w v 10 10 ∗ free c w v 11) := by
  unfold ringAt; exact bigSep_fin12 _
theorem ringAt_end (c : Dev nD) (w : BufOf (F := F) c A3) (v : BufOf (F := F) c A5) : ringAt c w v 144 = ringFree c w v := by
  unfold ringAt ringFree
  refine BI.bigSep_congr fun s _ => ?_
  unfold slotAt
  split
  · rfl
  · exact role_done c w v s _ (by unfold nxt; omega)

/-- A whole copy over what the destination held. -/
abbrev landW {sp sp' : Space} {s : Shape} {e : EltTy} (c : Dev nD) (S : Memref sig .tc sp s e) (D : Memref sig .tc sp' s e) (f : BufOf (F := F) c S) (fd : BufOf (F := F) c D) : BufOf (F := F) c D :=
  View.write (Elt F) D.view fd (ReadAs.same.apply (S.view.read (Elt F) f)) Finset.univ
theorem landW_eq {sp sp' : Space} {s : Shape} {e : EltTy} (c : Dev nD) (S : Memref sig .tc sp s e) (D : Memref sig .tc sp' s e) (hD : D.IsWhole) (f : BufOf (F := F) c S) (fd : BufOf (F := F) c D) :
    landW c S D f fd = landed c S D f := by
  obtain ⟨b, rfl, rfl, rfl, h⟩ := hD; cases h
  funext y
  refine (congrFun (View.write_univ_eq_writes_whole (View.whole b) fd [] _) y).trans ?_
  exact View.read_writes_apply_eq (View.whole b) fd (View.whole b) (View.whole b).junk y _ ⟨_, List.mem_singleton_self _, by rw [Rect.set_whole]; exact Finset.mem_univ y⟩

/-- What the copies of the small operands deliver. -/
def inD (c : Dev nD) (f0 : BufOf (F := F) c A0) (f1 : BufOf (F := F) c A1) (f2 : BufOf (F := F) c A2) (f4 : BufOf (F := F) c A4) (f6 : BufOf (F := F) c A6) (f11 : BufOf (F := F) c A11) (f22 : BufOf (F := F) c A22) (f23 : BufOf (F := F) c A23) (f24 : BufOf (F := F) c A24) (f25 : BufOf (F := F) c A25) (f26 : BufOf (F := F) c A26) (f29 : BufOf (F := F) c A29) : Fin 6 → sProp 𝕄
  | 0 => iprop((A22.view.loc (c : Thread nD τ) ↦{fullShare} landW c A0 A22 f0 f22) ∗ (A0.view.loc (c : Thread nD τ) ↦[A0.view.set]{fullShare} f0))
  | 1 => iprop((A23.view.loc (c : Thread nD τ) ↦{fullShare} landW c A1 A23 f1 f23) ∗ (A1.view.loc (c : Thread nD τ) ↦[A1.view.set]{fullShare} f1))
  | 2 => iprop((A24.view.loc (c : Thread nD τ) ↦{fullShare} landW c A2 A24 f2 f24) ∗ (A2.view.loc (c : Thread nD τ) ↦[A2.view.set]{fullShare} f2))
  | 3 => iprop((A25.view.loc (c : Thread nD τ) ↦{fullShare} landW c A4 A25 f4 f25) ∗ (A4.view.loc (c : Thread nD τ) ↦[A4.view.set]{fullShare} f4))
  | 4 => iprop((A26.view.loc (c : Thread nD τ) ↦{fullShare} landW c A6 A26 f6 f26) ∗ (A6.view.loc (c : Thread nD τ) ↦[A6.view.set]{fullShare} f6))
  | 5 => iprop((A29.view.loc (c : Thread nD τ) ↦{fullShare} landW c A11 A29 f11 f29) ∗ (A11.view.loc (c : Thread nD τ) ↦[A11.view.set]{fullShare} f11))
instance inD_storable (c : Dev nD) (f0 : BufOf (F := F) c A0) (f1 : BufOf (F := F) c A1) (f2 : BufOf (F := F) c A2) (f4 : BufOf (F := F) c A4) (f6 : BufOf (F := F) c A6) (f11 : BufOf (F := F) c A11) (f22 : BufOf (F := F) c A22) (f23 : BufOf (F := F) c A23) (f24 : BufOf (F := F) c A24) (f25 : BufOf (F := F) c A25) (f26 : BufOf (F := F) c A26) (f29 : BufOf (F := F) c A29) (t : Fin 6) :
    Storable (upEmb : UEmb _ 𝕄) (inD c f0 f1 f2 f4 f6 f11 f22 f23 f24 f25 f26 f29 t) := by
  fin_cases t <;> simp only [inD] <;> infer_instance
/-- What the copies of the two word arrays deliver. -/
def wdD (c : Dev nD) (f9 : BufOf (F := F) c A9) (f10 : BufOf (F := F) c A10) (f30 : BufOf (F := F) c A30) (f31 : BufOf (F := F) c A31) : Fin 2 → sProp 𝕄
  | 0 => iprop((A30.view.loc (c : Thread nD τ) ↦{fullShare} landW c A9 A30 f9 f30) ∗ (A9.view.loc (c : Thread nD τ) ↦[A9.view.set]{fullShare} f9))
  | 1 => iprop((A31.view.loc (c : Thread nD τ) ↦{fullShare} landW c A10 A31 f10 f31) ∗ (A10.view.loc (c : Thread nD τ) ↦[A10.view.set]{fullShare} f10))
instance wdD_storable (c : Dev nD) (f9 : BufOf (F := F) c A9) (f10 : BufOf (F := F) c A10) (f30 : BufOf (F := F) c A30) (f31 : BufOf (F := F) c A31) (t : Fin 2) : Storable (upEmb : UEmb _ 𝕄) (wdD c f9 f10 f30 f31 t) := by
  fin_cases t <;> simp only [wdD] <;> infer_instance

/-- What the copies of the two caches deliver. -/
def kvDW (c : Dev nD) (f7 : BufOf (F := F) c A7) (f8 : BufOf (F := F) c A8) (f27 : BufOf (F := F) c A27) (f28 : BufOf (F := F) c A28) : Fin 2 → sProp 𝕄
  | 0 => iprop((A27.view.loc (c : Thread nD τ) ↦{fullShare} landW c A7 A27 f7 f27) ∗ (A7.view.loc (c : Thread nD τ) ↦[A7.view.set]{fullShare} f7))
  | 1 => iprop((A28.view.loc (c : Thread nD τ) ↦{fullShare} landW c A8 A28 f8 f28) ∗ (A8.view.loc (c : Thread nD τ) ↦[A8.view.set]{fullShare} f8))
instance kvDW_storable (c : Dev nD) (f7 : BufOf (F := F) c A7) (f8 : BufOf (F := F) c A8) (f27 : BufOf (F := F) c A27) (f28 : BufOf (F := F) c A28) (t : Fin 2) : Storable (upEmb : UEmb _ 𝕄) (kvDW c f7 f8 f27 f28 t) := by
  fin_cases t <;> simp only [kvDW] <;> infer_instance
theorem kvDW_eq (c : Dev nD) (f7 : BufOf (F := F) c A7) (f8 : BufOf (F := F) c A8) (f27 : BufOf (F := F) c A27) (f28 : BufOf (F := F) c A28) : kvDW c f7 f8 f27 f28 = kvD c f7 f8 := by
  have e27 : A27.view.set = Finset.univ := View.set_whole _
  have e28 : A28.view.set = Finset.univ := View.set_whole _
  funext t
  fin_cases t
  · show iprop(_ ∗ _) = iprop(_ ∗ _)
    rw [landW_eq c A7 A27 hA27, e27]
  · show iprop(_ ∗ _) = iprop(_ ∗ _)
    rw [landW_eq c A8 A28 hA28, e28]

/-- What a whole copy of a buffer held at some contents delivers. -/
abbrev exD {sp sp' : Space} {s : Shape} {e : EltTy} (c : Dev nD) (S : Memref sig .tc sp s e) (D : Memref sig .tc sp' s e) (fd : BufOf (F := F) c D) : sProp 𝕄 :=
  iprop(∃ f, (D.view.loc (c : Thread nD τ) ↦{fullShare} landW c S D f fd) ∗ (S.view.loc (c : Thread nD τ) ↦[S.view.set]{fullShare} f))
theorem exD_storable {sp sp' : Space} {s : Shape} {e : EltTy} (c : Dev nD) (S : Memref sig .tc sp s e) (D : Memref sig .tc sp' s e) (fd : BufOf (F := F) c D) :
    Storable (upEmb : UEmb _ 𝕄) (exD c S D fd) := by unfold exD; infer_instance
/-- The same, sealed. -/
@[irreducible] def exI (n : ℕ) {sp sp' : Space} {s : Shape} {e : EltTy} (c : Dev nD) (S : Memref sig .tc sp s e) (D : Memref sig .tc sp' s e) (fd : BufOf (F := F) c D) : sProp 𝕄 := exD c S D fd
theorem exI_storable (n : ℕ) {sp sp' : Space} {s : Shape} {e : EltTy} (c : Dev nD) (S : Memref sig .tc sp s e) (D : Memref sig .tc sp' s e) (fd : BufOf (F := F) c D) :
    Storable (upEmb : UEmb _ 𝕄) (exI n c S D fd) := by unfold exI; exact exD_storable c S D fd
theorem exI_open (n : ℕ) {sp sp' : Space} {s : Shape} {e : EltTy} (c : Dev nD) (S : Memref sig .tc sp s e) (D : Memref sig .tc sp' s e) (fd : BufOf (F := F) c D) : exI n c S D fd ⊢ exD c S D fd := by
  unfold exI; exact BIBase.Entails.rfl
theorem exI_of (n : ℕ) {sp sp' : Space} {s : Shape} {e : EltTy} (c : Dev nD) (S : Memref sig .tc sp s e) (D : Memref sig .tc sp' s e) (f : BufOf (F := F) c S) (fd : BufOf (F := F) c D) :
    iprop((D.view.loc (c : Thread nD τ) ↦{fullShare} landW c S D f fd) ∗ (S.view.loc (c : Thread nD τ) ↦[S.view.set]{fullShare} f)) ⊢ exI n c S D fd := by
  unfold exI exD; iintro H; iexists f; iexact H

/-- What the copies of the projection, the attention output and the result deliver; the last two at some contents. -/
def outD (c : Dev nD) (pj : BufOf (F := F) c A36) (f12 : BufOf (F := F) c A12) (f13 : BufOf (F := F) c A13) (f14 : BufOf (F := F) c A14) : Fin 3 → sProp 𝕄
  | 0 => iprop((A13.view.loc (c : Thread nD τ) ↦{fullShare} landW c A36 A13 pj f13) ∗ (A36.view.loc (c : Thread nD τ) ↦[A36.view.set]{fullShare} pj))
  | 1 => exI 1 c A39 A14 f14
  | 2 => exI 2 c A48 A12 f12
instance outD_storable (c : Dev nD) (pj : BufOf (F := F) c A36) (f12 : BufOf (F := F) c A12) (f13 : BufOf (F := F) c A13) (f14 : BufOf (F := F) c A14) (t : Fin 3) : Storable (upEmb : UEmb _ 𝕄) (outD c pj f12 f13 f14 t) := by
  fin_cases t
  · simp only [outD]; infer_instance
  · exact exI_storable 1 c A39 A14 f14
  · exact exI_storable 2 c A48 A12 f12

/-- A resource set aside. -/
@[irreducible] def held (P : sProp 𝕄) : sProp 𝕄 := P
theorem held_eq (P : sProp 𝕄) : held P = P := by unfold held; rfl

theorem role_of (c : Dev nD) (w : BufOf (F := F) c A3) (v : BufOf (F := F) c A5) (s : Fin 12) (b : ℕ) (hb : b < 84) (f0 : BufOf (F := F) c A21) {q hq o h u hu}
    (e1 : q = ![s.val]) (e2 : o = ![s.val, 0, 0]) (e3 : u = winO b) :
    iprop(flW c w q hq o h u hu s f0 ∗ tk c A5 s v) ⊢ role c w v s b := by
  rw [role_w_eq c w v s b hb (hq := hq) (h := h) (hu := hu) e1 e2 e3]
  iintro ⟨H, Hv⟩
  isplitl [H]
  · iexists f0; iexact H
  iexact Hv

theorem kvAt_zero (c : Dev nD) (f7 : BufOf (F := F) c A7) (f8 : BufOf (F := F) c A8) (f27 : BufOf (F := F) c A27) (f28 : BufOf (F := F) c A28) :
    kvAt c f7 f8 0 = Transfers.Batch countersEmb (c : Thread nD τ) (SemLoc.dma cc0_scratch31.sem) () 65536 (kvDW c f7 f8 f27 f28) 2 0 := by
  rw [kvDW_eq]; unfold kvAt; exact if_pos rfl
theorem kvAt_end (c : Dev nD) (f7 : BufOf (F := F) c A7) (f8 : BufOf (F := F) c A8) :
    kvAt c f7 f8 (Scf.trips k0_t1_loop.lb k0_t1_loop.ub k0_t1_loop.st) ⊢ iprop(sm0 c (SemLoc.dma cc0_scratch31.sem) ∗ pt c A27 (landed c A7 A27 f7) ∗ pt c A28 (landed c A8 A28 f8) ∗ pt c A7 f7 ∗ pt c A8 f8) := by
  unfold kvAt; rw [if_neg (by rw [show (Scf.trips k0_t1_loop.lb k0_t1_loop.ub k0_t1_loop.st) = 7 from trips1]; omega)]
theorem ring_mid (c : Dev nD) (w : BufOf (F := F) c A3) (v : BufOf (F := F) c A5) : ringAt c w v (12 * (Scf.trips k0_t1_loop.lb k0_t1_loop.ub k0_t1_loop.st)) ⊢ ringAt c w v (0 + 84) := by
  rw [show (Scf.trips k0_t1_loop.lb k0_t1_loop.ub k0_t1_loop.st) = 7 from trips1]
theorem ring_last (c : Dev nD) (w : BufOf (F := F) c A3) (v : BufOf (F := F) c A5) : ringAt c w v ((Scf.trips k0_t6_loop.lb k0_t6_loop.ub k0_t6_loop.st) + 84) ⊢ ringFree c w v := by
  rw [show (Scf.trips k0_t6_loop.lb k0_t6_loop.ub k0_t6_loop.st) = 60 from trips6, ← ringAt_end]

theorem out_alloc (c : Dev nD) {w : BufOf (F := F) c A3} {la : BufOf (F := F) c A32} {sc : BufOf (F := F) c A25} (f34 : BufOf (F := F) c A34) (f36 : BufOf (F := F) c A36)
    (f12 : BufOf (F := F) c A12) (f13 : BufOf (F := F) c A13) (f14 : BufOf (F := F) c A14) :
    iprop(held (sm0 c (SemLoc.dma cc0_scratch32.sem)) ∗ pt c A36 (projG c w la sc f34 f36 (Scf.trips k0_t1_loop.lb k0_t1_loop.ub k0_t1_loop.st)))
      ⊢ |={Set.univ}=> iprop(Transfers.MixedBatch countersEmb (c : Thread nD τ) (SemLoc.dma cc0_scratch32.sem) () ![27776, 6144, 3072] (outD c (projG c w la sc f34 f36 (Scf.trips k0_t1_loop.lb k0_t1_loop.ub k0_t1_loop.st)) f12 f13 f14) 0 0
        ∗ pt c A36 (projG c w la sc f34 f36 (Scf.trips k0_t1_loop.lb k0_t1_loop.ub k0_t1_loop.st))) := by
  rw [held_eq]
  iintro ⟨Hq, H⟩
  imod (Transfers.mixedBatch_alloc' (Lvl := ℕ) (countersEmb (U := Pipeline.UD sig nD τ)) (c : Thread nD τ) () ![27776, 6144, 3072] (outD c (projG c w la sc f34 f36 (Scf.trips k0_t1_loop.lb k0_t1_loop.ub k0_t1_loop.st)) f12 f13 f14) (sm := SemLoc.dma cc0_scratch32.sem) (E := Set.univ)) $$ Hq with HB
  imodintro
  isplitl [HB]; · iexact HB
  iexact H

/-- What the body starts from: the operands, the results, the scratch buffers, every cell at zero. -/
def bodyPre (c : Dev nD) (f0 : BufOf (F := F) c A0) (f1 : BufOf (F := F) c A1) (f2 : BufOf (F := F) c A2) (f3 : BufOf (F := F) c A3) (f4 : BufOf (F := F) c A4) (f5 : BufOf (F := F) c A5) (f6 : BufOf (F := F) c A6) (f7 : BufOf (F := F) c A7) (f8 : BufOf (F := F) c A8) (f9 : BufOf (F := F) c A9) (f10 : BufOf (F := F) c A10) (f11 : BufOf (F := F) c A11) (f12 : BufOf (F := F) c A12) (f13 : BufOf (F := F) c A13) (f14 : BufOf (F := F) c A14) (f15 : BufOf (F := F) c A15) (f16 : BufOf (F := F) c A16) (f17 : BufOf (F := F) c A17) (f18 : BufOf (F := F) c A18) (f19 : BufOf (F := F) c A19) (f20 : BufOf (F := F) c A20) (f22 : BufOf (F := F) c A22) (f23 : BufOf (F := F) c A23) (f24 : BufOf (F := F) c A24) (f25 : BufOf (F := F) c A25) (f26 : BufOf (F := F) c A26) (f27 : BufOf (F := F) c A27) (f28 : BufOf (F := F) c A28) (f29 : BufOf (F := F) c A29) (f30 : BufOf (F := F) c A30) (f31 : BufOf (F := F) c A31) (f32 : BufOf (F := F) c A32) (f33 : BufOf (F := F) c A33) (f34 : BufOf (F := F) c A34) (f35 : BufOf (F := F) c A35) (f36 : BufOf (F := F) c A36) (f37 : BufOf (F := F) c A37) (f38 : BufOf (F := F) c A38) (f39 : BufOf (F := F) c A39) (f40 : BufOf (F := F) c A40) (f41 : BufOf (F := F) c A41) (f42 : BufOf (F := F) c A42) (f43 : BufOf (F := F) c A43) (f44 : BufOf (F := F) c A44) (f45 : BufOf (F := F) c A45) (f46 : BufOf (F := F) c A46) (f47 : BufOf (F := F) c A47) (f48 : BufOf (F := F) c A48) (f49 : BufOf (F := F) c A49) : sProp 𝕄 :=
  iprop(ringFree c f3 f5 ∗ pt c A0 f0 ∗ pt c A1 f1 ∗ pt c A2 f2 ∗ pt c A4 f4 ∗ pt c A6 f6 ∗ pt c A7 f7 ∗ pt c A8 f8 ∗ pt c A9 f9 ∗ pt c A10 f10 ∗ pt c A11 f11 ∗ pt c A12 f12 ∗ pt c A13 f13 ∗ pt c A14 f14 ∗ pt c A15 f15 ∗ pt c A16 f16 ∗ pt c A17 f17 ∗ pt c A18 f18 ∗ pt c A19 f19 ∗ pt c A20 f20 ∗ pt c A22 f22 ∗ pt c A23 f23 ∗ pt c A24 f24 ∗ pt c A25 f25 ∗ pt c A26 f26 ∗ pt c A27 f27 ∗ pt c A28 f28 ∗ pt c A29 f29 ∗ pt c A30 f30 ∗ pt c A31 f31 ∗ pt c A32 f32 ∗ pt c A33 f33 ∗ pt c A34 f34 ∗ pt c A35 f35 ∗ pt c A36 f36 ∗ pt c A37 f37 ∗ pt c A38 f38 ∗ pt c A39 f39 ∗ pt c A40 f40 ∗ pt c A41 f41 ∗ pt c A42 f42 ∗ pt c A43 f43 ∗ pt c A44 f44 ∗ pt c A45 f45 ∗ pt c A46 f46 ∗ pt c A47 f47 ∗ pt c A48 f48 ∗ pt c A49 f49 ∗ sm0 c (SemLoc.dma cc0_scratch30.sem) ∗ sm0 c (SemLoc.dma cc0_scratch31.sem) ∗ sm0 c (SemLoc.dma cc0_scratch32.sem) ∗ sm0 c (SemLoc.dma cc0_scratch33.sem) ∗ sm0 c (SemLoc.dma cc0_scratch34.sem) ∗ sm0 c (SemLoc.dma cc0_scratch35.sem) ∗ sm0 c (SemLoc.dma cc0_scratch36.sem) ∗ sm0 c (SemLoc.dma cc0_scratch37.sem) ∗ sm0 c (SemLoc.dma cc0_scratch38.sem) ∗ sm0 c (SemLoc.dma cc0_scratch39.sem) ∗ ∃ W, owes (c : Thread nD τ) 0 W)
/-- What the body ends with: the operands and cells as at the start; the projection, the codes and scales of the
    normalised rows, the new keys and values at their contents (`la` the codes as the first product reads them, `co`
    and `si` the rotation); the rest at some contents. -/
def bodyPost (c : Dev nD) (f0 : BufOf (F := F) c A0) (f1 : BufOf (F := F) c A1) (f2 : BufOf (F := F) c A2) (f3 : BufOf (F := F) c A3) (f4 : BufOf (F := F) c A4) (f5 : BufOf (F := F) c A5) (f6 : BufOf (F := F) c A6) (f7 : BufOf (F := F) c A7) (f8 : BufOf (F := F) c A8) (f9 : BufOf (F := F) c A9) (f10 : BufOf (F := F) c A10) (f11 : BufOf (F := F) c A11) (f12 : BufOf (F := F) c A12) (f13 : BufOf (F := F) c A13) (f14 : BufOf (F := F) c A14) (f15 : BufOf (F := F) c A15) (f16 : BufOf (F := F) c A16) (f17 : BufOf (F := F) c A17) (f18 : BufOf (F := F) c A18) (f19 : BufOf (F := F) c A19) (f20 : BufOf (F := F) c A20) (f22 : BufOf (F := F) c A22) (f23 : BufOf (F := F) c A23) (f24 : BufOf (F := F) c A24) (f25 : BufOf (F := F) c A25) (f26 : BufOf (F := F) c A26) (f27 : BufOf (F := F) c A27) (f28 : BufOf (F := F) c A28) (f29 : BufOf (F := F) c A29) (f30 : BufOf (F := F) c A30) (f31 : BufOf (F := F) c A31) (f32 : BufOf (F := F) c A32) (f33 : BufOf (F := F) c A33) (f34 : BufOf (F := F) c A34) (f35 : BufOf (F := F) c A35) (f36 : BufOf (F := F) c A36) (f37 : BufOf (F := F) c A37) (f38 : BufOf (F := F) c A38) (f39 : BufOf (F := F) c A39) (f40 : BufOf (F := F) c A40) (f41 : BufOf (F := F) c A41) (f42 : BufOf (F := F) c A42) (f43 : BufOf (F := F) c A43) (f44 : BufOf (F := F) c A44) (f45 : BufOf (F := F) c A45) (f46 : BufOf (F := F) c A46) (f47 : BufOf (F := F) c A47) (f48 : BufOf (F := F) c A48) (f49 : BufOf (F := F) c A49) (la : BufOf (F := F) c A32) (hc : BufOf (F := F) c A40) (hs : BufOf (F := F) c A41) (co si : FVec F S8x128 .f32) : sProp 𝕄 :=
  iprop(ringFree c f3 f5 ∗ pt c A0 f0 ∗ pt c A1 f1 ∗ pt c A2 f2 ∗ pt c A4 f4 ∗ pt c A6 f6 ∗ pt c A7 f7 ∗ pt c A8 f8 ∗ pt c A9 f9 ∗ pt c A10 f10 ∗ pt c A11 f11 ∗ pt c A32 la ∗ pt c A40 hc ∗ pt c A41 hs ∗ pt c A42 (knG c co si (accG c f3 la (landW c A4 A25 f4 f25) f34 1) f42 (Scf.trips k0_t1_loop.lb k0_t1_loop.ub k0_t1_loop.st)) ∗ pt c A13 (landW c A36 A13 (projG c f3 la (landW c A4 A25 f4 f25) f34 f36 (Scf.trips k0_t1_loop.lb k0_t1_loop.ub k0_t1_loop.st)) f13) ∗ pt c A15 (landW c A40 A15 hc f15) ∗ pt c A16 (landW c A41 A16 hs f16) ∗ pt c A17 (landW c A42 A17 (knG c co si (accG c f3 la (landW c A4 A25 f4 f25) f34 1) f42 (Scf.trips k0_t1_loop.lb k0_t1_loop.ub k0_t1_loop.st)) f17) ∗ pt c A18 (landW c A43 A18 (vnG c (accG c f3 la (landW c A4 A25 f4 f25) f34 1) f43 (Scf.trips k0_t1_loop.lb k0_t1_loop.ub k0_t1_loop.st)) f18) ∗ (∃ f, pt c A12 f) ∗ (∃ f, pt c A14 f) ∗ (∃ f, pt c A19 f) ∗ (∃ f, pt c A20 f) ∗ (∃ f, pt c A22 f) ∗ (∃ f, pt c A23 f) ∗ (∃ f, pt c A24 f) ∗ (∃ f, pt c A25 f) ∗ (∃ f, pt c A26 f) ∗ (∃ f, pt c A27 f) ∗ (∃ f, pt c A28 f) ∗ (∃ f, pt c A29 f) ∗ (∃ f, pt c A30 f) ∗ (∃ f, pt c A31 f) ∗ (∃ f, pt c A33 f) ∗ (∃ f, pt c A34 f) ∗ (∃ f, pt c A35 f) ∗ (∃ f, pt c A36 f) ∗ (∃ f, pt c A37 f) ∗ (∃ f, pt c A38 f) ∗ (∃ f, pt c A39 f) ∗ (∃ f, pt c A43 f) ∗ (∃ f, pt c A44 f) ∗ (∃ f, pt c A45 f) ∗ (∃ f, pt c A46 f) ∗ (∃ f, pt c A47 f) ∗ (∃ f, pt c A48 f) ∗ (∃ f, pt c A49 f) ∗ sm0 c (SemLoc.dma cc0_scratch30.sem) ∗ sm0 c (SemLoc.dma cc0_scratch31.sem) ∗ sm0 c (SemLoc.dma cc0_scratch32.sem) ∗ sm0 c (SemLoc.dma cc0_scratch33.sem) ∗ sm0 c (SemLoc.dma cc0_scratch34.sem) ∗ sm0 c (SemLoc.dma cc0_scratch35.sem) ∗ sm0 c (SemLoc.dma cc0_scratch36.sem) ∗ sm0 c (SemLoc.dma cc0_scratch37.sem) ∗ sm0 c (SemLoc.dma cc0_scratch38.sem) ∗ sm0 c (SemLoc.dma cc0_scratch39.sem) ∗ ∃ W, owes (c : Thread nD τ) 0 W)

set_option maxHeartbeats 0 in
set_option maxRecDepth 8000 in
/-- The body run from its start; the contents it ends with are found by the run. -/
def bodyRun (c : Dev nD) (f0 : BufOf (F := F) c A0) (f1 : BufOf (F := F) c A1) (f2 : BufOf (F := F) c A2) (f3 : BufOf (F := F) c A3) (f4 : BufOf (F := F) c A4) (f5 : BufOf (F := F) c A5) (f6 : BufOf (F := F) c A6) (f7 : BufOf (F := F) c A7) (f8 : BufOf (F := F) c A8) (f9 : BufOf (F := F) c A9) (f10 : BufOf (F := F) c A10) (f11 : BufOf (F := F) c A11) (f12 : BufOf (F := F) c A12) (f13 : BufOf (F := F) c A13) (f14 : BufOf (F := F) c A14) (f15 : BufOf (F := F) c A15) (f16 : BufOf (F := F) c A16) (f17 : BufOf (F := F) c A17) (f18 : BufOf (F := F) c A18) (f19 : BufOf (F := F) c A19) (f20 : BufOf (F := F) c A20) (f22 : BufOf (F := F) c A22) (f23 : BufOf (F := F) c A23) (f24 : BufOf (F := F) c A24) (f25 : BufOf (F := F) c A25) (f26 : BufOf (F := F) c A26) (f27 : BufOf (F := F) c A27) (f28 : BufOf (F := F) c A28) (f29 : BufOf (F := F) c A29) (f30 : BufOf (F := F) c A30) (f31 : BufOf (F := F) c A31) (f32 : BufOf (F := F) c A32) (f33 : BufOf (F := F) c A33) (f34 : BufOf (F := F) c A34) (f35 : BufOf (F := F) c A35) (f36 : BufOf (F := F) c A36) (f37 : BufOf (F := F) c A37) (f38 : BufOf (F := F) c A38) (f39 : BufOf (F := F) c A39) (f40 : BufOf (F := F) c A40) (f41 : BufOf (F := F) c A41) (f42 : BufOf (F := F) c A42) (f43 : BufOf (F := F) c A43) (f44 : BufOf (F := F) c A44) (f45 : BufOf (F := F) c A45) (f46 : BufOf (F := F) c A46) (f47 : BufOf (F := F) c A47) (f48 : BufOf (F := F) c A48) (f49 : BufOf (F := F) c A49) :
    { o : BufOf (F := F) c A32 × BufOf (F := F) c A40 × BufOf (F := F) c A41 × FVec F S8x128 .f32 × FVec F S8x128 .f32 //
      bodyPre c f0 f1 f2 f3 f4 f5 f6 f7 f8 f9 f10 f11 f12 f13 f14 f15 f16 f17 f18 f19 f20 f22 f23 f24 f25 f26 f27 f28 f29 f30 f31 f32 f33 f34 f35 f36 f37 f38 f39 f40 f41 f42 f43 f44 f45 f46 f47 f48 f49
      ⊢ wp frame (wpE (defs₀ (F := F)) Variants.none c none) Set.univ (cc0_decode_block A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 hA34 A35 hA35 A36 hA36 A37 hA37 A38 hA38 A39 hA39 A40 hA40 A41 hA41 A42 hA42 A43 hA43 A44 hA44 A45 hA45 A46 hA46 A47 hA47 A48 hA48 A49 hA49 cc0_scratch29 cc0_scratch30 cc0_scratch31 cc0_scratch32 cc0_scratch33 cc0_scratch34 cc0_scratch35 cc0_scratch36 cc0_scratch37 cc0_scratch38 cc0_scratch39)
        (fun _ => bodyPost c f0 f1 f2 f3 f4 f5 f6 f7 f8 f9 f10 f11 f12 f13 f14 f15 f16 f17 f18 f19 f20 f22 f23 f24 f25 f26 f27 f28 f29 f30 f31 f32 f33 f34 f35 f36 f37 f38 f39 f40 f41 f42 f43 f44 f45 f46 f47 f48 f49 o.1 o.2.1 o.2.2.1 o.2.2.2.1 o.2.2.2.2) } := by
  refine ⟨⟨?la, ?hc, ?hs, ?co, ?si⟩, ?run⟩
  case run =>
  dsimp only
  have e36 : A36.view.set = Finset.univ := View.set_whole _
  have e39 : A39.view.set = Finset.univ := View.set_whole _
  have e48 : A48.view.set = Finset.univ := View.set_whole _
  unfold bodyPre
  have e7 : A7.view.set = Finset.univ := View.set_whole _
  have e8 : A8.view.set = Finset.univ := View.set_whole _
  unfold ringFree
  rw [bigSep_fin12]
  unfold free
  iintro ⟨⟨⟨Hc0, ⟨%s0, Hs0⟩, Hw0, Hv0⟩, ⟨Hc1, ⟨%s1, Hs1⟩, Hw1, Hv1⟩, ⟨Hc2, ⟨%s2, Hs2⟩, Hw2, Hv2⟩, ⟨Hc3, ⟨%s3, Hs3⟩, Hw3, Hv3⟩, ⟨Hc4, ⟨%s4, Hs4⟩, Hw4, Hv4⟩, ⟨Hc5, ⟨%s5, Hs5⟩, Hw5, Hv5⟩, ⟨Hc6, ⟨%s6, Hs6⟩, Hw6, Hv6⟩, ⟨Hc7, ⟨%s7, Hs7⟩, Hw7, Hv7⟩, ⟨Hc8, ⟨%s8, Hs8⟩, Hw8, Hv8⟩, ⟨Hc9, ⟨%s9, Hs9⟩, Hw9, Hv9⟩, ⟨Hc10, ⟨%s10, Hs10⟩, Hw10, Hv10⟩, ⟨Hc11, ⟨%s11, Hs11⟩, Hw11, Hv11⟩⟩, H0, H1, H2, H4, H6, H7, H8, H9, H10, H11, H12, H13, H14, H15, H16, H17, H18, H19, H20, H22, H23, H24, H25, H26, H27, H28, H29, H30, H31, H32, H33, H34, H35, H36, H37, H38, H39, H40, H41, H42, H43, H44, H45, H46, H47, H48, H49, Hq30, Hq31, Hq32, Hq33, Hq34, Hq35, Hq36, Hq37, Hq38, Hq39, %W, HO⟩
  imod (Transfers.mixedBatch_alloc' (Lvl := ℕ) (countersEmb (U := Pipeline.UD sig nD τ)) (c : Thread nD τ) () ![3072, 768, 768, 6944, 768, 16] (inD c f0 f1 f2 f4 f6 f11 f22 f23 f24 f25 f26 f29) (sm := SemLoc.dma cc0_scratch30.sem) (E := Set.univ)) $$ Hq30 with HB
  imod (Transfers.batch_alloc' (Lvl := ℕ) (countersEmb (U := Pipeline.UD sig nD τ)) (c : Thread nD τ) () 16 (wdD c f9 f10 f30 f31) (sm := SemLoc.dma cc0_scratch33.sem) (E := Set.univ)) $$ Hq33 with HWB
  imod (Transfers.batch_alloc' (Lvl := ℕ) (countersEmb (U := Pipeline.UD sig nD τ)) (c : Thread nD τ) () 65536 (kvDW c f7 f8 f27 f28) (sm := SemLoc.dma cc0_scratch31.sem) (E := Set.univ)) $$ Hq31 with HKB
  unfold inD wdD kvDW
  sl_exec
  ihave Hr0 := (role_of c f3 f5 0 0 (by decide) s0 (hq := cell_inb 0) (h := slot_inb 0) (hu := win_inb 0 (by decide)) rfl rfl rfl) $$ [Hc0 Hw0 Hv0]
  · isplitl [Hc0 Hw0]
    · isplitl [Hc0]; · iexact Hc0
      iexact Hw0
    iexact Hv0
  ihave Hr1 := (role_of c f3 f5 1 1 (by decide) s1 (hq := cell_inb 1) (h := slot_inb 1) (hu := win_inb 1 (by decide)) rfl rfl rfl) $$ [Hc1 Hw1 Hv1]
  · isplitl [Hc1 Hw1]
    · isplitl [Hc1]; · iexact Hc1
      iexact Hw1
    iexact Hv1
  ihave Hr2 := (role_of c f3 f5 2 2 (by decide) s2 (hq := cell_inb 2) (h := slot_inb 2) (hu := win_inb 2 (by decide)) rfl rfl rfl) $$ [Hc2 Hw2 Hv2]
  · isplitl [Hc2 Hw2]
    · isplitl [Hc2]; · iexact Hc2
      iexact Hw2
    iexact Hv2
  ihave Hr3 := (role_of c f3 f5 3 3 (by decide) s3 (hq := cell_inb 3) (h := slot_inb 3) (hu := win_inb 3 (by decide)) rfl rfl rfl) $$ [Hc3 Hw3 Hv3]
  · isplitl [Hc3 Hw3]
    · isplitl [Hc3]; · iexact Hc3
      iexact Hw3
    iexact Hv3
  ihave Hr4 := (role_of c f3 f5 4 4 (by decide) s4 (hq := cell_inb 4) (h := slot_inb 4) (hu := win_inb 4 (by decide)) rfl rfl rfl) $$ [Hc4 Hw4 Hv4]
  · isplitl [Hc4 Hw4]
    · isplitl [Hc4]; · iexact Hc4
      iexact Hw4
    iexact Hv4
  ihave Hr5 := (role_of c f3 f5 5 5 (by decide) s5 (hq := cell_inb 5) (h := slot_inb 5) (hu := win_inb 5 (by decide)) rfl rfl rfl) $$ [Hc5 Hw5 Hv5]
  · isplitl [Hc5 Hw5]
    · isplitl [Hc5]; · iexact Hc5
      iexact Hw5
    iexact Hv5
  ihave Hr6 := (role_of c f3 f5 6 6 (by decide) s6 (hq := cell_inb 6) (h := slot_inb 6) (hu := win_inb 6 (by decide)) rfl rfl rfl) $$ [Hc6 Hw6 Hv6]
  · isplitl [Hc6 Hw6]
    · isplitl [Hc6]; · iexact Hc6
      iexact Hw6
    iexact Hv6
  ihave Hr7 := (role_of c f3 f5 7 7 (by decide) s7 (hq := cell_inb 7) (h := slot_inb 7) (hu := win_inb 7 (by decide)) rfl rfl rfl) $$ [Hc7 Hw7 Hv7]
  · isplitl [Hc7 Hw7]
    · isplitl [Hc7]; · iexact Hc7
      iexact Hw7
    iexact Hv7
  ihave Hr8 := (role_of c f3 f5 8 8 (by decide) s8 (hq := cell_inb 8) (h := slot_inb 8) (hu := win_inb 8 (by decide)) rfl rfl rfl) $$ [Hc8 Hw8 Hv8]
  · isplitl [Hc8 Hw8]
    · isplitl [Hc8]; · iexact Hc8
      iexact Hw8
    iexact Hv8
  ihave Hr9 := (role_of c f3 f5 9 9 (by decide) s9 (hq := cell_inb 9) (h := slot_inb 9) (hu := win_inb 9 (by decide)) rfl rfl rfl) $$ [Hc9 Hw9 Hv9]
  · isplitl [Hc9 Hw9]
    · isplitl [Hc9]; · iexact Hc9
      iexact Hw9
    iexact Hv9
  ihave Hr10 := (role_of c f3 f5 10 10 (by decide) s10 (hq := cell_inb 10) (h := slot_inb 10) (hu := win_inb 10 (by decide)) rfl rfl rfl) $$ [Hc10 Hw10 Hv10]
  · isplitl [Hc10 Hw10]
    · isplitl [Hc10]; · iexact Hc10
      iexact Hw10
    iexact Hv10
  ihave HR := (show iprop(role c f3 f5 0 0 ∗ role c f3 f5 1 1 ∗ role c f3 f5 2 2 ∗ role c f3 f5 3 3 ∗ role c f3 f5 4 4 ∗ role c f3 f5 5 5 ∗ role c f3 f5 6 6
      ∗ role c f3 f5 7 7 ∗ role c f3 f5 8 8 ∗ role c f3 f5 9 9 ∗ role c f3 f5 10 10 ∗ free c f3 f5 11) ⊢ ringAt c f3 f5 (12 * 0) from by rw [ringAt_zero]) $$ [Hr0 Hr1 Hr2 Hr3 Hr4 Hr5 Hr6 Hr7 Hr8 Hr9 Hr10 Hc11 Hs11 Hw11 Hv11]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    unfold free
    isplitl [Hc11]; · iexact Hc11
    isplitl [Hs11]; · iexists s11; iexact Hs11
    isplitl [Hw11]; · iexact Hw11
    iexact Hv11
  have hk : Transfers.Batch countersEmb (c : Thread nD τ) (SemLoc.dma cc0_scratch31.sem) () 65536 (kvDW c f7 f8 f27 f28) 2 0 ⊢ kvAt c f7 f8 0 := by rw [kvAt_zero c f7 f8 f27 f28]
  unfold kvDW at hk
  ihave HK := hk $$ HKB
  iclear H7
  iclear H8
  ihave Hq32 := (show sm0 c (SemLoc.dma cc0_scratch32.sem) ⊢ held (sm0 c (SemLoc.dma cc0_scratch32.sem)) from by rw [held_eq]) $$ Hq32
  sl_exec
  ihave HR := (ring_mid c f3 f5) $$ HR
  ihave HK := (kvAt_end c f7 f8) $$ HK
  icases HK with ⟨Hq31, H27, H28, H7, H8⟩
  imod (out_alloc c f34 f36 f12 f13 f14) $$ [Hq32 H36] with ⟨HOB, H36⟩
  · isplitl [Hq32]; · iexact Hq32
    iexact H36
  unfold outD
  sl_exec (disch := first | (show _ ⊢ exI 1 c A39 A14 f14; exact exI_of 1 c A39 A14 _ f14) | (show _ ⊢ exI 2 c A48 A12 f12; exact exI_of 2 c A48 A12 _ f12))
  sl_step
  ihave H14 := (exI_open 1 c A39 A14 f14) $$ HOB_1
  ihave H12 := (exI_open 2 c A48 A12 f12) $$ HOB_2
  iclear H39
  iclear H48
  icases H14 with ⟨%g14, H14, H39⟩
  icases H12 with ⟨%g12, H12, H48⟩
  ihave H39 := (pt_of_set c A39 e39 _) $$ H39
  ihave H48 := (pt_of_set c A48 e48 _) $$ H48
  ihave HR := (ring_last c f3 f5) $$ HR
  unfold bodyPost
  isplitl [HR]; · iexact HR
  isplitl [H0]; · iexact H0
  isplitl [H1]; · iexact H1
  isplitl [H2]; · iexact H2
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H32]; · iexact H32
  isplitl [H40]; · iexact H40
  isplitl [H41]; · iexact H41
  isplitl [H42]; · iexact H42
  isplitl [HOB_dst0]; · iexact HOB_dst0
  isplitl [H15]; · iexact H15
  isplitl [H16]; · iexact H16
  isplitl [H17]; · iexact H17
  isplitl [H18]; · iexact H18
  isplitl [H12]; · iexists _; iexact H12
  isplitl [H14]; · iexists _; iexact H14
  isplitl [H19]; · iexists _; iexact H19
  isplitl [H20]; · iexists _; iexact H20
  isplitl [HB_dst0]; · iexists _; iexact HB_dst0
  isplitl [HB_dst1]; · iexists _; iexact HB_dst1
  isplitl [HB_dst2]; · iexists _; iexact HB_dst2
  isplitl [HB_dst3]; · iexists _; iexact HB_dst3
  isplitl [HB_dst4]; · iexists _; iexact HB_dst4
  isplitl [H27]; · iexists _; iexact H27
  isplitl [H28]; · iexists _; iexact H28
  isplitl [HB_dst5]; · iexists _; iexact HB_dst5
  isplitl [HWB_dst0]; · iexists _; iexact HWB_dst0
  isplitl [HWB_dst1]; · iexists _; iexact HWB_dst1
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [HB]; · iexact HB
  isplitl [Hq31]; · iexact Hq31
  isplitl [HOB]; · iexact HOB
  isplitl [HWB]; · iexact HWB
  isplitl [Hq34]; · iexact Hq34
  isplitl [Hq35]; · iexact Hq35
  isplitl [Hq36]; · iexact Hq36
  isplitl [Hq37]; · iexact Hq37
  isplitl [Hq38]; · iexact Hq38
  isplitl [Hq39]; · iexact Hq39
  iexists _; iexact HO

end Cert.KernelIdeal.Hand
-- ==== Proof.IdealLaunch.lean ====
module

public import proofs.«01_k».proof.Proof.IdealBody
public import proofs.«01_k».proof.Proof.Gen.KernelIdeal.Frame
public import Idealize.ShloMosaic.Lib.Pipeline.FrameValue

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra. -/
local notation "𝕄" => MT nD τ sig Unit (Elt F) ℕ (Pipeline.UD sig nD τ) ℕ

variable (m : (ℓ : Loc nD τ sig) → Buf (Elt F) ℓ) (ρ : Dev nD → PrngReg)

/-! ## The launch -/

set_option maxHeartbeats 800000 in
/-- @main up to the kernel's call, at this proof's resource algebra. -/
theorem hmain (𝒱₀ : Variants) : Pipeline.HMain (Ix := Unit) (Name := ℕ) (U := Pipeline.UD sig nD τ) (Lvl := ℕ) cfgs 0 defs₀ 𝒱₀ m (main (F := F)) (V m) := by
  exact Pipeline.hmain_prefix (U := Pipeline.UD sig nD τ) cfgs 0 defs₀ 𝒱₀ m main hostOps0 hostOps0_sub hostOps0_fresh main_chain

/-- The results the body writes. -/
def R0 : Finset (Ref sig .tc) := {main_v6_0, main_v6_1, main_v6_2, main_v6_3, main_v6_4, main_v6_5, main_v6_6, main_v6_7, main_v6_8}
/-- The operands the body reads. -/
def H0 : Finset (Ref sig .tc) := {main_v1, main_v2, main_v3, main_arg3, main_v4, main_arg5, main_v5, main_arg7, main_arg8, main_arg9, main_arg10, main_v0}
theorem H0_sub : H0 ⊆ Pipeline.restRefs sig cfg0.spec := by decide
theorem R0_sub : R0 ⊆ Pipeline.restRefs sig cfg0.spec \ H0 := by decide

/-- A ring slot's semaphore. -/
abbrev cell (s : Fin 12) : SemLoc sig := SemLoc.dma (cellS ![s.val] (cell_inb s))
/-- The body's own semaphores: the ring's twelve, then the ten single ones. -/
abbrev osem0 : Fin 22 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21] : Fin 22 → SemLoc sig) j
theorem ownSemFacts0 : Pipeline.OwnSemFacts cfg0.spec osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(sm0 c (cell 0) ∗ sm0 c (cell 1) ∗ sm0 c (cell 2) ∗ sm0 c (cell 3) ∗ sm0 c (cell 4) ∗ sm0 c (cell 5) ∗ sm0 c (cell 6) ∗ sm0 c (cell 7) ∗ sm0 c (cell 8) ∗ sm0 c (cell 9) ∗ sm0 c (cell 10) ∗ sm0 c (cell 11) ∗ sm0 c (SemLoc.dma cc0_scratch30.sem) ∗ sm0 c (SemLoc.dma cc0_scratch31.sem) ∗ sm0 c (SemLoc.dma cc0_scratch32.sem) ∗ sm0 c (SemLoc.dma cc0_scratch33.sem) ∗ sm0 c (SemLoc.dma cc0_scratch34.sem) ∗ sm0 c (SemLoc.dma cc0_scratch35.sem) ∗ sm0 c (SemLoc.dma cc0_scratch36.sem) ∗ sm0 c (SemLoc.dma cc0_scratch37.sem) ∗ sm0 c (SemLoc.dma cc0_scratch38.sem) ∗ sm0 c (SemLoc.dma cc0_scratch39.sem)) := by
  rw [Pipeline.ownSems0_eq_of_list c osem0 [0, 1, 2, 3, 4, 5, 6, 7, 8, 9, 10, 11, 12, 13, 14, 15, 16, 17, 18, 19, 20, 21] (by decide) (by decide)]; rfl
theorem hbmPts0_eq (c : Dev nD) :
    (bigSep H0 (fun b => ((c : Thread nD τ).loc b) ↦{fullShare} V m c b) : sProp 𝕄)
      = iprop(pt c A0 (V m c main_v1) ∗ pt c A1 (V m c main_v2) ∗ pt c A2 (V m c main_v3) ∗ pt c A3 (V m c main_arg3) ∗ pt c A4 (V m c main_v4) ∗ pt c A5 (V m c main_arg5) ∗ pt c A6 (V m c main_v5) ∗ pt c A7 (V m c main_arg7) ∗ pt c A8 (V m c main_arg8) ∗ pt c A9 (V m c main_arg9) ∗ pt c A10 (V m c main_arg10) ∗ pt c A11 (V m c main_v0)) := by
  rw [BI.bigSep_eq_bigSepL_of_eq [main_v1, main_v2, main_v3, main_arg3, main_v4, main_arg5, main_v5, main_arg7, main_arg8, main_arg9, main_arg10, main_v0] (by decide) (by decide)]; rfl
theorem routed0_eq (c : Dev nD) (W : (b : Ref sig .tc) → Buf (Elt F) ((c : Thread nD τ).loc b)) :
    (Pipeline.routed R0 c W : sProp 𝕄) = iprop(pt c A12 (W main_v6_0) ∗ pt c A13 (W main_v6_1) ∗ pt c A14 (W main_v6_2) ∗ pt c A15 (W main_v6_3) ∗ pt c A16 (W main_v6_4) ∗ pt c A17 (W main_v6_5) ∗ pt c A18 (W main_v6_6) ∗ pt c A19 (W main_v6_7) ∗ pt c A20 (W main_v6_8)) := by
  unfold Pipeline.routed; rw [BI.bigSep_eq_bigSepL_of_eq [main_v6_0, main_v6_1, main_v6_2, main_v6_3, main_v6_4, main_v6_5, main_v6_6, main_v6_7, main_v6_8] (by decide) (by decide)]; rfl
theorem scoped0_eq (c : Dev nD) :
    (Pipeline.scopedRest (Ix := Unit) (Name := ℕ) (U := Pipeline.UD sig nD τ) (Lvl := ℕ) (Val := Elt F) cfg0.spec c : sProp 𝕄)
      = iprop((∃ f : BufOf (F := F) c A21, pt c A21 f) ∗ (∃ f : BufOf (F := F) c A22, pt c A22 f) ∗ (∃ f : BufOf (F := F) c A23, pt c A23 f) ∗ (∃ f : BufOf (F := F) c A24, pt c A24 f) ∗ (∃ f : BufOf (F := F) c A25, pt c A25 f) ∗ (∃ f : BufOf (F := F) c A26, pt c A26 f) ∗ (∃ f : BufOf (F := F) c A27, pt c A27 f) ∗ (∃ f : BufOf (F := F) c A28, pt c A28 f) ∗ (∃ f : BufOf (F := F) c A29, pt c A29 f) ∗ (∃ f : BufOf (F := F) c A32, pt c A32 f) ∗ (∃ f : BufOf (F := F) c A33, pt c A33 f) ∗ (∃ f : BufOf (F := F) c A34, pt c A34 f) ∗ (∃ f : BufOf (F := F) c A35, pt c A35 f) ∗ (∃ f : BufOf (F := F) c A36, pt c A36 f) ∗ (∃ f : BufOf (F := F) c A37, pt c A37 f) ∗ (∃ f : BufOf (F := F) c A38, pt c A38 f) ∗ (∃ f : BufOf (F := F) c A39, pt c A39 f) ∗ (∃ f : BufOf (F := F) c A40, pt c A40 f) ∗ (∃ f : BufOf (F := F) c A41, pt c A41 f) ∗ (∃ f : BufOf (F := F) c A42, pt c A42 f) ∗ (∃ f : BufOf (F := F) c A43, pt c A43 f) ∗ (∃ f : BufOf (F := F) c A44, pt c A44 f) ∗ (∃ f : BufOf (F := F) c A45, pt c A45 f) ∗ (∃ f : BufOf (F := F) c A46, pt c A46 f) ∗ (∃ f : BufOf (F := F) c A47, pt c A47 f) ∗ (∃ f : BufOf (F := F) c A48, pt c A48 f) ∗ (∃ f : BufOf (F := F) c A49, pt c A49 f) ∗ (∃ f : BufOf (F := F) c A30, pt c A30 f) ∗ (∃ f : BufOf (F := F) c A31, pt c A31 f)) := by
  exact scopedRest0_eq c

/-- Contents of the nine results, gathered. -/
def gather (c : Dev nD) (g12 : BufOf (F := F) c A12) (g13 : BufOf (F := F) c A13) (g14 : BufOf (F := F) c A14) (g15 : BufOf (F := F) c A15) (g16 : BufOf (F := F) c A16) (g17 : BufOf (F := F) c A17) (g18 : BufOf (F := F) c A18) (g19 : BufOf (F := F) c A19) (g20 : BufOf (F := F) c A20) : (b : Ref sig .tc) → Buf (Elt F) ((c : Thread nD τ).loc b) :=
  fun b => if h : b = main_v6_0 then h ▸ g12 else if h : b = main_v6_1 then h ▸ g13 else if h : b = main_v6_2 then h ▸ g14 else if h : b = main_v6_3 then h ▸ g15 else if h : b = main_v6_4 then h ▸ g16 else if h : b = main_v6_5 then h ▸ g17 else if h : b = main_v6_6 then h ▸ g18 else if h : b = main_v6_7 then h ▸ g19 else if h : b = main_v6_8 then h ▸ g20 else V m c b
theorem gather_routed (c : Dev nD) (g12 : BufOf (F := F) c A12) (g13 : BufOf (F := F) c A13) (g14 : BufOf (F := F) c A14) (g15 : BufOf (F := F) c A15) (g16 : BufOf (F := F) c A16) (g17 : BufOf (F := F) c A17) (g18 : BufOf (F := F) c A18) (g19 : BufOf (F := F) c A19) (g20 : BufOf (F := F) c A20) (P : ((b : Ref sig .tc) → Buf (Elt F) ((c : Thread nD τ).loc b)) → Prop) (hP : P (gather m c g12 g13 g14 g15 g16 g17 g18 g19 g20)) :
    (iprop(pt c A12 g12 ∗ pt c A13 g13 ∗ pt c A14 g14 ∗ pt c A15 g15 ∗ pt c A16 g16 ∗ pt c A17 g17 ∗ pt c A18 g18 ∗ pt c A19 g19 ∗ pt c A20 g20) : sProp 𝕄) ⊢ Pipeline.routedSat R0 c P := by
  unfold Pipeline.routedSat
  iintro H
  iexists gather m c g12 g13 g14 g15 g16 g17 g18 g19 g20
  isplitr; · ipureintro; exact hP
  rw [routed0_eq]
  iexact H

/-! ## The ring and the weights' read shares, opened and closed -/

theorem slotSet (s : Fin 12) : (slotM ![s.val, 0, 0] (slot_inb s)).view.set = (Rect.unit (s := S12x512x7936) ![s.val, 0, 0] S1x512x7936.size (slot_inb s)).set :=
  (View.set_reshape _ _).trans (View.set_slice_whole _ _)
/-- The elements of the ring in slot `s`. -/
def slotJ (s : Fin 12) : Finset S12x512x7936.Idx := (Rect.unit (s := S12x512x7936) ![s.val, 0, 0] S1x512x7936.size (slot_inb s)).set
theorem mem_slotJ (s : Fin 12) (i : S12x512x7936.Idx) : i ∈ slotJ s ↔ (i 0).val = s.val := by
  unfold slotJ
  rw [Rect.mem_set_unit]
  constructor
  · intro h
    have h0 := h 0
    simp only [Matrix.cons_val_zero] at h0
    have : S1x512x7936.size 0 = 1 := rfl
    omega
  · intro h a
    have hi := (i a).isLt
    match a with
    | ⟨0, _⟩ => exact ⟨h.ge, by show (i 0).val < s.val + 1; omega⟩
    | ⟨1, _⟩ => exact ⟨Nat.zero_le _, by show (i 1).val < 0 + 512; have : (i 1).val < 512 := (i 1).isLt; omega⟩
    | ⟨2, _⟩ => exact ⟨Nat.zero_le _, by show (i 2).val < 0 + 7936; have : (i 2).val < 7936 := (i 2).isLt; omega⟩
theorem slotJ_disj (s s' : Fin 12) (h : s ≠ s') : Disjoint (slotJ s) (slotJ s') := by
  rw [Finset.disjoint_left]
  intro i h1 h2
  rw [mem_slotJ] at h1 h2
  exact h (Fin.ext (h1.symm.trans h2))
theorem slotJ_cover : Finset.univ.biUnion slotJ = Finset.univ := by
  ext i
  simp only [Finset.mem_biUnion, Finset.mem_univ, true_and, iff_true]
  exact ⟨⟨(i 0).val, (i 0).isLt⟩, (mem_slotJ _ i).mpr rfl⟩
theorem slotPt_eq (c : Dev nD) (s : Fin 12) (f : BufOf (F := F) c A21) :
    (slotPt c ![s.val, 0, 0] (slot_inb s) f : sProp 𝕄) = (A21.view.loc (c : Thread nD τ) ↦[slotJ s]{fullShare} f) := by
  unfold slotPt; rw [slotSet]; rfl
theorem slots_eq (c : Dev nD) : (bigSep Finset.univ (fun s : Fin 12 => iprop(∃ f, slotPt (F := F) c ![s.val, 0, 0] (slot_inb s) f)) : sProp 𝕄)
    = bigSep Finset.univ (fun s : Fin 12 => iprop(∃ f : BufOf (F := F) c A21, A21.view.loc (c : Thread nD τ) ↦[slotJ s]{fullShare} f)) := by
  simp only [slotPt_eq]

/-- What is left of a weight's share when its twelve read tokens are dealt out. -/
abbrev left (c : Dev nD) {sp : Space} {S : Shape} {e : EltTy} (M : Memref sig .tc sp S e) (f : BufOf (F := F) c M) : sProp 𝕄 :=
  M.view.loc (c : Thread nD τ) ↦{Transfers.shareDrop fullShare 12} f

theorem ringFree_eq (c : Dev nD) (w : BufOf (F := F) c A3) (v : BufOf (F := F) c A5) :
    ringFree c w v = iprop((bigSep Finset.univ fun s => sm0 c (cell s)) ∗ (bigSep Finset.univ (fun s : Fin 12 => iprop(∃ f, slotPt (F := F) c ![s.val, 0, 0] (slot_inb s) f)))
      ∗ (bigSep Finset.univ fun s => tk c A3 s w) ∗ bigSep Finset.univ fun s => tk c A5 s v) := by
  unfold ringFree free
  refine (BI.bigSep_sep Finset.univ (fun s => sm0 c (cell s)) _).trans (congrArg (fun X => iprop((bigSep Finset.univ fun s => sm0 c (cell s)) ∗ X)) ?_)
  refine (BI.bigSep_sep Finset.univ (fun s : Fin 12 => iprop(∃ f, slotPt (F := F) c ![s.val, 0, 0] (slot_inb s) f)) _).trans (congrArg (fun X => iprop((bigSep Finset.univ (fun s : Fin 12 => iprop(∃ f, slotPt (F := F) c ![s.val, 0, 0] (slot_inb s) f))) ∗ X)) ?_)
  exact BI.bigSep_sep Finset.univ (fun s => tk c A3 s w) (fun s => tk c A5 s v)
theorem ringOpen (c : Dev nD) (w : BufOf (F := F) c A3) (v : BufOf (F := F) c A5) :
    (iprop((bigSep Finset.univ fun s => sm0 c (cell s)) ∗ (∃ f, pt (F := F) c A21 f) ∗ pt c A3 w ∗ pt c A5 v) : sProp 𝕄)
      ⊢ iprop(ringFree c w v ∗ left c A3 w ∗ left c A5 v) := by
  rw [ringFree_eq, slots_eq]
  iintro ⟨Hs, ⟨%f, Hr⟩, Hw, Hv⟩
  ihave Hw := (Transfers.pointsTo_toks_split fullShare 12) $$ Hw
  ihave Hv := (Transfers.pointsTo_toks_split fullShare 12) $$ Hv
  icases Hw with ⟨Hw, Hwt⟩
  icases Hv with ⟨Hv, Hvt⟩
  isplitl [Hs Hr Hwt Hvt]
  · isplitl [Hs]; · iexact Hs
    isplitl [Hr]
    · iapply (show (pt c A21 f : sProp 𝕄) ⊢ bigSep Finset.univ (fun s : Fin 12 => iprop(∃ f : BufOf (F := F) c A21, A21.view.loc (c : Thread nD τ) ↦[slotJ s]{fullShare} f)) from by
        rw [pt, Ring.pointsTo_blocks slotJ slotJ_disj slotJ_cover f]
        exact BI.bigSep_mono fun s _ => show _ ⊢ iprop(∃ f : BufOf (F := F) c A21, A21.view.loc (c : Thread nD τ) ↦[slotJ s]{fullShare} f) from by iintro H; iexists f; iexact H)
      iexact Hr
    isplitl [Hwt]; · iexact Hwt
    iexact Hvt
  isplitl [Hw]; · iexact Hw
  iexact Hv
theorem ringClose (c : Dev nD) (w : BufOf (F := F) c A3) (v : BufOf (F := F) c A5) (f0 : BufOf (F := F) c A21) :
    (iprop(ringFree c w v ∗ left c A3 w ∗ left c A5 v) : sProp 𝕄)
      ⊢ iprop((bigSep Finset.univ fun s => sm0 c (cell s)) ∗ (∃ f, pt (F := F) c A21 f) ∗ pt c A3 w ∗ pt c A5 v) := by
  rw [ringFree_eq, slots_eq]
  iintro ⟨⟨Hs, Hr, Hwt, Hvt⟩, Hw, Hv⟩
  isplitl [Hs]; · iexact Hs
  isplitl [Hr]; · iapply (Ring.pointsTo_blocks_join_exists slotJ slotJ_disj slotJ_cover f0); iexact Hr
  isplitl [Hw Hwt]
  · iapply (Transfers.pointsTo_toks_join fullShare 12)
    isplitl [Hw]; · iexact Hw
    iexact Hwt
  iapply (Transfers.pointsTo_toks_join fullShare 12)
  isplitl [Hv]; · iexact Hv
  iexact Hvt

/-- The ring's semaphores, one by one. -/
theorem cells_open (c : Dev nD) : (bigSep Finset.univ (fun s => sm0 c (cell s)) : sProp 𝕄) ⊢ iprop(sm0 c (cell 0) ∗ sm0 c (cell 1) ∗ sm0 c (cell 2) ∗ sm0 c (cell 3) ∗ sm0 c (cell 4) ∗ sm0 c (cell 5) ∗ sm0 c (cell 6) ∗ sm0 c (cell 7) ∗ sm0 c (cell 8) ∗ sm0 c (cell 9) ∗ sm0 c (cell 10) ∗ sm0 c (cell 11)) := by
  rw [bigSep_fin12]; try exact .rfl

/-- The contents the body's run names, from the operands as launched and scratch contents. -/
abbrev runV (c : Dev nD) (f22 : BufOf (F := F) c A22) (f23 : BufOf (F := F) c A23) (f24 : BufOf (F := F) c A24) (f25 : BufOf (F := F) c A25) (f26 : BufOf (F := F) c A26) (f27 : BufOf (F := F) c A27) (f28 : BufOf (F := F) c A28) (f29 : BufOf (F := F) c A29) (f30 : BufOf (F := F) c A30) (f31 : BufOf (F := F) c A31) (f32 : BufOf (F := F) c A32) (f33 : BufOf (F := F) c A33) (f34 : BufOf (F := F) c A34) (f35 : BufOf (F := F) c A35) (f36 : BufOf (F := F) c A36) (f37 : BufOf (F := F) c A37) (f38 : BufOf (F := F) c A38) (f39 : BufOf (F := F) c A39) (f40 : BufOf (F := F) c A40) (f41 : BufOf (F := F) c A41) (f42 : BufOf (F := F) c A42) (f43 : BufOf (F := F) c A43) (f44 : BufOf (F := F) c A44) (f45 : BufOf (F := F) c A45) (f46 : BufOf (F := F) c A46) (f47 : BufOf (F := F) c A47) (f48 : BufOf (F := F) c A48) (f49 : BufOf (F := F) c A49) :=
  (bodyRun c (V m c main_v1) (V m c main_v2) (V m c main_v3) (V m c main_arg3) (V m c main_v4) (V m c main_arg5) (V m c main_v5) (V m c main_arg7) (V m c main_arg8) (V m c main_arg9) (V m c main_arg10) (V m c main_v0) (V m c main_v6_0) (V m c main_v6_1) (V m c main_v6_2) (V m c main_v6_3) (V m c main_v6_4) (V m c main_v6_5) (V m c main_v6_6) (V m c main_v6_7) (V m c main_v6_8) f22 f23 f24 f25 f26 f27 f28 f29 f30 f31 f32 f33 f34 f35 f36 f37 f38 f39 f40 f41 f42 f43 f44 f45 f46 f47 f48 f49).1

/-- The results the body's run names, for some scratch contents it started from. -/
def Named (c : Dev nD) (W : (b : Ref sig .tc) → Buf (Elt F) ((c : Thread nD τ).loc b)) : Prop :=
  ∃ (f22 : BufOf (F := F) c A22) (f23 : BufOf (F := F) c A23) (f24 : BufOf (F := F) c A24) (f25 : BufOf (F := F) c A25) (f26 : BufOf (F := F) c A26) (f27 : BufOf (F := F) c A27) (f28 : BufOf (F := F) c A28) (f29 : BufOf (F := F) c A29) (f30 : BufOf (F := F) c A30) (f31 : BufOf (F := F) c A31) (f32 : BufOf (F := F) c A32) (f33 : BufOf (F := F) c A33) (f34 : BufOf (F := F) c A34) (f35 : BufOf (F := F) c A35) (f36 : BufOf (F := F) c A36) (f37 : BufOf (F := F) c A37) (f38 : BufOf (F := F) c A38) (f39 : BufOf (F := F) c A39) (f40 : BufOf (F := F) c A40) (f41 : BufOf (F := F) c A41) (f42 : BufOf (F := F) c A42) (f43 : BufOf (F := F) c A43) (f44 : BufOf (F := F) c A44) (f45 : BufOf (F := F) c A45) (f46 : BufOf (F := F) c A46) (f47 : BufOf (F := F) c A47) (f48 : BufOf (F := F) c A48) (f49 : BufOf (F := F) c A49),
    W main_v6_1 = landW c A36 A13 (projG c (V m c main_arg3) (runV m c f22 f23 f24 f25 f26 f27 f28 f29 f30 f31 f32 f33 f34 f35 f36 f37 f38 f39 f40 f41 f42 f43 f44 f45 f46 f47 f48 f49).1 (landW c A4 A25 (V m c main_v4) f25) f34 f36 (Scf.trips k0_t1_loop.lb k0_t1_loop.ub k0_t1_loop.st)) (V m c main_v6_1)
    ∧ W main_v6_3 = landW c A40 A15 (runV m c f22 f23 f24 f25 f26 f27 f28 f29 f30 f31 f32 f33 f34 f35 f36 f37 f38 f39 f40 f41 f42 f43 f44 f45 f46 f47 f48 f49).2.1 (V m c main_v6_3)
    ∧ W main_v6_4 = landW c A41 A16 (runV m c f22 f23 f24 f25 f26 f27 f28 f29 f30 f31 f32 f33 f34 f35 f36 f37 f38 f39 f40 f41 f42 f43 f44 f45 f46 f47 f48 f49).2.2.1 (V m c main_v6_4)
    ∧ W main_v6_5 = landW c A42 A17 (knG c (runV m c f22 f23 f24 f25 f26 f27 f28 f29 f30 f31 f32 f33 f34 f35 f36 f37 f38 f39 f40 f41 f42 f43 f44 f45 f46 f47 f48 f49).2.2.2.1 (runV m c f22 f23 f24 f25 f26 f27 f28 f29 f30 f31 f32 f33 f34 f35 f36 f37 f38 f39 f40 f41 f42 f43 f44 f45 f46 f47 f48 f49).2.2.2.2 (accG c (V m c main_arg3) (runV m c f22 f23 f24 f25 f26 f27 f28 f29 f30 f31 f32 f33 f34 f35 f36 f37 f38 f39 f40 f41 f42 f43 f44 f45 f46 f47 f48 f49).1 (landW c A4 A25 (V m c main_v4) f25) f34 1) f42 (Scf.trips k0_t1_loop.lb k0_t1_loop.ub k0_t1_loop.st)) (V m c main_v6_5)
    ∧ W main_v6_6 = landW c A43 A18 (vnG c (accG c (V m c main_arg3) (runV m c f22 f23 f24 f25 f26 f27 f28 f29 f30 f31 f32 f33 f34 f35 f36 f37 f38 f39 f40 f41 f42 f43 f44 f45 f46 f47 f48 f49).1 (landW c A4 A25 (V m c main_v4) f25) f34 1) f43 (Scf.trips k0_t1_loop.lb k0_t1_loop.ub k0_t1_loop.st)) (V m c main_v6_6)
theorem gather_12 (c : Dev nD) (g12 : BufOf (F := F) c A12) (g13 : BufOf (F := F) c A13) (g14 : BufOf (F := F) c A14) (g15 : BufOf (F := F) c A15) (g16 : BufOf (F := F) c A16) (g17 : BufOf (F := F) c A17) (g18 : BufOf (F := F) c A18) (g19 : BufOf (F := F) c A19) (g20 : BufOf (F := F) c A20) : gather m c g12 g13 g14 g15 g16 g17 g18 g19 g20 main_v6_0 = g12 := by
  unfold gather; rw [dif_pos rfl]
theorem gather_13 (c : Dev nD) (g12 : BufOf (F := F) c A12) (g13 : BufOf (F := F) c A13) (g14 : BufOf (F := F) c A14) (g15 : BufOf (F := F) c A15) (g16 : BufOf (F := F) c A16) (g17 : BufOf (F := F) c A17) (g18 : BufOf (F := F) c A18) (g19 : BufOf (F := F) c A19) (g20 : BufOf (F := F) c A20) : gather m c g12 g13 g14 g15 g16 g17 g18 g19 g20 main_v6_1 = g13 := by
  unfold gather; rw [dif_neg (by decide), dif_pos rfl]
theorem gather_14 (c : Dev nD) (g12 : BufOf (F := F) c A12) (g13 : BufOf (F := F) c A13) (g14 : BufOf (F := F) c A14) (g15 : BufOf (F := F) c A15) (g16 : BufOf (F := F) c A16) (g17 : BufOf (F := F) c A17) (g18 : BufOf (F := F) c A18) (g19 : BufOf (F := F) c A19) (g20 : BufOf (F := F) c A20) : gather m c g12 g13 g14 g15 g16 g17 g18 g19 g20 main_v6_2 = g14 := by
  unfold gather; rw [dif_neg (by decide), dif_neg (by decide), dif_pos rfl]
theorem gather_15 (c : Dev nD) (g12 : BufOf (F := F) c A12) (g13 : BufOf (F := F) c A13) (g14 : BufOf (F := F) c A14) (g15 : BufOf (F := F) c A15) (g16 : BufOf (F := F) c A16) (g17 : BufOf (F := F) c A17) (g18 : BufOf (F := F) c A18) (g19 : BufOf (F := F) c A19) (g20 : BufOf (F := F) c A20) : gather m c g12 g13 g14 g15 g16 g17 g18 g19 g20 main_v6_3 = g15 := by
  unfold gather; rw [dif_neg (by decide), dif_neg (by decide), dif_neg (by decide), dif_pos rfl]
theorem gather_16 (c : Dev nD) (g12 : BufOf (F := F) c A12) (g13 : BufOf (F := F) c A13) (g14 : BufOf (F := F) c A14) (g15 : BufOf (F := F) c A15) (g16 : BufOf (F := F) c A16) (g17 : BufOf (F := F) c A17) (g18 : BufOf (F := F) c A18) (g19 : BufOf (F := F) c A19) (g20 : BufOf (F := F) c A20) : gather m c g12 g13 g14 g15 g16 g17 g18 g19 g20 main_v6_4 = g16 := by
  unfold gather; rw [dif_neg (by decide), dif_neg (by decide), dif_neg (by decide), dif_neg (by decide), dif_pos rfl]
theorem gather_17 (c : Dev nD) (g12 : BufOf (F := F) c A12) (g13 : BufOf (F := F) c A13) (g14 : BufOf (F := F) c A14) (g15 : BufOf (F := F) c A15) (g16 : BufOf (F := F) c A16) (g17 : BufOf (F := F) c A17) (g18 : BufOf (F := F) c A18) (g19 : BufOf (F := F) c A19) (g20 : BufOf (F := F) c A20) : gather m c g12 g13 g14 g15 g16 g17 g18 g19 g20 main_v6_5 = g17 := by
  unfold gather; rw [dif_neg (by decide), dif_neg (by decide), dif_neg (by decide), dif_neg (by decide), dif_neg (by decide), dif_pos rfl]
theorem gather_18 (c : Dev nD) (g12 : BufOf (F := F) c A12) (g13 : BufOf (F := F) c A13) (g14 : BufOf (F := F) c A14) (g15 : BufOf (F := F) c A15) (g16 : BufOf (F := F) c A16) (g17 : BufOf (F := F) c A17) (g18 : BufOf (F := F) c A18) (g19 : BufOf (F := F) c A19) (g20 : BufOf (F := F) c A20) : gather m c g12 g13 g14 g15 g16 g17 g18 g19 g20 main_v6_6 = g18 := by
  unfold gather; rw [dif_neg (by decide), dif_neg (by decide), dif_neg (by decide), dif_neg (by decide), dif_neg (by decide), dif_neg (by decide), dif_pos rfl]
theorem gather_19 (c : Dev nD) (g12 : BufOf (F := F) c A12) (g13 : BufOf (F := F) c A13) (g14 : BufOf (F := F) c A14) (g15 : BufOf (F := F) c A15) (g16 : BufOf (F := F) c A16) (g17 : BufOf (F := F) c A17) (g18 : BufOf (F := F) c A18) (g19 : BufOf (F := F) c A19) (g20 : BufOf (F := F) c A20) : gather m c g12 g13 g14 g15 g16 g17 g18 g19 g20 main_v6_7 = g19 := by
  unfold gather; rw [dif_neg (by decide), dif_neg (by decide), dif_neg (by decide), dif_neg (by decide), dif_neg (by decide), dif_neg (by decide), dif_neg (by decide), dif_pos rfl]
theorem gather_20 (c : Dev nD) (g12 : BufOf (F := F) c A12) (g13 : BufOf (F := F) c A13) (g14 : BufOf (F := F) c A14) (g15 : BufOf (F := F) c A15) (g16 : BufOf (F := F) c A16) (g17 : BufOf (F := F) c A17) (g18 : BufOf (F := F) c A18) (g19 : BufOf (F := F) c A19) (g20 : BufOf (F := F) c A20) : gather m c g12 g13 g14 g15 g16 g17 g18 g19 g20 main_v6_8 = g20 := by
  unfold gather; rw [dif_neg (by decide), dif_neg (by decide), dif_neg (by decide), dif_neg (by decide), dif_neg (by decide), dif_neg (by decide), dif_neg (by decide), dif_neg (by decide), dif_pos rfl]

/-- The invariant: before the point the launch contents, after it the named results. -/
def inv (c : Dev nD) (i : ℕ) : sProp 𝕄 :=
  if i = 0 then Pipeline.ΦDRG osem0 cfg0.spec H0 R0 (V m) (V m) c
  else iprop(Pipeline.ΦD osem0 cfg0.spec H0 (V m) c ∗ Pipeline.routedSat R0 c (Named m c))

def dats (_ : Fin 1) (c : Dev nD) : Dat τ (Elt F) Unit ℕ (Pipeline.UD sig nD τ) ℕ cfg0 c where
  A w := V m c (Pipeline.arrRef cfg0.spec w)
  after w _ := w.elim0
  Φ i := inv m c i.val
  q _ := fullShare
  owed _ := 0

theorem A_eq (c : Dev nD) (w : Fin cfg0.W) : (dats m 0 c).A w = V m c (Pipeline.arrRef cfg0.spec w) := by
  dsimp only [dats]

set_option maxHeartbeats 0 in
/-- The body, from the launch contents to the named results. -/
theorem body_named (c : Dev nD) :
    (iprop(Pipeline.ΦDRG osem0 cfg0.spec H0 R0 (V m) (V m) c ∗ ∃ W, owes (c : Thread nD τ) 0 W) : sProp 𝕄)
      ⊢ wp frame (wpE (defs₀ (F := F)) Variants.none c none) Set.univ (cc0_decode_block A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 hA34 A35 hA35 A36 hA36 A37 hA37 A38 hA38 A39 hA39 A40 hA40 A41 hA41 A42 hA42 A43 hA43 A44 hA44 A45 hA45 A46 hA46 A47 hA47 A48 hA48 A49 hA49 cc0_scratch29 cc0_scratch30 cc0_scratch31 cc0_scratch32 cc0_scratch33 cc0_scratch34 cc0_scratch35 cc0_scratch36 cc0_scratch37 cc0_scratch38 cc0_scratch39)
        (fun _ => iprop((Pipeline.ΦD osem0 cfg0.spec H0 (V m) c ∗ Pipeline.routedSat R0 c (Named m c)) ∗ ∃ W, owes (c : Thread nD τ) 0 W)) := by
  rw [Pipeline.ΦDRG_eq, Pipeline.ΦD_eq, scoped0_eq, ownSems00_eq, hbmPts0_eq, routed0_eq]
  iintro ⟨⟨⟨⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f32, H32⟩, ⟨%f33, H33⟩, ⟨%f34, H34⟩, ⟨%f35, H35⟩, ⟨%f36, H36⟩, ⟨%f37, H37⟩, ⟨%f38, H38⟩, ⟨%f39, H39⟩, ⟨%f40, H40⟩, ⟨%f41, H41⟩, ⟨%f42, H42⟩, ⟨%f43, H43⟩, ⟨%f44, H44⟩, ⟨%f45, H45⟩, ⟨%f46, H46⟩, ⟨%f47, H47⟩, ⟨%f48, H48⟩, ⟨%f49, H49⟩, ⟨%f30, H30⟩, ⟨%f31, H31⟩⟩, Hg, ⟨Hc0, Hc1, Hc2, Hc3, Hc4, Hc5, Hc6, Hc7, Hc8, Hc9, Hc10, Hc11, Hq30, Hq31, Hq32, Hq33, Hq34, Hq35, Hq36, Hq37, Hq38, Hq39⟩, ⟨H0, H1, H2, H3, H4, H5, H6, H7, H8, H9, H10, H11⟩, H12, H13, H14, H15, H16, H17, H18, H19, H20⟩, HO⟩
  ihave HR := (ringOpen c (V m c main_arg3) (V m c main_arg5)) $$ [Hc0 Hc1 Hc2 Hc3 Hc4 Hc5 Hc6 Hc7 Hc8 Hc9 Hc10 Hc11 H21 H3 H5]
  · isplitl [Hc0 Hc1 Hc2 Hc3 Hc4 Hc5 Hc6 Hc7 Hc8 Hc9 Hc10 Hc11]
    · rw [bigSep_fin12]
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      iexact Hc11
    isplitl [H21]; · iexists f21; iexact H21
    isplitl [H3]; · iexact H3
    iexact H5
  icases HR with ⟨HR, Hl3, Hl5⟩
  iapply (wp_wand_r Idealize.ShloMosaic.frame (wpE (defs₀ (F := F)) Variants.none c none))
  isplitl [HR HO H0 H1 H2 H4 H6 H7 H8 H9 H10 H11 H12 H13 H14 H15 H16 H17 H18 H19 H20 H22 H23 H24 H25 H26 H27 H28 H29 H30 H31 H32 H33 H34 H35 H36 H37 H38 H39 H40 H41 H42 H43 H44 H45 H46 H47 H48 H49 Hq30 Hq31 Hq32 Hq33 Hq34 Hq35 Hq36 Hq37 Hq38 Hq39]
  · iapply (bodyRun c (V m c main_v1) (V m c main_v2) (V m c main_v3) (V m c main_arg3) (V m c main_v4) (V m c main_arg5) (V m c main_v5) (V m c main_arg7) (V m c main_arg8) (V m c main_arg9) (V m c main_arg10) (V m c main_v0) (V m c main_v6_0) (V m c main_v6_1) (V m c main_v6_2) (V m c main_v6_3) (V m c main_v6_4) (V m c main_v6_5) (V m c main_v6_6) (V m c main_v6_7) (V m c main_v6_8) f22 f23 f24 f25 f26 f27 f28 f29 f30 f31 f32 f33 f34 f35 f36 f37 f38 f39 f40 f41 f42 f43 f44 f45 f46 f47 f48 f49).2
    unfold bodyPre
    isplitl [HR]; · iexact HR
    isplitl [H0]; · iexact H0
    isplitl [H1]; · iexact H1
    isplitl [H2]; · iexact H2
    isplitl [H4]; · iexact H4
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H36]; · iexact H36
    isplitl [H37]; · iexact H37
    isplitl [H38]; · iexact H38
    isplitl [H39]; · iexact H39
    isplitl [H40]; · iexact H40
    isplitl [H41]; · iexact H41
    isplitl [H42]; · iexact H42
    isplitl [H43]; · iexact H43
    isplitl [H44]; · iexact H44
    isplitl [H45]; · iexact H45
    isplitl [H46]; · iexact H46
    isplitl [H47]; · iexact H47
    isplitl [H48]; · iexact H48
    isplitl [H49]; · iexact H49
    isplitl [Hq30]; · iexact Hq30
    isplitl [Hq31]; · iexact Hq31
    isplitl [Hq32]; · iexact Hq32
    isplitl [Hq33]; · iexact Hq33
    isplitl [Hq34]; · iexact Hq34
    isplitl [Hq35]; · iexact Hq35
    isplitl [Hq36]; · iexact Hq36
    isplitl [Hq37]; · iexact Hq37
    isplitl [Hq38]; · iexact Hq38
    isplitl [Hq39]; · iexact Hq39
    iexact HO
  iintro %_ Hpost
  unfold bodyPost
  icases Hpost with ⟨HR, H0, H1, H2, H4, H6, H7, H8, H9, H10, H11, H32, H40, H41, H42, H13, H15, H16, H17, H18, ⟨%e12, H12⟩, ⟨%e14, H14⟩, ⟨%e19, H19⟩, ⟨%e20, H20⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩, ⟨%e31, H31⟩, ⟨%e33, H33⟩, ⟨%e34, H34⟩, ⟨%e35, H35⟩, ⟨%e36, H36⟩, ⟨%e37, H37⟩, ⟨%e38, H38⟩, ⟨%e39, H39⟩, ⟨%e43, H43⟩, ⟨%e44, H44⟩, ⟨%e45, H45⟩, ⟨%e46, H46⟩, ⟨%e47, H47⟩, ⟨%e48, H48⟩, ⟨%e49, H49⟩, Hq30, Hq31, Hq32, Hq33, Hq34, Hq35, Hq36, Hq37, Hq38, Hq39, HO⟩
  ihave HR := (ringClose c (V m c main_arg3) (V m c main_arg5) f21) $$ [HR Hl3 Hl5]
  · isplitl [HR]; · iexact HR
    isplitl [Hl3]; · iexact Hl3
    iexact Hl5
  icases HR with ⟨Hc, ⟨%e21, H21⟩, H3, H5⟩
  ihave Hc := (cells_open c) $$ Hc
  icases Hc with ⟨Hc0, Hc1, Hc2, Hc3, Hc4, Hc5, Hc6, Hc7, Hc8, Hc9, Hc10, Hc11⟩
  isplitr [HO]; swap; · iexact HO
  isplitr [H12 H13 H14 H15 H16 H17 H18 H19 H20]
  · isplitl [H21 H22 H23 H24 H25 H26 H27 H28 H29 H32 H33 H34 H35 H36 H37 H38 H39 H40 H41 H42 H43 H44 H45 H46 H47 H48 H49 H30 H31]
    · isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [H32]; · iexists _; iexact H32
      isplitl [H33]; · iexists _; iexact H33
      isplitl [H34]; · iexists _; iexact H34
      isplitl [H35]; · iexists _; iexact H35
      isplitl [H36]; · iexists _; iexact H36
      isplitl [H37]; · iexists _; iexact H37
      isplitl [H38]; · iexists _; iexact H38
      isplitl [H39]; · iexists _; iexact H39
      isplitl [H40]; · iexists _; iexact H40
      isplitl [H41]; · iexists _; iexact H41
      isplitl [H42]; · iexists _; iexact H42
      isplitl [H43]; · iexists _; iexact H43
      isplitl [H44]; · iexists _; iexact H44
      isplitl [H45]; · iexists _; iexact H45
      isplitl [H46]; · iexists _; iexact H46
      isplitl [H47]; · iexists _; iexact H47
      isplitl [H48]; · iexists _; iexact H48
      isplitl [H49]; · iexists _; iexact H49
      isplitl [H30]; · iexists _; iexact H30
      iexists _; iexact H31
    isplitl [Hg]; · iexact Hg
    isplitl [Hc0 Hc1 Hc2 Hc3 Hc4 Hc5 Hc6 Hc7 Hc8 Hc9 Hc10 Hc11 Hq30 Hq31 Hq32 Hq33 Hq34 Hq35 Hq36 Hq37 Hq38 Hq39]
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hq30]; · iexact Hq30
      isplitl [Hq31]; · iexact Hq31
      isplitl [Hq32]; · iexact Hq32
      isplitl [Hq33]; · iexact Hq33
      isplitl [Hq34]; · iexact Hq34
      isplitl [Hq35]; · iexact Hq35
      isplitl [Hq36]; · iexact Hq36
      isplitl [Hq37]; · iexact Hq37
      isplitl [Hq38]; · iexact Hq38
      iexact Hq39
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iapply (gather_routed m c e12 (landW c A36 A13 (projG c (V m c main_arg3) (runV m c f22 f23 f24 f25 f26 f27 f28 f29 f30 f31 f32 f33 f34 f35 f36 f37 f38 f39 f40 f41 f42 f43 f44 f45 f46 f47 f48 f49).1 (landW c A4 A25 (V m c main_v4) f25) f34 f36 (Scf.trips k0_t1_loop.lb k0_t1_loop.ub k0_t1_loop.st)) (V m c main_v6_1)) e14 (landW c A40 A15 (runV m c f22 f23 f24 f25 f26 f27 f28 f29 f30 f31 f32 f33 f34 f35 f36 f37 f38 f39 f40 f41 f42 f43 f44 f45 f46 f47 f48 f49).2.1 (V m c main_v6_3)) (landW c A41 A16 (runV m c f22 f23 f24 f25 f26 f27 f28 f29 f30 f31 f32 f33 f34 f35 f36 f37 f38 f39 f40 f41 f42 f43 f44 f45 f46 f47 f48 f49).2.2.1 (V m c main_v6_4)) (landW c A42 A17 (knG c (runV m c f22 f23 f24 f25 f26 f27 f28 f29 f30 f31 f32 f33 f34 f35 f36 f37 f38 f39 f40 f41 f42 f43 f44 f45 f46 f47 f48 f49).2.2.2.1 (runV m c f22 f23 f24 f25 f26 f27 f28 f29 f30 f31 f32 f33 f34 f35 f36 f37 f38 f39 f40 f41 f42 f43 f44 f45 f46 f47 f48 f49).2.2.2.2 (accG c (V m c main_arg3) (runV m c f22 f23 f24 f25 f26 f27 f28 f29 f30 f31 f32 f33 f34 f35 f36 f37 f38 f39 f40 f41 f42 f43 f44 f45 f46 f47 f48 f49).1 (landW c A4 A25 (V m c main_v4) f25) f34 1) f42 (Scf.trips k0_t1_loop.lb k0_t1_loop.ub k0_t1_loop.st)) (V m c main_v6_5)) (landW c A43 A18 (vnG c (accG c (V m c main_arg3) (runV m c f22 f23 f24 f25 f26 f27 f28 f29 f30 f31 f32 f33 f34 f35 f36 f37 f38 f39 f40 f41 f42 f43 f44 f45 f46 f47 f48 f49).1 (landW c A4 A25 (V m c main_v4) f25) f34 1) f43 (Scf.trips k0_t1_loop.lb k0_t1_loop.ub k0_t1_loop.st)) (V m c main_v6_6)) e19 e20 (Named m c) ⟨f22, f23, f24, f25, f26, f27, f28, f29, f30, f31, f32, f33, f34, f35, f36, f37, f38, f39, f40, f41, f42, f43, f44, f45, f46, f47, f48, f49, gather_13 m c _ _ _ _ _ _ _ _ _, gather_15 m c _ _ _ _ _ _ _ _ _, gather_16 m c _ _ _ _ _ _ _ _ _, gather_17 m c _ _ _ _ _ _ _ _ _, gather_18 m c _ _ _ _ _ _ _ _ _⟩)
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

theorem defs₀_row (t : Fin cfg0.N) :
    defs₀ (F := F) .tc cfg0.body (cfg0.bodyArgs t (cfg0.slots t)) = bodyAt0 t := by
  unfold defs₀; rw [Defs.onTc_tc]

theorem bigSep_none (Φ : Fin cfg0.W → sProp 𝕄) : bigSep Finset.univ Φ = iprop(emp) := by
  rw [show (Finset.univ : Finset (Fin cfg0.W)) = ∅ from by decide, BI.bigSep_empty]; rfl

theorem body_obligation (c : Dev nD) : BodyObligation (dats (F := F) m 0 c) (defs₀ (F := F)) Variants.none () Set.univ := fun t => by
  rw [bigSep_none, bigSep_none, defs₀_row, fin_N0 t]
  rw [show (dats m 0 c).Φ t0_0.castSucc = Pipeline.ΦDRG osem0 cfg0.spec H0 R0 (V m) (V m) c from by dsimp only [dats]; unfold inv; exact if_pos rfl,
    show (dats m 0 c).Φ t0_0.succ = iprop(Pipeline.ΦD osem0 cfg0.spec H0 (V m) c ∗ Pipeline.routedSat R0 c (Named m c)) from by dsimp only [dats]; unfold inv; exact if_neg (by decide)]
  unfold Dat.owesAt Pipeline.owesWithin
  refine triple_restated (P := iprop(Pipeline.ΦDRG osem0 cfg0.spec H0 R0 (V m) (V m) c ∗ ∃ W, owes (c : Thread nD τ) 0 W)) (body_named m c) rfl ?_ fun _ => ?_
  · iintro ⟨Hi, ⟨%W, -, HW⟩, -⟩
    isplitl [Hi]; · iexact Hi
    iexists W; iexact HW
  · iintro ⟨Hi, %W, HW⟩
    isplitl [Hi]; · iexact Hi
    isplitl [HW]
    · iexists W; isplitr; · ipureintro; exact fun _ _ => Or.inl trivial
      iexact HW
    iempintro

/-! ## The run and the frame -/

set_option backward.isDefEq.respectTransparency.types false in
/-- The run: every buffer no result's is unchanged, the results are as named, every counter ends at zero. -/
theorem run_main : θ_run defs (onTc (τ := τ) (main (F := F))) (s₀ m ρ) (fun r =>
    (Pipeline.RDat.FramePostR cfg0 (fun c => (dats m 0 c).toR) R0 (V m) r
      ∧ ∀ c : Dev nD, ∃ W : (b : Ref sig .tc) → Buf (Elt F) ((c : Thread nD τ).loc b),
          Named m c W ∧ ∀ b ∈ R0, r.2.mem ((c : Thread nD τ).loc b) = W b) ∧ r.2.sem = fun _ => 0) :=
  have hrest : Pipeline.restRefs sig cfg0.spec ⊆ Pipeline.restRefsP sig Pipeline.Prefetch.none cfg0.spec :=
    fun b hb => Finset.mem_sdiff.mpr ⟨hb, fun h => ((Finset.mem_image.mp h).elim fun k _ => k.elim0)⟩
  Pipeline.RDat.θ_run_frameP_dmaRSat_shared (Q' := _) (fun q => (cfgs q).toPCfg (Val := Elt F)) (fun q => (cfgs q).toPCfg_adm) (0 : Fin 1)
    launch0.to₀.toP osem0 defs₀ Variants.none (fun c => (dats m 0 c).toR) ownSemFacts0 H0 R0
    (H0_sub.trans hrest) (R0_sub.trans (Finset.sdiff_subset_sdiff hrest subset_rfl)) m ρ main
    (fun c => (body_obligation m c).loose.toR) (fun c w => w.elim0) (fun _ _ => rfl) (V m) (hmain m Variants.none) (A_eq m) (fun _ k => k.elim0)
    (Named m)
    (fun c => show _ ⊢ Pipeline.ΦDRG osem0 cfg0.spec H0 R0 (V m) (V m) c from by iintro ⟨H, -⟩; iexact H)
    (fun c => .rfl)

/-- THE FRAME: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c),
      ((h.1.1 c).2 main_arg6 (Finset.mem_sdiff.mpr ⟨Pipeline.mem_restRefs_of main_arg6 (by decide) (by decide), by decide⟩)).trans (V_main_arg6 m c),
      ((h.1.1 c).2 main_arg7 (Finset.mem_sdiff.mpr ⟨Pipeline.mem_restRefs_of main_arg7 (by decide) (by decide), by decide⟩)).trans (V_main_arg7 m c),
      ((h.1.1 c).2 main_arg8 (Finset.mem_sdiff.mpr ⟨Pipeline.mem_restRefs_of main_arg8 (by decide) (by decide), by decide⟩)).trans (V_main_arg8 m c),
      ((h.1.1 c).2 main_arg9 (Finset.mem_sdiff.mpr ⟨Pipeline.mem_restRefs_of main_arg9 (by decide) (by decide), by decide⟩)).trans (V_main_arg9 m c),
      ((h.1.1 c).2 main_arg10 (Finset.mem_sdiff.mpr ⟨Pipeline.mem_restRefs_of main_arg10 (by decide) (by decide), by decide⟩)).trans (V_main_arg10 m c)⟩, h.2⟩) (run_main m ρ)

end Cert.KernelIdeal.Hand
-- ==== Proof.IdealBlocks.lean ====
module

public import proofs.«01_k».proof.Proof.IdealBody

@[expose] public section

noncomputable section

namespace Cert.KernelIdeal.Hand

open Cert.KernelIdeal Cert.KernelIdeal.Gen
open Idealize.ShloMosaic Idealize.ShloMosaic.TcCoe

variable {F : FTy → Type} [FloatOps F]

/-! ## The 48 blocks as one function of the column they start at -/

/-- The normalised rows of the 128 columns from `o`. -/
def hB (xc : FVec F S8x6144 .f32) (rs : FVec F S8x1 .f32) (o : ℕ) (hs : S8x6144.Slices ![0, o] S8x128) (g b : FVec F S1x128 .f32) : FVec F S8x128 .f32 :=
  addf (mulf (mulf (extractStridedSlice S8x128 ![0, o] xc hs) (broadcastTo S8x128 rs broadcasts_S8x1_S8x128)) (broadcastTo S8x128 g broadcasts_S1x128_S8x128))
    (broadcastTo S8x128 b broadcasts_S1x128_S8x128)

/-- The largest magnitude of each row of a block. -/
def maxB (h : FVec F S8x128 .f32) : FVec F S8x1 .f32 :=
  shapeCast S8x1 (multiReduction .maximumf [1] S8 (absf h) 0xFF800000#32 reduces_S8x128_S8 (.inl rfl) rfl) shapeCasts_S8_S8x1

/-- What the search for the exponent compares with: the magnitude over 448. -/
def sB (h : FVec F S8x128 .f32) : FVec F S8x1 .f32 := mulf (maxB h) (broadcast S8x1 (Scalar.ofBits .f32 0x3B124925#32))

/-- The lanes of the search. -/
def lanesB (h : FVec F S8x128 .f32) : IVec S8x256 32 :=
  select (andi (cmpf .ole (bitcastToFloat .f32 (shli (iota .tc S8x256 32 [1] iota_S8x256_d1_w32) (broadcast S8x256 23#32)))
      (broadcastTo S8x256 (sB h) broadcasts_S8x1_S8x256))
    (cmpi .sle (iota .tc S8x256 32 [1] iota_S8x256_d1_w32) (broadcast S8x256 246#32)))
    (iota .tc S8x256 32 [1] iota_S8x256_d1_w32) (broadcast S8x256 0#32)

/-- The exponent field found. -/
def fieldB (h : FVec F S8x128 .f32) : IVec S8x1 32 :=
  select (cmpf .olt (sB h) (broadcast S8x1 (Scalar.ofBits .f32 0x7F800000#32)))
    (shapeCast S8x1 (multiReductionI .maxsi [1] S8 (lanesB h) 2147483648#32 reduces_S8x256_S8 rfl) shapeCasts_S8_S8x1) (broadcast S8x1 255#32)

/-- The exponent of the scale. -/
def expB (h : FVec F S8x128 .f32) : IVec S8x1 32 :=
  select (ori (cmpf .oeq (maxB h) (broadcast S8x1 (Scalar.ofBits .f32 0x00000000#32))) (cmpi .eq (fieldB h) (broadcast S8x1 0#32)))
    (broadcast S8x1 0#32) (subi (fieldB h) (broadcast S8x1 126#32))

/-- The scale. -/
def scaleB (h : FVec F S8x128 .f32) : FVec F S8x1 .f32 :=
  bitcastToFloat .f32 (shli (addi (expB h) (broadcast S8x1 127#32)) (broadcast S8x1 23#32))

/-- Its inverse. -/
def invB (h : FVec F S8x128 .f32) : FVec F S8x1 .f32 :=
  bitcastToFloat .f32 (shli (subi (broadcast S8x1 127#32) (expB h)) (broadcast S8x1 23#32))

/-- The codes. -/
def codesB (h : FVec F S8x128 .f32) : FVec F S8x128 .fp8e4m3 :=
  truncf .fp8e4m3 (minimumf (broadcast S8x128 (Scalar.ofBits .f32 0x43E00000#32)) (maximumf (broadcast S8x128 (Scalar.ofBits .f32 0xC3E00000#32))
    (mulf h (broadcastTo S8x128 (invB h) broadcasts_S8x1_S8x128)))) bitsLt_fp8e4m3_f32

/-- The row of scales with the scale of block `n` put in. -/
def laneB (n : BitVec 32) (prev : FVec F S8x128 .f32) (h : FVec F S8x128 .f32) : FVec F S8x128 .f32 :=
  select (cmpi .eq (iota .tc S8x128 32 [1] iota_S8x128_d1_w32) (broadcast S8x128 n))
    (broadcastTo S8x128 (shapeCast S8x1 (scaleB h) shapeCasts_S8x1_S8x1) broadcasts_S8x1_S8x128) prev

/-- The product's left operand: the codes times their scale, over eight rows of zeros. -/
def lhsB (h : FVec F S8x128 .f32) : FVec F S1x16x128 .bf16 :=
  shapeCast S1x16x128 (truncf .bf16 (concatenate S16x128 0 [⟨S8x128, mulf (extf .f32 (codesB h) bitsLt_fp8e4m3_f32) (broadcastTo S8x128 (scaleB h) broadcasts_S8x1_S8x128)⟩,
    ⟨S8x128, broadcast S8x128 (Scalar.ofBits .f32 0x00000000#32)⟩] concatenates_S8x128_S8x128_S16x128_d0) bitsLt_bf16_f32) shapeCasts_S16x128_S1x16x128

section
variable (c : Dev nD) (f0 : BufOf (F := F) c A0) (f1 : BufOf (F := F) c A1) (f2 : BufOf (F := F) c A2) (f22 : BufOf (F := F) c A22)
  (f23 : BufOf (F := F) c A23) (f24 : BufOf (F := F) c A24)

set_option maxHeartbeats 0

/-- The normalised rows of the block from column `o`, from the three operands. -/
def hK (o : ℕ) (hs : S8x6144.Slices ![0, o] S8x128) (hg : ∀ a, (![0, o] : Fin 2 → ℕ) a + S1x128.size a ≤ S1x6144.size a) : FVec F S8x128 .f32 :=
  hB (bodyRun.sl.r_2 c f0 f22) (bodyRun.sl.r_3 c f0 f22) o hs
    (View.readAt (Elt F) A23.view (Rect.unit (s := S1x6144) ![0, o] S1x128.size hg).toLoadRect
      (View.write (Elt F) A23.view f23 (ReadAs.same.apply (View.read (Elt F) A1.view f1)) Finset.univ))
    (View.readAt (Elt F) A24.view (Rect.unit (s := S1x6144) ![0, o] S1x128.size hg).toLoadRect
      (View.write (Elt F) A24.view f24 (ReadAs.same.apply (View.read (Elt F) A2.view f2)) Finset.univ))

/-! Each block's stored codes, product operand and row of scales. -/

theorem codes_0 : Gen.k0_pay101 (bodyRun.sl.r_4 c f0 f1 f2 f22 f23 f24) (bodyRun.sl.r_5 c f0 f1 f2 f22 f23 f24) (bodyRun.sl.r_6 c f0 f1 f2 f22 f23 f24) (bodyRun.sl.r_7 c f0 f1 f2 f22 f23 f24) Gen.k0_pay97 = shapeCast S8x128 (codesB (hK c f0 f1 f2 f22 f23 f24 0 slices_S8x6144_o0_0_S8x128 inb_S1x6144_S1x128_0_0)) shapeCasts_S8x128_S8x128 := rfl
theorem lhs_0 : Gen.k0_pay104 (bodyRun.sl.r_9 c f0 f1 f2 f22 f23 f24) = lhsB (hK c f0 f1 f2 f22 f23 f24 0 slices_S8x6144_o0_0_S8x128 inb_S1x6144_S1x128_0_0) := rfl
theorem lane_0 : bodyRun.sl.r_8 c f0 f1 f2 f22 f23 f24 = laneB 0#32 (broadcast S8x128 (Scalar.ofBits .f32 0x00000000#32)) (hK c f0 f1 f2 f22 f23 f24 0 slices_S8x6144_o0_0_S8x128 inb_S1x6144_S1x128_0_0) := rfl
theorem codes_1 : Gen.k0_pay109 (bodyRun.sl.r_11 c f0 f1 f2 f22 f23 f24) (bodyRun.sl.r_12 c f0 f1 f2 f22 f23 f24) = shapeCast S8x128 (codesB (hK c f0 f1 f2 f22 f23 f24 128 slices_S8x6144_o0_128_S8x128 inb_S1x6144_S1x128_0_128)) shapeCasts_S8x128_S8x128 := rfl
theorem lhs_1 : Gen.k0_pay111 (bodyRun.sl.r_11 c f0 f1 f2 f22 f23 f24) (bodyRun.sl.r_12 c f0 f1 f2 f22 f23 f24) 127#32 = lhsB (hK c f0 f1 f2 f22 f23 f24 128 slices_S8x6144_o0_128_S8x128 inb_S1x6144_S1x128_0_128) := rfl
theorem lane_1 : bodyRun.sl.r_13 c f0 f1 f2 f22 f23 f24 = laneB 1#32 (bodyRun.sl.r_8 c f0 f1 f2 f22 f23 f24) (hK c f0 f1 f2 f22 f23 f24 128 slices_S8x6144_o0_128_S8x128 inb_S1x6144_S1x128_0_128) := rfl
theorem codes_2 : Gen.k0_pay119 (bodyRun.sl.r_17 c f0 f1 f2 f22 f23 f24) = shapeCast S8x128 (codesB (hK c f0 f1 f2 f22 f23 f24 256 slices_S8x6144_o0_256_S8x128 inb_S1x6144_S1x128_0_256)) shapeCasts_S8x128_S8x128 := rfl
theorem lhs_2 : Gen.k0_pay121 (bodyRun.sl.r_16 c f0 f1 f2 f22 f23 f24) (bodyRun.sl.r_17 c f0 f1 f2 f22 f23 f24) = lhsB (hK c f0 f1 f2 f22 f23 f24 256 slices_S8x6144_o0_256_S8x128 inb_S1x6144_S1x128_0_256) := rfl
theorem lane_2 : bodyRun.sl.r_18 c f0 f1 f2 f22 f23 f24 = laneB 2#32 (bodyRun.sl.r_13 c f0 f1 f2 f22 f23 f24) (hK c f0 f1 f2 f22 f23 f24 256 slices_S8x6144_o0_256_S8x128 inb_S1x6144_S1x128_0_256) := rfl
theorem codes_3 : Gen.k0_pay129 (bodyRun.sl.r_19 c f0 f1 f2 f22 f23 f24) (bodyRun.sl.r_20 c f0 f1 f2 f22 f23 f24) (bodyRun.sl.r_21 c f0 f1 f2 f22 f23 f24) bodyRun.sl.v331 (bodyRun.sl.r_22 c f0 f1 f2 f22 f23 f24) = shapeCast S8x128 (codesB (hK c f0 f1 f2 f22 f23 f24 384 slices_S8x6144_o0_384_S8x128 inb_S1x6144_S1x128_0_384)) shapeCasts_S8x128_S8x128 := rfl
theorem lhs_3 : Gen.k0_pay132 (bodyRun.sl.r_23 c f0 f1 f2 f22 f23 f24) (bodyRun.sl.r_24 c f0 f1 f2 f22 f23 f24) = lhsB (hK c f0 f1 f2 f22 f23 f24 384 slices_S8x6144_o0_384_S8x128 inb_S1x6144_S1x128_0_384) := rfl
theorem lane_3 : bodyRun.sl.r_25 c f0 f1 f2 f22 f23 f24 = laneB 3#32 (bodyRun.sl.r_18 c f0 f1 f2 f22 f23 f24) (hK c f0 f1 f2 f22 f23 f24 384 slices_S8x6144_o0_384_S8x128 inb_S1x6144_S1x128_0_384) := rfl
theorem codes_4 : Gen.k0_pay142 (bodyRun.sl.r_26 c f0 f1 f2 f22 f23 f24) (bodyRun.sl.r_27 c f0 f1 f2 f22 f23 f24) (bodyRun.sl.r_28 c f0 f1 f2 f22 f23 f24) (bodyRun.sl.r_29 c f0 f1 f2 f22 f23 f24) Gen.k0_pay138 = shapeCast S8x128 (codesB (hK c f0 f1 f2 f22 f23 f24 512 slices_S8x6144_o0_512_S8x128 inb_S1x6144_S1x128_0_512)) shapeCasts_S8x128_S8x128 := rfl
theorem lhs_4 : Gen.k0_pay145 (bodyRun.sl.r_31 c f0 f1 f2 f22 f23 f24) = lhsB (hK c f0 f1 f2 f22 f23 f24 512 slices_S8x6144_o0_512_S8x128 inb_S1x6144_S1x128_0_512) := rfl
theorem lane_4 : bodyRun.sl.r_30 c f0 f1 f2 f22 f23 f24 = laneB 4#32 (bodyRun.sl.r_25 c f0 f1 f2 f22 f23 f24) (hK c f0 f1 f2 f22 f23 f24 512 slices_S8x6144_o0_512_S8x128 inb_S1x6144_S1x128_0_512) := rfl
theorem codes_5 : Gen.k0_pay150 (bodyRun.sl.r_32 c f0 f1 f2 f22 f23 f24) (bodyRun.sl.r_33 c f0 f1 f2 f22 f23 f24) = shapeCast S8x128 (codesB (hK c f0 f1 f2 f22 f23 f24 640 slices_S8x6144_o0_640_S8x128 inb_S1x6144_S1x128_0_640)) shapeCasts_S8x128_S8x128 := rfl
theorem lhs_5 : Gen.k0_pay152 (bodyRun.sl.r_32 c f0 f1 f2 f22 f23 f24) (bodyRun.sl.r_33 c f0 f1 f2 f22 f23 f24) 127#32 = lhsB (hK c f0 f1 f2 f22 f23 f24 640 slices_S8x6144_o0_640_S8x128 inb_S1x6144_S1x128_0_640) := rfl
theorem lane_5 : bodyRun.sl.r_34 c f0 f1 f2 f22 f23 f24 = laneB 5#32 (bodyRun.sl.r_30 c f0 f1 f2 f22 f23 f24) (hK c f0 f1 f2 f22 f23 f24 640 slices_S8x6144_o0_640_S8x128 inb_S1x6144_S1x128_0_640) := rfl
theorem codes_6 : Gen.k0_pay160 (bodyRun.sl.r_38 c f0 f1 f2 f22 f23 f24) = shapeCast S8x128 (codesB (hK c f0 f1 f2 f22 f23 f24 768 slices_S8x6144_o0_768_S8x128 inb_S1x6144_S1x128_0_768)) shapeCasts_S8x128_S8x128 := rfl
theorem lhs_6 : Gen.k0_pay162 (bodyRun.sl.r_37 c f0 f1 f2 f22 f23 f24) (bodyRun.sl.r_38 c f0 f1 f2 f22 f23 f24) = lhsB (hK c f0 f1 f2 f22 f23 f24 768 slices_S8x6144_o0_768_S8x128 inb_S1x6144_S1x128_0_768) := rfl
theorem lane_6 : bodyRun.sl.r_39 c f0 f1 f2 f22 f23 f24 = laneB 6#32 (bodyRun.sl.r_34 c f0 f1 f2 f22 f23 f24) (hK c f0 f1 f2 f22 f23 f24 768 slices_S8x6144_o0_768_S8x128 inb_S1x6144_S1x128_0_768) := rfl
theorem codes_7 : Gen.k0_pay170 (bodyRun.sl.r_40 c f0 f1 f2 f22 f23 f24) (bodyRun.sl.r_41 c f0 f1 f2 f22 f23 f24) (bodyRun.sl.r_42 c f0 f1 f2 f22 f23 f24) bodyRun.sl.v331 (bodyRun.sl.r_43 c f0 f1 f2 f22 f23 f24) = shapeCast S8x128 (codesB (hK c f0 f1 f2 f22 f23 f24 896 slices_S8x6144_o0_896_S8x128 inb_S1x6144_S1x128_0_896)) shapeCasts_S8x128_S8x128 := rfl
theorem lhs_7 : Gen.k0_pay173 (bodyRun.sl.r_44 c f0 f1 f2 f22 f23 f24) (bodyRun.sl.r_45 c f0 f1 f2 f22 f23 f24) = lhsB (hK c f0 f1 f2 f22 f23 f24 896 slices_S8x6144_o0_896_S8x128 inb_S1x6144_S1x128_0_896) := rfl
theorem lane_7 : bodyRun.sl.r_46 c f0 f1 f2 f22 f23 f24 = laneB 7#32 (bodyRun.sl.r_39 c f0 f1 f2 f22 f23 f24) (hK c f0 f1 f2 f22 f23 f24 896 slices_S8x6144_o0_896_S8x128 inb_S1x6144_S1x128_0_896) := rfl
theorem codes_8 : Gen.k0_pay183 (bodyRun.sl.r_47 c f0 f1 f2 f22 f23 f24) (bodyRun.sl.r_48 c f0 f1 f2 f22 f23 f24) (bodyRun.sl.r_49 c f0 f1 f2 f22 f23 f24) (bodyRun.sl.r_50 c f0 f1 f2 f22 f23 f24) Gen.k0_pay179 = shapeCast S8x128 (codesB (hK c f0 f1 f2 f22 f23 f24 1024 slices_S8x6144_o0_1024_S8x128 inb_S1x6144_S1x128_0_1024)) shapeCasts_S8x128_S8x128 := rfl
theorem lhs_8 : Gen.k0_pay186 (bodyRun.sl.r_52 c f0 f1 f2 f22 f23 f24) = lhsB (hK c f0 f1 f2 f22 f23 f24 1024 slices_S8x6144_o0_1024_S8x128 inb_S1x6144_S1x128_0_1024) := rfl
theorem lane_8 : bodyRun.sl.r_51 c f0 f1 f2 f22 f23 f24 = laneB 8#32 (bodyRun.sl.r_46 c f0 f1 f2 f22 f23 f24) (hK c f0 f1 f2 f22 f23 f24 1024 slices_S8x6144_o0_1024_S8x128 inb_S1x6144_S1x128_0_1024) := rfl
theorem codes_9 : Gen.k0_pay191 (bodyRun.sl.r_53 c f0 f1 f2 f22 f23 f24) (bodyRun.sl.r_54 c f0 f1 f2 f22 f23 f24) = shapeCast S8x128 (codesB (hK c f0 f1 f2 f22 f23 f24 1152 slices_S8x6144_o0_1152_S8x128 inb_S1x6144_S1x128_0_1152)) shapeCasts_S8x128_S8x128 := rfl
theorem lhs_9 : Gen.k0_pay193 (bodyRun.sl.r_53 c f0 f1 f2 f22 f23 f24) (bodyRun.sl.r_54 c f0 f1 f2 f22 f23 f24) 127#32 = lhsB (hK c f0 f1 f2 f22 f23 f24 1152 slices_S8x6144_o0_1152_S8x128 inb_S1x6144_S1x128_0_1152) := rfl
theorem lane_9 : bodyRun.sl.r_55 c f0 f1 f2 f22 f23 f24 = laneB 9#32 (bodyRun.sl.r_51 c f0 f1 f2 f22 f23 f24) (hK c f0 f1 f2 f22 f23 f24 1152 slices_S8x6144_o0_1152_S8x128 inb_S1x6144_S1x128_0_1152) := rfl
theorem codes_10 : Gen.k0_pay201 (bodyRun.sl.r_59 c f0 f1 f2 f22 f23 f24) = shapeCast S8x128 (codesB (hK c f0 f1 f2 f22 f23 f24 1280 slices_S8x6144_o0_1280_S8x128 inb_S1x6144_S1x128_0_1280)) shapeCasts_S8x128_S8x128 := rfl
theorem lhs_10 : Gen.k0_pay203 (bodyRun.sl.r_58 c f0 f1 f2 f22 f23 f24) (bodyRun.sl.r_59 c f0 f1 f2 f22 f23 f24) = lhsB (hK c f0 f1 f2 f22 f23 f24 1280 slices_S8x6144_o0_1280_S8x128 inb_S1x6144_S1x128_0_1280) := rfl
theorem lane_10 : bodyRun.sl.r_60 c f0 f1 f2 f22 f23 f24 = laneB 10#32 (bodyRun.sl.r_55 c f0 f1 f2 f22 f23 f24) (hK c f0 f1 f2 f22 f23 f24 1280 slices_S8x6144_o0_1280_S8x128 inb_S1x6144_S1x128_0_1280) := rfl
theorem codes_11 : Gen.k0_pay211 (bodyRun.sl.r_61 c f0 f1 f2 f22 f23 f24) (bodyRun.sl.r_62 c f0 f1 f2 f22 f23 f24) (bodyRun.sl.r_63 c f0 f1 f2 f22 f23 f24) bodyRun.sl.v331 (bodyRun.sl.r_64 c f0 f1 f2 f22 f23 f24) = shapeCast S8x128 (codesB (hK c f0 f1 f2 f22 f23 f24 1408 slices_S8x6144_o0_1408_S8x128 inb_S1x6144_S1x128_0_1408)) shapeCasts_S8x128_S8x128 := rfl
theorem lhs_11 : Gen.k0_pay214 (bodyRun.sl.r_65 c f0 f1 f2 f22 f23 f24) (bodyRun.sl.r_66 c f0 f1 f2 f22 f23 f24) = lhsB (hK c f0 f1 f2 f22 f23 f24 1408 slices_S8x6144_o0_1408_S8x128 inb_S1x6144_S1x128_0_1408) := rfl
theorem lane_11 : bodyRun.sl.r_67 c f0 f1 f2 f22 f23 f24 = laneB 11#32 (bodyRun.sl.r_60 c f0 f1 f2 f22 f23 f24) (hK c f0 f1 f2 f22 f23 f24 1408 slices_S8x6144_o0_1408_S8x128 inb_S1x6144_S1x128_0_1408) := rfl
theorem codes_12 : Gen.k0_pay224 (bodyRun.sl.r_68 c f0 f1 f2 f22 f23 f24) (bodyRun.sl.r_69 c f0 f1 f2 f22 f23 f24) (bodyRun.sl.r_70 c f0 f1 f2 f22 f23 f24) (bodyRun.sl.r_71 c f0 f1 f2 f22 f23 f24) Gen.k0_pay220 = shapeCast S8x128 (codesB (hK c f0 f1 f2 f22 f23 f24 1536 slices_S8x6144_o0_1536_S8x128 inb_S1x6144_S1x128_0_1536)) shapeCasts_S8x128_S8x128 := rfl
theorem lhs_12 : Gen.k0_pay227 (bodyRun.sl.r_73 c f0 f1 f2 f22 f23 f24) = lhsB (hK c f0 f1 f2 f22 f23 f24 1536 slices_S8x6144_o0_1536_S8x128 inb_S1x6144_S1x128_0_1536) := rfl
theorem lane_12 : bodyRun.sl.r_72 c f0 f1 f2 f22 f23 f24 = laneB 12#32 (bodyRun.sl.r_67 c f0 f1 f2 f22 f23 f24) (hK c f0 f1 f2 f22 f23 f24 1536 slices_S8x6144_o0_1536_S8x128 inb_S1x6144_S1x128_0_1536) := rfl
theorem codes_13 : Gen.k0_pay232 (bodyRun.sl.r_74 c f0 f1 f2 f22 f23 f24) (bodyRun.sl.r_75 c f0 f1 f2 f22 f23 f24) = shapeCast S8x128 (codesB (hK c f0 f1 f2 f22 f23 f24 1664 slices_S8x6144_o0_1664_S8x128 inb_S1x6144_S1x128_0_1664)) shapeCasts_S8x128_S8x128 := rfl
theorem lhs_13 : Gen.k0_pay234 (bodyRun.sl.r_74 c f0 f1 f2 f22 f23 f24) (bodyRun.sl.r_75 c f0 f1 f2 f22 f23 f24) 127#32 = lhsB (hK c f0 f1 f2 f22 f23 f24 1664 slices_S8x6144_o0_1664_S8x128 inb_S1x6144_S1x128_0_1664) := rfl
theorem lane_13 : bodyRun.sl.r_76 c f0 f1 f2 f22 f23 f24 = laneB 13#32 (bodyRun.sl.r_72 c f0 f1 f2 f22 f23 f24) (hK c f0 f1 f2 f22 f23 f24 1664 slices_S8x6144_o0_1664_S8x128 inb_S1x6144_S1x128_0_1664) := rfl
theorem codes_14 : Gen.k0_pay242 (bodyRun.sl.r_80 c f0 f1 f2 f22 f23 f24) = shapeCast S8x128 (codesB (hK c f0 f1 f2 f22 f23 f24 1792 slices_S8x6144_o0_1792_S8x128 inb_S1x6144_S1x128_0_1792)) shapeCasts_S8x128_S8x128 := rfl
theorem lhs_14 : Gen.k0_pay244 (bodyRun.sl.r_79 c f0 f1 f2 f22 f23 f24) (bodyRun.sl.r_80 c f0 f1 f2 f22 f23 f24) = lhsB (hK c f0 f1 f2 f22 f23 f24 1792 slices_S8x6144_o0_1792_S8x128 inb_S1x6144_S1x128_0_1792) := rfl
theorem lane_14 : bodyRun.sl.r_81 c f0 f1 f2 f22 f23 f24 = laneB 14#32 (bodyRun.sl.r_76 c f0 f1 f2 f22 f23 f24) (hK c f0 f1 f2 f22 f23 f24 1792 slices_S8x6144_o0_1792_S8x128 inb_S1x6144_S1x128_0_1792) := rfl
theorem codes_15 : Gen.k0_pay252 (bodyRun.sl.r_82 c f0 f1 f2 f22 f23 f24) (bodyRun.sl.r_83 c f0 f1 f2 f22 f23 f24) (bodyRun.sl.r_84 c f0 f1 f2 f22 f23 f24) bodyRun.sl.v331 (bodyRun.sl.r_85 c f0 f1 f2 f22 f23 f24) = shapeCast S8x128 (codesB (hK c f0 f1 f2 f22 f23 f24 1920 slices_S8x6144_o0_1920_S8x128 inb_S1x6144_S1x128_0_1920)) shapeCasts_S8x128_S8x128 := rfl
theorem lhs_15 : Gen.k0_pay255 (bodyRun.sl.r_86 c f0 f1 f2 f22 f23 f24) (bodyRun.sl.r_87 c f0 f1 f2 f22 f23 f24) = lhsB (hK c f0 f1 f2 f22 f23 f24 1920 slices_S8x6144_o0_1920_S8x128 inb_S1x6144_S1x128_0_1920) := rfl
theorem lane_15 : bodyRun.sl.r_88 c f0 f1 f2 f22 f23 f24 = laneB 15#32 (bodyRun.sl.r_81 c f0 f1 f2 f22 f23 f24) (hK c f0 f1 f2 f22 f23 f24 1920 slices_S8x6144_o0_1920_S8x128 inb_S1x6144_S1x128_0_1920) := rfl
theorem codes_16 : Gen.k0_pay265 (bodyRun.sl.r_89 c f0 f1 f2 f22 f23 f24) (bodyRun.sl.r_90 c f0 f1 f2 f22 f23 f24) (bodyRun.sl.r_91 c f0 f1 f2 f22 f23 f24) (bodyRun.sl.r_92 c f0 f1 f2 f22 f23 f24) Gen.k0_pay261 = shapeCast S8x128 (codesB (hK c f0 f1 f2 f22 f23 f24 2048 slices_S8x6144_o0_2048_S8x128 inb_S1x6144_S1x128_0_2048)) shapeCasts_S8x128_S8x128 := rfl
theorem lhs_16 : Gen.k0_pay268 (bodyRun.sl.r_94 c f0 f1 f2 f22 f23 f24) = lhsB (hK c f0 f1 f2 f22 f23 f24 2048 slices_S8x6144_o0_2048_S8x128 inb_S1x6144_S1x128_0_2048) := rfl
theorem lane_16 : bodyRun.sl.r_93 c f0 f1 f2 f22 f23 f24 = laneB 16#32 (bodyRun.sl.r_88 c f0 f1 f2 f22 f23 f24) (hK c f0 f1 f2 f22 f23 f24 2048 slices_S8x6144_o0_2048_S8x128 inb_S1x6144_S1x128_0_2048) := rfl
theorem codes_17 : Gen.k0_pay273 (bodyRun.sl.r_95 c f0 f1 f2 f22 f23 f24) (bodyRun.sl.r_96 c f0 f1 f2 f22 f23 f24) = shapeCast S8x128 (codesB (hK c f0 f1 f2 f22 f23 f24 2176 slices_S8x6144_o0_2176_S8x128 inb_S1x6144_S1x128_0_2176)) shapeCasts_S8x128_S8x128 := rfl
theorem lhs_17 : Gen.k0_pay275 (bodyRun.sl.r_95 c f0 f1 f2 f22 f23 f24) (bodyRun.sl.r_96 c f0 f1 f2 f22 f23 f24) 127#32 = lhsB (hK c f0 f1 f2 f22 f23 f24 2176 slices_S8x6144_o0_2176_S8x128 inb_S1x6144_S1x128_0_2176) := rfl
theorem lane_17 : bodyRun.sl.r_97 c f0 f1 f2 f22 f23 f24 = laneB 17#32 (bodyRun.sl.r_93 c f0 f1 f2 f22 f23 f24) (hK c f0 f1 f2 f22 f23 f24 2176 slices_S8x6144_o0_2176_S8x128 inb_S1x6144_S1x128_0_2176) := rfl
theorem codes_18 : Gen.k0_pay283 (bodyRun.sl.r_101 c f0 f1 f2 f22 f23 f24) = shapeCast S8x128 (codesB (hK c f0 f1 f2 f22 f23 f24 2304 slices_S8x6144_o0_2304_S8x128 inb_S1x6144_S1x128_0_2304)) shapeCasts_S8x128_S8x128 := rfl
theorem lhs_18 : Gen.k0_pay285 (bodyRun.sl.r_100 c f0 f1 f2 f22 f23 f24) (bodyRun.sl.r_101 c f0 f1 f2 f22 f23 f24) = lhsB (hK c f0 f1 f2 f22 f23 f24 2304 slices_S8x6144_o0_2304_S8x128 inb_S1x6144_S1x128_0_2304) := rfl
theorem lane_18 : bodyRun.sl.r_102 c f0 f1 f2 f22 f23 f24 = laneB 18#32 (bodyRun.sl.r_97 c f0 f1 f2 f22 f23 f24) (hK c f0 f1 f2 f22 f23 f24 2304 slices_S8x6144_o0_2304_S8x128 inb_S1x6144_S1x128_0_2304) := rfl
theorem codes_19 : Gen.k0_pay293 (bodyRun.sl.r_103 c f0 f1 f2 f22 f23 f24) (bodyRun.sl.r_104 c f0 f1 f2 f22 f23 f24) (bodyRun.sl.r_105 c f0 f1 f2 f22 f23 f24) bodyRun.sl.v331 (bodyRun.sl.r_106 c f0 f1 f2 f22 f23 f24) = shapeCast S8x128 (codesB (hK c f0 f1 f2 f22 f23 f24 2432 slices_S8x6144_o0_2432_S8x128 inb_S1x6144_S1x128_0_2432)) shapeCasts_S8x128_S8x128 := rfl
theorem lhs_19 : Gen.k0_pay296 (bodyRun.sl.r_107 c f0 f1 f2 f22 f23 f24) (bodyRun.sl.r_108 c f0 f1 f2 f22 f23 f24) = lhsB (hK c f0 f1 f2 f22 f23 f24 2432 slices_S8x6144_o0_2432_S8x128 inb_S1x6144_S1x128_0_2432) := rfl
theorem lane_19 : bodyRun.sl.r_109 c f0 f1 f2 f22 f23 f24 = laneB 19#32 (bodyRun.sl.r_102 c f0 f1 f2 f22 f23 f24) (hK c f0 f1 f2 f22 f23 f24 2432 slices_S8x6144_o0_2432_S8x128 inb_S1x6144_S1x128_0_2432) := rfl
theorem codes_20 : Gen.k0_pay306 (bodyRun.sl.r_110 c f0 f1 f2 f22 f23 f24) (bodyRun.sl.r_111 c f0 f1 f2 f22 f23 f24) (bodyRun.sl.r_112 c f0 f1 f2 f22 f23 f24) (bodyRun.sl.r_113 c f0 f1 f2 f22 f23 f24) Gen.k0_pay302 = shapeCast S8x128 (codesB (hK c f0 f1 f2 f22 f23 f24 2560 slices_S8x6144_o0_2560_S8x128 inb_S1x6144_S1x128_0_2560)) shapeCasts_S8x128_S8x128 := rfl
theorem lhs_20 : Gen.k0_pay309 (bodyRun.sl.r_115 c f0 f1 f2 f22 f23 f24) = lhsB (hK c f0 f1 f2 f22 f23 f24 2560 slices_S8x6144_o0_2560_S8x128 inb_S1x6144_S1x128_0_2560) := rfl
theorem lane_20 : bodyRun.sl.r_114 c f0 f1 f2 f22 f23 f24 = laneB 20#32 (bodyRun.sl.r_109 c f0 f1 f2 f22 f23 f24) (hK c f0 f1 f2 f22 f23 f24 2560 slices_S8x6144_o0_2560_S8x128 inb_S1x6144_S1x128_0_2560) := rfl
theorem codes_21 : Gen.k0_pay314 (bodyRun.sl.r_116 c f0 f1 f2 f22 f23 f24) (bodyRun.sl.r_117 c f0 f1 f2 f22 f23 f24) = shapeCast S8x128 (codesB (hK c f0 f1 f2 f22 f23 f24 2688 slices_S8x6144_o0_2688_S8x128 inb_S1x6144_S1x128_0_2688)) shapeCasts_S8x128_S8x128 := rfl
theorem lhs_21 : Gen.k0_pay316 (bodyRun.sl.r_116 c f0 f1 f2 f22 f23 f24) (bodyRun.sl.r_117 c f0 f1 f2 f22 f23 f24) 127#32 = lhsB (hK c f0 f1 f2 f22 f23 f24 2688 slices_S8x6144_o0_2688_S8x128 inb_S1x6144_S1x128_0_2688) := rfl
theorem lane_21 : bodyRun.sl.r_118 c f0 f1 f2 f22 f23 f24 = laneB 21#32 (bodyRun.sl.r_114 c f0 f1 f2 f22 f23 f24) (hK c f0 f1 f2 f22 f23 f24 2688 slices_S8x6144_o0_2688_S8x128 inb_S1x6144_S1x128_0_2688) := rfl
theorem codes_22 : Gen.k0_pay324 (bodyRun.sl.r_122 c f0 f1 f2 f22 f23 f24) = shapeCast S8x128 (codesB (hK c f0 f1 f2 f22 f23 f24 2816 slices_S8x6144_o0_2816_S8x128 inb_S1x6144_S1x128_0_2816)) shapeCasts_S8x128_S8x128 := rfl
theorem lhs_22 : Gen.k0_pay326 (bodyRun.sl.r_121 c f0 f1 f2 f22 f23 f24) (bodyRun.sl.r_122 c f0 f1 f2 f22 f23 f24) = lhsB (hK c f0 f1 f2 f22 f23 f24 2816 slices_S8x6144_o0_2816_S8x128 inb_S1x6144_S1x128_0_2816) := rfl
theorem lane_22 : bodyRun.sl.r_123 c f0 f1 f2 f22 f23 f24 = laneB 22#32 (bodyRun.sl.r_118 c f0 f1 f2 f22 f23 f24) (hK c f0 f1 f2 f22 f23 f24 2816 slices_S8x6144_o0_2816_S8x128 inb_S1x6144_S1x128_0_2816) := rfl
theorem codes_23 : Gen.k0_pay334 (bodyRun.sl.r_124 c f0 f1 f2 f22 f23 f24) (bodyRun.sl.r_125 c f0 f1 f2 f22 f23 f24) (bodyRun.sl.r_126 c f0 f1 f2 f22 f23 f24) bodyRun.sl.v331 (bodyRun.sl.r_127 c f0 f1 f2 f22 f23 f24) = shapeCast S8x128 (codesB (hK c f0 f1 f2 f22 f23 f24 2944 slices_S8x6144_o0_2944_S8x128 inb_S1x6144_S1x128_0_2944)) shapeCasts_S8x128_S8x128 := rfl
theorem lhs_23 : Gen.k0_pay337 (bodyRun.sl.r_128 c f0 f1 f2 f22 f23 f24) (bodyRun.sl.r_129 c f0 f1 f2 f22 f23 f24) = lhsB (hK c f0 f1 f2 f22 f23 f24 2944 slices_S8x6144_o0_2944_S8x128 inb_S1x6144_S1x128_0_2944) := rfl
theorem lane_23 : bodyRun.sl.r_130 c f0 f1 f2 f22 f23 f24 = laneB 23#32 (bodyRun.sl.r_123 c f0 f1 f2 f22 f23 f24) (hK c f0 f1 f2 f22 f23 f24 2944 slices_S8x6144_o0_2944_S8x128 inb_S1x6144_S1x128_0_2944) := rfl
theorem codes_24 : Gen.k0_pay347 (bodyRun.sl.r_131 c f0 f1 f2 f22 f23 f24) (bodyRun.sl.r_132 c f0 f1 f2 f22 f23 f24) (bodyRun.sl.r_133 c f0 f1 f2 f22 f23 f24) (bodyRun.sl.r_134 c f0 f1 f2 f22 f23 f24) Gen.k0_pay343 = shapeCast S8x128 (codesB (hK c f0 f1 f2 f22 f23 f24 3072 slices_S8x6144_o0_3072_S8x128 inb_S1x6144_S1x128_0_3072)) shapeCasts_S8x128_S8x128 := rfl
theorem lhs_24 : Gen.k0_pay350 (bodyRun.sl.r_136 c f0 f1 f2 f22 f23 f24) = lhsB (hK c f0 f1 f2 f22 f23 f24 3072 slices_S8x6144_o0_3072_S8x128 inb_S1x6144_S1x128_0_3072) := rfl
theorem lane_24 : bodyRun.sl.r_135 c f0 f1 f2 f22 f23 f24 = laneB 24#32 (bodyRun.sl.r_130 c f0 f1 f2 f22 f23 f24) (hK c f0 f1 f2 f22 f23 f24 3072 slices_S8x6144_o0_3072_S8x128 inb_S1x6144_S1x128_0_3072) := rfl
theorem codes_25 : Gen.k0_pay355 (bodyRun.sl.r_137 c f0 f1 f2 f22 f23 f24) (bodyRun.sl.r_138 c f0 f1 f2 f22 f23 f24) = shapeCast S8x128 (codesB (hK c f0 f1 f2 f22 f23 f24 3200 slices_S8x6144_o0_3200_S8x128 inb_S1x6144_S1x128_0_3200)) shapeCasts_S8x128_S8x128 := rfl
theorem lhs_25 : Gen.k0_pay357 (bodyRun.sl.r_137 c f0 f1 f2 f22 f23 f24) (bodyRun.sl.r_138 c f0 f1 f2 f22 f23 f24) 127#32 = lhsB (hK c f0 f1 f2 f22 f23 f24 3200 slices_S8x6144_o0_3200_S8x128 inb_S1x6144_S1x128_0_3200) := rfl
theorem lane_25 : bodyRun.sl.r_139 c f0 f1 f2 f22 f23 f24 = laneB 25#32 (bodyRun.sl.r_135 c f0 f1 f2 f22 f23 f24) (hK c f0 f1 f2 f22 f23 f24 3200 slices_S8x6144_o0_3200_S8x128 inb_S1x6144_S1x128_0_3200) := rfl
theorem codes_26 : Gen.k0_pay365 (bodyRun.sl.r_143 c f0 f1 f2 f22 f23 f24) = shapeCast S8x128 (codesB (hK c f0 f1 f2 f22 f23 f24 3328 slices_S8x6144_o0_3328_S8x128 inb_S1x6144_S1x128_0_3328)) shapeCasts_S8x128_S8x128 := rfl
theorem lhs_26 : Gen.k0_pay367 (bodyRun.sl.r_142 c f0 f1 f2 f22 f23 f24) (bodyRun.sl.r_143 c f0 f1 f2 f22 f23 f24) = lhsB (hK c f0 f1 f2 f22 f23 f24 3328 slices_S8x6144_o0_3328_S8x128 inb_S1x6144_S1x128_0_3328) := rfl
theorem lane_26 : bodyRun.sl.r_144 c f0 f1 f2 f22 f23 f24 = laneB 26#32 (bodyRun.sl.r_139 c f0 f1 f2 f22 f23 f24) (hK c f0 f1 f2 f22 f23 f24 3328 slices_S8x6144_o0_3328_S8x128 inb_S1x6144_S1x128_0_3328) := rfl
theorem codes_27 : Gen.k0_pay375 (bodyRun.sl.r_145 c f0 f1 f2 f22 f23 f24) (bodyRun.sl.r_146 c f0 f1 f2 f22 f23 f24) (bodyRun.sl.r_147 c f0 f1 f2 f22 f23 f24) bodyRun.sl.v331 (bodyRun.sl.r_148 c f0 f1 f2 f22 f23 f24) = shapeCast S8x128 (codesB (hK c f0 f1 f2 f22 f23 f24 3456 slices_S8x6144_o0_3456_S8x128 inb_S1x6144_S1x128_0_3456)) shapeCasts_S8x128_S8x128 := rfl
theorem lhs_27 : Gen.k0_pay378 (bodyRun.sl.r_149 c f0 f1 f2 f22 f23 f24) (bodyRun.sl.r_150 c f0 f1 f2 f22 f23 f24) = lhsB (hK c f0 f1 f2 f22 f23 f24 3456 slices_S8x6144_o0_3456_S8x128 inb_S1x6144_S1x128_0_3456) := rfl
theorem lane_27 : bodyRun.sl.r_151 c f0 f1 f2 f22 f23 f24 = laneB 27#32 (bodyRun.sl.r_144 c f0 f1 f2 f22 f23 f24) (hK c f0 f1 f2 f22 f23 f24 3456 slices_S8x6144_o0_3456_S8x128 inb_S1x6144_S1x128_0_3456) := rfl
theorem codes_28 : Gen.k0_pay388 (bodyRun.sl.r_152 c f0 f1 f2 f22 f23 f24) (bodyRun.sl.r_153 c f0 f1 f2 f22 f23 f24) (bodyRun.sl.r_154 c f0 f1 f2 f22 f23 f24) (bodyRun.sl.r_155 c f0 f1 f2 f22 f23 f24) Gen.k0_pay384 = shapeCast S8x128 (codesB (hK c f0 f1 f2 f22 f23 f24 3584 slices_S8x6144_o0_3584_S8x128 inb_S1x6144_S1x128_0_3584)) shapeCasts_S8x128_S8x128 := rfl
theorem lhs_28 : Gen.k0_pay391 (bodyRun.sl.r_157 c f0 f1 f2 f22 f23 f24) = lhsB (hK c f0 f1 f2 f22 f23 f24 3584 slices_S8x6144_o0_3584_S8x128 inb_S1x6144_S1x128_0_3584) := rfl
theorem lane_28 : bodyRun.sl.r_156 c f0 f1 f2 f22 f23 f24 = laneB 28#32 (bodyRun.sl.r_151 c f0 f1 f2 f22 f23 f24) (hK c f0 f1 f2 f22 f23 f24 3584 slices_S8x6144_o0_3584_S8x128 inb_S1x6144_S1x128_0_3584) := rfl
theorem codes_29 : Gen.k0_pay396 (bodyRun.sl.r_158 c f0 f1 f2 f22 f23 f24) (bodyRun.sl.r_159 c f0 f1 f2 f22 f23 f24) = shapeCast S8x128 (codesB (hK c f0 f1 f2 f22 f23 f24 3712 slices_S8x6144_o0_3712_S8x128 inb_S1x6144_S1x128_0_3712)) shapeCasts_S8x128_S8x128 := rfl
theorem lhs_29 : Gen.k0_pay398 (bodyRun.sl.r_158 c f0 f1 f2 f22 f23 f24) (bodyRun.sl.r_159 c f0 f1 f2 f22 f23 f24) 127#32 = lhsB (hK c f0 f1 f2 f22 f23 f24 3712 slices_S8x6144_o0_3712_S8x128 inb_S1x6144_S1x128_0_3712) := rfl
theorem lane_29 : bodyRun.sl.r_160 c f0 f1 f2 f22 f23 f24 = laneB 29#32 (bodyRun.sl.r_156 c f0 f1 f2 f22 f23 f24) (hK c f0 f1 f2 f22 f23 f24 3712 slices_S8x6144_o0_3712_S8x128 inb_S1x6144_S1x128_0_3712) := rfl
theorem codes_30 : Gen.k0_pay406 (bodyRun.sl.r_164 c f0 f1 f2 f22 f23 f24) = shapeCast S8x128 (codesB (hK c f0 f1 f2 f22 f23 f24 3840 slices_S8x6144_o0_3840_S8x128 inb_S1x6144_S1x128_0_3840)) shapeCasts_S8x128_S8x128 := rfl
theorem lhs_30 : Gen.k0_pay408 (bodyRun.sl.r_163 c f0 f1 f2 f22 f23 f24) (bodyRun.sl.r_164 c f0 f1 f2 f22 f23 f24) = lhsB (hK c f0 f1 f2 f22 f23 f24 3840 slices_S8x6144_o0_3840_S8x128 inb_S1x6144_S1x128_0_3840) := rfl
theorem lane_30 : bodyRun.sl.r_165 c f0 f1 f2 f22 f23 f24 = laneB 30#32 (bodyRun.sl.r_160 c f0 f1 f2 f22 f23 f24) (hK c f0 f1 f2 f22 f23 f24 3840 slices_S8x6144_o0_3840_S8x128 inb_S1x6144_S1x128_0_3840) := rfl
theorem codes_31 : Gen.k0_pay416 (bodyRun.sl.r_166 c f0 f1 f2 f22 f23 f24) (bodyRun.sl.r_167 c f0 f1 f2 f22 f23 f24) (bodyRun.sl.r_168 c f0 f1 f2 f22 f23 f24) bodyRun.sl.v331 (bodyRun.sl.r_169 c f0 f1 f2 f22 f23 f24) = shapeCast S8x128 (codesB (hK c f0 f1 f2 f22 f23 f24 3968 slices_S8x6144_o0_3968_S8x128 inb_S1x6144_S1x128_0_3968)) shapeCasts_S8x128_S8x128 := rfl
theorem lhs_31 : Gen.k0_pay419 (bodyRun.sl.r_170 c f0 f1 f2 f22 f23 f24) (bodyRun.sl.r_171 c f0 f1 f2 f22 f23 f24) = lhsB (hK c f0 f1 f2 f22 f23 f24 3968 slices_S8x6144_o0_3968_S8x128 inb_S1x6144_S1x128_0_3968) := rfl
theorem lane_31 : bodyRun.sl.r_172 c f0 f1 f2 f22 f23 f24 = laneB 31#32 (bodyRun.sl.r_165 c f0 f1 f2 f22 f23 f24) (hK c f0 f1 f2 f22 f23 f24 3968 slices_S8x6144_o0_3968_S8x128 inb_S1x6144_S1x128_0_3968) := rfl
theorem codes_32 : Gen.k0_pay429 (bodyRun.sl.r_173 c f0 f1 f2 f22 f23 f24) (bodyRun.sl.r_174 c f0 f1 f2 f22 f23 f24) (bodyRun.sl.r_175 c f0 f1 f2 f22 f23 f24) (bodyRun.sl.r_176 c f0 f1 f2 f22 f23 f24) Gen.k0_pay425 = shapeCast S8x128 (codesB (hK c f0 f1 f2 f22 f23 f24 4096 slices_S8x6144_o0_4096_S8x128 inb_S1x6144_S1x128_0_4096)) shapeCasts_S8x128_S8x128 := rfl
theorem lhs_32 : Gen.k0_pay432 (bodyRun.sl.r_178 c f0 f1 f2 f22 f23 f24) = lhsB (hK c f0 f1 f2 f22 f23 f24 4096 slices_S8x6144_o0_4096_S8x128 inb_S1x6144_S1x128_0_4096) := rfl
theorem lane_32 : bodyRun.sl.r_177 c f0 f1 f2 f22 f23 f24 = laneB 32#32 (bodyRun.sl.r_172 c f0 f1 f2 f22 f23 f24) (hK c f0 f1 f2 f22 f23 f24 4096 slices_S8x6144_o0_4096_S8x128 inb_S1x6144_S1x128_0_4096) := rfl
theorem codes_33 : Gen.k0_pay437 (bodyRun.sl.r_179 c f0 f1 f2 f22 f23 f24) (bodyRun.sl.r_180 c f0 f1 f2 f22 f23 f24) = shapeCast S8x128 (codesB (hK c f0 f1 f2 f22 f23 f24 4224 slices_S8x6144_o0_4224_S8x128 inb_S1x6144_S1x128_0_4224)) shapeCasts_S8x128_S8x128 := rfl
theorem lhs_33 : Gen.k0_pay439 (bodyRun.sl.r_179 c f0 f1 f2 f22 f23 f24) (bodyRun.sl.r_180 c f0 f1 f2 f22 f23 f24) 127#32 = lhsB (hK c f0 f1 f2 f22 f23 f24 4224 slices_S8x6144_o0_4224_S8x128 inb_S1x6144_S1x128_0_4224) := rfl
theorem lane_33 : bodyRun.sl.r_181 c f0 f1 f2 f22 f23 f24 = laneB 33#32 (bodyRun.sl.r_177 c f0 f1 f2 f22 f23 f24) (hK c f0 f1 f2 f22 f23 f24 4224 slices_S8x6144_o0_4224_S8x128 inb_S1x6144_S1x128_0_4224) := rfl
theorem codes_34 : Gen.k0_pay447 (bodyRun.sl.r_185 c f0 f1 f2 f22 f23 f24) = shapeCast S8x128 (codesB (hK c f0 f1 f2 f22 f23 f24 4352 slices_S8x6144_o0_4352_S8x128 inb_S1x6144_S1x128_0_4352)) shapeCasts_S8x128_S8x128 := rfl
theorem lhs_34 : Gen.k0_pay449 (bodyRun.sl.r_184 c f0 f1 f2 f22 f23 f24) (bodyRun.sl.r_185 c f0 f1 f2 f22 f23 f24) = lhsB (hK c f0 f1 f2 f22 f23 f24 4352 slices_S8x6144_o0_4352_S8x128 inb_S1x6144_S1x128_0_4352) := rfl
theorem lane_34 : bodyRun.sl.r_186 c f0 f1 f2 f22 f23 f24 = laneB 34#32 (bodyRun.sl.r_181 c f0 f1 f2 f22 f23 f24) (hK c f0 f1 f2 f22 f23 f24 4352 slices_S8x6144_o0_4352_S8x128 inb_S1x6144_S1x128_0_4352) := rfl
theorem codes_35 : Gen.k0_pay457 (bodyRun.sl.r_187 c f0 f1 f2 f22 f23 f24) (bodyRun.sl.r_188 c f0 f1 f2 f22 f23 f24) (bodyRun.sl.r_189 c f0 f1 f2 f22 f23 f24) bodyRun.sl.v331 (bodyRun.sl.r_190 c f0 f1 f2 f22 f23 f24) = shapeCast S8x128 (codesB (hK c f0 f1 f2 f22 f23 f24 4480 slices_S8x6144_o0_4480_S8x128 inb_S1x6144_S1x128_0_4480)) shapeCasts_S8x128_S8x128 := rfl
theorem lhs_35 : Gen.k0_pay460 (bodyRun.sl.r_191 c f0 f1 f2 f22 f23 f24) (bodyRun.sl.r_192 c f0 f1 f2 f22 f23 f24) = lhsB (hK c f0 f1 f2 f22 f23 f24 4480 slices_S8x6144_o0_4480_S8x128 inb_S1x6144_S1x128_0_4480) := rfl
theorem lane_35 : bodyRun.sl.r_193 c f0 f1 f2 f22 f23 f24 = laneB 35#32 (bodyRun.sl.r_186 c f0 f1 f2 f22 f23 f24) (hK c f0 f1 f2 f22 f23 f24 4480 slices_S8x6144_o0_4480_S8x128 inb_S1x6144_S1x128_0_4480) := rfl
theorem codes_36 : Gen.k0_pay470 (bodyRun.sl.r_194 c f0 f1 f2 f22 f23 f24) (bodyRun.sl.r_195 c f0 f1 f2 f22 f23 f24) (bodyRun.sl.r_196 c f0 f1 f2 f22 f23 f24) (bodyRun.sl.r_197 c f0 f1 f2 f22 f23 f24) Gen.k0_pay466 = shapeCast S8x128 (codesB (hK c f0 f1 f2 f22 f23 f24 4608 slices_S8x6144_o0_4608_S8x128 inb_S1x6144_S1x128_0_4608)) shapeCasts_S8x128_S8x128 := rfl
theorem lhs_36 : Gen.k0_pay473 (bodyRun.sl.r_199 c f0 f1 f2 f22 f23 f24) = lhsB (hK c f0 f1 f2 f22 f23 f24 4608 slices_S8x6144_o0_4608_S8x128 inb_S1x6144_S1x128_0_4608) := rfl
theorem lane_36 : bodyRun.sl.r_198 c f0 f1 f2 f22 f23 f24 = laneB 36#32 (bodyRun.sl.r_193 c f0 f1 f2 f22 f23 f24) (hK c f0 f1 f2 f22 f23 f24 4608 slices_S8x6144_o0_4608_S8x128 inb_S1x6144_S1x128_0_4608) := rfl
theorem codes_37 : Gen.k0_pay478 (bodyRun.sl.r_200 c f0 f1 f2 f22 f23 f24) (bodyRun.sl.r_201 c f0 f1 f2 f22 f23 f24) = shapeCast S8x128 (codesB (hK c f0 f1 f2 f22 f23 f24 4736 slices_S8x6144_o0_4736_S8x128 inb_S1x6144_S1x128_0_4736)) shapeCasts_S8x128_S8x128 := rfl
theorem lhs_37 : Gen.k0_pay480 (bodyRun.sl.r_200 c f0 f1 f2 f22 f23 f24) (bodyRun.sl.r_201 c f0 f1 f2 f22 f23 f24) 127#32 = lhsB (hK c f0 f1 f2 f22 f23 f24 4736 slices_S8x6144_o0_4736_S8x128 inb_S1x6144_S1x128_0_4736) := rfl
theorem lane_37 : bodyRun.sl.r_202 c f0 f1 f2 f22 f23 f24 = laneB 37#32 (bodyRun.sl.r_198 c f0 f1 f2 f22 f23 f24) (hK c f0 f1 f2 f22 f23 f24 4736 slices_S8x6144_o0_4736_S8x128 inb_S1x6144_S1x128_0_4736) := rfl
theorem codes_38 : Gen.k0_pay488 (bodyRun.sl.r_206 c f0 f1 f2 f22 f23 f24) = shapeCast S8x128 (codesB (hK c f0 f1 f2 f22 f23 f24 4864 slices_S8x6144_o0_4864_S8x128 inb_S1x6144_S1x128_0_4864)) shapeCasts_S8x128_S8x128 := rfl
theorem lhs_38 : Gen.k0_pay490 (bodyRun.sl.r_205 c f0 f1 f2 f22 f23 f24) (bodyRun.sl.r_206 c f0 f1 f2 f22 f23 f24) = lhsB (hK c f0 f1 f2 f22 f23 f24 4864 slices_S8x6144_o0_4864_S8x128 inb_S1x6144_S1x128_0_4864) := rfl
theorem lane_38 : bodyRun.sl.r_207 c f0 f1 f2 f22 f23 f24 = laneB 38#32 (bodyRun.sl.r_202 c f0 f1 f2 f22 f23 f24) (hK c f0 f1 f2 f22 f23 f24 4864 slices_S8x6144_o0_4864_S8x128 inb_S1x6144_S1x128_0_4864) := rfl
theorem codes_39 : Gen.k0_pay498 (bodyRun.sl.r_208 c f0 f1 f2 f22 f23 f24) (bodyRun.sl.r_209 c f0 f1 f2 f22 f23 f24) (bodyRun.sl.r_210 c f0 f1 f2 f22 f23 f24) bodyRun.sl.v331 (bodyRun.sl.r_211 c f0 f1 f2 f22 f23 f24) = shapeCast S8x128 (codesB (hK c f0 f1 f2 f22 f23 f24 4992 slices_S8x6144_o0_4992_S8x128 inb_S1x6144_S1x128_0_4992)) shapeCasts_S8x128_S8x128 := rfl
theorem lhs_39 : Gen.k0_pay501 (bodyRun.sl.r_212 c f0 f1 f2 f22 f23 f24) (bodyRun.sl.r_213 c f0 f1 f2 f22 f23 f24) = lhsB (hK c f0 f1 f2 f22 f23 f24 4992 slices_S8x6144_o0_4992_S8x128 inb_S1x6144_S1x128_0_4992) := rfl
theorem lane_39 : bodyRun.sl.r_214 c f0 f1 f2 f22 f23 f24 = laneB 39#32 (bodyRun.sl.r_207 c f0 f1 f2 f22 f23 f24) (hK c f0 f1 f2 f22 f23 f24 4992 slices_S8x6144_o0_4992_S8x128 inb_S1x6144_S1x128_0_4992) := rfl
theorem codes_40 : Gen.k0_pay511 (bodyRun.sl.r_215 c f0 f1 f2 f22 f23 f24) (bodyRun.sl.r_216 c f0 f1 f2 f22 f23 f24) (bodyRun.sl.r_217 c f0 f1 f2 f22 f23 f24) (bodyRun.sl.r_218 c f0 f1 f2 f22 f23 f24) Gen.k0_pay507 = shapeCast S8x128 (codesB (hK c f0 f1 f2 f22 f23 f24 5120 slices_S8x6144_o0_5120_S8x128 inb_S1x6144_S1x128_0_5120)) shapeCasts_S8x128_S8x128 := rfl
theorem lhs_40 : Gen.k0_pay514 (bodyRun.sl.r_220 c f0 f1 f2 f22 f23 f24) = lhsB (hK c f0 f1 f2 f22 f23 f24 5120 slices_S8x6144_o0_5120_S8x128 inb_S1x6144_S1x128_0_5120) := rfl
theorem lane_40 : bodyRun.sl.r_219 c f0 f1 f2 f22 f23 f24 = laneB 40#32 (bodyRun.sl.r_214 c f0 f1 f2 f22 f23 f24) (hK c f0 f1 f2 f22 f23 f24 5120 slices_S8x6144_o0_5120_S8x128 inb_S1x6144_S1x128_0_5120) := rfl
theorem codes_41 : Gen.k0_pay519 (bodyRun.sl.r_221 c f0 f1 f2 f22 f23 f24) (bodyRun.sl.r_222 c f0 f1 f2 f22 f23 f24) = shapeCast S8x128 (codesB (hK c f0 f1 f2 f22 f23 f24 5248 slices_S8x6144_o0_5248_S8x128 inb_S1x6144_S1x128_0_5248)) shapeCasts_S8x128_S8x128 := rfl
theorem lhs_41 : Gen.k0_pay521 (bodyRun.sl.r_221 c f0 f1 f2 f22 f23 f24) (bodyRun.sl.r_222 c f0 f1 f2 f22 f23 f24) 127#32 = lhsB (hK c f0 f1 f2 f22 f23 f24 5248 slices_S8x6144_o0_5248_S8x128 inb_S1x6144_S1x128_0_5248) := rfl
theorem lane_41 : bodyRun.sl.r_223 c f0 f1 f2 f22 f23 f24 = laneB 41#32 (bodyRun.sl.r_219 c f0 f1 f2 f22 f23 f24) (hK c f0 f1 f2 f22 f23 f24 5248 slices_S8x6144_o0_5248_S8x128 inb_S1x6144_S1x128_0_5248) := rfl
theorem codes_42 : Gen.k0_pay529 (bodyRun.sl.r_227 c f0 f1 f2 f22 f23 f24) = shapeCast S8x128 (codesB (hK c f0 f1 f2 f22 f23 f24 5376 slices_S8x6144_o0_5376_S8x128 inb_S1x6144_S1x128_0_5376)) shapeCasts_S8x128_S8x128 := rfl
theorem lhs_42 : Gen.k0_pay531 (bodyRun.sl.r_226 c f0 f1 f2 f22 f23 f24) (bodyRun.sl.r_227 c f0 f1 f2 f22 f23 f24) = lhsB (hK c f0 f1 f2 f22 f23 f24 5376 slices_S8x6144_o0_5376_S8x128 inb_S1x6144_S1x128_0_5376) := rfl
theorem lane_42 : bodyRun.sl.r_228 c f0 f1 f2 f22 f23 f24 = laneB 42#32 (bodyRun.sl.r_223 c f0 f1 f2 f22 f23 f24) (hK c f0 f1 f2 f22 f23 f24 5376 slices_S8x6144_o0_5376_S8x128 inb_S1x6144_S1x128_0_5376) := rfl
theorem codes_43 : Gen.k0_pay539 (bodyRun.sl.r_229 c f0 f1 f2 f22 f23 f24) (bodyRun.sl.r_230 c f0 f1 f2 f22 f23 f24) (bodyRun.sl.r_231 c f0 f1 f2 f22 f23 f24) bodyRun.sl.v331 (bodyRun.sl.r_232 c f0 f1 f2 f22 f23 f24) = shapeCast S8x128 (codesB (hK c f0 f1 f2 f22 f23 f24 5504 slices_S8x6144_o0_5504_S8x128 inb_S1x6144_S1x128_0_5504)) shapeCasts_S8x128_S8x128 := rfl
theorem lhs_43 : Gen.k0_pay542 (bodyRun.sl.r_233 c f0 f1 f2 f22 f23 f24) (bodyRun.sl.r_234 c f0 f1 f2 f22 f23 f24) = lhsB (hK c f0 f1 f2 f22 f23 f24 5504 slices_S8x6144_o0_5504_S8x128 inb_S1x6144_S1x128_0_5504) := rfl
theorem lane_43 : bodyRun.sl.r_235 c f0 f1 f2 f22 f23 f24 = laneB 43#32 (bodyRun.sl.r_228 c f0 f1 f2 f22 f23 f24) (hK c f0 f1 f2 f22 f23 f24 5504 slices_S8x6144_o0_5504_S8x128 inb_S1x6144_S1x128_0_5504) := rfl
theorem codes_44 : Gen.k0_pay552 (bodyRun.sl.r_236 c f0 f1 f2 f22 f23 f24) (bodyRun.sl.r_237 c f0 f1 f2 f22 f23 f24) (bodyRun.sl.r_238 c f0 f1 f2 f22 f23 f24) (bodyRun.sl.r_239 c f0 f1 f2 f22 f23 f24) Gen.k0_pay548 = shapeCast S8x128 (codesB (hK c f0 f1 f2 f22 f23 f24 5632 slices_S8x6144_o0_5632_S8x128 inb_S1x6144_S1x128_0_5632)) shapeCasts_S8x128_S8x128 := rfl
theorem lhs_44 : Gen.k0_pay555 (bodyRun.sl.r_241 c f0 f1 f2 f22 f23 f24) = lhsB (hK c f0 f1 f2 f22 f23 f24 5632 slices_S8x6144_o0_5632_S8x128 inb_S1x6144_S1x128_0_5632) := rfl
theorem lane_44 : bodyRun.sl.r_240 c f0 f1 f2 f22 f23 f24 = laneB 44#32 (bodyRun.sl.r_235 c f0 f1 f2 f22 f23 f24) (hK c f0 f1 f2 f22 f23 f24 5632 slices_S8x6144_o0_5632_S8x128 inb_S1x6144_S1x128_0_5632) := rfl
theorem codes_45 : Gen.k0_pay560 (bodyRun.sl.r_242 c f0 f1 f2 f22 f23 f24) (bodyRun.sl.r_243 c f0 f1 f2 f22 f23 f24) = shapeCast S8x128 (codesB (hK c f0 f1 f2 f22 f23 f24 5760 slices_S8x6144_o0_5760_S8x128 inb_S1x6144_S1x128_0_5760)) shapeCasts_S8x128_S8x128 := rfl
theorem lhs_45 : Gen.k0_pay562 (bodyRun.sl.r_242 c f0 f1 f2 f22 f23 f24) (bodyRun.sl.r_243 c f0 f1 f2 f22 f23 f24) 127#32 = lhsB (hK c f0 f1 f2 f22 f23 f24 5760 slices_S8x6144_o0_5760_S8x128 inb_S1x6144_S1x128_0_5760) := rfl
theorem lane_45 : bodyRun.sl.r_244 c f0 f1 f2 f22 f23 f24 = laneB 45#32 (bodyRun.sl.r_240 c f0 f1 f2 f22 f23 f24) (hK c f0 f1 f2 f22 f23 f24 5760 slices_S8x6144_o0_5760_S8x128 inb_S1x6144_S1x128_0_5760) := rfl
theorem codes_46 : Gen.k0_pay570 (bodyRun.sl.r_248 c f0 f1 f2 f22 f23 f24) = shapeCast S8x128 (codesB (hK c f0 f1 f2 f22 f23 f24 5888 slices_S8x6144_o0_5888_S8x128 inb_S1x6144_S1x128_0_5888)) shapeCasts_S8x128_S8x128 := rfl
theorem lhs_46 : Gen.k0_pay572 (bodyRun.sl.r_247 c f0 f1 f2 f22 f23 f24) (bodyRun.sl.r_248 c f0 f1 f2 f22 f23 f24) = lhsB (hK c f0 f1 f2 f22 f23 f24 5888 slices_S8x6144_o0_5888_S8x128 inb_S1x6144_S1x128_0_5888) := rfl
theorem lane_46 : bodyRun.sl.r_249 c f0 f1 f2 f22 f23 f24 = laneB 46#32 (bodyRun.sl.r_244 c f0 f1 f2 f22 f23 f24) (hK c f0 f1 f2 f22 f23 f24 5888 slices_S8x6144_o0_5888_S8x128 inb_S1x6144_S1x128_0_5888) := rfl
theorem codes_47 : Gen.k0_pay580 (bodyRun.sl.r_250 c f0 f1 f2 f22 f23 f24) (bodyRun.sl.r_251 c f0 f1 f2 f22 f23 f24) (bodyRun.sl.r_252 c f0 f1 f2 f22 f23 f24) bodyRun.sl.v331 (bodyRun.sl.r_253 c f0 f1 f2 f22 f23 f24) = shapeCast S8x128 (codesB (hK c f0 f1 f2 f22 f23 f24 6016 slices_S8x6144_o0_6016_S8x128 inb_S1x6144_S1x128_0_6016)) shapeCasts_S8x128_S8x128 := rfl
theorem lhs_47 : Gen.k0_pay582 (bodyRun.sl.r_254 c f0 f1 f2 f22 f23 f24) (bodyRun.sl.r_255 c f0 f1 f2 f22 f23 f24) = lhsB (hK c f0 f1 f2 f22 f23 f24 6016 slices_S8x6144_o0_6016_S8x128 inb_S1x6144_S1x128_0_6016) := rfl
end

end Cert.KernelIdeal.Hand

end
-- ==== Proof.IdealQuant.lean ====
module

public import Idealize.ShloMosaic.Lib.Pointwise

@[expose] public section

noncomputable section

namespace Cert.KernelIdeal.Hand

open Idealize.ShloMosaic

/-! ## The power-of-two scale of a block, over the reals

A block whose largest magnitude times `1/448` is `s` is scaled by `2 ^ e`, `e` the least integer with `s < 2 ^ e`. The
kernel finds `e` by comparing `s` with the 246 powers of two that a normal `f32` below `2 ^ 120` can be, the reference by
a logarithm; below `2 ^ (-126)` both take `e = 0`. -/

/-- The logarithm to base 2. -/
def lb (s : ℝ) : ℝ := Real.log s / Real.log 2

theorem le_lb {s : ℝ} (h0 : 0 < s) (k : ℤ) : (k : ℝ) ≤ lb s ↔ (2 : ℝ) ^ k ≤ s := by
  have h2 : 0 < Real.log 2 := Real.log_pos (by norm_num)
  unfold lb
  rw [le_div_iff₀ h2, ← Real.log_zpow, Real.log_le_log_iff (by positivity) h0]

/-- The exponent field the kernel finds of `s`: 0 below the least normal number, else 127 more than `⌊log₂ s⌋`, at most 246. -/
def fieldOf (s : ℝ) : ℕ := if s < (2 : ℝ) ^ (-126 : ℤ) then 0 else (min (⌊lb s⌋ + 127) 246).toNat

theorem field_le (s : ℝ) : fieldOf s ≤ 246 := by
  unfold fieldOf; split
  · omega
  · omega

theorem floor_ge {s : ℝ} (h : ¬ s < (2 : ℝ) ^ (-126 : ℤ)) : -126 ≤ ⌊lb s⌋ := by
  rw [Int.le_floor]
  have hs : (2 : ℝ) ^ (-126 : ℤ) ≤ s := not_lt.mp h
  have h0 : (0 : ℝ) < s := lt_of_lt_of_le (by positivity) hs
  exact (le_lb h0 _).2 hs

theorem field_zero_iff (s : ℝ) : fieldOf s = 0 ↔ s < (2 : ℝ) ^ (-126 : ℤ) := by
  unfold fieldOf; split
  · simpa
  · have := floor_ge (by assumption)
    constructor
    · intro h; omega
    · intro h; contradiction

/-- `t` is at most the field of `s` exactly when the power of two with that field is at most `s`. -/
theorem le_field_iff (s : ℝ) (t : ℕ) (h1 : 1 ≤ t) (h2 : t ≤ 246) : t ≤ fieldOf s ↔ (2 : ℝ) ^ ((t : ℤ) - 127) ≤ s := by
  unfold fieldOf; split
  · rename_i h
    constructor
    · omega
    · intro h'
      have : (2 : ℝ) ^ (-126 : ℤ) ≤ (2 : ℝ) ^ ((t : ℤ) - 127) := zpow_le_zpow_right₀ (by norm_num) (by omega)
      linarith
  · rename_i h
    have hs : (2 : ℝ) ^ (-126 : ℤ) ≤ s := not_lt.mp h
    have h0 : (0 : ℝ) < s := lt_of_lt_of_le (by positivity) hs
    have key : ((t : ℤ) - 127 ≤ ⌊lb s⌋) ↔ (2 : ℝ) ^ ((t : ℤ) - 127) ≤ s := by
      rw [Int.le_floor]; exact le_lb h0 _
    rw [← key]
    have := floor_ge h
    omega

theorem word_parts : ∀ t : Fin 255, ((BitVec.ofNat 32 t.val <<< 23).extractLsb' 31 1 == 1#1) = false
    ∧ ((BitVec.ofNat 32 t.val <<< 23).extractLsb' 23 8).toNat = t.val ∧ ((BitVec.ofNat 32 t.val <<< 23).extractLsb' 0 23).toNat = 0 := by
  decide +kernel

theorem ieee_field (w : BitVec 32) (t : ℕ) (a : (w.extractLsb' 31 1 == 1#1) = false) (b : (w.extractLsb' 23 8).toNat = t)
    (c : (w.extractLsb' 0 23).toNat = 0) (h1 : 1 ≤ t) (h2 : t ≤ 254) :
    Ideal.ieee 8 23 w = (((2 : ℝ) ^ ((t : ℤ) - 127) : ℝ) : EReal) := by
  have a' : (w.extractLsb' (8 + 23) 1 == 1#1) = false := a
  unfold Ideal.ieee
  simp only [a', b, c]
  rw [if_neg (by norm_num; omega), if_neg (by omega)]
  congr 1
  have : ((2 : ℝ) ^ 23) * (2 : ℝ) ^ ((t : ℤ) - (2 ^ (8 - 1) - 1) - 23) = (2 : ℝ) ^ ((t : ℤ) - 127) := by
    rw [← zpow_natCast, ← zpow_add₀ (by norm_num)]
    congr 1; norm_num
  rw [← this]
  norm_num

/-- The number whose pattern has the exponent field `t` and nothing else is a power of two. -/
theorem word_val (t : ℕ) (h1 : 1 ≤ t) (h2 : t ≤ 254) :
    Ideal.ofBits .f32 (BitVec.ofNat 32 t <<< 23) = (((2 : ℝ) ^ ((t : ℤ) - 127) : ℝ) : EReal) :=
  have h := word_parts ⟨t, by omega⟩
  ieee_field _ t h.1 h.2.1 h.2.2 h1 h2

theorem word_zero : Ideal.ofBits .f32 (BitVec.ofNat 32 0 <<< 23) = 0 := by simp [Ideal.ofBits, Ideal.ieee]

theorem bits_top : Ideal.ofBits .f32 0x7F800000#32 = ⊤ := by simp [Ideal.ofBits, Ideal.ieee]
theorem bits_bot : Ideal.ofBits .f32 0xFF800000#32 = ⊥ := by simp [Ideal.ofBits, Ideal.ieee]
theorem bits_zero : Ideal.ofBits .f32 0x00000000#32 = 0 := by simp [Ideal.ofBits, Ideal.ieee]
theorem bits_one : Ideal.ofBits .f32 0x3F800000#32 = ((1 : ℝ) : EReal) := by simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_120 : Ideal.ofBits .f32 0x42F00000#32 = ((120 : ℝ) : EReal) := by
  simp [Ideal.ofBits, Ideal.ieee, -EReal.coe_mul]; norm_num
theorem bits_tiny : Ideal.ofBits .f32 0x00800000#32 = (((2 : ℝ) ^ (-126 : ℤ) : ℝ) : EReal) := word_val 1 (by omega) (by omega)

/-! ### The kernel's search -/

theorem sel_iff {α : Type} {c : BitVec 1} {p : Prop} [Decidable p] (h : c = 1#1 ↔ p) (a b : α) :
    Scalar.select c a b = if p then a else b := by
  unfold Scalar.select
  by_cases hp : p
  · rw [if_pos hp]; exact if_pos (h.2 hp)
  · rw [if_neg hp]; exact if_neg (fun hc => hp (h.1 hc))

theorem cmpi_eq_iff (x y : BitVec 32) : IntOp.cmpi .eq x y = 1#1 ↔ x = y := by
  unfold IntOp.cmpi
  by_cases h : x = y
  · subst h; simp
  · have : (x == y) = false := by simpa using h
    simp [this, h]

theorem hit_bits : ∀ t : Fin 256, IntOp.shli .vector (BitVec.ofNat 32 t.val) 23#32 = BitVec.ofNat 32 t.val <<< 23
    ∧ (IntOp.cmpi .sle (BitVec.ofNat 32 t.val) 246#32 = 1#1 ↔ t.val ≤ 246) ∧ (BitVec.ofNat 32 t.val).toInt = t.val := by decide +kernel

/-- What lane `t` of the search holds. -/
def hit (s : EReal) (t : ℕ) : BitVec 32 :=
  Scalar.select (IntOp.andi (Ideal.cmp .ole (Ideal.ofBits .f32 (IntOp.shli .vector (BitVec.ofNat 32 t) 23#32)) s)
    (IntOp.cmpi .sle (BitVec.ofNat 32 t) 246#32)) (BitVec.ofNat 32 t) 0#32

theorem and_one (a b : BitVec 1) : IntOp.andi a b = 1#1 ↔ a = 1#1 ∧ b = 1#1 := by revert a b; decide

theorem cmp_ole (x y : EReal) : Ideal.cmp .ole x y = 1#1 ↔ x ≤ y := by
  unfold Ideal.cmp; by_cases h : x ≤ y <;> simp [h]
theorem cmp_olt (x y : EReal) : Ideal.cmp .olt x y = 1#1 ↔ x < y := by
  unfold Ideal.cmp; by_cases h : x < y <;> simp [h]
theorem cmp_oeq (x y : EReal) : Ideal.cmp .oeq x y = 1#1 ↔ x = y := by
  unfold Ideal.cmp; by_cases h : x = y <;> simp [h]

theorem hit_eq (s : ℝ) (h0 : 0 ≤ s) (t : ℕ) (ht : t < 256) : hit (s : EReal) t = if t ≤ fieldOf s then BitVec.ofNat 32 t else 0#32 := by
  obtain ⟨a, b, _⟩ := hit_bits ⟨t, ht⟩
  simp only at a b
  unfold hit
  rw [a]
  rcases Nat.eq_zero_or_pos t with rfl | h1
  · unfold Scalar.select; split <;> split <;> rfl
  refine sel_iff ?_ _ _
  rw [and_one, cmp_ole, b]
  by_cases h2 : t ≤ 246
  · rw [word_val t h1 (by omega), EReal.coe_le_coe_iff, le_field_iff s t h1 h2]
    exact and_iff_left h2
  · have := field_le s
    constructor
    · intro h; exact absurd h.2 h2
    · intro h; omega

theorem maxsi_toInt (x y : BitVec 32) : (IntOp.maxsi x y).toInt = max x.toInt y.toInt := by
  unfold IntOp.maxsi
  rw [BitVec.slt_eq_decide]
  by_cases h : y.toInt < x.toInt
  · simp only [h, decide_true, if_true]; omega
  · simp only [h, decide_false]; simp; omega

instance : Std.Commutative (IntOp.maxsi (w := 32)) := ⟨fun a b => BitVec.eq_of_toInt_eq (by rw [maxsi_toInt, maxsi_toInt, max_comm])⟩
instance : Std.Associative (IntOp.maxsi (w := 32)) := ⟨fun a b c => BitVec.eq_of_toInt_eq (by simp only [maxsi_toInt, max_assoc])⟩

theorem fold_toInt {α : Type} (S : Finset α) (f : α → BitVec 32) (b : BitVec 32) :
    (S.fold IntOp.maxsi b f).toInt = S.fold max b.toInt (fun a => (f a).toInt) := by
  classical
  induction S using Finset.induction_on with
  | empty => rfl
  | insert a S h ih => rw [Finset.fold_insert h, Finset.fold_insert h, maxsi_toInt, ih]

/-- The search's maximum is the exponent field of `s`. -/
theorem search_eq (s : ℝ) (h0 : 0 ≤ s) :
    (Finset.univ : Finset (Fin 256)).fold IntOp.maxsi 2147483648#32 (fun t => hit (s : EReal) t.val) = BitVec.ofNat 32 (fieldOf s) := by
  have hf := field_le s
  apply BitVec.eq_of_toInt_eq
  rw [fold_toInt, (hit_bits ⟨fieldOf s, by omega⟩).2.2]
  apply le_antisymm
  · rw [Finset.fold_max_le]
    refine ⟨by have : (2147483648#32 : BitVec 32).toInt < 0 := by decide
               omega, fun t _ => ?_⟩
    rw [hit_eq s h0 t.val t.isLt]
    split
    · rw [(hit_bits t).2.2]; simp only; omega
    · simp
  · rw [Finset.le_fold_max]
    refine Or.inr ⟨⟨fieldOf s, by omega⟩, Finset.mem_univ _, ?_⟩
    rw [hit_eq s h0 _ (by simp only; omega)]
    simp only [le_refl, if_true]
    rw [(hit_bits ⟨fieldOf s, by omega⟩).2.2]

/-! ### The two scales -/

/-- The exponent of the scale. -/
def expOf (s : ℝ) : ℤ := if fieldOf s = 0 then 0 else (fieldOf s : ℤ) - 126

theorem scale_bits : ∀ n : Fin 247,
    IntOp.shli .vector (IntOp.addi (if n.val = 0 then 0#32 else IntOp.subi (BitVec.ofNat 32 n.val) 126#32) 127#32) 23#32
      = BitVec.ofNat 32 (if n.val = 0 then 127 else n.val + 1) <<< 23
    ∧ IntOp.shli .vector (IntOp.subi 127#32 (if n.val = 0 then 0#32 else IntOp.subi (BitVec.ofNat 32 n.val) 126#32)) 23#32
      = BitVec.ofNat 32 (if n.val = 0 then 127 else 253 - n.val) <<< 23
    ∧ (BitVec.ofNat 32 n.val = 0#32 ↔ n.val = 0) := by decide +kernel

/-- The exponent word the kernel forms. -/
def expWord (a s : EReal) : BitVec 32 :=
  let ef := Scalar.select (Ideal.cmp .olt s (Ideal.ofBits .f32 0x7F800000#32))
    ((Finset.univ : Finset (Fin 256)).fold IntOp.maxsi 2147483648#32 (fun t => hit s t.val)) 255#32
  Scalar.select (IntOp.ori (Ideal.cmp .oeq a (Ideal.ofBits .f32 0x00000000#32)) (IntOp.cmpi .eq ef 0#32)) 0#32 (IntOp.subi ef 126#32)

theorem or_one (a b : BitVec 1) : IntOp.ori a b = 1#1 ↔ a = 1#1 ∨ b = 1#1 := by revert a b; decide

theorem expWord_eq (a : EReal) (s : ℝ) (h0 : 0 ≤ s) (ha : a = 0 → s = 0) :
    expWord a (s : EReal) = if fieldOf s = 0 then 0#32 else IntOp.subi (BitVec.ofNat 32 (fieldOf s)) 126#32 := by
  have h1 : Ideal.cmp .olt (s : EReal) (Ideal.ofBits .f32 0x7F800000#32) = 1#1 ↔ True := by
    rw [cmp_olt, bits_top]; exact iff_true_intro (EReal.coe_lt_top s)
  have hz := (scale_bits ⟨fieldOf s, by have := field_le s; omega⟩).2.2
  simp only at hz
  have h3 : a = 0 → fieldOf s = 0 := fun h => by
    rw [field_zero_iff, ha h]; positivity
  unfold expWord
  rw [sel_iff h1, search_eq s h0, if_pos trivial]
  refine sel_iff ?_ _ _
  rw [or_one, cmp_oeq, bits_zero, cmpi_eq_iff, hz]
  tauto

theorem kernel_scale (a : EReal) (s : ℝ) (h0 : 0 ≤ s) (ha : a = 0 → s = 0) :
    Ideal.ofBits .f32 (IntOp.shli .vector (IntOp.addi (expWord a s) 127#32) 23#32) = (((2 : ℝ) ^ expOf s : ℝ) : EReal)
    ∧ Ideal.ofBits .f32 (IntOp.shli .vector (IntOp.subi 127#32 (expWord a s)) 23#32) = (((2 : ℝ) ^ (-expOf s) : ℝ) : EReal) := by
  have hf := field_le s
  obtain ⟨e1, e2, _⟩ := scale_bits ⟨fieldOf s, by omega⟩
  simp only at e1 e2
  rw [expWord_eq a s h0 ha, e1, e2]
  unfold expOf
  by_cases h : fieldOf s = 0
  · simp only [h, if_true]
    constructor <;> (rw [word_val 127 (by omega) (by omega)]; norm_num)
  · simp only [h, if_false]
    constructor
    · rw [word_val _ (by omega) (by omega)]; congr 2; push_cast; ring
    · rw [word_val _ (by omega) (by omega)]; congr 2; omega

/-- The exponent the reference forms. -/
def refExp (s : EReal) : EReal :=
  Scalar.select (Ideal.cmp .olt s (Ideal.ofBits .f32 0x00800000#32)) (Ideal.ofBits .f32 0x00000000#32)
    (min (Ideal.liftRound Int.floor (Ideal.div (Ideal.log s) (Ideal.log (Ideal.ofBits .f32 0x40000000#32))) + Ideal.ofBits .f32 0x3F800000#32)
      (Ideal.ofBits .f32 0x42F00000#32))

theorem refExp_eq (s : ℝ) (h0 : 0 ≤ s) : refExp (s : EReal) = ((expOf s : ℝ) : EReal) := by
  have hc : Ideal.cmp .olt (s : EReal) (Ideal.ofBits .f32 0x00800000#32) = 1#1 ↔ fieldOf s = 0 := by
    rw [cmp_olt, bits_tiny, EReal.coe_lt_coe_iff, field_zero_iff]
  unfold refExp expOf
  rw [sel_iff hc]
  by_cases h : fieldOf s = 0
  · rw [if_pos h, if_pos h, bits_zero]; simp
  · rw [if_neg h, if_neg h]
    have h' : ¬ s < (2 : ℝ) ^ (-126 : ℤ) := fun hs => h ((field_zero_iff s).2 hs)
    have hs : 0 < s := lt_of_lt_of_le (by positivity) (not_lt.mp h')
    have hl : Ideal.log (s : EReal) = ((Real.log s : ℝ) : EReal) := if_neg (not_le.mpr hs)
    have h2 : Ideal.log (Ideal.ofBits .f32 0x40000000#32) = ((Real.log 2 : ℝ) : EReal) := by
      rw [bits_two]; exact if_neg (by norm_num)
    have hd : Ideal.div ((Real.log s : ℝ) : EReal) ((Real.log 2 : ℝ) : EReal) = ((lb s : ℝ) : EReal) := by
      unfold Ideal.div
      have : Real.log 2 ≠ 0 := by have := Real.log_pos (show (1:ℝ) < 2 by norm_num); exact this.ne'
      rw [if_neg (by exact_mod_cast this), ← EReal.coe_inv, ← EReal.coe_mul]; rfl
    rw [hl, h2, hd, bits_one, bits_120]
    show min (((⌊lb s⌋ : ℝ) : EReal) + ((1 : ℝ) : EReal)) ((120 : ℝ) : EReal) = _
    rw [← EReal.coe_add, ← EReal.coe_strictMono.monotone.map_min]
    congr 1
    have hfl := floor_ge h'
    have : ((fieldOf s : ℕ) : ℤ) = min (⌊lb s⌋ + 127) 246 := by
      unfold fieldOf; rw [if_neg h']; omega
    rw [this]
    have e : min (⌊lb s⌋ + 127) 246 - 126 = min (⌊lb s⌋ + 1) 120 := by omega
    rw [e]; push_cast; rfl

theorem ref_scale (s : ℝ) (h0 : 0 ≤ s) :
    Ideal.exp2 (refExp s) = (((2 : ℝ) ^ expOf s : ℝ) : EReal)
    ∧ Ideal.exp2 (Ideal.ofBits .f32 0x00000000#32 - refExp s) = (((2 : ℝ) ^ (-expOf s) : ℝ) : EReal) := by
  rw [refExp_eq s h0, bits_zero, zero_sub, ← EReal.coe_neg]
  constructor
  · show ((Real.rpow 2 (expOf s : ℝ) : ℝ) : EReal) = _
    congr 1; exact Real.rpow_intCast 2 (expOf s)
  · show ((Real.rpow 2 (-(expOf s : ℝ)) : ℝ) : EReal) = _
    congr 1
    rw [← Real.rpow_intCast]; push_cast; rfl

end Cert.KernelIdeal.Hand

end
-- ==== Proof.IdealVals.lean ====
module

public import proofs.«01_k».proof.Proof.IdealBlocks
public import proofs.«01_k».proof.Proof.IdealQuant
public import Idealize.ShloMosaic.Lib.Pointwise

@[expose] public section

noncomputable section

namespace Cert.KernelIdeal.Hand

open Cert.KernelIdeal Cert.KernelIdeal.Gen
open Idealize.ShloMosaic Idealize.ShloMosaic.TcCoe

/-! ## One block's values, over the reals -/

/-- The largest magnitude of row `r` of a block. -/
def rowMax (f : Fin 128 → EReal) : EReal := (Finset.univ : Finset (Fin 128)).fold max ⊥ (fun t => max (f t) (-(f t)))
/-- A 448th of a magnitude. -/
def overMax (a : EReal) : EReal := a * Ideal.ofBits .f32 0x3B124925#32
/-- The scale of a magnitude. -/
def scaleOf (a : EReal) : EReal := Ideal.ofBits .f32 (IntOp.shli .vector (IntOp.addi (expWord a (overMax a)) 127#32) 23#32)
/-- The inverse of the scale of a magnitude. -/
def invOf (a : EReal) : EReal := Ideal.ofBits .f32 (IntOp.shli .vector (IntOp.subi 127#32 (expWord a (overMax a))) 23#32)
/-- A value clipped to the range of the codes. -/
def clip448 (y : EReal) : EReal := min (Ideal.ofBits .f32 0x43E00000#32) (max (Ideal.ofBits .f32 0xC3E00000#32) y)

theorem maxB_at (h : FVec Ideal S8x128 .f32) (r : Fin 8) (z : Fin 1) : maxB h (ix2 r z) = rowMax fun t => h (ix2 r t) := by
  unfold maxB rowMax
  pointwise
  show (Finset.univ : Finset (Fin 128)).fold max (Ideal.ofBits .f32 0xFF800000#32) _ = _
  rw [bits_bot]
  rfl

theorem sB_at (h : FVec Ideal S8x128 .f32) (r : Fin 8) (z : Fin 1) : sB h (ix2 r z) = overMax (rowMax fun t => h (ix2 r t)) := by
  unfold sB overMax
  rw [← maxB_at h r z]
  rfl

theorem lanesB_at (h : FVec Ideal S8x128 .f32) (r : Fin 8) (t : Fin 256) : lanesB h (ix2 r t) = hit (overMax (rowMax fun t => h (ix2 r t))) t.val := by
  unfold lanesB hit
  rw [← sB_at h r 0]
  pointwise

theorem col_at {α : Type} (v : S8.Idx → α) (r : Fin 8) (z : Fin 1) : shapeCast S8x1 v shapeCasts_S8_S8x1 (ix2 r z) = v (ix1 r) := by pointwise

theorem red_at (src : IVec S8x256 32) (r : Fin 8) (f : Fin 256 → BitVec 32) (hf : ∀ t, src (ix2 r t) = f t) :
    multiReductionI .maxsi [1] S8 src 2147483648#32 reduces_S8x256_S8 rfl (ix1 r) = (Finset.univ : Finset (Fin 256)).fold IntOp.maxsi 2147483648#32 f := by
  have h1 := multiReductionI_eq_fold .maxsi src 2147483648#32 reduces_S8x256_S8 rfl (ix1 r)
  have h2 := reduces_S8x256_S8.fold_filter_drop_single IntOp.maxsi 2147483648#32 src (ix1 r)
  have h3 : (src ∘ reduces_S8x256_S8.lift (ix1 r)) = f := funext fun t =>
    (congrArg src (show reduces_S8x256_S8.lift (ix1 r) t = ix2 r t from funext fun a => by match a with | ⟨0, _⟩ => rfl | ⟨1, _⟩ => rfl)).trans (hf t)
  rw [h3] at h2
  exact h1.trans h2

theorem fieldB_at (h : FVec Ideal S8x128 .f32) (r : Fin 8) (z : Fin 1) : fieldB h (ix2 r z) =
    Scalar.select (Ideal.cmp .olt (overMax (rowMax fun t => h (ix2 r t))) (Ideal.ofBits .f32 0x7F800000#32))
    ((Finset.univ : Finset (Fin 256)).fold IntOp.maxsi 2147483648#32 (fun t => hit (overMax (rowMax fun t => h (ix2 r t))) t.val)) 255#32 := by
  have e : multiReductionI .maxsi [1] S8 (lanesB h) 2147483648#32 reduces_S8x256_S8 rfl (ix1 r) =
      (Finset.univ : Finset (Fin 256)).fold IntOp.maxsi 2147483648#32 (fun t => hit (overMax (rowMax fun t => h (ix2 r t))) t.val) := by
    exact red_at (lanesB h) r _ fun t => lanesB_at h r t
  unfold fieldB
  rw [← e, ← sB_at h r z]
  exact congrArg (fun v => Scalar.select (Ideal.cmp .olt (sB h (ix2 r z)) (Ideal.ofBits .f32 0x7F800000#32)) v 255#32) (col_at _ r z)

theorem expB_at (h : FVec Ideal S8x128 .f32) (r : Fin 8) (z : Fin 1) :
    expB h (ix2 r z) = expWord (rowMax fun t => h (ix2 r t)) (overMax (rowMax fun t => h (ix2 r t))) := by
  unfold expB expWord
  rw [← fieldB_at h r z, ← maxB_at h r z]
  rfl

theorem scaleB_at (h : FVec Ideal S8x128 .f32) (r : Fin 8) (z : Fin 1) : scaleB h (ix2 r z) = scaleOf (rowMax fun t => h (ix2 r t)) := by
  unfold scaleB scaleOf
  rw [← expB_at h r z]
  rfl

theorem invB_at (h : FVec Ideal S8x128 .f32) (r : Fin 8) (z : Fin 1) : invB h (ix2 r z) = invOf (rowMax fun t => h (ix2 r t)) := by
  unfold invB invOf
  rw [← expB_at h r z]
  rfl

theorem codesB_at (h : FVec Ideal S8x128 .f32) (r : Fin 8) (t : Fin 128) :
    codesB h (ix2 r t) = clip448 (h (ix2 r t) * invOf (rowMax fun t => h (ix2 r t))) := by
  unfold codesB clip448
  rw [← invB_at h r 0]
  pointwise

theorem laneB_at (n : BitVec 32) (prev : FVec Ideal S8x128 .f32) (h : FVec Ideal S8x128 .f32) (r : Fin 8) (t : Fin 128) :
    laneB n prev h (ix2 r t) = if BitVec.ofNat 32 t.val = n then scaleOf (rowMax fun t => h (ix2 r t)) else prev (ix2 r t) := by
  unfold laneB
  rw [← scaleB_at h r 0]
  pointwise
  exact sel_iff (cmpi_eq_iff _ _) _ _

theorem lhsB_at (h : FVec Ideal S8x128 .f32) (z : Fin 1) (r : Fin 16) (t : Fin 128) :
    lhsB h (ix3 z r t) = if hr : r.val < 8 then clip448 (h (ix2 ⟨r.val, hr⟩ t) * invOf (rowMax fun t => h (ix2 ⟨r.val, hr⟩ t))) * scaleOf (rowMax fun t => h (ix2 ⟨r.val, hr⟩ t)) else 0 := by
  unfold lhsB
  pointwise
  split
  · rename_i hr
    rw [← codesB_at, ← scaleB_at h ⟨r.val, hr⟩ 0]
  · rfl

end Cert.KernelIdeal.Hand

end
-- ==== Proof.IdealRows.lean ====
module

public import proofs.«01_k».proof.Proof.IdealVals
public import Idealize.ShloMosaic.Lib.Pipeline.ValueKit
public import Idealize.ShloMosaic.Lib.Pipeline.ReadBack

@[expose] public section

noncomputable section

namespace Cert.KernelIdeal.Hand

open Cert.KernelIdeal Cert.KernelIdeal.Gen
open Idealize.ShloMosaic Idealize.ShloMosaic.TcCoe

/-! ## The normalised rows, their codes and scales, as functions of the three operands -/

section
variable (X : Fin 8 → Fin 6144 → EReal) (g b : Fin 6144 → EReal)

/-- The rows less their mean. -/
def xcV (r : Fin 8) (l : Fin 6144) : EReal := X r l - (∑ k, X r k) * Ideal.ofBits .f32 0x392AAAAB#32
/-- The inverse standard deviation of a row. -/
def rsV (r : Fin 8) : EReal :=
  Ideal.rsqrt ((∑ k, xcV X r k * xcV X r k) * Ideal.ofBits .f32 0x392AAAAB#32 + Ideal.ofBits .f32 0x3727C5AC#32)
/-- The normalised rows. -/
def hV (r : Fin 8) (l : Fin 6144) : EReal := xcV X r l * rsV X r * g l + b l
/-- Column `t` of block `q`. -/
def colOf (q : Fin 48) (t : Fin 128) : Fin 6144 := ⟨128 * q.val + t.val, by omega⟩
/-- The block of a column. -/
def blkOf (l : Fin 6144) : Fin 48 := ⟨l.val / 128, by omega⟩
/-- The largest magnitude of a block of a row. -/
def magV (r : Fin 8) (q : Fin 48) : EReal := rowMax fun t => hV X g b r (colOf q t)
/-- The codes. -/
def codeV (r : Fin 8) (l : Fin 6144) : EReal := clip448 (hV X g b r l * invOf (magV X g b r (blkOf l)))
/-- The scales. -/
def scaleV (r : Fin 8) (q : Fin 48) : EReal := scaleOf (magV X g b r q)
/-- The codes times their scales. -/
def lhsV (r : Fin 8) (l : Fin 6144) : EReal := codeV X g b r l * scaleV X g b r (blkOf l)
end

section
variable (c : Dev nD) (f0 : BufOf (F := Ideal) c A0) (f1 : BufOf (F := Ideal) c A1) (f2 : BufOf (F := Ideal) c A2) (f22 : BufOf (F := Ideal) c A22)
  (f23 : BufOf (F := Ideal) c A23) (f24 : BufOf (F := Ideal) c A24)

/-- The rows of an operand in the first buffer. -/
def xOf (r : Fin 8) (l : Fin 6144) : EReal := View.read (Elt Ideal) A0.view f0 (ix2 r l)
/-- The gain in the second. -/
def gOf (l : Fin 6144) : EReal := View.read (Elt Ideal) A1.view f1 (ix2 (0 : Fin 1) l)
/-- The offset in the third. -/
def bOf (l : Fin 6144) : EReal := View.read (Elt Ideal) A2.view f2 (ix2 (0 : Fin 1) l)

theorem row_idx {s : Shape} {off : Fin s.rank → ℕ} {size : Fin s.rank → ℕ} (inb) (j : (Rect.unit (s := s) off size inb).shape.Idx) (a : Fin s.rank) :
    ((Rect.unit (s := s) off size inb).toLoadRect.idx j a).val = off a + (j a).val := by simp

theorem xread_at (r : Fin 8) (l : Fin 6144) : View.readAt (Elt Ideal) A22.view (Rect.unit (s := S8x6144) ![0, 0] S8x6144.size inb_S8x6144_S8x6144_0_0).toLoadRect
      (View.write (Elt Ideal) A22.view f22 (ReadAs.same.apply (View.read (Elt Ideal) A0.view f0)) Finset.univ) (ix2 r l) = xOf c f0 r l := by
  rw [View.readAt_apply, View.read_write_univ]
  refine congrArg (View.read (Elt Ideal) A0.view f0) (funext fun a => Fin.ext ?_)
  rw [row_idx]
  match a with | ⟨0, _⟩ => exact Nat.zero_add _ | ⟨1, _⟩ => exact Nat.zero_add _

theorem gread_at (o : ℕ) (hg : ∀ a, (![0, o] : Fin 2 → ℕ) a + S1x128.size a ≤ S1x6144.size a) (z : Fin 1) (t : Fin 128) (l : Fin 6144) (hl : l.val = o + t.val) :
    View.readAt (Elt Ideal) A23.view (Rect.unit (s := S1x6144) ![0, o] S1x128.size hg).toLoadRect
      (View.write (Elt Ideal) A23.view f23 (ReadAs.same.apply (View.read (Elt Ideal) A1.view f1)) Finset.univ) (ix2 z t) = gOf c f1 l := by
  rw [View.readAt_apply, View.read_write_univ]
  refine congrArg (View.read (Elt Ideal) A1.view f1) (funext fun a => Fin.ext ?_)
  rw [row_idx]
  match a with
  | ⟨0, _⟩ => have := z.isLt; show 0 + z.val = 0; omega
  | ⟨1, _⟩ => exact hl.symm

theorem bread_at (o : ℕ) (hg : ∀ a, (![0, o] : Fin 2 → ℕ) a + S1x128.size a ≤ S1x6144.size a) (z : Fin 1) (t : Fin 128) (l : Fin 6144) (hl : l.val = o + t.val) :
    View.readAt (Elt Ideal) A24.view (Rect.unit (s := S1x6144) ![0, o] S1x128.size hg).toLoadRect
      (View.write (Elt Ideal) A24.view f24 (ReadAs.same.apply (View.read (Elt Ideal) A2.view f2)) Finset.univ) (ix2 z t) = bOf c f2 l := by
  rw [View.readAt_apply, View.read_write_univ]
  refine congrArg (View.read (Elt Ideal) A2.view f2) (funext fun a => Fin.ext ?_)
  rw [row_idx]
  match a with
  | ⟨0, _⟩ => have := z.isLt; show 0 + z.val = 0; omega
  | ⟨1, _⟩ => exact hl.symm

/-- The kernel's centred rows as one expression of the rows. -/
theorem xc_gen (x : Vec Ideal S8x6144 .bf16) (r : Fin 8) (l : Fin 6144) :
    k0_pay89 (k0_pay87 x) (k0_pay88 x) bodyRun.sl.cst_46 (ix2 r l) = xcV (fun r l => x (ix2 r l)) r l := by
  unfold k0_pay89 k0_pay87 k0_pay88 bodyRun.sl.cst_46 xcV
  pointwise
  rfl

theorem rs_gen (x : Vec Ideal S8x6144 .bf16) (r : Fin 8) (z : Fin 1) :
    k0_pay90 (k0_pay87 x) (k0_pay88 x) bodyRun.sl.cst_46 (ix2 r z) = rsV (fun r l => x (ix2 r l)) r := by
  unfold rsV
  simp only [← xc_gen x]
  unfold k0_pay90
  pointwise

theorem hK_at (o : ℕ) (hs : S8x6144.Slices ![0, o] S8x128) (hg : ∀ a, (![0, o] : Fin 2 → ℕ) a + S1x128.size a ≤ S1x6144.size a)
    (r : Fin 8) (t : Fin 128) (l : Fin 6144) (hl : l.val = o + t.val) :
    hK c f0 f1 f2 f22 f23 f24 o hs hg (ix2 r t) = hV (xOf c f0) (gOf c f1) (bOf c f2) r l := by
  have hx : (fun r l => View.readAt (Elt Ideal) A22.view (Rect.unit (s := S8x6144) ![0, 0] S8x6144.size inb_S8x6144_S8x6144_0_0).toLoadRect
      (View.write (Elt Ideal) A22.view f22 (ReadAs.same.apply (View.read (Elt Ideal) A0.view f0)) Finset.univ) (ix2 r l)) = xOf c f0 :=
    funext fun r => funext fun l => xread_at c f0 f22 r l
  have e2 : ∀ l, bodyRun.sl.r_2 c f0 f22 (ix2 r l) = xcV (xOf c f0) r l := fun l => (xc_gen _ r l).trans (by rw [hx])
  have e3 : bodyRun.sl.r_3 c f0 f22 (ix2 r (0 : Fin 1)) = rsV (xOf c f0) r := (rs_gen _ r 0).trans (by rw [hx])
  have e4 := gread_at c f1 f23 o hg 0 t l hl
  have e5 := bread_at c f2 f24 o hg 0 t l hl
  unfold hK
  generalize View.readAt (Elt Ideal) A23.view _ _ = G at e4 ⊢
  generalize View.readAt (Elt Ideal) A24.view _ _ = B at e5 ⊢
  have e2' := e2 l
  generalize bodyRun.sl.r_2 c f0 f22 = R2 at e2' ⊢
  generalize bodyRun.sl.r_3 c f0 f22 = R3 at e3 ⊢
  unfold hV
  rw [← e2', ← e3, ← e4, ← e5]
  obtain ⟨lv, hlv⟩ := l
  simp only at hl
  subst hl
  unfold hB
  pointwise

theorem emb_val {s : Shape} {off : Fin s.rank → ℕ} {size : Fin s.rank → ℕ} (inb) (j : (Rect.unit (s := s) off size inb).shape.Idx) (a : Fin s.rank) :
    ((Rect.unit (s := s) off size inb).emb j a).val = off a + (j a).val := row_idx inb j a

/-- A block's codes are the codes at its columns. -/
theorem codes_blk (q : ℕ) (hq : q < 48) (o : ℕ) (ho : o = 128 * q) (hs : S8x6144.Slices ![0, o] S8x128) (hg : ∀ a, (![0, o] : Fin 2 → ℕ) a + S1x128.size a ≤ S1x6144.size a)
    (r : Fin 8) (t : Fin 128) (l : Fin 6144) (hl : l.val = o + t.val) :
    codesB (hK c f0 f1 f2 f22 f23 f24 o hs hg) (ix2 r t) = codeV (xOf c f0) (gOf c f1) (bOf c f2) r l := by
  have hb : blkOf l = ⟨q, hq⟩ := Fin.ext (by unfold blkOf; simp only; omega)
  have hr : (rowMax fun t => hK c f0 f1 f2 f22 f23 f24 o hs hg (ix2 r t)) = magV (xOf c f0) (gOf c f1) (bOf c f2) r ⟨q, hq⟩ := by
    unfold magV
    exact congrArg rowMax (funext fun t => hK_at c f0 f1 f2 f22 f23 f24 o hs hg r t _ (by rw [ho]; rfl))
  unfold codeV
  rw [hb, ← hr, ← hK_at c f0 f1 f2 f22 f23 f24 o hs hg r t l hl]
  exact codesB_at _ r t

theorem cast_at {α : Type} (v : S8x128.Idx → α) (r : Fin 8) (t : Fin 128) : shapeCast S8x128 v shapeCasts_S8x128_S8x128 (ix2 r t) = v (ix2 r t) := by pointwise

theorem codes_piece (q : ℕ) (hq : q < 48) (o : ℕ) (ho : o = 128 * q) (hs : S8x6144.Slices ![0, o] S8x128) (hg : ∀ a, (![0, o] : Fin 2 → ℕ) a + S1x128.size a ≤ S1x6144.size a)
    (inb : ∀ a, (![0, o] : Fin 2 → ℕ) a + S8x128.size a ≤ S8x6144.size a) (x : S8x128.Idx) :
    shapeCast S8x128 (codesB (hK c f0 f1 f2 f22 f23 f24 o hs hg)) shapeCasts_S8x128_S8x128 x
      = codeV (xOf c f0) (gOf c f1) (bOf c f2) ((Rect.unit (s := S8x6144) ![0, o] S8x128.size inb).emb x 0) ((Rect.unit (s := S8x6144) ![0, o] S8x128.size inb).emb x 1) := by
  have e0 : (Rect.unit (s := S8x6144) ![0, o] S8x128.size inb).emb x 0 = x 0 := Fin.ext ((emb_val (s := S8x6144) (off := ![0, o]) (size := S8x128.size) inb x 0).trans (Nat.zero_add _))
  have e1 : ((Rect.unit (s := S8x6144) ![0, o] S8x128.size inb).emb x 1).val = o + (x 1).val := emb_val (s := S8x6144) (off := ![0, o]) (size := S8x128.size) inb x 1
  have hx : x = ix2 (x 0 : Fin 8) (x 1 : Fin 128) := by
    funext a
    match a with | ⟨0, _⟩ => rfl | ⟨1, _⟩ => rfl
  have h := codes_blk c f0 f1 f2 f22 f23 f24 q hq o ho hs hg (x 0) (x 1) _ e1
  rw [e0]
  exact (congrArg (shapeCast S8x128 (codesB (hK c f0 f1 f2 f22 f23 f24 o hs hg)) shapeCasts_S8x128_S8x128) hx).trans ((cast_at _ (x 0) (x 1)).trans h)

set_option maxHeartbeats 0 in
theorem codes_pieces : View.PiecesOf (fun y => codeV (xOf c f0) (gOf c f1) (bOf c f2) (y 0) (y 1)) (bodyRun.sl.H40_48 (F := Ideal) c f0 f1 f2 f22 f23 f24) := by
  unfold bodyRun.sl.H40_48
  refine ⟨fun x => (congrFun (codes_47 c f0 f1 f2 f22 f23 f24) x).trans (codes_piece c f0 f1 f2 f22 f23 f24 47 (by omega) 6016 rfl _ _ inb_S8x6144_S8x128_0_6016 x), ?_⟩
  refine ⟨fun x => (congrFun (codes_46 c f0 f1 f2 f22 f23 f24) x).trans (codes_piece c f0 f1 f2 f22 f23 f24 46 (by omega) 5888 rfl _ _ inb_S8x6144_S8x128_0_5888 x), ?_⟩
  refine ⟨fun x => (congrFun (codes_45 c f0 f1 f2 f22 f23 f24) x).trans (codes_piece c f0 f1 f2 f22 f23 f24 45 (by omega) 5760 rfl _ _ inb_S8x6144_S8x128_0_5760 x), ?_⟩
  refine ⟨fun x => (congrFun (codes_44 c f0 f1 f2 f22 f23 f24) x).trans (codes_piece c f0 f1 f2 f22 f23 f24 44 (by omega) 5632 rfl _ _ inb_S8x6144_S8x128_0_5632 x), ?_⟩
  refine ⟨fun x => (congrFun (codes_43 c f0 f1 f2 f22 f23 f24) x).trans (codes_piece c f0 f1 f2 f22 f23 f24 43 (by omega) 5504 rfl _ _ inb_S8x6144_S8x128_0_5504 x), ?_⟩
  refine ⟨fun x => (congrFun (codes_42 c f0 f1 f2 f22 f23 f24) x).trans (codes_piece c f0 f1 f2 f22 f23 f24 42 (by omega) 5376 rfl _ _ inb_S8x6144_S8x128_0_5376 x), ?_⟩
  refine ⟨fun x => (congrFun (codes_41 c f0 f1 f2 f22 f23 f24) x).trans (codes_piece c f0 f1 f2 f22 f23 f24 41 (by omega) 5248 rfl _ _ inb_S8x6144_S8x128_0_5248 x), ?_⟩
  refine ⟨fun x => (congrFun (codes_40 c f0 f1 f2 f22 f23 f24) x).trans (codes_piece c f0 f1 f2 f22 f23 f24 40 (by omega) 5120 rfl _ _ inb_S8x6144_S8x128_0_5120 x), ?_⟩
  refine ⟨fun x => (congrFun (codes_39 c f0 f1 f2 f22 f23 f24) x).trans (codes_piece c f0 f1 f2 f22 f23 f24 39 (by omega) 4992 rfl _ _ inb_S8x6144_S8x128_0_4992 x), ?_⟩
  refine ⟨fun x => (congrFun (codes_38 c f0 f1 f2 f22 f23 f24) x).trans (codes_piece c f0 f1 f2 f22 f23 f24 38 (by omega) 4864 rfl _ _ inb_S8x6144_S8x128_0_4864 x), ?_⟩
  refine ⟨fun x => (congrFun (codes_37 c f0 f1 f2 f22 f23 f24) x).trans (codes_piece c f0 f1 f2 f22 f23 f24 37 (by omega) 4736 rfl _ _ inb_S8x6144_S8x128_0_4736 x), ?_⟩
  refine ⟨fun x => (congrFun (codes_36 c f0 f1 f2 f22 f23 f24) x).trans (codes_piece c f0 f1 f2 f22 f23 f24 36 (by omega) 4608 rfl _ _ inb_S8x6144_S8x128_0_4608 x), ?_⟩
  refine ⟨fun x => (congrFun (codes_35 c f0 f1 f2 f22 f23 f24) x).trans (codes_piece c f0 f1 f2 f22 f23 f24 35 (by omega) 4480 rfl _ _ inb_S8x6144_S8x128_0_4480 x), ?_⟩
  refine ⟨fun x => (congrFun (codes_34 c f0 f1 f2 f22 f23 f24) x).trans (codes_piece c f0 f1 f2 f22 f23 f24 34 (by omega) 4352 rfl _ _ inb_S8x6144_S8x128_0_4352 x), ?_⟩
  refine ⟨fun x => (congrFun (codes_33 c f0 f1 f2 f22 f23 f24) x).trans (codes_piece c f0 f1 f2 f22 f23 f24 33 (by omega) 4224 rfl _ _ inb_S8x6144_S8x128_0_4224 x), ?_⟩
  refine ⟨fun x => (congrFun (codes_32 c f0 f1 f2 f22 f23 f24) x).trans (codes_piece c f0 f1 f2 f22 f23 f24 32 (by omega) 4096 rfl _ _ inb_S8x6144_S8x128_0_4096 x), ?_⟩
  refine ⟨fun x => (congrFun (codes_31 c f0 f1 f2 f22 f23 f24) x).trans (codes_piece c f0 f1 f2 f22 f23 f24 31 (by omega) 3968 rfl _ _ inb_S8x6144_S8x128_0_3968 x), ?_⟩
  refine ⟨fun x => (congrFun (codes_30 c f0 f1 f2 f22 f23 f24) x).trans (codes_piece c f0 f1 f2 f22 f23 f24 30 (by omega) 3840 rfl _ _ inb_S8x6144_S8x128_0_3840 x), ?_⟩
  refine ⟨fun x => (congrFun (codes_29 c f0 f1 f2 f22 f23 f24) x).trans (codes_piece c f0 f1 f2 f22 f23 f24 29 (by omega) 3712 rfl _ _ inb_S8x6144_S8x128_0_3712 x), ?_⟩
  refine ⟨fun x => (congrFun (codes_28 c f0 f1 f2 f22 f23 f24) x).trans (codes_piece c f0 f1 f2 f22 f23 f24 28 (by omega) 3584 rfl _ _ inb_S8x6144_S8x128_0_3584 x), ?_⟩
  refine ⟨fun x => (congrFun (codes_27 c f0 f1 f2 f22 f23 f24) x).trans (codes_piece c f0 f1 f2 f22 f23 f24 27 (by omega) 3456 rfl _ _ inb_S8x6144_S8x128_0_3456 x), ?_⟩
  refine ⟨fun x => (congrFun (codes_26 c f0 f1 f2 f22 f23 f24) x).trans (codes_piece c f0 f1 f2 f22 f23 f24 26 (by omega) 3328 rfl _ _ inb_S8x6144_S8x128_0_3328 x), ?_⟩
  refine ⟨fun x => (congrFun (codes_25 c f0 f1 f2 f22 f23 f24) x).trans (codes_piece c f0 f1 f2 f22 f23 f24 25 (by omega) 3200 rfl _ _ inb_S8x6144_S8x128_0_3200 x), ?_⟩
  refine ⟨fun x => (congrFun (codes_24 c f0 f1 f2 f22 f23 f24) x).trans (codes_piece c f0 f1 f2 f22 f23 f24 24 (by omega) 3072 rfl _ _ inb_S8x6144_S8x128_0_3072 x), ?_⟩
  refine ⟨fun x => (congrFun (codes_23 c f0 f1 f2 f22 f23 f24) x).trans (codes_piece c f0 f1 f2 f22 f23 f24 23 (by omega) 2944 rfl _ _ inb_S8x6144_S8x128_0_2944 x), ?_⟩
  refine ⟨fun x => (congrFun (codes_22 c f0 f1 f2 f22 f23 f24) x).trans (codes_piece c f0 f1 f2 f22 f23 f24 22 (by omega) 2816 rfl _ _ inb_S8x6144_S8x128_0_2816 x), ?_⟩
  refine ⟨fun x => (congrFun (codes_21 c f0 f1 f2 f22 f23 f24) x).trans (codes_piece c f0 f1 f2 f22 f23 f24 21 (by omega) 2688 rfl _ _ inb_S8x6144_S8x128_0_2688 x), ?_⟩
  refine ⟨fun x => (congrFun (codes_20 c f0 f1 f2 f22 f23 f24) x).trans (codes_piece c f0 f1 f2 f22 f23 f24 20 (by omega) 2560 rfl _ _ inb_S8x6144_S8x128_0_2560 x), ?_⟩
  refine ⟨fun x => (congrFun (codes_19 c f0 f1 f2 f22 f23 f24) x).trans (codes_piece c f0 f1 f2 f22 f23 f24 19 (by omega) 2432 rfl _ _ inb_S8x6144_S8x128_0_2432 x), ?_⟩
  refine ⟨fun x => (congrFun (codes_18 c f0 f1 f2 f22 f23 f24) x).trans (codes_piece c f0 f1 f2 f22 f23 f24 18 (by omega) 2304 rfl _ _ inb_S8x6144_S8x128_0_2304 x), ?_⟩
  refine ⟨fun x => (congrFun (codes_17 c f0 f1 f2 f22 f23 f24) x).trans (codes_piece c f0 f1 f2 f22 f23 f24 17 (by omega) 2176 rfl _ _ inb_S8x6144_S8x128_0_2176 x), ?_⟩
  refine ⟨fun x => (congrFun (codes_16 c f0 f1 f2 f22 f23 f24) x).trans (codes_piece c f0 f1 f2 f22 f23 f24 16 (by omega) 2048 rfl _ _ inb_S8x6144_S8x128_0_2048 x), ?_⟩
  refine ⟨fun x => (congrFun (codes_15 c f0 f1 f2 f22 f23 f24) x).trans (codes_piece c f0 f1 f2 f22 f23 f24 15 (by omega) 1920 rfl _ _ inb_S8x6144_S8x128_0_1920 x), ?_⟩
  refine ⟨fun x => (congrFun (codes_14 c f0 f1 f2 f22 f23 f24) x).trans (codes_piece c f0 f1 f2 f22 f23 f24 14 (by omega) 1792 rfl _ _ inb_S8x6144_S8x128_0_1792 x), ?_⟩
  refine ⟨fun x => (congrFun (codes_13 c f0 f1 f2 f22 f23 f24) x).trans (codes_piece c f0 f1 f2 f22 f23 f24 13 (by omega) 1664 rfl _ _ inb_S8x6144_S8x128_0_1664 x), ?_⟩
  refine ⟨fun x => (congrFun (codes_12 c f0 f1 f2 f22 f23 f24) x).trans (codes_piece c f0 f1 f2 f22 f23 f24 12 (by omega) 1536 rfl _ _ inb_S8x6144_S8x128_0_1536 x), ?_⟩
  refine ⟨fun x => (congrFun (codes_11 c f0 f1 f2 f22 f23 f24) x).trans (codes_piece c f0 f1 f2 f22 f23 f24 11 (by omega) 1408 rfl _ _ inb_S8x6144_S8x128_0_1408 x), ?_⟩
  refine ⟨fun x => (congrFun (codes_10 c f0 f1 f2 f22 f23 f24) x).trans (codes_piece c f0 f1 f2 f22 f23 f24 10 (by omega) 1280 rfl _ _ inb_S8x6144_S8x128_0_1280 x), ?_⟩
  refine ⟨fun x => (congrFun (codes_9 c f0 f1 f2 f22 f23 f24) x).trans (codes_piece c f0 f1 f2 f22 f23 f24 9 (by omega) 1152 rfl _ _ inb_S8x6144_S8x128_0_1152 x), ?_⟩
  refine ⟨fun x => (congrFun (codes_8 c f0 f1 f2 f22 f23 f24) x).trans (codes_piece c f0 f1 f2 f22 f23 f24 8 (by omega) 1024 rfl _ _ inb_S8x6144_S8x128_0_1024 x), ?_⟩
  refine ⟨fun x => (congrFun (codes_7 c f0 f1 f2 f22 f23 f24) x).trans (codes_piece c f0 f1 f2 f22 f23 f24 7 (by omega) 896 rfl _ _ inb_S8x6144_S8x128_0_896 x), ?_⟩
  refine ⟨fun x => (congrFun (codes_6 c f0 f1 f2 f22 f23 f24) x).trans (codes_piece c f0 f1 f2 f22 f23 f24 6 (by omega) 768 rfl _ _ inb_S8x6144_S8x128_0_768 x), ?_⟩
  refine ⟨fun x => (congrFun (codes_5 c f0 f1 f2 f22 f23 f24) x).trans (codes_piece c f0 f1 f2 f22 f23 f24 5 (by omega) 640 rfl _ _ inb_S8x6144_S8x128_0_640 x), ?_⟩
  refine ⟨fun x => (congrFun (codes_4 c f0 f1 f2 f22 f23 f24) x).trans (codes_piece c f0 f1 f2 f22 f23 f24 4 (by omega) 512 rfl _ _ inb_S8x6144_S8x128_0_512 x), ?_⟩
  refine ⟨fun x => (congrFun (codes_3 c f0 f1 f2 f22 f23 f24) x).trans (codes_piece c f0 f1 f2 f22 f23 f24 3 (by omega) 384 rfl _ _ inb_S8x6144_S8x128_0_384 x), ?_⟩
  refine ⟨fun x => (congrFun (codes_2 c f0 f1 f2 f22 f23 f24) x).trans (codes_piece c f0 f1 f2 f22 f23 f24 2 (by omega) 256 rfl _ _ inb_S8x6144_S8x128_0_256 x), ?_⟩
  refine ⟨fun x => (congrFun (codes_1 c f0 f1 f2 f22 f23 f24) x).trans (codes_piece c f0 f1 f2 f22 f23 f24 1 (by omega) 128 rfl _ _ inb_S8x6144_S8x128_0_128 x), ?_⟩
  refine ⟨fun x => (congrFun (codes_0 c f0 f1 f2 f22 f23 f24) x).trans (codes_piece c f0 f1 f2 f22 f23 f24 0 (by omega) 0 rfl _ _ inb_S8x6144_S8x128_0_0 x), ?_⟩
  trivial

/-- What the stores of the codes leave. -/
theorem codes_canon (r : Fin 8) (l : Fin 6144) :
    View.canon (bodyRun.sl.H40_48 (F := Ideal) c f0 f1 f2 f22 f23 f24) (ix2 r l) = codeV (xOf c f0) (gOf c f1) (bOf c f2) r l :=
  (congrArg (fun L => View.canon L (ix2 r l : S8x6144.Idx)) (List.append_nil (bodyRun.sl.H40_48 (F := Ideal) c f0 f1 f2 f22 f23 f24))).symm.trans
    (View.canon_append_of_piecesOf _ [] _ (codes_pieces c f0 f1 f2 f22 f23 f24) (ix2 r l) (View.cover_of_tiled (bodyRun.sl.H40_48 (F := Ideal) c f0 f1 f2 f22 f23 f24) (![8, 128] : Fin 2 → ℕ) (by rfl) (ix2 r l : S8x6144.Idx)))
end

end Cert.KernelIdeal.Hand

end
-- ==== Proof.IdealLhs.lean ====
module

public import proofs.«01_k».proof.Proof.IdealRows

@[expose] public section

noncomputable section

namespace Cert.KernelIdeal.Hand

open Cert.KernelIdeal Cert.KernelIdeal.Gen
open Idealize.ShloMosaic Idealize.ShloMosaic.TcCoe

/-! ## The product's left operand and the scales -/

section
variable (c : Dev nD) (f0 : BufOf (F := Ideal) c A0) (f1 : BufOf (F := Ideal) c A1) (f2 : BufOf (F := Ideal) c A2) (f22 : BufOf (F := Ideal) c A22)
  (f23 : BufOf (F := Ideal) c A23) (f24 : BufOf (F := Ideal) c A24)

theorem mag_blk (q : ℕ) (hq : q < 48) (o : ℕ) (ho : o = 128 * q) (hs : S8x6144.Slices ![0, o] S8x128) (hg : ∀ a, (![0, o] : Fin 2 → ℕ) a + S1x128.size a ≤ S1x6144.size a)
    (r : Fin 8) : (rowMax fun t => hK c f0 f1 f2 f22 f23 f24 o hs hg (ix2 r t)) = magV (xOf c f0) (gOf c f1) (bOf c f2) r ⟨q, hq⟩ := by
  unfold magV
  exact congrArg rowMax (funext fun t => hK_at c f0 f1 f2 f22 f23 f24 o hs hg r t _ (by rw [ho]; rfl))

/-- The left operand: eight rows of codes times scales over eight rows of zeros. -/
def lhsFull (r : Fin 16) (l : Fin 6144) : EReal := if hr : r.val < 8 then lhsV (xOf c f0) (gOf c f1) (bOf c f2) ⟨r.val, hr⟩ l else 0

theorem lhs_blk (q : ℕ) (hq : q < 48) (o : ℕ) (ho : o = 128 * q) (hs : S8x6144.Slices ![0, o] S8x128) (hg : ∀ a, (![0, o] : Fin 2 → ℕ) a + S1x128.size a ≤ S1x6144.size a)
    (z : Fin 1) (r : Fin 16) (t : Fin 128) (l : Fin 6144) (hl : l.val = o + t.val) :
    lhsB (hK c f0 f1 f2 f22 f23 f24 o hs hg) (ix3 z r t) = lhsFull c f0 f1 f2 r l := by
  have hb : blkOf l = ⟨q, hq⟩ := Fin.ext (by unfold blkOf; simp only; omega)
  rw [lhsB_at]
  unfold lhsFull
  by_cases hr : r.val < 8
  · rw [dif_pos hr, dif_pos hr]
    unfold lhsV scaleV
    rw [← codes_blk c f0 f1 f2 f22 f23 f24 q hq o ho hs hg ⟨r.val, hr⟩ t l hl, hb, ← mag_blk c f0 f1 f2 f22 f23 f24 q hq o ho hs hg ⟨r.val, hr⟩, codesB_at]
  · rw [dif_neg hr, dif_neg hr]

/-- Column `k` of the `s`th of the twelve slabs of columns. -/
def slabCol (s : Fin 12) (k : Fin 512) : Fin 6144 := ⟨512 * s.val + k.val, by omega⟩

theorem lhs_piece (q : ℕ) (hq : q < 48) (o : ℕ) (ho : o = 128 * q) (hs : S8x6144.Slices ![0, o] S8x128) (hg : ∀ a, (![0, o] : Fin 2 → ℕ) a + S1x128.size a ≤ S1x6144.size a)
    (d e : ℕ) (hde : 512 * d + e = o) (inb : ∀ a, (![d, 0, e] : Fin 3 → ℕ) a + S1x16x128.size a ≤ S12x16x512.size a) (x : S1x16x128.Idx) :
    lhsB (hK c f0 f1 f2 f22 f23 f24 o hs hg) x
      = (fun y : S12x16x512.Idx => lhsFull c f0 f1 f2 (y 1) (slabCol (y 0) (y 2))) ((Rect.unit (s := S12x16x512) ![d, 0, e] S1x16x128.size inb).emb x) := by
  have e0 : ((Rect.unit (s := S12x16x512) ![d, 0, e] S1x16x128.size inb).emb x 0).val = d + (x 0).val := emb_val (s := S12x16x512) (off := ![d, 0, e]) (size := S1x16x128.size) inb x 0
  have e1 : (Rect.unit (s := S12x16x512) ![d, 0, e] S1x16x128.size inb).emb x 1 = x 1 := Fin.ext ((emb_val (s := S12x16x512) (off := ![d, 0, e]) (size := S1x16x128.size) inb x 1).trans (Nat.zero_add _))
  have e2 : ((Rect.unit (s := S12x16x512) ![d, 0, e] S1x16x128.size inb).emb x 2).val = e + (x 2).val := emb_val (s := S12x16x512) (off := ![d, 0, e]) (size := S1x16x128.size) inb x 2
  have hx : x = ix3 (x 0 : Fin 1) (x 1 : Fin 16) (x 2 : Fin 128) := by
    funext a
    match a with | ⟨0, _⟩ => rfl | ⟨1, _⟩ => rfl | ⟨2, _⟩ => rfl
  have hz : (x 0).val < 1 := (x 0).isLt
  show _ = lhsFull c f0 f1 f2 _ _
  rw [e1]
  refine (congrArg (lhsB (hK c f0 f1 f2 f22 f23 f24 o hs hg)) hx).trans (lhs_blk c f0 f1 f2 f22 f23 f24 q hq o ho hs hg (x 0) (x 1) (x 2) _ ?_)
  show 512 * ((Rect.unit (s := S12x16x512) ![d, 0, e] S1x16x128.size inb).emb x 0).val + ((Rect.unit (s := S12x16x512) ![d, 0, e] S1x16x128.size inb).emb x 2).val = o + (x 2).val
  rw [e0, e2]
  omega

set_option maxHeartbeats 0 in
theorem lhs_pieces : View.PiecesOf (fun y : S12x16x512.Idx => lhsFull c f0 f1 f2 (y 1) (slabCol (y 0) (y 2))) (bodyRun.sl.H32_48 (F := Ideal) c f0 f1 f2 f22 f23 f24) := by
  unfold bodyRun.sl.H32_48
  refine ⟨fun x => (congrFun (lhs_47 c f0 f1 f2 f22 f23 f24) x).trans (lhs_piece c f0 f1 f2 f22 f23 f24 47 (by omega) 6016 rfl _ _ 11 384 rfl inb_S12x16x512_S1x16x128_11_0_384 x), ?_⟩
  refine ⟨fun x => (congrFun (lhs_46 c f0 f1 f2 f22 f23 f24) x).trans (lhs_piece c f0 f1 f2 f22 f23 f24 46 (by omega) 5888 rfl _ _ 11 256 rfl inb_S12x16x512_S1x16x128_11_0_256 x), ?_⟩
  refine ⟨fun x => (congrFun (lhs_45 c f0 f1 f2 f22 f23 f24) x).trans (lhs_piece c f0 f1 f2 f22 f23 f24 45 (by omega) 5760 rfl _ _ 11 128 rfl inb_S12x16x512_S1x16x128_11_0_128 x), ?_⟩
  refine ⟨fun x => (congrFun (lhs_44 c f0 f1 f2 f22 f23 f24) x).trans (lhs_piece c f0 f1 f2 f22 f23 f24 44 (by omega) 5632 rfl _ _ 11 0 rfl inb_S12x16x512_S1x16x128_11_0_0 x), ?_⟩
  refine ⟨fun x => (congrFun (lhs_43 c f0 f1 f2 f22 f23 f24) x).trans (lhs_piece c f0 f1 f2 f22 f23 f24 43 (by omega) 5504 rfl _ _ 10 384 rfl inb_S12x16x512_S1x16x128_10_0_384 x), ?_⟩
  refine ⟨fun x => (congrFun (lhs_42 c f0 f1 f2 f22 f23 f24) x).trans (lhs_piece c f0 f1 f2 f22 f23 f24 42 (by omega) 5376 rfl _ _ 10 256 rfl inb_S12x16x512_S1x16x128_10_0_256 x), ?_⟩
  refine ⟨fun x => (congrFun (lhs_41 c f0 f1 f2 f22 f23 f24) x).trans (lhs_piece c f0 f1 f2 f22 f23 f24 41 (by omega) 5248 rfl _ _ 10 128 rfl inb_S12x16x512_S1x16x128_10_0_128 x), ?_⟩
  refine ⟨fun x => (congrFun (lhs_40 c f0 f1 f2 f22 f23 f24) x).trans (lhs_piece c f0 f1 f2 f22 f23 f24 40 (by omega) 5120 rfl _ _ 10 0 rfl inb_S12x16x512_S1x16x128_10_0_0 x), ?_⟩
  refine ⟨fun x => (congrFun (lhs_39 c f0 f1 f2 f22 f23 f24) x).trans (lhs_piece c f0 f1 f2 f22 f23 f24 39 (by omega) 4992 rfl _ _ 9 384 rfl inb_S12x16x512_S1x16x128_9_0_384 x), ?_⟩
  refine ⟨fun x => (congrFun (lhs_38 c f0 f1 f2 f22 f23 f24) x).trans (lhs_piece c f0 f1 f2 f22 f23 f24 38 (by omega) 4864 rfl _ _ 9 256 rfl inb_S12x16x512_S1x16x128_9_0_256 x), ?_⟩
  refine ⟨fun x => (congrFun (lhs_37 c f0 f1 f2 f22 f23 f24) x).trans (lhs_piece c f0 f1 f2 f22 f23 f24 37 (by omega) 4736 rfl _ _ 9 128 rfl inb_S12x16x512_S1x16x128_9_0_128 x), ?_⟩
  refine ⟨fun x => (congrFun (lhs_36 c f0 f1 f2 f22 f23 f24) x).trans (lhs_piece c f0 f1 f2 f22 f23 f24 36 (by omega) 4608 rfl _ _ 9 0 rfl inb_S12x16x512_S1x16x128_9_0_0 x), ?_⟩
  refine ⟨fun x => (congrFun (lhs_35 c f0 f1 f2 f22 f23 f24) x).trans (lhs_piece c f0 f1 f2 f22 f23 f24 35 (by omega) 4480 rfl _ _ 8 384 rfl inb_S12x16x512_S1x16x128_8_0_384 x), ?_⟩
  refine ⟨fun x => (congrFun (lhs_34 c f0 f1 f2 f22 f23 f24) x).trans (lhs_piece c f0 f1 f2 f22 f23 f24 34 (by omega) 4352 rfl _ _ 8 256 rfl inb_S12x16x512_S1x16x128_8_0_256 x), ?_⟩
  refine ⟨fun x => (congrFun (lhs_33 c f0 f1 f2 f22 f23 f24) x).trans (lhs_piece c f0 f1 f2 f22 f23 f24 33 (by omega) 4224 rfl _ _ 8 128 rfl inb_S12x16x512_S1x16x128_8_0_128 x), ?_⟩
  refine ⟨fun x => (congrFun (lhs_32 c f0 f1 f2 f22 f23 f24) x).trans (lhs_piece c f0 f1 f2 f22 f23 f24 32 (by omega) 4096 rfl _ _ 8 0 rfl inb_S12x16x512_S1x16x128_8_0_0 x), ?_⟩
  refine ⟨fun x => (congrFun (lhs_31 c f0 f1 f2 f22 f23 f24) x).trans (lhs_piece c f0 f1 f2 f22 f23 f24 31 (by omega) 3968 rfl _ _ 7 384 rfl inb_S12x16x512_S1x16x128_7_0_384 x), ?_⟩
  refine ⟨fun x => (congrFun (lhs_30 c f0 f1 f2 f22 f23 f24) x).trans (lhs_piece c f0 f1 f2 f22 f23 f24 30 (by omega) 3840 rfl _ _ 7 256 rfl inb_S12x16x512_S1x16x128_7_0_256 x), ?_⟩
  refine ⟨fun x => (congrFun (lhs_29 c f0 f1 f2 f22 f23 f24) x).trans (lhs_piece c f0 f1 f2 f22 f23 f24 29 (by omega) 3712 rfl _ _ 7 128 rfl inb_S12x16x512_S1x16x128_7_0_128 x), ?_⟩
  refine ⟨fun x => (congrFun (lhs_28 c f0 f1 f2 f22 f23 f24) x).trans (lhs_piece c f0 f1 f2 f22 f23 f24 28 (by omega) 3584 rfl _ _ 7 0 rfl inb_S12x16x512_S1x16x128_7_0_0 x), ?_⟩
  refine ⟨fun x => (congrFun (lhs_27 c f0 f1 f2 f22 f23 f24) x).trans (lhs_piece c f0 f1 f2 f22 f23 f24 27 (by omega) 3456 rfl _ _ 6 384 rfl inb_S12x16x512_S1x16x128_6_0_384 x), ?_⟩
  refine ⟨fun x => (congrFun (lhs_26 c f0 f1 f2 f22 f23 f24) x).trans (lhs_piece c f0 f1 f2 f22 f23 f24 26 (by omega) 3328 rfl _ _ 6 256 rfl inb_S12x16x512_S1x16x128_6_0_256 x), ?_⟩
  refine ⟨fun x => (congrFun (lhs_25 c f0 f1 f2 f22 f23 f24) x).trans (lhs_piece c f0 f1 f2 f22 f23 f24 25 (by omega) 3200 rfl _ _ 6 128 rfl inb_S12x16x512_S1x16x128_6_0_128 x), ?_⟩
  refine ⟨fun x => (congrFun (lhs_24 c f0 f1 f2 f22 f23 f24) x).trans (lhs_piece c f0 f1 f2 f22 f23 f24 24 (by omega) 3072 rfl _ _ 6 0 rfl inb_S12x16x512_S1x16x128_6_0_0 x), ?_⟩
  refine ⟨fun x => (congrFun (lhs_23 c f0 f1 f2 f22 f23 f24) x).trans (lhs_piece c f0 f1 f2 f22 f23 f24 23 (by omega) 2944 rfl _ _ 5 384 rfl inb_S12x16x512_S1x16x128_5_0_384 x), ?_⟩
  refine ⟨fun x => (congrFun (lhs_22 c f0 f1 f2 f22 f23 f24) x).trans (lhs_piece c f0 f1 f2 f22 f23 f24 22 (by omega) 2816 rfl _ _ 5 256 rfl inb_S12x16x512_S1x16x128_5_0_256 x), ?_⟩
  refine ⟨fun x => (congrFun (lhs_21 c f0 f1 f2 f22 f23 f24) x).trans (lhs_piece c f0 f1 f2 f22 f23 f24 21 (by omega) 2688 rfl _ _ 5 128 rfl inb_S12x16x512_S1x16x128_5_0_128 x), ?_⟩
  refine ⟨fun x => (congrFun (lhs_20 c f0 f1 f2 f22 f23 f24) x).trans (lhs_piece c f0 f1 f2 f22 f23 f24 20 (by omega) 2560 rfl _ _ 5 0 rfl inb_S12x16x512_S1x16x128_5_0_0 x), ?_⟩
  refine ⟨fun x => (congrFun (lhs_19 c f0 f1 f2 f22 f23 f24) x).trans (lhs_piece c f0 f1 f2 f22 f23 f24 19 (by omega) 2432 rfl _ _ 4 384 rfl inb_S12x16x512_S1x16x128_4_0_384 x), ?_⟩
  refine ⟨fun x => (congrFun (lhs_18 c f0 f1 f2 f22 f23 f24) x).trans (lhs_piece c f0 f1 f2 f22 f23 f24 18 (by omega) 2304 rfl _ _ 4 256 rfl inb_S12x16x512_S1x16x128_4_0_256 x), ?_⟩
  refine ⟨fun x => (congrFun (lhs_17 c f0 f1 f2 f22 f23 f24) x).trans (lhs_piece c f0 f1 f2 f22 f23 f24 17 (by omega) 2176 rfl _ _ 4 128 rfl inb_S12x16x512_S1x16x128_4_0_128 x), ?_⟩
  refine ⟨fun x => (congrFun (lhs_16 c f0 f1 f2 f22 f23 f24) x).trans (lhs_piece c f0 f1 f2 f22 f23 f24 16 (by omega) 2048 rfl _ _ 4 0 rfl inb_S12x16x512_S1x16x128_4_0_0 x), ?_⟩
  refine ⟨fun x => (congrFun (lhs_15 c f0 f1 f2 f22 f23 f24) x).trans (lhs_piece c f0 f1 f2 f22 f23 f24 15 (by omega) 1920 rfl _ _ 3 384 rfl inb_S12x16x512_S1x16x128_3_0_384 x), ?_⟩
  refine ⟨fun x => (congrFun (lhs_14 c f0 f1 f2 f22 f23 f24) x).trans (lhs_piece c f0 f1 f2 f22 f23 f24 14 (by omega) 1792 rfl _ _ 3 256 rfl inb_S12x16x512_S1x16x128_3_0_256 x), ?_⟩
  refine ⟨fun x => (congrFun (lhs_13 c f0 f1 f2 f22 f23 f24) x).trans (lhs_piece c f0 f1 f2 f22 f23 f24 13 (by omega) 1664 rfl _ _ 3 128 rfl inb_S12x16x512_S1x16x128_3_0_128 x), ?_⟩
  refine ⟨fun x => (congrFun (lhs_12 c f0 f1 f2 f22 f23 f24) x).trans (lhs_piece c f0 f1 f2 f22 f23 f24 12 (by omega) 1536 rfl _ _ 3 0 rfl inb_S12x16x512_S1x16x128_3_0_0 x), ?_⟩
  refine ⟨fun x => (congrFun (lhs_11 c f0 f1 f2 f22 f23 f24) x).trans (lhs_piece c f0 f1 f2 f22 f23 f24 11 (by omega) 1408 rfl _ _ 2 384 rfl inb_S12x16x512_S1x16x128_2_0_384 x), ?_⟩
  refine ⟨fun x => (congrFun (lhs_10 c f0 f1 f2 f22 f23 f24) x).trans (lhs_piece c f0 f1 f2 f22 f23 f24 10 (by omega) 1280 rfl _ _ 2 256 rfl inb_S12x16x512_S1x16x128_2_0_256 x), ?_⟩
  refine ⟨fun x => (congrFun (lhs_9 c f0 f1 f2 f22 f23 f24) x).trans (lhs_piece c f0 f1 f2 f22 f23 f24 9 (by omega) 1152 rfl _ _ 2 128 rfl inb_S12x16x512_S1x16x128_2_0_128 x), ?_⟩
  refine ⟨fun x => (congrFun (lhs_8 c f0 f1 f2 f22 f23 f24) x).trans (lhs_piece c f0 f1 f2 f22 f23 f24 8 (by omega) 1024 rfl _ _ 2 0 rfl inb_S12x16x512_S1x16x128_2_0_0 x), ?_⟩
  refine ⟨fun x => (congrFun (lhs_7 c f0 f1 f2 f22 f23 f24) x).trans (lhs_piece c f0 f1 f2 f22 f23 f24 7 (by omega) 896 rfl _ _ 1 384 rfl inb_S12x16x512_S1x16x128_1_0_384 x), ?_⟩
  refine ⟨fun x => (congrFun (lhs_6 c f0 f1 f2 f22 f23 f24) x).trans (lhs_piece c f0 f1 f2 f22 f23 f24 6 (by omega) 768 rfl _ _ 1 256 rfl inb_S12x16x512_S1x16x128_1_0_256 x), ?_⟩
  refine ⟨fun x => (congrFun (lhs_5 c f0 f1 f2 f22 f23 f24) x).trans (lhs_piece c f0 f1 f2 f22 f23 f24 5 (by omega) 640 rfl _ _ 1 128 rfl inb_S12x16x512_S1x16x128_1_0_128 x), ?_⟩
  refine ⟨fun x => (congrFun (lhs_4 c f0 f1 f2 f22 f23 f24) x).trans (lhs_piece c f0 f1 f2 f22 f23 f24 4 (by omega) 512 rfl _ _ 1 0 rfl inb_S12x16x512_S1x16x128_1_0_0 x), ?_⟩
  refine ⟨fun x => (congrFun (lhs_3 c f0 f1 f2 f22 f23 f24) x).trans (lhs_piece c f0 f1 f2 f22 f23 f24 3 (by omega) 384 rfl _ _ 0 384 rfl inb_S12x16x512_S1x16x128_0_0_384 x), ?_⟩
  refine ⟨fun x => (congrFun (lhs_2 c f0 f1 f2 f22 f23 f24) x).trans (lhs_piece c f0 f1 f2 f22 f23 f24 2 (by omega) 256 rfl _ _ 0 256 rfl inb_S12x16x512_S1x16x128_0_0_256 x), ?_⟩
  refine ⟨fun x => (congrFun (lhs_1 c f0 f1 f2 f22 f23 f24) x).trans (lhs_piece c f0 f1 f2 f22 f23 f24 1 (by omega) 128 rfl _ _ 0 128 rfl inb_S12x16x512_S1x16x128_0_0_128 x), ?_⟩
  refine ⟨fun x => (congrFun (lhs_0 c f0 f1 f2 f22 f23 f24) x).trans (lhs_piece c f0 f1 f2 f22 f23 f24 0 (by omega) 0 rfl _ _ 0 0 rfl inb_S12x16x512_S1x16x128_0_0_0 x), ?_⟩
  trivial

/-- What the stores of the left operand leave. -/
theorem lhs_canon (s : Fin 12) (r : Fin 16) (k : Fin 512) :
    View.canon (bodyRun.sl.H32_48 (F := Ideal) c f0 f1 f2 f22 f23 f24) (ix3 s r k) = lhsFull c f0 f1 f2 r (slabCol s k) :=
  (congrArg (fun L => View.canon L (ix3 s r k : S12x16x512.Idx)) (List.append_nil (bodyRun.sl.H32_48 (F := Ideal) c f0 f1 f2 f22 f23 f24))).symm.trans
    (View.canon_append_of_piecesOf _ [] _ (lhs_pieces c f0 f1 f2 f22 f23 f24) (ix3 s r k)
      (View.cover_of_tiled (bodyRun.sl.H32_48 (F := Ideal) c f0 f1 f2 f22 f23 f24) (![1, 16, 128] : Fin 3 → ℕ) (by rfl) (ix3 s r k : S12x16x512.Idx)))

/-! ### The scales -/

/-- The first `n` lanes of `v` hold the scales of the first `n` blocks. -/
def LanesUpTo (n : ℕ) (v : FVec Ideal S8x128 .f32) : Prop :=
  ∀ (r : Fin 8) (t : Fin 128) (q : Fin 48), t.val = q.val → q.val < n → v (ix2 r t) = scaleV (xOf c f0) (gOf c f1) (bOf c f2) r q

theorem lanes_step (n : ℕ) (hn : n < 48) (o : ℕ) (ho : o = 128 * n) (hs : S8x6144.Slices ![0, o] S8x128) (hg : ∀ a, (![0, o] : Fin 2 → ℕ) a + S1x128.size a ≤ S1x6144.size a)
    (v : FVec Ideal S8x128 .f32) (h : LanesUpTo c f0 f1 f2 n v) : LanesUpTo c f0 f1 f2 (n + 1) (laneB (BitVec.ofNat 32 n) v (hK c f0 f1 f2 f22 f23 f24 o hs hg)) := by
  intro r t q ht hq
  rw [laneB_at, mag_blk c f0 f1 f2 f22 f23 f24 n hn o ho hs hg r]
  have key : BitVec.ofNat 32 t.val = BitVec.ofNat 32 n ↔ t.val = n := by
    constructor
    · intro e
      have := congrArg BitVec.toNat e
      simp only [BitVec.toNat_ofNat] at this
      omega
    · intro e; rw [e]
  by_cases e : t.val = n
  · rw [if_pos (key.2 e)]
    unfold scaleV
    congr 2
    exact Fin.ext (by simp only; omega)
  · rw [if_neg (fun h => e (key.1 h))]
    exact h r t q ht (by omega)

theorem lanes_all : LanesUpTo c f0 f1 f2 48 (laneB 47#32 (bodyRun.sl.r_249 c f0 f1 f2 f22 f23 f24)
    (hK c f0 f1 f2 f22 f23 f24 6016 slices_S8x6144_o0_6016_S8x128 inb_S1x6144_S1x128_0_6016)) := by
  have p0 : LanesUpTo c f0 f1 f2 0 (broadcast S8x128 (Scalar.ofBits (F := Ideal) .f32 0x00000000#32)) := fun r t q ht hq => by omega
  have p1 : LanesUpTo c f0 f1 f2 1 (bodyRun.sl.r_8 c f0 f1 f2 f22 f23 f24) := (lane_0 c f0 f1 f2 f22 f23 f24).symm ▸ lanes_step c f0 f1 f2 f22 f23 f24 0 (by omega) 0 rfl _ _ _ p0
  have p2 : LanesUpTo c f0 f1 f2 2 (bodyRun.sl.r_13 c f0 f1 f2 f22 f23 f24) := (lane_1 c f0 f1 f2 f22 f23 f24).symm ▸ lanes_step c f0 f1 f2 f22 f23 f24 1 (by omega) 128 rfl _ _ _ p1
  have p3 : LanesUpTo c f0 f1 f2 3 (bodyRun.sl.r_18 c f0 f1 f2 f22 f23 f24) := (lane_2 c f0 f1 f2 f22 f23 f24).symm ▸ lanes_step c f0 f1 f2 f22 f23 f24 2 (by omega) 256 rfl _ _ _ p2
  have p4 : LanesUpTo c f0 f1 f2 4 (bodyRun.sl.r_25 c f0 f1 f2 f22 f23 f24) := (lane_3 c f0 f1 f2 f22 f23 f24).symm ▸ lanes_step c f0 f1 f2 f22 f23 f24 3 (by omega) 384 rfl _ _ _ p3
  have p5 : LanesUpTo c f0 f1 f2 5 (bodyRun.sl.r_30 c f0 f1 f2 f22 f23 f24) := (lane_4 c f0 f1 f2 f22 f23 f24).symm ▸ lanes_step c f0 f1 f2 f22 f23 f24 4 (by omega) 512 rfl _ _ _ p4
  have p6 : LanesUpTo c f0 f1 f2 6 (bodyRun.sl.r_34 c f0 f1 f2 f22 f23 f24) := (lane_5 c f0 f1 f2 f22 f23 f24).symm ▸ lanes_step c f0 f1 f2 f22 f23 f24 5 (by omega) 640 rfl _ _ _ p5
  have p7 : LanesUpTo c f0 f1 f2 7 (bodyRun.sl.r_39 c f0 f1 f2 f22 f23 f24) := (lane_6 c f0 f1 f2 f22 f23 f24).symm ▸ lanes_step c f0 f1 f2 f22 f23 f24 6 (by omega) 768 rfl _ _ _ p6
  have p8 : LanesUpTo c f0 f1 f2 8 (bodyRun.sl.r_46 c f0 f1 f2 f22 f23 f24) := (lane_7 c f0 f1 f2 f22 f23 f24).symm ▸ lanes_step c f0 f1 f2 f22 f23 f24 7 (by omega) 896 rfl _ _ _ p7
  have p9 : LanesUpTo c f0 f1 f2 9 (bodyRun.sl.r_51 c f0 f1 f2 f22 f23 f24) := (lane_8 c f0 f1 f2 f22 f23 f24).symm ▸ lanes_step c f0 f1 f2 f22 f23 f24 8 (by omega) 1024 rfl _ _ _ p8
  have p10 : LanesUpTo c f0 f1 f2 10 (bodyRun.sl.r_55 c f0 f1 f2 f22 f23 f24) := (lane_9 c f0 f1 f2 f22 f23 f24).symm ▸ lanes_step c f0 f1 f2 f22 f23 f24 9 (by omega) 1152 rfl _ _ _ p9
  have p11 : LanesUpTo c f0 f1 f2 11 (bodyRun.sl.r_60 c f0 f1 f2 f22 f23 f24) := (lane_10 c f0 f1 f2 f22 f23 f24).symm ▸ lanes_step c f0 f1 f2 f22 f23 f24 10 (by omega) 1280 rfl _ _ _ p10
  have p12 : LanesUpTo c f0 f1 f2 12 (bodyRun.sl.r_67 c f0 f1 f2 f22 f23 f24) := (lane_11 c f0 f1 f2 f22 f23 f24).symm ▸ lanes_step c f0 f1 f2 f22 f23 f24 11 (by omega) 1408 rfl _ _ _ p11
  have p13 : LanesUpTo c f0 f1 f2 13 (bodyRun.sl.r_72 c f0 f1 f2 f22 f23 f24) := (lane_12 c f0 f1 f2 f22 f23 f24).symm ▸ lanes_step c f0 f1 f2 f22 f23 f24 12 (by omega) 1536 rfl _ _ _ p12
  have p14 : LanesUpTo c f0 f1 f2 14 (bodyRun.sl.r_76 c f0 f1 f2 f22 f23 f24) := (lane_13 c f0 f1 f2 f22 f23 f24).symm ▸ lanes_step c f0 f1 f2 f22 f23 f24 13 (by omega) 1664 rfl _ _ _ p13
  have p15 : LanesUpTo c f0 f1 f2 15 (bodyRun.sl.r_81 c f0 f1 f2 f22 f23 f24) := (lane_14 c f0 f1 f2 f22 f23 f24).symm ▸ lanes_step c f0 f1 f2 f22 f23 f24 14 (by omega) 1792 rfl _ _ _ p14
  have p16 : LanesUpTo c f0 f1 f2 16 (bodyRun.sl.r_88 c f0 f1 f2 f22 f23 f24) := (lane_15 c f0 f1 f2 f22 f23 f24).symm ▸ lanes_step c f0 f1 f2 f22 f23 f24 15 (by omega) 1920 rfl _ _ _ p15
  have p17 : LanesUpTo c f0 f1 f2 17 (bodyRun.sl.r_93 c f0 f1 f2 f22 f23 f24) := (lane_16 c f0 f1 f2 f22 f23 f24).symm ▸ lanes_step c f0 f1 f2 f22 f23 f24 16 (by omega) 2048 rfl _ _ _ p16
  have p18 : LanesUpTo c f0 f1 f2 18 (bodyRun.sl.r_97 c f0 f1 f2 f22 f23 f24) := (lane_17 c f0 f1 f2 f22 f23 f24).symm ▸ lanes_step c f0 f1 f2 f22 f23 f24 17 (by omega) 2176 rfl _ _ _ p17
  have p19 : LanesUpTo c f0 f1 f2 19 (bodyRun.sl.r_102 c f0 f1 f2 f22 f23 f24) := (lane_18 c f0 f1 f2 f22 f23 f24).symm ▸ lanes_step c f0 f1 f2 f22 f23 f24 18 (by omega) 2304 rfl _ _ _ p18
  have p20 : LanesUpTo c f0 f1 f2 20 (bodyRun.sl.r_109 c f0 f1 f2 f22 f23 f24) := (lane_19 c f0 f1 f2 f22 f23 f24).symm ▸ lanes_step c f0 f1 f2 f22 f23 f24 19 (by omega) 2432 rfl _ _ _ p19
  have p21 : LanesUpTo c f0 f1 f2 21 (bodyRun.sl.r_114 c f0 f1 f2 f22 f23 f24) := (lane_20 c f0 f1 f2 f22 f23 f24).symm ▸ lanes_step c f0 f1 f2 f22 f23 f24 20 (by omega) 2560 rfl _ _ _ p20
  have p22 : LanesUpTo c f0 f1 f2 22 (bodyRun.sl.r_118 c f0 f1 f2 f22 f23 f24) := (lane_21 c f0 f1 f2 f22 f23 f24).symm ▸ lanes_step c f0 f1 f2 f22 f23 f24 21 (by omega) 2688 rfl _ _ _ p21
  have p23 : LanesUpTo c f0 f1 f2 23 (bodyRun.sl.r_123 c f0 f1 f2 f22 f23 f24) := (lane_22 c f0 f1 f2 f22 f23 f24).symm ▸ lanes_step c f0 f1 f2 f22 f23 f24 22 (by omega) 2816 rfl _ _ _ p22
  have p24 : LanesUpTo c f0 f1 f2 24 (bodyRun.sl.r_130 c f0 f1 f2 f22 f23 f24) := (lane_23 c f0 f1 f2 f22 f23 f24).symm ▸ lanes_step c f0 f1 f2 f22 f23 f24 23 (by omega) 2944 rfl _ _ _ p23
  have p25 : LanesUpTo c f0 f1 f2 25 (bodyRun.sl.r_135 c f0 f1 f2 f22 f23 f24) := (lane_24 c f0 f1 f2 f22 f23 f24).symm ▸ lanes_step c f0 f1 f2 f22 f23 f24 24 (by omega) 3072 rfl _ _ _ p24
  have p26 : LanesUpTo c f0 f1 f2 26 (bodyRun.sl.r_139 c f0 f1 f2 f22 f23 f24) := (lane_25 c f0 f1 f2 f22 f23 f24).symm ▸ lanes_step c f0 f1 f2 f22 f23 f24 25 (by omega) 3200 rfl _ _ _ p25
  have p27 : LanesUpTo c f0 f1 f2 27 (bodyRun.sl.r_144 c f0 f1 f2 f22 f23 f24) := (lane_26 c f0 f1 f2 f22 f23 f24).symm ▸ lanes_step c f0 f1 f2 f22 f23 f24 26 (by omega) 3328 rfl _ _ _ p26
  have p28 : LanesUpTo c f0 f1 f2 28 (bodyRun.sl.r_151 c f0 f1 f2 f22 f23 f24) := (lane_27 c f0 f1 f2 f22 f23 f24).symm ▸ lanes_step c f0 f1 f2 f22 f23 f24 27 (by omega) 3456 rfl _ _ _ p27
  have p29 : LanesUpTo c f0 f1 f2 29 (bodyRun.sl.r_156 c f0 f1 f2 f22 f23 f24) := (lane_28 c f0 f1 f2 f22 f23 f24).symm ▸ lanes_step c f0 f1 f2 f22 f23 f24 28 (by omega) 3584 rfl _ _ _ p28
  have p30 : LanesUpTo c f0 f1 f2 30 (bodyRun.sl.r_160 c f0 f1 f2 f22 f23 f24) := (lane_29 c f0 f1 f2 f22 f23 f24).symm ▸ lanes_step c f0 f1 f2 f22 f23 f24 29 (by omega) 3712 rfl _ _ _ p29
  have p31 : LanesUpTo c f0 f1 f2 31 (bodyRun.sl.r_165 c f0 f1 f2 f22 f23 f24) := (lane_30 c f0 f1 f2 f22 f23 f24).symm ▸ lanes_step c f0 f1 f2 f22 f23 f24 30 (by omega) 3840 rfl _ _ _ p30
  have p32 : LanesUpTo c f0 f1 f2 32 (bodyRun.sl.r_172 c f0 f1 f2 f22 f23 f24) := (lane_31 c f0 f1 f2 f22 f23 f24).symm ▸ lanes_step c f0 f1 f2 f22 f23 f24 31 (by omega) 3968 rfl _ _ _ p31
  have p33 : LanesUpTo c f0 f1 f2 33 (bodyRun.sl.r_177 c f0 f1 f2 f22 f23 f24) := (lane_32 c f0 f1 f2 f22 f23 f24).symm ▸ lanes_step c f0 f1 f2 f22 f23 f24 32 (by omega) 4096 rfl _ _ _ p32
  have p34 : LanesUpTo c f0 f1 f2 34 (bodyRun.sl.r_181 c f0 f1 f2 f22 f23 f24) := (lane_33 c f0 f1 f2 f22 f23 f24).symm ▸ lanes_step c f0 f1 f2 f22 f23 f24 33 (by omega) 4224 rfl _ _ _ p33
  have p35 : LanesUpTo c f0 f1 f2 35 (bodyRun.sl.r_186 c f0 f1 f2 f22 f23 f24) := (lane_34 c f0 f1 f2 f22 f23 f24).symm ▸ lanes_step c f0 f1 f2 f22 f23 f24 34 (by omega) 4352 rfl _ _ _ p34
  have p36 : LanesUpTo c f0 f1 f2 36 (bodyRun.sl.r_193 c f0 f1 f2 f22 f23 f24) := (lane_35 c f0 f1 f2 f22 f23 f24).symm ▸ lanes_step c f0 f1 f2 f22 f23 f24 35 (by omega) 4480 rfl _ _ _ p35
  have p37 : LanesUpTo c f0 f1 f2 37 (bodyRun.sl.r_198 c f0 f1 f2 f22 f23 f24) := (lane_36 c f0 f1 f2 f22 f23 f24).symm ▸ lanes_step c f0 f1 f2 f22 f23 f24 36 (by omega) 4608 rfl _ _ _ p36
  have p38 : LanesUpTo c f0 f1 f2 38 (bodyRun.sl.r_202 c f0 f1 f2 f22 f23 f24) := (lane_37 c f0 f1 f2 f22 f23 f24).symm ▸ lanes_step c f0 f1 f2 f22 f23 f24 37 (by omega) 4736 rfl _ _ _ p37
  have p39 : LanesUpTo c f0 f1 f2 39 (bodyRun.sl.r_207 c f0 f1 f2 f22 f23 f24) := (lane_38 c f0 f1 f2 f22 f23 f24).symm ▸ lanes_step c f0 f1 f2 f22 f23 f24 38 (by omega) 4864 rfl _ _ _ p38
  have p40 : LanesUpTo c f0 f1 f2 40 (bodyRun.sl.r_214 c f0 f1 f2 f22 f23 f24) := (lane_39 c f0 f1 f2 f22 f23 f24).symm ▸ lanes_step c f0 f1 f2 f22 f23 f24 39 (by omega) 4992 rfl _ _ _ p39
  have p41 : LanesUpTo c f0 f1 f2 41 (bodyRun.sl.r_219 c f0 f1 f2 f22 f23 f24) := (lane_40 c f0 f1 f2 f22 f23 f24).symm ▸ lanes_step c f0 f1 f2 f22 f23 f24 40 (by omega) 5120 rfl _ _ _ p40
  have p42 : LanesUpTo c f0 f1 f2 42 (bodyRun.sl.r_223 c f0 f1 f2 f22 f23 f24) := (lane_41 c f0 f1 f2 f22 f23 f24).symm ▸ lanes_step c f0 f1 f2 f22 f23 f24 41 (by omega) 5248 rfl _ _ _ p41
  have p43 : LanesUpTo c f0 f1 f2 43 (bodyRun.sl.r_228 c f0 f1 f2 f22 f23 f24) := (lane_42 c f0 f1 f2 f22 f23 f24).symm ▸ lanes_step c f0 f1 f2 f22 f23 f24 42 (by omega) 5376 rfl _ _ _ p42
  have p44 : LanesUpTo c f0 f1 f2 44 (bodyRun.sl.r_235 c f0 f1 f2 f22 f23 f24) := (lane_43 c f0 f1 f2 f22 f23 f24).symm ▸ lanes_step c f0 f1 f2 f22 f23 f24 43 (by omega) 5504 rfl _ _ _ p43
  have p45 : LanesUpTo c f0 f1 f2 45 (bodyRun.sl.r_240 c f0 f1 f2 f22 f23 f24) := (lane_44 c f0 f1 f2 f22 f23 f24).symm ▸ lanes_step c f0 f1 f2 f22 f23 f24 44 (by omega) 5632 rfl _ _ _ p44
  have p46 : LanesUpTo c f0 f1 f2 46 (bodyRun.sl.r_244 c f0 f1 f2 f22 f23 f24) := (lane_45 c f0 f1 f2 f22 f23 f24).symm ▸ lanes_step c f0 f1 f2 f22 f23 f24 45 (by omega) 5760 rfl _ _ _ p45
  have p47 : LanesUpTo c f0 f1 f2 47 (bodyRun.sl.r_249 c f0 f1 f2 f22 f23 f24) := (lane_46 c f0 f1 f2 f22 f23 f24).symm ▸ lanes_step c f0 f1 f2 f22 f23 f24 46 (by omega) 5888 rfl _ _ _ p46
  exact lanes_step c f0 f1 f2 f22 f23 f24 47 (by omega) 6016 rfl _ _ _ p47

theorem hs_pay : k0_pay583 bodyRun.sl.v93 (bodyRun.sl.r_249 c f0 f1 f2 f22 f23 f24) (bodyRun.sl.r_254 c f0 f1 f2 f22 f23 f24) k0_pay581
    = shapeCast S8x1x48 (extractStridedSlice S8x48 ![0, 0] (laneB 47#32 (bodyRun.sl.r_249 c f0 f1 f2 f22 f23 f24)
    (hK c f0 f1 f2 f22 f23 f24 6016 slices_S8x6144_o0_6016_S8x128 inb_S1x6144_S1x128_0_6016)) slices_S8x128_o0_0_S8x48) shapeCasts_S8x48_S8x1x48 := rfl

theorem hs_cut {α : Type} (v : S8x128.Idx → α) (r : Fin 8) (z : Fin 1) (q : Fin 48) :
    shapeCast S8x1x48 (extractStridedSlice S8x48 ![0, 0] v slices_S8x128_o0_0_S8x48) shapeCasts_S8x48_S8x1x48 (ix3 r z q) = v (ix2 r ⟨q.val, by omega⟩) := by
  pointwise

/-- What the store of the scales leaves. -/
theorem scales_canon (r : Fin 8) (z : Fin 1) (q : Fin 48) :
    View.canon (bodyRun.sl.H41_1 (F := Ideal) c f0 f1 f2 f22 f23 f24) (ix3 r z q) = scaleV (xOf c f0) (gOf c f1) (bOf c f2) r q := by
  unfold bodyRun.sl.H41_1
  rw [View.canon_unit_zero (S := S8x1x48) (funext fun a => by match a with | ⟨0, _⟩ => rfl | ⟨1, _⟩ => rfl | ⟨2, _⟩ => rfl), hs_pay, hs_cut]
  exact lanes_all c f0 f1 f2 f22 f23 f24 r _ q rfl q.isLt
end

end Cert.KernelIdeal.Hand

end
-- ==== Proof.IdealProj.lean ====
module

public import proofs.«01_k».proof.Proof.IdealLhs
public import proofs.«01_k».proof.Proof.IdealTrip1
public import Idealize.ShloMosaic.Lib.WritesUnit
public import Idealize.ShloMosaic.Lib.Pointwise

@[expose] public section

noncomputable section

namespace Cert.KernelIdeal.Hand

open Cert.KernelIdeal Cert.KernelIdeal.Gen
open Idealize.ShloMosaic Idealize.ShloMosaic.TcCoe

/-! ## The product with the first weight, at an element -/

/-- What a ring slot holds, read through the ring, after a block has landed in it. -/
theorem slot_back (c : Dev nD) (o o' : Fin 3 → ℕ) (h : ∀ a, o a + S1x512x7936.size a ≤ S12x512x7936.size a) (h' : ∀ a, o' a + S1x512x7936.size a ≤ S12x512x7936.size a)
    (e : o = o') (v : S512x7936.Idx → Elt Ideal .fp8e4m3) (z : Fin 1) (i : Fin 512) (j : Fin 7936) :
    A21.view.readAt (Elt Ideal) (Rect.unit (s := S12x512x7936) o S1x512x7936.size h).toLoadRect
      ((slotM o' h').view.writes (Elt Ideal) (slotM o' h').view.junk [⟨Rect.whole S512x7936, v⟩]) (ix3 z i j) = v (ix2 i j) := by
  subst e
  have key := congrFun (View.read_writes_whole (Val := Elt Ideal) (slotM o h).view (slotM o h).view.junk v) (ix2 i j)
  refine Eq.trans ?_ key
  have hz : z = 0 := Subsingleton.elim _ _
  subst hz
  have hx : Shape.reshapeEquiv (squeezes_S1x512x7936_S512x7936).numel_eq (ix2 i j) = (ix3 (0 : Fin 1) i j : S1x512x7936.Idx) := by pointwise
  show _ = A21.view.read (Elt Ideal) _ ((Rect.unit (s := S12x512x7936) o S1x512x7936.size h).emb (Shape.reshapeEquiv (squeezes_S1x512x7936_S512x7936).numel_eq (ix2 i j)))
  rw [hx]
  rfl

/-- Column `j` of group `g`. -/
abbrev gcol (g : Fin 7) (j : Fin 7936) : Fin 55552 := ⟨7936 * g.val + j.val, by omega⟩

theorem off1_eq : ∀ g : Fin k0_t1_loop.trips, k0_off1 g = ![0, 7936 * g.val] := by decide +kernel
theorem off13_eq : ∀ g : Fin k0_t1_loop.trips, k0_off13 g = ![0, 7936 * g.val] := by decide +kernel
theorem off14_eq : ∀ g : Fin k0_t1_loop.trips, k0_off14 g = ![0, 7936 * g.val] := by decide +kernel
theorem off11_eq : ∀ k : Fin k0_t2_loop.trips, k0_off11 k = ![k.val, 0, 0] := by decide +kernel

theorem win_at (c : Dev nD) (w : BufOf (F := Ideal) c A3) (o : Fin 2 → ℕ) (h : ∀ a, o a + S512x7936.size a ≤ S6144x55552.size a) (i : Fin 512) (j : Fin 7936)
    (p : Fin 6144) (q : Fin 55552) (e0 : o 0 + i.val = p.val) (e1 : o 1 + j.val = q.val) :
    (winM o h).view.read (Elt Ideal) w (ix2 i j) = A3.view.read (Elt Ideal) w (ix2 p q) := by
  show A3.view.read (Elt Ideal) w ((Rect.unit (s := S6144x55552) o S512x7936.size h).emb (ix2 i j)) = _
  refine congrArg (A3.view.read (Elt Ideal) w) (funext fun a => Fin.ext ?_)
  match a with
  | ⟨0, _⟩ => show o 0 + 1 * i.val = p.val; omega
  | ⟨1, _⟩ => show o 1 + 1 * j.val = q.val; omega

/-- The block of the first weight a step multiplies by. -/
theorem wblk_at (c : Dev nD) (w : BufOf (F := Ideal) c A3) (g : Fin k0_t1_loop.trips) (k : Fin k0_t2_loop.trips) (g' : Fin 7) (k' : Fin 12) (hg : g.val = g'.val) (hk : k.val = k'.val)
    (z : Fin 1) (i : Fin 512) (j : Fin 7936) :
    wblk c w g k (ix3 z i j) = A3.view.read (Elt Ideal) w (ix2 (slabCol k' i) (gcol g' j)) := by
  unfold wblk
  rw [slot_back c _ _ _ _ ((k0_off12_eq g k).trans (k0_off9_eq g k).symm)]
  refine win_at c w _ _ i j _ _ ?_ ?_
  · rw [off10_eq]; show 512 * ((12 * g.val + k.val) % 12) + i.val = 512 * k'.val + i.val; omega
  · rw [off10_eq]; show 7936 * ((12 * g.val + k.val) / 12) + j.val = 7936 * g'.val + j.val; omega

theorem pay590_at (a : Vec Ideal S1x16x512 .bf16) (b : Vec Ideal S1x512x7936 .fp8e4m3) (d : Vec Ideal S8x7936 .f32) (r : Fin 8) (j : Fin 7936) :
    k0_pay590 a b d (ix2 r j) = (d (ix2 r j) : EReal) + ∑ i : Fin 512, (a (ix3 (0 : Fin 1) (⟨r.val, by omega⟩ : Fin 16) i) : EReal) * b (ix3 (0 : Fin 1) i j) := by
  have hz : (Ideal.ofBits .f32 0x00000000#32 : EReal) = 0 := bits_zero
  unfold k0_pay590
  pointwise

theorem pay592_at (a : Vec Ideal S8x7936 .f32) (b : Vec Ideal S1x7936 .f32) (r : Fin 8) (j : Fin 7936) :
    k0_pay592 a b (ix2 r j) = (a (ix2 r j) : EReal) * b (ix2 (0 : Fin 1) j) := by
  unfold k0_pay592 k0_pay591
  pointwise
theorem pay593_at (a : Vec Ideal S8x7936 .f32) (b : Vec Ideal S1x7936 .f32) (r : Fin 8) (j : Fin 7936) :
    k0_pay593 a b (ix2 r j) = (a (ix2 r j) : EReal) * b (ix2 (0 : Fin 1) j) := by
  unfold k0_pay593 k0_pay591
  pointwise
theorem pay589_at (r : Fin 8) (j : Fin 7936) : (k0_pay589 (F := Ideal) (ix2 r j) : EReal) = 0 := by
  have hz : (Ideal.ofBits .f32 0x00000000#32 : EReal) = 0 := bits_zero
  unfold k0_pay589
  pointwise

/-- A row-and-column reading of a rectangle of full height. -/
theorem cols_at {e : EltTy} (V' : View sig .tc .vmem S8x55552 e) (f : V'.ty.Contents (Elt Ideal)) (o : Fin 2 → ℕ) (n : ℕ) (h : ∀ a, o a + S8x7936.size a ≤ S8x55552.size a)
    (ho : o = ![0, n]) (r : Fin 8) (j : Fin 7936) (q : Fin 55552) (hq : q.val = n + j.val) :
    V'.readAt (Elt Ideal) (Rect.unit (s := S8x55552) o S8x7936.size h).toLoadRect f (ix2 r j) = V'.read (Elt Ideal) f (ix2 r q) := by
  subst ho
  show V'.read (Elt Ideal) f ((Rect.unit (s := S8x55552) ![0, n] S8x7936.size h).emb (ix2 r j)) = _
  refine congrArg (V'.read (Elt Ideal) f) (funext fun a => Fin.ext ?_)
  match a with
  | ⟨0, _⟩ => show 0 + 1 * r.val = r.val; omega
  | ⟨1, _⟩ => show n + 1 * j.val = q.val; omega

section
variable (c : Dev nD) (w : BufOf (F := Ideal) c A3) (la : BufOf (F := Ideal) c A32) (sc : BufOf (F := Ideal) c A25)

/-- One step's share of the product at row `r`, column `q`. -/
def part (r : Fin 8) (q : Fin 55552) (k : Fin 12) : EReal :=
  ∑ i : Fin 512, (A32.view.read (Elt Ideal) la (ix3 k (⟨r.val, by omega⟩ : Fin 16) i) : EReal) * A3.view.read (Elt Ideal) w (ix2 (slabCol k i) q)

theorem la_at (k : Fin k0_t2_loop.trips) (k' : Fin 12) (hk : k.val = k'.val) (r : Fin 16) (i : Fin 512) :
    A32.view.readAt (Elt Ideal) (Rect.unit (s := S12x16x512) (k0_off11 k) S1x16x512.size (k0_off11_inb k)).toLoadRect la (ix3 (0 : Fin 1) r i)
      = A32.view.read (Elt Ideal) la (ix3 k' r i) := by
  show A32.view.read (Elt Ideal) la ((Rect.unit (s := S12x16x512) (k0_off11 k) S1x16x512.size (k0_off11_inb k)).emb (ix3 (0 : Fin 1) r i)) = _
  have e0 : k0_off11 k 0 = k.val := by rw [off11_eq]; rfl
  have e1 : k0_off11 k 1 = 0 := by rw [off11_eq]; rfl
  have e2 : k0_off11 k 2 = 0 := by rw [off11_eq]; rfl
  refine congrArg (A32.view.read (Elt Ideal) la) (funext fun a => Fin.ext ?_)
  match a with
  | ⟨0, _⟩ => show k0_off11 k 0 + 1 * 0 = k'.val; omega
  | ⟨1, _⟩ => show k0_off11 k 1 + 1 * r.val = r.val; omega
  | ⟨2, _⟩ => show k0_off11 k 2 + 1 * i.val = i.val; omega

theorem accNext_at (g : Fin k0_t1_loop.trips) (k : Fin k0_t2_loop.trips) (g' : Fin 7) (k' : Fin 12) (hg : g.val = g'.val) (hk : k.val = k'.val) (acc : BufOf (F := Ideal) c A34)
    (r : Fin 8) (j : Fin 7936) :
    (A34.view.read (Elt Ideal) (accNext c w la g k acc) (ix2 r (gcol g' j)) : EReal)
      = (A34.view.read (Elt Ideal) acc (ix2 r (gcol g' j)) : EReal) + part c w la r (gcol g' j) k' := by
  unfold accNext
  rw [View.read_writes_cons_unit_of_mem (size := S8x7936.size) (off' := ![0, 7936 * g.val]) A34.view acc _ _ [] (ix2 r (gcol g' j)) (ix2 r j) (off13_eq g)
    (fun a => by match a with
      | ⟨0, _⟩ => show r.val = 0 + r.val; omega
      | ⟨1, _⟩ => show 7936 * g'.val + j.val = 7936 * g.val + j.val; omega)]
  rw [pay590_at, cols_at A34.view acc _ (7936 * g.val) _ (off13_eq g) r j (gcol g' j) (by show 7936 * g'.val + j.val = _; omega)]
  unfold part
  refine congrArg _ (Finset.sum_congr rfl fun i _ => ?_)
  rw [la_at c la k k' hk, wblk_at c w g k g' k' hg hk]

theorem accRec_at (g : Fin k0_t1_loop.trips) (g' : Fin 7) (hg : g.val = g'.val) (acc : BufOf (F := Ideal) c A34) (r : Fin 8) (j : Fin 7936) (n : ℕ) (hn : n ≤ 12) :
    (A34.view.read (Elt Ideal) (accRec c w la g acc n) (ix2 r (gcol g' j)) : EReal)
      = (A34.view.read (Elt Ideal) acc (ix2 r (gcol g' j)) : EReal) + ∑ k : Fin n, part c w la r (gcol g' j) (Fin.castLE hn k) := by
  induction n with
  | zero => simp [accRec]
  | succ n ih =>
    have hn' : n < k0_t2_loop.trips := by rw [trips2]; omega
    rw [accRec_succ c w la g acc ⟨n, hn'⟩, accNext_at c w la g ⟨n, hn'⟩ g' ⟨n, by omega⟩ hg rfl, ih (by omega), Fin.sum_univ_castSucc, add_assoc]
    rfl

/-- The product at row `r`, column `q`. -/
def prod (r : Fin 8) (q : Fin 55552) : EReal := ∑ k : Fin 12, part c w la r q k

theorem sumG_at (g : Fin k0_t1_loop.trips) (g' : Fin 7) (hg : g.val = g'.val) (acc : BufOf (F := Ideal) c A34) (r : Fin 8) (j : Fin 7936) :
    (sumG c w la g acc (ix2 r j) : EReal) = prod c w la r (gcol g' j) := by
  unfold sumG
  rw [cols_at A34.view _ _ (7936 * g.val) _ (off1_eq g) r j (gcol g' j) (by show 7936 * g'.val + j.val = _; omega)]
  unfold accZ
  rw [show k0_t2_loop.trips = 12 from trips2, accRec_at c w la g g' hg _ r j 12 le_rfl]
  rw [View.read_writes_cons_unit_of_mem (size := S8x7936.size) (off' := ![0, 7936 * g.val]) A34.view acc _ _ [] (ix2 r (gcol g' j)) (ix2 r j) (off1_eq g)
    (fun a => by match a with
      | ⟨0, _⟩ => show r.val = 0 + r.val; omega
      | ⟨1, _⟩ => show 7936 * g'.val + j.val = 7936 * g.val + j.val; omega), pay589_at, zero_add]
  rfl

theorem scaleG_at (g : Fin k0_t1_loop.trips) (g' : Fin 7) (hg : g.val = g'.val) (j : Fin 7936) :
    scaleG c sc g (ix2 (0 : Fin 1) j) = A25.view.read (Elt Ideal) sc (ix2 (0 : Fin 1) (gcol g' j)) := by
  unfold scaleG
  show A25.view.read (Elt Ideal) sc ((Rect.unit (s := S1x55552) (k0_off14 g) S1x7936.size (k0_off14_inb g)).emb (ix2 (0 : Fin 1) j)) = _
  have e0 : k0_off14 g 0 = 0 := by rw [off14_eq]; rfl
  have e1 : k0_off14 g 1 = 7936 * g.val := by rw [off14_eq]; rfl
  refine congrArg (A25.view.read (Elt Ideal) sc) (funext fun a => Fin.ext ?_)
  match a with
  | ⟨0, _⟩ => show k0_off14 g 0 + 1 * 0 = 0; omega
  | ⟨1, _⟩ => show k0_off14 g 1 + 1 * j.val = 7936 * g'.val + j.val; omega

/-- The product over the twelve steps is the one over all the columns of the left operand. -/
theorem prod_eq (L : Fin 6144 → EReal) (r : Fin 8) (q : Fin 55552)
    (hL : ∀ (k : Fin 12) (i : Fin 512), (A32.view.read (Elt Ideal) la (ix3 k (⟨r.val, by omega⟩ : Fin 16) i) : EReal) = L (slabCol k i)) :
    prod c w la r q = ∑ l : Fin 6144, L l * A3.view.read (Elt Ideal) w (ix2 l q) := by
  unfold prod part
  rw [Fin.sum_univ_tiles 12 512 (by norm_num) (fun l : Fin 6144 => L l * (A3.view.read (Elt Ideal) w (ix2 l q) : EReal))]
  refine Finset.sum_congr rfl fun k _ => Finset.sum_congr rfl fun i _ => ?_
  have e : (⟨k.val * 512 + i.val, by omega⟩ : Fin 6144) = slabCol k i := Fin.ext (by show k.val * 512 + i.val = 512 * k.val + i.val; omega)
  rw [hL k i, ← e]

/-- The projection at row `r`, column `q`. -/
def projAt (r : Fin 8) (q : Fin 55552) : EReal := prod c w la r q * A25.view.read (Elt Ideal) sc (ix2 (0 : Fin 1) q)

theorem projG_at (acc : BufOf (F := Ideal) c A34) (pj : BufOf (F := Ideal) c A36) (n : ℕ) (hn : n ≤ 7) (g' : Fin 7) (hg : g'.val < n) (r : Fin 8) (j : Fin 7936) :
    (A36.view.read (Elt Ideal) (projG c w la sc acc pj n) (ix2 r (gcol g' j)) : EReal) = projAt c w la sc r (gcol g' j) := by
  induction n with
  | zero => omega
  | succ n ih =>
    have hn' : n < k0_t1_loop.trips := by rw [trips1]; omega
    rw [projG_succ c w la sc acc pj ⟨n, hn'⟩]
    unfold projS
    by_cases e : g'.val = n
    · rw [View.read_writes_cons_unit_of_mem (size := S8x7936.size) (off' := ![0, 7936 * n]) A36.view _ _ _ [] (ix2 r (gcol g' j)) (ix2 r j) (off1_eq ⟨n, hn'⟩)
        (fun a => by match a with
          | ⟨0, _⟩ => show r.val = 0 + r.val; omega
          | ⟨1, _⟩ => show 7936 * g'.val + j.val = 7936 * n + j.val; omega)]
      rw [pay592_at, sumG_at c w la ⟨n, hn'⟩ g' e.symm, scaleG_at c sc ⟨n, hn'⟩ g' e.symm]
      rfl
    · rw [View.read_writes_cons_unit_of_not_mem (size := S8x7936.size) (off' := ![0, 7936 * n]) A36.view _ _ _ [] (ix2 r (gcol g' j)) (off1_eq ⟨n, hn'⟩) ⟨1, by decide⟩
        (by show 7936 * g'.val + j.val < 7936 * n ∨ 7936 * n + 7936 ≤ 7936 * g'.val + j.val; omega)]
      rw [View.writes_nil]
      exact ih (by omega) (by omega)

theorem accG_one_at (acc : BufOf (F := Ideal) c A34) (r : Fin 8) (j : Fin 7936) :
    (A34.view.read (Elt Ideal) (accG c w la sc acc 1) (ix2 r (gcol 0 j)) : EReal) = projAt c w la sc r (gcol 0 j) := by
  have hn' : 0 < k0_t1_loop.trips := by rw [trips1]; omega
  rw [show (1 : ℕ) = (⟨0, hn'⟩ : Fin k0_t1_loop.trips).val + 1 from rfl, accG_succ]
  unfold accS
  rw [View.read_writes_cons_unit_of_mem (size := S8x7936.size) (off' := ![0, 0]) A34.view _ _ _ [] (ix2 r (gcol 0 j)) (ix2 r j) (off1_eq ⟨0, hn'⟩)
    (fun a => by match a with
      | ⟨0, _⟩ => show r.val = 0 + r.val; omega
      | ⟨1, _⟩ => show 7936 * 0 + j.val = 0 + j.val; omega)]
  rw [pay593_at, sumG_at c w la ⟨0, hn'⟩ 0 rfl, scaleG_at c sc ⟨0, hn'⟩ 0 rfl]
  rfl

/-- A value clipped to the range of the five-bit-exponent codes. -/
def clip57344 (x : EReal) : EReal := min (Ideal.ofBits .f32 0x47600000#32) (max (Ideal.ofBits .f32 0xC7600000#32) x)

theorem pay12_at (a : Vec Ideal S8x128 .f32) (r : Fin 8) (t : Fin 128) : (k0_pay12 a (ix2 r t) : EReal) = clip57344 (a (ix2 r t)) := by
  unfold k0_pay12 k0_pay10 clip57344
  pointwise
  try rfl

theorem vnS_at (acc : BufOf (F := Ideal) c A34) (r : Fin 8) (t : Fin 128) :
    (A43.view.read (Elt Ideal) (vnS c (accG c w la sc acc 1)) (ix2 r t) : EReal) = clip57344 (projAt c w la sc r ⟨6272 + t.val, by omega⟩) := by
  unfold vnS
  rw [View.read_writes_cons_unit_of_mem (size := S8x128.size) (off' := ![0, 0]) A43.view _ _ _ [] (ix2 r t) (ix2 r t) rfl
    (fun a => by match a with
      | ⟨0, _⟩ => show r.val = 0 + r.val; omega
      | ⟨1, _⟩ => show t.val = 0 + t.val; omega), pay12_at]
  refine congrArg clip57344 ?_
  have key := accG_one_at c w la sc acc r ⟨6272 + t.val, by omega⟩
  have hq : gcol 0 ⟨6272 + t.val, by omega⟩ = (⟨6272 + t.val, by omega⟩ : Fin 55552) := Fin.ext (by show 7936 * 0 + (6272 + t.val) = 6272 + t.val; omega)
  rw [hq] at key
  rw [← key]
  show A34.view.read (Elt Ideal) _ ((Rect.unit (s := S8x55552) ![0, 6272] S8x128.size inb_S8x55552_S8x128_0_6272).emb (ix2 r t)) = _
  refine congrArg (A34.view.read (Elt Ideal) _) (funext fun a => Fin.ext ?_)
  match a with
  | ⟨0, _⟩ => show 0 + 1 * r.val = r.val; omega
  | ⟨1, _⟩ => show 6272 + 1 * t.val = 6272 + t.val; omega
end

end Cert.KernelIdeal.Hand

end
-- ==== Proof.IdealKeys.lean ====
module

public import proofs.«01_k».proof.Proof.IdealProj
public import Idealize.ShloMosaic.Lib.Pointwise

@[expose] public section

noncomputable section

namespace Cert.KernelIdeal.Hand

open Cert.KernelIdeal Cert.KernelIdeal.Gen
open Idealize.ShloMosaic Idealize.ShloMosaic.TcCoe

/-! ## The new keys, at an element -/

section
variable (c : Dev nD) (f10 : BufOf (F := Ideal) c A10) (f31 : BufOf (F := Ideal) c A31)

/-- The position of a row, as the copy left it. -/
def posW (k : Fin 8) : BitVec 32 := f10 (ix1 k)

theorem word_at (k : Fin 8) (off : Fin 1 → ℕ) (ho : off 0 = k.val) (inb) (hn) :
    (View.readAt (Elt Ideal) A31.view (Rect.unit (s := S8) off S1.size inb).toLoadRect
      (View.write (Elt Ideal) A31.view f31 (ReadAs.same.apply (View.read (Elt Ideal) A10.view f10)) Finset.univ) (Shape.Idx.first (s := S1) hn) : BitVec 32) = posW c f10 k := by
  show A31.view.read (Elt Ideal) (A31.view.write (Elt Ideal) f31 _ Finset.univ) _ = _
  rw [View.read_write_univ]
  show f10 _ = f10 _
  refine congrArg f10 (funext fun a => Fin.ext ?_)
  match a with
  | ⟨0, _⟩ => show off 0 + 1 * 0 = k.val; omega

theorem w0 : bodyRun.sl.r_256 c f10 f31 = posW c f10 0 := word_at c f10 f31 0 ![0] rfl _ _
theorem w1 : bodyRun.sl.r_257 c f10 f31 = posW c f10 1 := word_at c f10 f31 1 ![1] rfl _ _
theorem w2 : bodyRun.sl.r_258 c f10 f31 = posW c f10 2 := word_at c f10 f31 2 ![2] rfl _ _
theorem w3 : bodyRun.sl.r_259 c f10 f31 = posW c f10 3 := word_at c f10 f31 3 ![3] rfl _ _
theorem w4 : bodyRun.sl.r_261 c f10 f31 = posW c f10 4 := word_at c f10 f31 4 ![4] rfl _ _
theorem w5 : bodyRun.sl.r_262 c f10 f31 = posW c f10 5 := word_at c f10 f31 5 ![5] rfl _ _
theorem w6 : bodyRun.sl.r_263 c f10 f31 = posW c f10 6 := word_at c f10 f31 6 ![6] rfl _ _
theorem w7 : bodyRun.sl.r_264 c f10 f31 = posW c f10 7 := word_at c f10 f31 7 ![7] rfl _ _
end

/-- The angle of a row and column: the position times the frequency. -/
def angV (w : Fin 8 → BitVec 32) (f : Vec Ideal S1x128 .f32) (r : Fin 8) (t : Fin 128) : EReal :=
  (FloatOps.sitofp (F := Ideal) .f32 (w r) : EReal) * f (ix2 (0 : Fin 1) t)

theorem ang_at (w : Fin 8 → BitVec 32) (f : Vec Ideal S1x128 .f32) (r : Fin 8) (t : Fin 128) :
    (k0_pay586 (F := Ideal) bodyRun.sl.v3651 (k0_pay584 (F := Ideal) (w 0) (w 1) (w 2) (w 3)) k0_pay585 (w 4) (w 5) (w 6) (w 7) f (ix2 r t) : EReal) = angV w f r t := by
  have hb : broadcastTo S8x128 f broadcasts_S1x128_S8x128 (ix2 r t) = f (ix2 (0 : Fin 1) t) := by pointwise
  unfold angV
  rw [← hb]
  match r with
  | 0 => rfl
  | 1 => rfl
  | 2 => rfl
  | 3 => rfl
  | 4 => rfl
  | 5 => rfl
  | 6 => rfl
  | 7 => rfl

theorem co_at (w : Fin 8 → BitVec 32) (f : Vec Ideal S1x128 .f32) (r : Fin 8) (t : Fin 128) :
    (k0_pay587 (F := Ideal) bodyRun.sl.v3651 (k0_pay584 (F := Ideal) (w 0) (w 1) (w 2) (w 3)) k0_pay585 (w 4) (w 5) (w 6) (w 7) f (ix2 r t) : EReal) = Ideal.cos (angV w f r t) := by
  rw [← ang_at]; rfl

theorem lane_lt : ∀ t : Fin 128, IntOp.cmpi .slt (BitVec.ofNat 32 t.val) 64#32 = if t.val < 64 then 1#1 else 0#1 := by decide +kernel

theorem si_at (w : Fin 8 → BitVec 32) (f : Vec Ideal S1x128 .f32) (r : Fin 8) (t : Fin 128) :
    (k0_pay588 (F := Ideal) bodyRun.sl.v93 bodyRun.sl.v3651 (k0_pay584 (F := Ideal) (w 0) (w 1) (w 2) (w 3)) k0_pay585 (w 4) (w 5) (w 6) (w 7) f (ix2 r t) : EReal)
      = if t.val < 64 then -(Ideal.sin (angV w f r t)) else Ideal.sin (angV w f r t) := by
  have hl := lane_lt t
  rw [← ang_at]
  unfold k0_pay588 bodyRun.sl.v93
  generalize k0_pay586 (F := Ideal) bodyRun.sl.v3651 (k0_pay584 (F := Ideal) (w 0) (w 1) (w 2) (w 3)) k0_pay585 (w 4) (w 5) (w 6) (w 7) f = z
  pointwise
  rw [hl]
  by_cases h : t.val < 64
  · rw [if_pos h, if_pos h]; exact zero_sub _
  · rw [if_neg h, if_neg h]; rfl

theorem kn_at (co si : FVec Ideal S8x128 .f32) (a : Vec Ideal S8x128 .f32) (r : Fin 8) (t : Fin 128) :
    (k0_pay11 co si a (ix2 r t) : EReal) = clip57344 ((a (ix2 r t) : EReal) * co (ix2 r t) + (a (ix2 r (⟨(t.val + 128 - 64) % 128, by omega⟩ : Fin 128)) : EReal) * si (ix2 r t)) := by
  unfold k0_pay11 k0_pay9 clip57344
  pointwise

/-- The rotated keys before clipping: the two halves of the key columns turned by the angle. -/
def rotV (P : Fin 8 → Fin 55552 → EReal) (A : Fin 8 → Fin 128 → EReal) (r : Fin 8) (t : Fin 128) : EReal :=
  if t.val < 64 then P r ⟨6144 + t.val, by omega⟩ * Ideal.cos (A r t) - P r ⟨6144 + (t.val + 128 - 64) % 128, by omega⟩ * Ideal.sin (A r t)
  else P r ⟨6144 + t.val, by omega⟩ * Ideal.cos (A r t) + P r ⟨6144 + (t.val + 128 - 64) % 128, by omega⟩ * Ideal.sin (A r t)

section
variable (c : Dev nD) (w : BufOf (F := Ideal) c A3) (la : BufOf (F := Ideal) c A32) (sc : BufOf (F := Ideal) c A25)

theorem keys_read (acc : BufOf (F := Ideal) c A34) (r : Fin 8) (t : Fin 128) :
    (A34.view.readAt (Elt Ideal) (Rect.unit (s := S8x55552) ![0, 6144] S8x128.size inb_S8x55552_S8x128_0_6144).toLoadRect (accG c w la sc acc 1) (ix2 r t) : EReal)
      = projAt c w la sc r ⟨6144 + t.val, by omega⟩ := by
  have key := accG_one_at c w la sc acc r ⟨6144 + t.val, by omega⟩
  have hq : gcol 0 ⟨6144 + t.val, by omega⟩ = (⟨6144 + t.val, by omega⟩ : Fin 55552) := Fin.ext (by show 7936 * 0 + (6144 + t.val) = 6144 + t.val; omega)
  rw [hq] at key
  rw [← key]
  show A34.view.read (Elt Ideal) _ ((Rect.unit (s := S8x55552) ![0, 6144] S8x128.size inb_S8x55552_S8x128_0_6144).emb (ix2 r t)) = _
  refine congrArg (A34.view.read (Elt Ideal) _) (funext fun a => Fin.ext ?_)
  match a with
  | ⟨0, _⟩ => show 0 + 1 * r.val = r.val; omega
  | ⟨1, _⟩ => show 6144 + 1 * t.val = 6144 + t.val; omega

/-- The new keys at a row and column. -/
theorem knS_at (wd : Fin 8 → BitVec 32) (f : Vec Ideal S1x128 .f32) (acc : BufOf (F := Ideal) c A34) (r : Fin 8) (t : Fin 128) :
    (A42.view.read (Elt Ideal) (knS c (k0_pay587 (F := Ideal) bodyRun.sl.v3651 (k0_pay584 (F := Ideal) (wd 0) (wd 1) (wd 2) (wd 3)) k0_pay585 (wd 4) (wd 5) (wd 6) (wd 7) f)
      (k0_pay588 (F := Ideal) bodyRun.sl.v93 bodyRun.sl.v3651 (k0_pay584 (F := Ideal) (wd 0) (wd 1) (wd 2) (wd 3)) k0_pay585 (wd 4) (wd 5) (wd 6) (wd 7) f) (accG c w la sc acc 1)) (ix2 r t) : EReal)
      = clip57344 (rotV (projAt c w la sc) (angV wd f) r t) := by
  unfold knS
  rw [View.read_writes_cons_unit_of_mem (size := S8x128.size) (off' := ![0, 0]) A42.view _ _ _ [] (ix2 r t) (ix2 r t) rfl
    (fun a => by match a with
      | ⟨0, _⟩ => show r.val = 0 + r.val; omega
      | ⟨1, _⟩ => show t.val = 0 + t.val; omega), kn_at, co_at, si_at, keys_read, keys_read]
  refine congrArg clip57344 ?_
  unfold rotV
  by_cases h : t.val < 64
  · rw [if_pos h, if_pos h, mul_neg]; rfl
  · rw [if_neg h, if_neg h]
end

end Cert.KernelIdeal.Hand

end
-- ==== Proof.IdealReal.lean ====
module

public import proofs.«01_k».proof.Proof.IdealRows

@[expose] public section

noncomputable section

namespace Cert.KernelIdeal.Hand

open Cert.KernelIdeal Cert.KernelIdeal.Gen
open Idealize.ShloMosaic Idealize.ShloMosaic.TcCoe

/-! ## Finite rows have finite blocks -/

/-- A value that is a real number. -/
def IsR (x : EReal) : Prop := ∃ y : ℝ, x = (y : EReal)
/-- A value that is a real number, none below zero. -/
def IsNN (x : EReal) : Prop := ∃ y : ℝ, 0 ≤ y ∧ x = (y : EReal)

theorem IsNN.isR {x : EReal} (h : IsNN x) : IsR x := h.imp fun _ h => h.2
theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.sq {x : EReal} (hx : IsR x) : IsNN (x * x) := by
  obtain ⟨a, rfl⟩ := hx; exact ⟨a * a, mul_self_nonneg a, (EReal.coe_mul a a).symm⟩
theorem IsNN.add {x y : EReal} (hx : IsNN x) (hy : IsNN y) : IsNN (x + y) := by
  obtain ⟨a, ha, rfl⟩ := hx; obtain ⟨b, hb, rfl⟩ := hy; exact ⟨a + b, add_nonneg ha hb, (EReal.coe_add a b).symm⟩
theorem IsNN.mul {x y : EReal} (hx : IsNN x) (hy : IsNN y) : IsNN (x * y) := by
  obtain ⟨a, ha, rfl⟩ := hx; obtain ⟨b, hb, rfl⟩ := hy; exact ⟨a * b, mul_nonneg ha hb, (EReal.coe_mul a b).symm⟩
theorem IsNN.max {x y : EReal} (hx : IsNN x) (hy : IsNN y) : IsNN (max x y) := by
  rcases max_choice x y with h | h <;> rw [h] <;> assumption
theorem isR_sum {ι : Type} (s : Finset ι) (f : ι → EReal) (hf : ∀ i, IsR (f i)) : IsR (∑ i ∈ s, f i) :=
  Finset.sum_induction f IsR (fun _ _ => IsR.add) ⟨0, rfl⟩ fun i _ => hf i
theorem isNN_sum {ι : Type} (s : Finset ι) (f : ι → EReal) (hf : ∀ i, IsNN (f i)) : IsNN (∑ i ∈ s, f i) :=
  Finset.sum_induction f IsNN (fun _ _ => IsNN.add) ⟨0, le_rfl, rfl⟩ fun i _ => hf i

theorem bits_mean : Ideal.ofBits .f32 0x392AAAAB#32 = ((11184811 / 68719476736 : ℝ) : EReal) := by
  simp [Ideal.ofBits, Ideal.ieee, -EReal.coe_mul]; norm_num
theorem bits_eps : Ideal.ofBits .f32 0x3727C5AC#32 = ((10995116 / 1099511627776 : ℝ) : EReal) := by
  simp [Ideal.ofBits, Ideal.ieee, -EReal.coe_mul]; norm_num
theorem bits_448 : Ideal.ofBits .f32 0x3B124925#32 = ((9586981 / 4294967296 : ℝ) : EReal) := by
  simp [Ideal.ofBits, Ideal.ieee, -EReal.coe_mul]; norm_num

theorem isNN_abs {x : EReal} (hx : IsR x) : IsNN (max x (-x)) := by
  obtain ⟨a, rfl⟩ := hx
  refine ⟨|a|, abs_nonneg a, ?_⟩
  rw [← EReal.coe_neg]
  exact (EReal.coe_strictMono.monotone.map_max (a := a) (b := -a)).symm

theorem isNN_rowMax (f : Fin 128 → EReal) (hf : ∀ t, IsR (f t)) : IsNN (rowMax f) := by
  have key : ∀ s : Finset (Fin 128), s.fold max ⊥ (fun t => max (f t) (-(f t))) = ⊥ ∨ IsNN (s.fold max ⊥ (fun t => max (f t) (-(f t)))) := by
    intro s
    induction s using Finset.induction_on with
    | empty => exact .inl Finset.fold_empty
    | insert a s ha ih =>
      right
      rw [Finset.fold_insert ha]
      rcases ih with h | h
      · rw [h, max_bot_right]; exact isNN_abs (hf a)
      · exact (isNN_abs (hf a)).max h
  unfold rowMax
  rw [← Finset.insert_erase (Finset.mem_univ (0 : Fin 128)), Finset.fold_insert (Finset.notMem_erase _ _)]
  rcases key (Finset.univ.erase 0) with h | h
  · rw [h, max_bot_right]; exact isNN_abs (hf 0)
  · exact (isNN_abs (hf 0)).max h

section
variable (X : Fin 8 → Fin 6144 → EReal) (g b : Fin 6144 → EReal) (hX : ∀ r l, IsR (X r l)) (hg : ∀ l, IsR (g l)) (hb : ∀ l, IsR (b l))

include hX in
theorem isR_xcV (r : Fin 8) (l : Fin 6144) : IsR (xcV X r l) :=
  (hX r l).sub ((isR_sum _ _ fun k => hX r k).mul ⟨_, bits_mean⟩)
include hX in
theorem isR_rsV (r : Fin 8) : IsR (rsV X r) := by
  unfold rsV
  obtain ⟨v, hv, e⟩ := (isNN_sum Finset.univ (fun k => xcV X r k * xcV X r k) fun k => (isR_xcV X hX r k).sq).mul ⟨_, by norm_num, bits_mean⟩
  rw [e, bits_eps, ← EReal.coe_add]
  have hpos : (0 : ℝ) < v + 10995116 / 1099511627776 := by positivity
  refine ⟨(Real.sqrt (v + 10995116 / 1099511627776))⁻¹, ?_⟩
  show (if _ then _ else _) = _
  rw [if_neg (not_lt.mpr hpos.le), if_neg hpos.ne']
include hX hg hb in
theorem isR_hV (r : Fin 8) (l : Fin 6144) : IsR (hV X g b r l) :=
  (((isR_xcV X hX r l).mul (isR_rsV X hX r)).mul (hg l)).add (hb l)
include hX hg hb in
theorem isNN_magV (r : Fin 8) (q : Fin 48) : IsNN (magV X g b r q) := isNN_rowMax _ fun t => isR_hV X g b hX hg hb r _

/-- For a real magnitude the kernel's scale and its inverse are two to the exponent the logarithm gives, and to its negative. -/
theorem scaleOf_eq (a : EReal) (ha : IsNN a) :
    scaleOf a = Ideal.exp2 (refExp (overMax a)) ∧ invOf a = Ideal.exp2 (Ideal.ofBits .f32 0x00000000#32 - refExp (overMax a)) := by
  obtain ⟨y, hy, rfl⟩ := ha
  have hs : overMax (y : EReal) = ((y * (9586981 / 4294967296) : ℝ) : EReal) := by
    unfold overMax; rw [bits_448, EReal.coe_mul]
  have h0 : (0 : ℝ) ≤ y * (9586981 / 4294967296) := by positivity
  have hz : (y : EReal) = 0 → y * (9586981 / 4294967296) = 0 := fun h => by
    rw [show y = 0 from EReal.coe_eq_zero.mp h, zero_mul]
  unfold scaleOf invOf
  rw [hs]
  obtain ⟨k1, k2⟩ := kernel_scale (y : EReal) _ h0 hz
  obtain ⟨r1, r2⟩ := ref_scale _ h0
  exact ⟨k1.trans r1.symm, k2.trans r2.symm⟩

/-- The scales, by the logarithm. -/
def scaleR (r : Fin 8) (q : Fin 48) : EReal := Ideal.exp2 (refExp (overMax (magV X g b r q)))
/-- The codes, by the logarithm. -/
def codeR (r : Fin 8) (l : Fin 6144) : EReal :=
  clip448 (hV X g b r l * Ideal.exp2 (Ideal.ofBits .f32 0x00000000#32 - refExp (overMax (magV X g b r (blkOf l)))))
/-- The codes times their scales, by the logarithm. -/
def lhsR (r : Fin 8) (l : Fin 6144) : EReal := codeR X g b r l * scaleR X g b r (blkOf l)

include hX hg hb in
theorem scaleV_eq (r : Fin 8) (q : Fin 48) : scaleV X g b r q = scaleR X g b r q := (scaleOf_eq _ (isNN_magV X g b hX hg hb r q)).1
include hX hg hb in
theorem codeV_eq (r : Fin 8) (l : Fin 6144) : codeV X g b r l = codeR X g b r l := by
  unfold codeV codeR
  rw [(scaleOf_eq _ (isNN_magV X g b hX hg hb r (blkOf l))).2]
include hX hg hb in
theorem lhsV_eq (r : Fin 8) (l : Fin 6144) : lhsV X g b r l = lhsR X g b r l := by
  unfold lhsV lhsR
  rw [codeV_eq X g b hX hg hb, scaleV_eq X g b hX hg hb]
end

end Cert.KernelIdeal.Hand

end
-- ==== Proof.IdealOut.lean ====
module

public import proofs.«01_k».proof.Proof.IdealLaunch
public import proofs.«01_k».proof.Proof.IdealProj
public import proofs.«01_k».proof.Proof.IdealKeys
public import proofs.«01_k».proof.Proof.IdealReal
public import Idealize.ShloMosaic.Lib.Pipeline.ValueKit
public import Idealize.ShloMosaic.Lib.Pointwise

@[expose] public section

noncomputable section

namespace Cert.KernelIdeal.Hand

open Cert.KernelIdeal Cert.KernelIdeal.Gen
open Idealize.ShloMosaic Idealize.ShloMosaic.TcCoe

/-! ## The results the run names, at an element, from the arguments -/

section
variable (m : (ℓ : Loc nD τ sig) → Buf (Elt Ideal) ℓ)

theorem kent1 (c : Dev nD) (r : Fin 8) (l : Fin 6144) : V m c main_v1 (ix2 r l) = m ((c : Thread nD τ).loc main_arg0) (ix3 r (0 : Fin 1) l) := by
  entry_read
  pointwise
theorem kent2 (c : Dev nD) (l : Fin 6144) : V m c main_v2 (ix2 (0 : Fin 1) l) = m ((c : Thread nD τ).loc main_arg1) (ix1 l) := by
  entry_read
  pointwise
theorem kent3 (c : Dev nD) (l : Fin 6144) : V m c main_v3 (ix2 (0 : Fin 1) l) = m ((c : Thread nD τ).loc main_arg2) (ix1 l) := by
  entry_read
  pointwise
theorem kent4 (c : Dev nD) (l : Fin 55552) : V m c main_v4 (ix2 (0 : Fin 1) l) = m ((c : Thread nD τ).loc main_arg4) (ix1 l) := by
  entry_read
  pointwise

theorem kent0 (c : Dev nD) (t : Fin 128) : (V m c main_v0 (ix2 (0 : Fin 1) t) : EReal) = Ideal.ofBits .f32 (lit0 t) := by
  entry_read
  pointwise
  exact congrArg (fun i : Fin 128 => Ideal.ofBits .f32 (lit0 i)) (Fin.ext (Shape.rowMajor_val_one (ix1 t)))

/-- The rows, the gain and the offset as the arguments hold them. -/
def xArg (c : Dev nD) (r : Fin 8) (l : Fin 6144) : EReal := m ((c : Thread nD τ).loc main_arg0) (ix3 r (0 : Fin 1) l)
def gArg (c : Dev nD) (l : Fin 6144) : EReal := m ((c : Thread nD τ).loc main_arg1) (ix1 l)
def bArg (c : Dev nD) (l : Fin 6144) : EReal := m ((c : Thread nD τ).loc main_arg2) (ix1 l)

/-- The projection from the arguments. -/
def projArg (c : Dev nD) (r : Fin 8) (p : Fin 55552) : EReal :=
  (∑ l : Fin 6144, lhsR (xArg m c) (gArg m c) (bArg m c) r l * (m ((c : Thread nD τ).loc main_arg3) (ix2 l p) : EReal)) * (m ((c : Thread nD τ).loc main_arg4) (ix1 p) : EReal)

/-- The rotation's angle from the arguments. -/
def angArg (c : Dev nD) (r : Fin 8) (t : Fin 128) : EReal :=
  (FloatOps.sitofp (F := Ideal) .f32 (m ((c : Thread nD τ).loc main_arg10) (ix1 r)) : EReal) * Ideal.ofBits .f32 (lit0 t)

theorem x_eq (c : Dev nD) : xOf c (V m c main_v1) = xArg m c := funext fun r => funext fun l => kent1 m c r l
theorem g_eq (c : Dev nD) : gOf c (V m c main_v2) = gArg m c := funext fun l => kent2 m c l
theorem b_eq (c : Dev nD) : bOf c (V m c main_v3) = bArg m c := funext fun l => kent3 m c l

theorem land_read {sp sp' : Space} {s : Shape} {e : EltTy} (c : Dev nD) (S : Memref sig .tc sp s e) (D : Memref sig .tc sp' s e) (f : BufOf (F := Ideal) c S) (fd : BufOf (F := Ideal) c D) :
    D.view.read (Elt Ideal) (landW c S D f fd) = S.view.read (Elt Ideal) f := View.read_write_univ _ _

theorem read13 (c : Dev nD) (f : BufOf (F := Ideal) c A13) (r : Fin 8) (p : Fin 55552) : f (ix2 r p) = A13.view.read (Elt Ideal) f (ix2 r p) := rfl
theorem read15 (c : Dev nD) (f : BufOf (F := Ideal) c A15) (r : Fin 8) (p : Fin 6144) : f (ix2 r p) = A15.view.read (Elt Ideal) f (ix2 r p) := rfl
theorem read16 (c : Dev nD) (f : BufOf (F := Ideal) c A16) (r : Fin 8) (z : Fin 1) (p : Fin 48) : f (ix3 r z p) = A16.view.read (Elt Ideal) f (ix3 r z p) := rfl
theorem read18 (c : Dev nD) (f : BufOf (F := Ideal) c A18) (r : Fin 8) (p : Fin 128) : f (ix2 r p) = A18.view.read (Elt Ideal) f (ix2 r p) := rfl

theorem read17 (c : Dev nD) (f : BufOf (F := Ideal) c A17) (r : Fin 8) (p : Fin 128) : f (ix2 r p) = A17.view.read (Elt Ideal) f (ix2 r p) := rfl

theorem freq_read (c : Dev nD) (f29 : BufOf (F := Ideal) c A29) (t : Fin 128) :
    (View.readAt (Elt Ideal) A29.view (Rect.unit (s := S1x128) ![0, 0] S1x128.size inb_S1x128_S1x128_0_0).toLoadRect
      (View.write (Elt Ideal) A29.view f29 (ReadAs.same.apply (View.read (Elt Ideal) A11.view (V m c main_v0))) Finset.univ) (ix2 (0 : Fin 1) t) : EReal)
      = Ideal.ofBits .f32 (lit0 t) := by
  rw [← kent0 m c t]
  show A29.view.read (Elt Ideal) (A29.view.write (Elt Ideal) f29 _ Finset.univ) _ = _
  rw [View.read_write_univ]
  show V m c main_v0 _ = V m c main_v0 _
  refine congrArg (V m c main_v0) (funext fun a => Fin.ext ?_)
  match a with
  | ⟨0, _⟩ => rfl
  | ⟨1, _⟩ => show 0 + 1 * t.val = t.val; omega

theorem ang_eq (c : Dev nD) (f29 : BufOf (F := Ideal) c A29) : angV (posW c (V m c main_arg10))
    (View.readAt (Elt Ideal) A29.view (Rect.unit (s := S1x128) ![0, 0] S1x128.size inb_S1x128_S1x128_0_0).toLoadRect
      (View.write (Elt Ideal) A29.view f29 (ReadAs.same.apply (View.read (Elt Ideal) A11.view (V m c main_v0))) Finset.univ)) = angArg m c :=
  funext fun r => funext fun t => by
    unfold angV angArg posW
    rw [freq_read, V_main_arg10]

theorem land_canon {sp sp' : Space} {s : Shape} {e : EltTy} (c : Dev nD) (S : Memref sig .tc sp s e) (D : Memref sig .tc sp' s e) (L : List (View.Piece (Elt Ideal) s e)) (fd : BufOf (F := Ideal) c D) (j : s.Idx) :
    D.view.read (Elt Ideal) (landW c S D (S.view.writes (Elt Ideal) S.view.junk L) fd) j = View.canon L j := by
  rw [land_read, View.read_writes_junk_eq_canon]

variable (hX : ∀ c r l, IsR (xArg m c r l)) (hg : ∀ c l, IsR (gArg m c l)) (hb : ∀ c l, IsR (bArg m c l))

set_option maxHeartbeats 0 in
include hX hg hb in
/-- What the kernel's run leaves in the five results, from its arguments: the projection, the codes, the scales, the
    clipped value row and the rotated and clipped key row. -/
theorem named_vals (c : Dev nD) (W : (b : Ref sig .tc) → Buf (Elt Ideal) ((c : Thread nD τ).loc b)) (h : Named m c W) :
    (∀ (r : Fin 8) (p : Fin 55552), (W main_v6_1 (ix2 r p) : EReal) = projArg m c r p)
    ∧ (∀ (r : Fin 8) (l : Fin 6144), (W main_v6_3 (ix2 r l) : EReal) = codeR (xArg m c) (gArg m c) (bArg m c) r l)
    ∧ (∀ (r : Fin 8) (z : Fin 1) (q : Fin 48), (W main_v6_4 (ix3 r z q) : EReal) = scaleR (xArg m c) (gArg m c) (bArg m c) r q)
    ∧ (∀ (r : Fin 8) (t : Fin 128), (W main_v6_6 (ix2 r t) : EReal) = clip57344 (projArg m c r ⟨6272 + t.val, by omega⟩))
    ∧ ∀ (r : Fin 8) (t : Fin 128), (W main_v6_5 (ix2 r t) : EReal) = clip57344 (rotV (projArg m c) (angArg m c) r t) := by
  obtain ⟨f22, f23, f24, f25, f26, f27, f28, f29, f30, f31, f32, f33, f34, f35, f36, f37, f38, f39, f40, f41, f42, f43, f44, f45, f46, f47, f48, f49, h1, h3, h4, h5, h6⟩ := h
  have o1 : (runV m c f22 f23 f24 f25 f26 f27 f28 f29 f30 f31 f32 f33 f34 f35 f36 f37 f38 f39 f40 f41 f42 f43 f44 f45 f46 f47 f48 f49).1
      = A32.view.writes (Elt Ideal) A32.view.junk (bodyRun.sl.H32_48 (F := Ideal) c (V m c main_v1) (V m c main_v2) (V m c main_v3) f22 f23 f24) := rfl
  have o2 : (runV m c f22 f23 f24 f25 f26 f27 f28 f29 f30 f31 f32 f33 f34 f35 f36 f37 f38 f39 f40 f41 f42 f43 f44 f45 f46 f47 f48 f49).2.1
      = A40.view.writes (Elt Ideal) A40.view.junk (bodyRun.sl.H40_48 (F := Ideal) c (V m c main_v1) (V m c main_v2) (V m c main_v3) f22 f23 f24) := rfl
  have o3 : (runV m c f22 f23 f24 f25 f26 f27 f28 f29 f30 f31 f32 f33 f34 f35 f36 f37 f38 f39 f40 f41 f42 f43 f44 f45 f46 f47 f48 f49).2.2.1
      = A41.view.writes (Elt Ideal) A41.view.junk (bodyRun.sl.H41_1 (F := Ideal) c (V m c main_v1) (V m c main_v2) (V m c main_v3) f22 f23 f24) := rfl
  have o4 : (runV m c f22 f23 f24 f25 f26 f27 f28 f29 f30 f31 f32 f33 f34 f35 f36 f37 f38 f39 f40 f41 f42 f43 f44 f45 f46 f47 f48 f49).2.2.2.1
      = k0_pay587 (F := Ideal) bodyRun.sl.v3651 (bodyRun.sl.r_260 c (V m c main_arg10) f31) k0_pay585 (bodyRun.sl.r_261 c (V m c main_arg10) f31) (bodyRun.sl.r_262 c (V m c main_arg10) f31) (bodyRun.sl.r_263 c (V m c main_arg10) f31) (bodyRun.sl.r_264 c (V m c main_arg10) f31)
        (View.readAt (Elt Ideal) A29.view (Rect.unit (s := S1x128) ![0, 0] S1x128.size inb_S1x128_S1x128_0_0).toLoadRect
      (View.write (Elt Ideal) A29.view f29 (ReadAs.same.apply (View.read (Elt Ideal) A11.view (V m c main_v0))) Finset.univ)) := rfl
  have o5 : (runV m c f22 f23 f24 f25 f26 f27 f28 f29 f30 f31 f32 f33 f34 f35 f36 f37 f38 f39 f40 f41 f42 f43 f44 f45 f46 f47 f48 f49).2.2.2.2
      = k0_pay588 (F := Ideal) bodyRun.sl.v93 bodyRun.sl.v3651 (bodyRun.sl.r_260 c (V m c main_arg10) f31) k0_pay585 (bodyRun.sl.r_261 c (V m c main_arg10) f31) (bodyRun.sl.r_262 c (V m c main_arg10) f31) (bodyRun.sl.r_263 c (V m c main_arg10) f31) (bodyRun.sl.r_264 c (V m c main_arg10) f31)
        (View.readAt (Elt Ideal) A29.view (Rect.unit (s := S1x128) ![0, 0] S1x128.size inb_S1x128_S1x128_0_0).toLoadRect
      (View.write (Elt Ideal) A29.view f29 (ReadAs.same.apply (View.read (Elt Ideal) A11.view (V m c main_v0))) Finset.univ)) := rfl
  have o6 : bodyRun.sl.r_260 (F := Ideal) c (V m c main_arg10) f31 = k0_pay584 (F := Ideal) (bodyRun.sl.r_256 c (V m c main_arg10) f31) (bodyRun.sl.r_257 c (V m c main_arg10) f31) (bodyRun.sl.r_258 c (V m c main_arg10) f31) (bodyRun.sl.r_259 c (V m c main_arg10) f31) := rfl
  rw [o1, o4, o5, o6, w0, w1, w2, w3, w4, w5, w6, w7] at h5
  rw [o2] at h3
  rw [o3] at h4
  rw [o1] at h1 h6
  have hL : ∀ (r : Fin 8) (k : Fin 12) (i : Fin 512), (A32.view.read (Elt Ideal) (A32.view.writes (Elt Ideal) A32.view.junk (bodyRun.sl.H32_48 (F := Ideal) c (V m c main_v1) (V m c main_v2) (V m c main_v3) f22 f23 f24))
      (ix3 k (⟨r.val, by omega⟩ : Fin 16) i) : EReal) = lhsR (xArg m c) (gArg m c) (bArg m c) r (slabCol k i) := fun r k i => by
    rw [View.read_writes_junk_eq_canon, lhs_canon]
    unfold lhsFull
    rw [dif_pos (show r.val < 8 from r.isLt), x_eq, g_eq, b_eq]
    exact lhsV_eq _ _ _ (hX c) (hg c) (hb c) r _
  have hP : ∀ (r : Fin 8) (p : Fin 55552), projAt c (V m c main_arg3) (A32.view.writes (Elt Ideal) A32.view.junk (bodyRun.sl.H32_48 (F := Ideal) c (V m c main_v1) (V m c main_v2) (V m c main_v3) f22 f23 f24))
      (landW c A4 A25 (V m c main_v4) f25) r p = projArg m c r p := fun r p => by
    unfold projAt projArg
    rw [prod_eq c (V m c main_arg3) _ (lhsR (xArg m c) (gArg m c) (bArg m c) r) r p (hL r), land_read, ← kent4 m c p, V_main_arg3]
    rfl
  refine ⟨fun r p => ?_, fun r l => ?_, fun r z q => ?_, fun r t => ?_, fun r t => ?_⟩
  · rw [h1]
    have e : p = gcol ⟨p.val / 7936, by omega⟩ ⟨p.val % 7936, by omega⟩ := Fin.ext (by show p.val = 7936 * (p.val / 7936) + p.val % 7936; omega)
    have k1 := congrFun (land_read c A36 A13 (projG c (V m c main_arg3) (A32.view.writes (Elt Ideal) A32.view.junk (bodyRun.sl.H32_48 (F := Ideal) c (V m c main_v1) (V m c main_v2) (V m c main_v3) f22 f23 f24))
      (landW c A4 A25 (V m c main_v4) f25) f34 f36 (Scf.trips k0_t1_loop.lb k0_t1_loop.ub k0_t1_loop.st)) (V m c main_v6_1)) (ix2 r p)
    refine (read13 c _ r p).trans (Eq.trans k1 ?_)
    rw [show (Scf.trips k0_t1_loop.lb k0_t1_loop.ub k0_t1_loop.st) = 7 from trips1]
    rw [← hP r p]
    have k2 := projG_at c (V m c main_arg3) (A32.view.writes (Elt Ideal) A32.view.junk (bodyRun.sl.H32_48 (F := Ideal) c (V m c main_v1) (V m c main_v2) (V m c main_v3) f22 f23 f24))
      (landW c A4 A25 (V m c main_v4) f25) f34 f36 7 le_rfl ⟨p.val / 7936, by omega⟩ (by show p.val / 7936 < 7; omega) r ⟨p.val % 7936, by omega⟩
    rw [← e] at k2
    exact k2
  · have e2 : codeV (xOf c (V m c main_v1)) (gOf c (V m c main_v2)) (bOf c (V m c main_v3)) r l = codeR (xArg m c) (gArg m c) (bArg m c) r l := by
      rw [x_eq, g_eq, b_eq]; exact codeV_eq _ _ _ (hX c) (hg c) (hb c) r l
    exact (congrFun h3 (ix2 r l)).trans ((read15 c _ r l).trans ((land_canon c A40 A15 _ (V m c main_v6_3) (ix2 r l)).trans
      ((codes_canon c (V m c main_v1) (V m c main_v2) (V m c main_v3) f22 f23 f24 r l).trans e2)))
  · have e2 : scaleV (xOf c (V m c main_v1)) (gOf c (V m c main_v2)) (bOf c (V m c main_v3)) r q = scaleR (xArg m c) (gArg m c) (bArg m c) r q := by
      rw [x_eq, g_eq, b_eq]; exact scaleV_eq _ _ _ (hX c) (hg c) (hb c) r q
    exact (congrFun h4 (ix3 r z q)).trans ((read16 c _ r z q).trans ((land_canon c A41 A16 _ (V m c main_v6_4) (ix3 r z q)).trans
      ((scales_canon c (V m c main_v1) (V m c main_v2) (V m c main_v3) f22 f23 f24 r z q).trans e2)))
  · rw [show (Scf.trips k0_t1_loop.lb k0_t1_loop.ub k0_t1_loop.st) = 7 from trips1] at h6
    rw [← hP]
    exact (congrFun h6 (ix2 r t)).trans ((read18 c _ r t).trans ((congrFun (land_read c A43 A18 _ (V m c main_v6_6)) (ix2 r t)).trans (vnS_at c _ _ _ f34 r t)))
  · rw [show (Scf.trips k0_t1_loop.lb k0_t1_loop.ub k0_t1_loop.st) = 7 from trips1] at h5
    have k := knS_at c (V m c main_arg3) (A32.view.writes (Elt Ideal) A32.view.junk (bodyRun.sl.H32_48 (F := Ideal) c (V m c main_v1) (V m c main_v2) (V m c main_v3) f22 f23 f24))
      (landW c A4 A25 (V m c main_v4) f25) (posW c (V m c main_arg10)) (View.readAt (Elt Ideal) A29.view (Rect.unit (s := S1x128) ![0, 0] S1x128.size inb_S1x128_S1x128_0_0).toLoadRect
      (View.write (Elt Ideal) A29.view f29 (ReadAs.same.apply (View.read (Elt Ideal) A11.view (V m c main_v0))) Finset.univ)) f34 r t
    rw [ang_eq] at k
    have e : projAt c (V m c main_arg3) (A32.view.writes (Elt Ideal) A32.view.junk (bodyRun.sl.H32_48 (F := Ideal) c (V m c main_v1) (V m c main_v2) (V m c main_v3) f22 f23 f24))
      (landW c A4 A25 (V m c main_v4) f25) = projArg m c := funext fun r => funext fun p => hP r p
    rw [e] at k
    exact (congrFun h5 (ix2 r t)).trans ((read17 c _ r t).trans ((congrFun (land_read c A42 A17 _ (V m c main_v6_5)) (ix2 r t)).trans k))
end

end Cert.KernelIdeal.Hand

end
-- ==== Proof.RefRun.lean ====
module

public import proofs.«01_k».proof.Proof.Gen.ReferenceIdeal.Frame
public import Idealize.ShloMosaic.Lib.Pipeline.Value

@[expose] public section

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t) (iblk m c 6 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S8x55552.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t) (iblk m c 6 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S8x6144.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t) (iblk m c 6 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S8x1x48.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t) (iblk m c 6 t)) := by
  show (cfg0.win 10).cut (grid0.coords t) ((dats m 0 c).after 10 t) = _
  rw [after0_10]

/-- The index map sends distinct grid points to distinct block indices (decided over the 1 point). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S8x128.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the body's result for that window (`Gen.out0_11`: its stores
    as pieces over the input windows' blocks), read through the window's block. -/
theorem flushed11 (c : Dev nD) (t : Fin cfg0.N) :
    (dats m 0 c).flushed 11 t = (cfg0.win 11).cut (grid0.coords t) (out0_11 (iblk m c 0 t) (iblk m c 1 t) (iblk m c 2 t) (iblk m c 3 t) (iblk m c 4 t) (iblk m c 5 t) (iblk m c 6 t)) := by
  show (cfg0.win 11).cut (grid0.coords t) ((dats m 0 c).after 11 t) = _
  rw [after0_11]

/-- The index map sends distinct grid points to distinct block indices (decided over the 1 point). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S8x128.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v6_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v6_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v6_2) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v6_3) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v6_4) = (dats m 0 c).arrAt 11 cfg0.N :=
  (h c).1 11

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v6_0) = (dats m 0 c).arrAt 7 cfg0.N
      ∧ r.2.mem ((c : Thread nD τ).loc main_v6_1) = (dats m 0 c).arrAt 8 cfg0.N
      ∧ r.2.mem ((c : Thread nD τ).loc main_v6_2) = (dats m 0 c).arrAt 9 cfg0.N
      ∧ r.2.mem ((c : Thread nD τ).loc main_v6_3) = (dats m 0 c).arrAt 10 cfg0.N
      ∧ r.2.mem ((c : Thread nD τ).loc main_v6_4) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post7 m r h c,
      post8 m r h c,
      post9 m r h c,
      post10 m r h c,
      post11 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.ReferenceIdeal.Hand

end
-- ==== Proof.RefVals.lean ====
module

public import proofs.«01_k».proof.Proof.IdealReal
public import proofs.«01_k».proof.Proof.IdealProj
public import proofs.«01_k».proof.Proof.RefRun
public import Idealize.ShloMosaic.Lib.Pipeline.ValueKit
public import Idealize.ShloMosaic.Lib.Pointwise

@[expose] public section

noncomputable section

namespace Cert.ReferenceIdeal.Hand

open Cert.ReferenceIdeal Cert.ReferenceIdeal.Gen
open Cert.KernelIdeal.Hand (xcV rsV hV rowMax overMax magV colOf blkOf refExp scaleR codeR lhsR clip448 clip57344 bits_bot bits_zero)
open Idealize.ShloMosaic Idealize.ShloMosaic.TcCoe

/-! ## The reference's values at an element -/

section
variable (v0 : Vec Ideal S8x6144 .bf16) (v21 v25 : Vec Ideal S1x6144 .f32)

/-- The rows, by row and column. -/
def xM (r : Fin 8) (l : Fin 6144) : EReal := v0 (ix2 r l)
/-- One row, by column. -/
def rowM (v : Vec Ideal S1x6144 .f32) (l : Fin 6144) : EReal := v (ix2 (0 : Fin 1) l)

theorem pay3_at (r : Fin 8) (q : Fin 48) (t : Fin 128) : (k0_pay3 v0 v21 v25 (ix3 r q t) : EReal) = hV (xM v0) (rowM v21) (rowM v25) r (colOf q t) := by
  unfold k0_pay3 hV rsV xcV xM rowM colOf
  pointwise
  rw [show (⟨q.val * 128 + t.val, by omega⟩ : Fin 6144) = ⟨128 * q.val + t.val, by omega⟩ from Fin.ext (by show q.val * 128 + t.val = 128 * q.val + t.val; omega)]

theorem pay4_at (r : Fin 8) (q : Fin 48) (z : Fin 1) : (k0_pay4 v0 v21 v25 (ix3 r q z) : EReal) = overMax (magV (xM v0) (rowM v21) (rowM v25) r q) := by
  have h : magV (xM v0) (rowM v21) (rowM v25) r q = rowMax fun t => k0_pay3 v0 v21 v25 (ix3 r q t) :=
    congrArg rowMax (funext fun t => (pay3_at v0 v21 v25 r q t).symm)
  rw [h]
  unfold k0_pay4 overMax rowMax
  generalize k0_pay3 v0 v21 v25 = h
  pointwise
  rw [bits_bot]
  rfl

theorem pay7_at (r : Fin 8) (q : Fin 48) (z : Fin 1) :
    (k0_pay7 (k0_pay5 v0 v21 v25) (k0_pay6 v0 v21 v25) (ix3 r q z) : EReal) = refExp (overMax (magV (xM v0) (rowM v21) (rowM v25) r q)) := by
  rw [← pay4_at v0 v21 v25 r q z]
  unfold k0_pay7 k0_pay5 k0_pay6 refExp
  generalize k0_pay4 v0 v21 v25 = s
  rfl

theorem pay8_at (r : Fin 8) (q : Fin 48) (z : Fin 1) :
    (k0_pay8 (k0_pay5 v0 v21 v25) (k0_pay6 v0 v21 v25) (ix3 r q z) : EReal) = scaleR (xM v0) (rowM v21) (rowM v25) r q := by
  unfold k0_pay8 scaleR
  rw [← pay7_at v0 v21 v25 r q z]
  generalize k0_pay7 (k0_pay5 v0 v21 v25) (k0_pay6 v0 v21 v25) = e
  rfl

theorem pay9_at (r : Fin 8) (q : Fin 48) (t : Fin 128) :
    (k0_pay9 (k0_pay3 v0 v21 v25) (k0_pay5 v0 v21 v25) (k0_pay6 v0 v21 v25) (ix3 r q t) : EReal) =
      clip448 (hV (xM v0) (rowM v21) (rowM v25) r (colOf q t) * Ideal.exp2 (Ideal.ofBits .f32 0x00000000#32 - refExp (overMax (magV (xM v0) (rowM v21) (rowM v25) r q)))) := by
  unfold k0_pay9 clip448
  rw [← pay7_at v0 v21 v25 r q 0, ← pay3_at]
  generalize k0_pay7 (k0_pay5 v0 v21 v25) (k0_pay6 v0 v21 v25) = e
  generalize k0_pay3 v0 v21 v25 = h
  pointwise
  rfl

theorem colOf_blkOf (l : Fin 6144) : colOf (blkOf l) ⟨l.val % 128, by omega⟩ = l := Fin.ext (by show 128 * (l.val / 128) + l.val % 128 = l.val; omega)

/-- The codes. -/
theorem pay10_at (r : Fin 8) (l : Fin 6144) :
    (k0_pay10 (k0_pay3 v0 v21 v25) (k0_pay5 v0 v21 v25) (k0_pay6 v0 v21 v25) (ix2 r l) : EReal) = codeR (xM v0) (rowM v21) (rowM v25) r l := by
  have h := pay9_at v0 v21 v25 r (blkOf l) ⟨l.val % 128, by omega⟩
  rw [colOf_blkOf] at h
  unfold codeR
  rw [← h]
  unfold k0_pay10 blkOf
  generalize k0_pay9 (k0_pay3 v0 v21 v25) (k0_pay5 v0 v21 v25) (k0_pay6 v0 v21 v25) = e
  pointwise

/-- The scales. -/
theorem pay11_at (r : Fin 8) (z : Fin 1) (q : Fin 48) :
    (k0_pay11 (k0_pay5 v0 v21 v25) (k0_pay6 v0 v21 v25) (ix3 r z q) : EReal) = scaleR (xM v0) (rowM v21) (rowM v25) r q := by
  rw [← pay8_at v0 v21 v25 r q 0]
  unfold k0_pay11
  generalize k0_pay8 (k0_pay5 v0 v21 v25) (k0_pay6 v0 v21 v25) = e
  pointwise

theorem hw_at (r : Fin 8) (l : Fin 6144) (a : FVec Ideal S8x48x128 .fp8e4m3) (s : FVec Ideal S8x48x1 .f32) :
    (shapeCast S8x6144 (mulf (extf .bf16 a bitsLt_fp8e4m3_bf16) (broadcastTo S8x48x128 (truncf .bf16 s bitsLt_bf16_f32) broadcasts_S8x48x1_S8x48x128)) shapeCasts_S8x48x128_S8x6144 (ix2 r l) : EReal)
      = (a (ix3 r (blkOf l) (⟨l.val % 128, by omega⟩ : Fin 128)) : EReal) * s (ix3 r (blkOf l) (0 : Fin 1)) := by
  unfold blkOf
  pointwise

theorem mm_at (a : FVec Ideal S8x6144 .bf16) (w : FVec Ideal S6144x55552 .bf16) (r : Fin 8) (p : Fin 55552) :
    (matmul dot_S8x6144_S6144x55552_S8x55552_1_0_0_1_n_n none a w (constant S8x55552 .f32 0x00000000#32) (ix2 r p) : EReal) = ∑ l : Fin 6144, (a (ix2 r l) : EReal) * w (ix2 l p) := by
  pointwise

variable (w : Vec Ideal S6144x55552 .fp8e4m3) (s : Vec Ideal S1x55552 .f32)

/-- The projection at a row and column. -/
def projR (r : Fin 8) (p : Fin 55552) : EReal := (∑ l : Fin 6144, lhsR (xM v0) (rowM v21) (rowM v25) r l * w (ix2 l p)) * s (ix2 (0 : Fin 1) p)

theorem pay12_at (r : Fin 8) (p : Fin 55552) :
    (k0_pay12 (k0_pay3 v0 v21 v25) (k0_pay5 v0 v21 v25) (k0_pay6 v0 v21 v25) w s (ix2 r p) : EReal) = projR v0 v21 v25 w s r p := by
  have hL : ∀ l : Fin 6144, lhsR (xM v0) (rowM v21) (rowM v25) r l = (k0_pay9 (k0_pay3 v0 v21 v25) (k0_pay5 v0 v21 v25) (k0_pay6 v0 v21 v25) (ix3 r (blkOf l) (⟨l.val % 128, by omega⟩ : Fin 128)) : EReal)
      * k0_pay8 (k0_pay5 v0 v21 v25) (k0_pay6 v0 v21 v25) (ix3 r (blkOf l) (0 : Fin 1)) := fun l => by
    rw [pay9_at, pay8_at, colOf_blkOf]; rfl
  unfold projR
  simp only [hL]
  unfold k0_pay12
  generalize k0_pay9 (k0_pay3 v0 v21 v25) (k0_pay5 v0 v21 v25) (k0_pay6 v0 v21 v25) = A
  generalize k0_pay8 (k0_pay5 v0 v21 v25) (k0_pay6 v0 v21 v25) = B
  have hm := mm_at (shapeCast S8x6144 (mulf (extf .bf16 A bitsLt_fp8e4m3_bf16) (broadcastTo S8x48x128 (truncf .bf16 B bitsLt_bf16_f32) broadcasts_S8x48x1_S8x48x128)) shapeCasts_S8x48x128_S8x6144)
    (extf .bf16 w bitsLt_fp8e4m3_bf16) r p
  simp only [hw_at] at hm
  have hs : broadcastTo S8x55552 (shapeCast S1x55552 s shapeCasts_S1x55552_S1x55552) broadcasts_S1x55552_S8x55552 (ix2 r p) = s (ix2 (0 : Fin 1) p) := by pointwise
  exact (congrArg₂ (fun (a b : EReal) => a * b) hm hs)

/-- The new values. -/
theorem pay2_at (r : Fin 8) (t : Fin 128) :
    (k0_pay2 (k0_pay12 (k0_pay3 v0 v21 v25) (k0_pay5 v0 v21 v25) (k0_pay6 v0 v21 v25) w s) (ix2 r t) : EReal)
      = clip57344 (projR v0 v21 v25 w s r ⟨6272 + t.val, by omega⟩) := by
  rw [← pay12_at]
  unfold k0_pay2 clip57344
  generalize k0_pay12 (k0_pay3 v0 v21 v25) (k0_pay5 v0 v21 v25) (k0_pay6 v0 v21 v25) w s = A
  pointwise

/-- A row of the 64 frequencies, and a column of the eight positions, as numbers. -/
def freqM (f : Vec Ideal S1x64 .f32) (t : Fin 64) : EReal := f (ix2 (0 : Fin 1) t)
def posM (q : Vec Ideal S8x1 .i32) (r : Fin 8) : EReal := FloatOps.sitofp (F := Ideal) .f32 (q (ix2 r (0 : Fin 1)))

/-- The rotated keys before clipping: the two halves of the key columns turned by the angle. -/
def rotR (P : Fin 8 → Fin 55552 → EReal) (q : Fin 8 → EReal) (f : Fin 64 → EReal) (r : Fin 8) (t : Fin 128) : EReal :=
  if h : t.val < 64 then P r ⟨6144 + t.val, by omega⟩ * Ideal.cos (q r * f ⟨t.val, h⟩) - P r ⟨6208 + t.val, by omega⟩ * Ideal.sin (q r * f ⟨t.val, h⟩)
  else P r ⟨6208 + (t.val - 64), by omega⟩ * Ideal.cos (q r * f ⟨t.val - 64, by omega⟩) + P r ⟨6144 + (t.val - 64), by omega⟩ * Ideal.sin (q r * f ⟨t.val - 64, by omega⟩)

/-- The new keys. -/
theorem pay1_at (q : Vec Ideal S8x1 .i32) (f : Vec Ideal S1x64 .f32) (r : Fin 8) (t : Fin 128) :
    (k0_pay1 (k0_pay12 (k0_pay3 v0 v21 v25) (k0_pay5 v0 v21 v25) (k0_pay6 v0 v21 v25) w s) (k0_pay13 q) f (ix2 r t) : EReal)
      = clip57344 (rotR (projR v0 v21 v25 w s) (posM q) (freqM f) r t) := by
  have hP : projR v0 v21 v25 w s = fun r p => k0_pay12 (k0_pay3 v0 v21 v25) (k0_pay5 v0 v21 v25) (k0_pay6 v0 v21 v25) w s (ix2 r p) :=
    funext fun r => funext fun p => (pay12_at v0 v21 v25 w s r p).symm
  rw [hP]
  generalize k0_pay12 (k0_pay3 v0 v21 v25) (k0_pay5 v0 v21 v25) (k0_pay6 v0 v21 v25) w s = A
  unfold k0_pay1 k0_pay13 clip57344 rotR freqM posM
  pointwise
end

end Cert.ReferenceIdeal.Hand

end
-- ==== Proof.RefOut.lean ====
module

public import proofs.«01_k».proof.Proof.RefVals

@[expose] public section

noncomputable section

namespace Cert.ReferenceIdeal.Hand

open Cert.ReferenceIdeal Cert.ReferenceIdeal.Gen
open Idealize.ShloMosaic Idealize.ShloMosaic.TcCoe
open Cert.KernelIdeal.Hand (scaleR codeR lhsR clip57344)

variable (m : (ℓ : Loc nD τ sig) → Buf (Elt Ideal) ℓ)

/-! ## What the region's operands hold, and what the call's results hold after the run -/

theorem blk0 (c : Dev nD) : View.ld (iblk m c 0 t0_0) r0_0 = V m c main_v0 := by
  have e0 : win0_0.index t0_0 0 = 0 := by decide +kernel
  have e1 : win0_0.index t0_0 1 = 0 := by decide +kernel
  funext j
  refine congrArg (V m c main_v0) (funext fun a => Fin.ext ?_)
  match a with
  | ⟨0, _⟩ => simp; exact e0
  | ⟨1, _⟩ => simp; exact e1
theorem blk1 (c : Dev nD) : View.ld (iblk m c 1 t0_0) r0_1 = V m c main_v1 := by
  have e0 : win0_1.index t0_0 0 = 0 := by decide +kernel
  have e1 : win0_1.index t0_0 1 = 0 := by decide +kernel
  funext j
  refine congrArg (V m c main_v1) (funext fun a => Fin.ext ?_)
  match a with
  | ⟨0, _⟩ => simp; exact e0
  | ⟨1, _⟩ => simp; exact e1
theorem blk2 (c : Dev nD) : View.ld (iblk m c 2 t0_0) r0_1 = V m c main_v2 := by
  have e0 : win0_2.index t0_0 0 = 0 := by decide +kernel
  have e1 : win0_2.index t0_0 1 = 0 := by decide +kernel
  funext j
  refine congrArg (V m c main_v2) (funext fun a => Fin.ext ?_)
  match a with
  | ⟨0, _⟩ => simp; exact e0
  | ⟨1, _⟩ => simp; exact e1
theorem blk3 (c : Dev nD) : View.ld (iblk m c 3 t0_0) r0_3 = V m c main_arg3 := by
  have e0 : win0_3.index t0_0 0 = 0 := by decide +kernel
  have e1 : win0_3.index t0_0 1 = 0 := by decide +kernel
  funext j
  refine congrArg (V m c main_arg3) (funext fun a => Fin.ext ?_)
  match a with
  | ⟨0, _⟩ => simp; exact e0
  | ⟨1, _⟩ => simp; exact e1
theorem blk4 (c : Dev nD) : View.ld (iblk m c 4 t0_0) r0_4 = V m c main_v3 := by
  have e0 : win0_4.index t0_0 0 = 0 := by decide +kernel
  have e1 : win0_4.index t0_0 1 = 0 := by decide +kernel
  funext j
  refine congrArg (V m c main_v3) (funext fun a => Fin.ext ?_)
  match a with
  | ⟨0, _⟩ => simp; exact e0
  | ⟨1, _⟩ => simp; exact e1
/-- What the call reads of the positions and of the frequencies is the whole operand. -/
theorem blk5 (c : Dev nD) : View.ld (iblk m c 5 t0_0) r0_6 = V m c main_v4 := by
  have e0 : win0_5.index t0_0 0 = 0 := by decide +kernel
  have e1 : win0_5.index t0_0 1 = 0 := by decide +kernel
  funext j
  refine congrArg (V m c main_v4) (funext fun a => Fin.ext ?_)
  match a with
  | ⟨0, _⟩ => simp; exact e0
  | ⟨1, _⟩ => simp; exact e1
theorem blk6 (c : Dev nD) : View.ld (iblk m c 6 t0_0) r0_7 = V m c main_v5 := by
  have e0 : win0_6.index t0_0 0 = 0 := by decide +kernel
  have e1 : win0_6.index t0_0 1 = 0 := by decide +kernel
  funext j
  refine congrArg (V m c main_v5) (funext fun a => Fin.ext ?_)
  match a with
  | ⟨0, _⟩ => simp; exact e0
  | ⟨1, _⟩ => simp; exact e1
/-- After the run the first result holds the scaled product of the call's operands. -/
theorem arr7 (c : Dev nD) : (dats m 0 c).arrAt 7 cfg0.N = k0_pay12 (k0_pay3 (V m c main_v0) (V m c main_v1) (V m c main_v2)) (k0_pay5 (V m c main_v0) (V m c main_v1) (V m c main_v2)) (k0_pay6 (V m c main_v0) (V m c main_v1) (V m c main_v2)) (V m c main_arg3) (V m c main_v3) := by
  refine (dats m 0 c).arrAt_eq_of_after_last 7 t0_0 (by decide +kernel) _ fun j => ?_
  blk_simp
  rw [after0_7]
  unfold_out out0_7
  rw [View.canon_unit_zero (S := S8x55552) (funext fun a => by match a with | ⟨0, _⟩ => rfl | ⟨1, _⟩ => rfl)]
  have key : ∀ (x0 : Vec Ideal S8x6144 .bf16) (x1 x2 : Vec Ideal S1x6144 .f32) (x3 : Vec Ideal S6144x55552 .fp8e4m3) (x4 : Vec Ideal S1x55552 .f32), x0 = V m c main_v0 → x1 = V m c main_v1 → x2 = V m c main_v2 → x3 = V m c main_arg3 → x4 = V m c main_v3 → k0_pay12 (k0_pay3 x0 x1 x2) (k0_pay5 x0 x1 x2) (k0_pay6 x0 x1 x2) x3 x4 j = k0_pay12 (k0_pay3 (V m c main_v0) (V m c main_v1) (V m c main_v2)) (k0_pay5 (V m c main_v0) (V m c main_v1) (V m c main_v2)) (k0_pay6 (V m c main_v0) (V m c main_v1) (V m c main_v2)) (V m c main_arg3) (V m c main_v3) j := by
    intros; subst_vars; rfl
  exact key _ _ _ _ _ (blk0 m c) (blk1 m c) (blk2 m c) (blk3 m c) (blk4 m c)
/-- The second holds the codes. -/
theorem arr8 (c : Dev nD) : (dats m 0 c).arrAt 8 cfg0.N = k0_pay10 (k0_pay3 (V m c main_v0) (V m c main_v1) (V m c main_v2)) (k0_pay5 (V m c main_v0) (V m c main_v1) (V m c main_v2)) (k0_pay6 (V m c main_v0) (V m c main_v1) (V m c main_v2)) := by
  refine (dats m 0 c).arrAt_eq_of_after_last 8 t0_0 (by decide +kernel) _ fun j => ?_
  blk_simp
  rw [after0_8]
  unfold_out out0_8
  rw [View.canon_unit_zero (S := S8x6144) (funext fun a => by match a with | ⟨0, _⟩ => rfl | ⟨1, _⟩ => rfl)]
  have key : ∀ (x0 : Vec Ideal S8x6144 .bf16) (x1 x2 : Vec Ideal S1x6144 .f32), x0 = V m c main_v0 → x1 = V m c main_v1 → x2 = V m c main_v2 → k0_pay10 (k0_pay3 x0 x1 x2) (k0_pay5 x0 x1 x2) (k0_pay6 x0 x1 x2) j = k0_pay10 (k0_pay3 (V m c main_v0) (V m c main_v1) (V m c main_v2)) (k0_pay5 (V m c main_v0) (V m c main_v1) (V m c main_v2)) (k0_pay6 (V m c main_v0) (V m c main_v1) (V m c main_v2)) j := by
    intros; subst_vars; rfl
  exact key _ _ _ (blk0 m c) (blk1 m c) (blk2 m c)
/-- The third holds the scales. -/
theorem arr9 (c : Dev nD) : (dats m 0 c).arrAt 9 cfg0.N = k0_pay11 (k0_pay5 (V m c main_v0) (V m c main_v1) (V m c main_v2)) (k0_pay6 (V m c main_v0) (V m c main_v1) (V m c main_v2)) := by
  refine (dats m 0 c).arrAt_eq_of_after_last 9 t0_0 (by decide +kernel) _ fun j => ?_
  blk_simp
  rw [after0_9]
  unfold_out out0_9
  rw [View.canon_unit_zero (S := S8x1x48) (funext fun a => by match a with | ⟨0, _⟩ => rfl | ⟨1, _⟩ => rfl | ⟨2, _⟩ => rfl)]
  have key : ∀ (x0 : Vec Ideal S8x6144 .bf16) (x1 x2 : Vec Ideal S1x6144 .f32), x0 = V m c main_v0 → x1 = V m c main_v1 → x2 = V m c main_v2 → k0_pay11 (k0_pay5 x0 x1 x2) (k0_pay6 x0 x1 x2) j = k0_pay11 (k0_pay5 (V m c main_v0) (V m c main_v1) (V m c main_v2)) (k0_pay6 (V m c main_v0) (V m c main_v1) (V m c main_v2)) j := by
    intros; subst_vars; rfl
  exact key _ _ _ (blk0 m c) (blk1 m c) (blk2 m c)
/-- The fifth holds the clipped value row. -/
theorem arr11 (c : Dev nD) : (dats m 0 c).arrAt 11 cfg0.N = k0_pay2 (k0_pay12 (k0_pay3 (V m c main_v0) (V m c main_v1) (V m c main_v2)) (k0_pay5 (V m c main_v0) (V m c main_v1) (V m c main_v2)) (k0_pay6 (V m c main_v0) (V m c main_v1) (V m c main_v2)) (V m c main_arg3) (V m c main_v3)) := by
  refine (dats m 0 c).arrAt_eq_of_after_last 11 t0_0 (by decide +kernel) _ fun j => ?_
  blk_simp
  rw [after0_11]
  unfold_out out0_11
  rw [View.canon_unit_zero (S := S8x128) (funext fun a => by match a with | ⟨0, _⟩ => rfl | ⟨1, _⟩ => rfl)]
  have key : ∀ (x0 : Vec Ideal S8x6144 .bf16) (x1 x2 : Vec Ideal S1x6144 .f32) (x3 : Vec Ideal S6144x55552 .fp8e4m3) (x4 : Vec Ideal S1x55552 .f32), x0 = V m c main_v0 → x1 = V m c main_v1 → x2 = V m c main_v2 → x3 = V m c main_arg3 → x4 = V m c main_v3 → k0_pay2 (k0_pay12 (k0_pay3 x0 x1 x2) (k0_pay5 x0 x1 x2) (k0_pay6 x0 x1 x2) x3 x4) j = k0_pay2 (k0_pay12 (k0_pay3 (V m c main_v0) (V m c main_v1) (V m c main_v2)) (k0_pay5 (V m c main_v0) (V m c main_v1) (V m c main_v2)) (k0_pay6 (V m c main_v0) (V m c main_v1) (V m c main_v2)) (V m c main_arg3) (V m c main_v3)) j := by
    intros; subst_vars; rfl
  exact key _ _ _ _ _ (blk0 m c) (blk1 m c) (blk2 m c) (blk3 m c) (blk4 m c)

/-- The fourth holds the new keys. -/
theorem arr10 (c : Dev nD) : (dats m 0 c).arrAt 10 cfg0.N = k0_pay1 (k0_pay12 (k0_pay3 (V m c main_v0) (V m c main_v1) (V m c main_v2)) (k0_pay5 (V m c main_v0) (V m c main_v1) (V m c main_v2)) (k0_pay6 (V m c main_v0) (V m c main_v1) (V m c main_v2)) (V m c main_arg3) (V m c main_v3)) (k0_pay13 (V m c main_v4)) (V m c main_v5) := by
  refine (dats m 0 c).arrAt_eq_of_after_last 10 t0_0 (by decide +kernel) _ fun j => ?_
  blk_simp
  rw [after0_10]
  unfold_out out0_10
  rw [View.canon_unit_zero (S := S8x128) (funext fun a => by match a with | ⟨0, _⟩ => rfl | ⟨1, _⟩ => rfl)]
  have key : ∀ (x0 : Vec Ideal S8x6144 .bf16) (x1 x2 : Vec Ideal S1x6144 .f32) (x3 : Vec Ideal S6144x55552 .fp8e4m3) (x4 : Vec Ideal S1x55552 .f32) (x5 : Vec Ideal S8x1 .i32) (x6 : Vec Ideal S1x64 .f32), x0 = V m c main_v0 → x1 = V m c main_v1 → x2 = V m c main_v2 → x3 = V m c main_arg3 → x4 = V m c main_v3 → x5 = V m c main_v4 → x6 = V m c main_v5 → k0_pay1 (k0_pay12 (k0_pay3 x0 x1 x2) (k0_pay5 x0 x1 x2) (k0_pay6 x0 x1 x2) x3 x4) (k0_pay13 x5) x6 j = k0_pay1 (k0_pay12 (k0_pay3 (V m c main_v0) (V m c main_v1) (V m c main_v2)) (k0_pay5 (V m c main_v0) (V m c main_v1) (V m c main_v2)) (k0_pay6 (V m c main_v0) (V m c main_v1) (V m c main_v2)) (V m c main_arg3) (V m c main_v3)) (k0_pay13 (V m c main_v4)) (V m c main_v5) j := by
    intros; subst_vars; rfl
  exact key _ _ _ _ _ _ _ (blk0 m c) (blk1 m c) (blk2 m c) (blk3 m c) (blk4 m c) (blk5 m c) (blk6 m c)

/-- The rows the call is given are the first argument's. -/
theorem ent0 (c : Dev nD) (r : Fin 8) (l : Fin 6144) : V m c main_v0 (ix2 r l) = m ((c : Thread nD τ).loc main_arg0) (ix3 r (0 : Fin 1) l) := by
  entry_read
  pointwise
/-- The gain is the second argument. -/
theorem ent1 (c : Dev nD) (l : Fin 6144) : V m c main_v1 (ix2 (0 : Fin 1) l) = m ((c : Thread nD τ).loc main_arg1) (ix1 l) := by
  entry_read
  pointwise
/-- The offset is the third. -/
theorem ent2 (c : Dev nD) (l : Fin 6144) : V m c main_v2 (ix2 (0 : Fin 1) l) = m ((c : Thread nD τ).loc main_arg2) (ix1 l) := by
  entry_read
  pointwise
/-- The column scales are the fifth. -/
theorem ent3 (c : Dev nD) (l : Fin 55552) : V m c main_v3 (ix2 (0 : Fin 1) l) = m ((c : Thread nD τ).loc main_arg4) (ix1 l) := by
  entry_read
  pointwise
/-- The positions are the eleventh. -/
theorem ent4 (c : Dev nD) (r : Fin 8) : V m c main_v4 (ix2 r (0 : Fin 1)) = m ((c : Thread nD τ).loc main_arg10) (ix1 r) := by
  entry_read
  pointwise
/-- The frequencies are the constants of the host. -/
theorem ent5 (c : Dev nD) (t : Fin 64) : (V m c main_v5 (ix2 (0 : Fin 1) t) : EReal) = Ideal.ofBits .f32 (lit0 t) := by
  entry_read
  pointwise
  exact congrArg (fun i : Fin 64 => Ideal.ofBits .f32 (lit0 i)) (Fin.ext (Shape.rowMajor_val_one (ix1 t)))

end Cert.ReferenceIdeal.Hand

end
-- ==== Proof.Algebra.lean ====
module

public import proofs.«01_k».proof.Defs
public import proofs.«01_k».proof.Proof.IdealOut
public import proofs.«01_k».proof.Proof.RefOut

@[expose] public section

noncomputable section

namespace Cert.Proof

open Idealize.ShloMosaic Idealize.ShloMosaic.TcCoe Idealize.SL.Sem
open Cert.KernelIdeal.Hand (IsR xArg gArg bArg projArg codeR scaleR lhsR clip57344 rotV angArg)

/-! ## Finite rows -/

/-- A value whose magnitude is below infinity is a real number. -/
theorem isR_of_lt (x : EReal) (h : Ideal.cmp .olt (max x (-x)) (Ideal.ofBits .f32 0x7F800000#32) = 1#1) : IsR x := by
  rw [Cert.KernelIdeal.Hand.bits_top, Cert.KernelIdeal.Hand.cmp_olt] at h
  induction x using EReal.rec with
  | bot => simp at h
  | top => simp at h
  | coe y => exact ⟨y, rfl⟩

/-- The side conditions of the precondition's text. -/
theorem preFacts : Cert.Pre_finite_rows.Facts where
  bitsLt_bf16_f32 := by decide
  bcast_S_S8x1x6144 := by decide
  bcast_S_S6144 := by decide

variable (m : (ℓ : Loc Cert.KernelIdeal.nD Cert.KernelIdeal.τ Cert.KernelIdeal.sig) → Buf (Elt Ideal) ℓ)

/-- Rows, gain and offset that the precondition calls finite are real numbers. -/
theorem finite_args (h : Pre_KernelIdeal_finite_rows (hPre_finite_rows := preFacts) m) :
    (∀ c r l, IsR (xArg m c r l)) ∧ (∀ c l, IsR (gArg m c l)) ∧ ∀ c l, IsR (bArg m c l) := by
  refine ⟨fun c r l => ?_, fun c l => ?_, fun c l => ?_⟩
  · exact isR_of_lt _ (congrFun (h c).1 (ix3 r (0 : Fin 1) l))
  · exact isR_of_lt _ (congrFun (h c).2.1 (ix1 l))
  · exact isR_of_lt _ (congrFun (h c).2.2 (ix1 l))

/-! ## The two runs leave the same five results -/

/-- Every index of a rank-two (below, rank-three) array is its list of coordinates. -/
theorem eta2 {a b : ℕ} (j : (⟨2, ![a, b]⟩ : Shape).Idx) : ∃ (r : Fin a) (l : Fin b), j = ix2 r l :=
  ⟨j 0, j 1, funext fun x => by match x with | ⟨0, _⟩ => rfl | ⟨1, _⟩ => rfl⟩
theorem eta3 {a b d : ℕ} (j : (⟨3, ![a, b, d]⟩ : Shape).Idx) : ∃ (r : Fin a) (l : Fin b) (k : Fin d), j = ix3 r l k :=
  ⟨j 0, j 1, j 2, funext fun x => by match x with | ⟨0, _⟩ => rfl | ⟨1, _⟩ => rfl | ⟨2, _⟩ => rfl⟩

/-- The kernel's table of frequencies is the reference's, twice. -/
theorem table_lo : ∀ t : Fin 64, Cert.KernelIdeal.lit0 ⟨t.val, by omega⟩ = Cert.ReferenceIdeal.lit0 t := by decide
theorem table_hi : ∀ t : Fin 64, Cert.KernelIdeal.lit0 ⟨t.val + 64, by omega⟩ = Cert.ReferenceIdeal.lit0 t := by decide

/-- Turning the halves by the half table is turning the whole by the doubled table with the columns shifted by 64. -/
theorem rot_eq (P : Fin 8 → Fin 55552 → EReal) (q : Fin 8 → EReal) (r : Fin 8) (t : Fin 128) :
    Cert.ReferenceIdeal.Hand.rotR P q (fun t => Ideal.ofBits .f32 (Cert.ReferenceIdeal.lit0 t)) r t
      = Cert.KernelIdeal.Hand.rotV P (fun r t => q r * Ideal.ofBits .f32 (Cert.KernelIdeal.lit0 t)) r t := by
  unfold Cert.ReferenceIdeal.Hand.rotR Cert.KernelIdeal.Hand.rotV
  by_cases h : t.val < 64
  · have e : (⟨6144 + (t.val + 128 - 64) % 128, by omega⟩ : Fin 55552) = ⟨6208 + t.val, by omega⟩ :=
      Fin.ext (show 6144 + (t.val + 128 - 64) % 128 = 6208 + t.val by omega)
    have l : Cert.KernelIdeal.lit0 t = Cert.ReferenceIdeal.lit0 ⟨t.val, h⟩ := table_lo ⟨t.val, h⟩
    rw [dif_pos h, if_pos h, e]
    dsimp only
    rw [l]
  · have e : (⟨6144 + (t.val + 128 - 64) % 128, by omega⟩ : Fin 55552) = ⟨6144 + (t.val - 64), by omega⟩ :=
      Fin.ext (show 6144 + (t.val + 128 - 64) % 128 = 6144 + (t.val - 64) by omega)
    have e' : (⟨6144 + t.val, by omega⟩ : Fin 55552) = ⟨6208 + (t.val - 64), by omega⟩ :=
      Fin.ext (show 6144 + t.val = 6208 + (t.val - 64) by omega)
    have l : Cert.KernelIdeal.lit0 t = Cert.ReferenceIdeal.lit0 ⟨t.val - 64, by omega⟩ :=
      (congrArg Cert.KernelIdeal.lit0 (Fin.ext (show t.val = t.val - 64 + 64 by omega))).trans (table_hi ⟨t.val - 64, by omega⟩)
    rw [dif_neg h, if_neg h, e, e']
    dsimp only
    rw [l]

section
variable (m' : (ℓ : Loc Cert.ReferenceIdeal.nD Cert.ReferenceIdeal.τ Cert.ReferenceIdeal.sig) → Buf (Elt Ideal) ℓ)

/-- The first five arguments of the two programs and their positions agree. -/
structure Agree (c : Dev Cert.KernelIdeal.nD) : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)

variable (c : Dev Cert.KernelIdeal.nD) (hA : Agree m m' c)
open Cert.ReferenceIdeal.Hand (xM rowM projR posM freqM rotR ent0 ent1 ent2 ent3 ent4 ent5)

/-! What the reference's call reads is what the kernel was given: rows, gain, offset, weights, weight scales. -/

include hA in
theorem rx_eq : xM (Cert.ReferenceIdeal.Gen.V m' c Cert.ReferenceIdeal.main_v0) = xArg m c :=
  funext fun r => funext fun l => (ent0 m' c r l).trans (congrFun hA.a0 (ix3 r (0 : Fin 1) l))
include hA in
theorem rg_eq : rowM (Cert.ReferenceIdeal.Gen.V m' c Cert.ReferenceIdeal.main_v1) = gArg m c :=
  funext fun l => (ent1 m' c l).trans (congrFun hA.a1 (ix1 l))
include hA in
theorem rb_eq : rowM (Cert.ReferenceIdeal.Gen.V m' c Cert.ReferenceIdeal.main_v2) = bArg m c :=
  funext fun l => (ent2 m' c l).trans (congrFun hA.a2 (ix1 l))
include hA in
theorem rw_eq (l : Fin 6144) (p : Fin 55552) : Cert.ReferenceIdeal.Gen.V m' c Cert.ReferenceIdeal.main_arg3 (ix2 l p)
    = m ((c.tc : Thread Cert.KernelIdeal.nD Cert.KernelIdeal.τ).loc Cert.KernelIdeal.main_arg3) (ix2 l p) :=
  (congrFun (Cert.ReferenceIdeal.Gen.V_main_arg3 m' c) (ix2 l p)).trans (congrFun hA.a3 (ix2 l p))
include hA in
theorem rs_eq (p : Fin 55552) : Cert.ReferenceIdeal.Gen.V m' c Cert.ReferenceIdeal.main_v3 (ix2 (0 : Fin 1) p)
    = m ((c.tc : Thread Cert.KernelIdeal.nD Cert.KernelIdeal.τ).loc Cert.KernelIdeal.main_arg4) (ix1 p) :=
  (ent3 m' c p).trans (congrFun hA.a4 (ix1 p))
include hA in
/-- The reference's scaled product is the one computed from the kernel's arguments. -/
theorem rproj_eq (r : Fin 8) (p : Fin 55552) :
    projR (Cert.ReferenceIdeal.Gen.V m' c Cert.ReferenceIdeal.main_v0) (Cert.ReferenceIdeal.Gen.V m' c Cert.ReferenceIdeal.main_v1) (Cert.ReferenceIdeal.Gen.V m' c Cert.ReferenceIdeal.main_v2)
      (Cert.ReferenceIdeal.Gen.V m' c Cert.ReferenceIdeal.main_arg3) (Cert.ReferenceIdeal.Gen.V m' c Cert.ReferenceIdeal.main_v3) r p = projArg m c r p := by
  unfold projR projArg
  rw [rx_eq m m' c hA, rg_eq m m' c hA, rb_eq m m' c hA]
  exact congrArg₂ (fun (a b : EReal) => a * b) (Finset.sum_congr rfl fun l _ => congrArg (fun (b : EReal) => lhsR (xArg m c) (gArg m c) (bArg m c) r l * b) (rw_eq m m' c hA l p)) (rs_eq m m' c hA p)

include hA in
theorem rpos_eq : posM (Cert.ReferenceIdeal.Gen.V m' c Cert.ReferenceIdeal.main_v4)
    = fun r => (FloatOps.sitofp (F := Ideal) .f32 (m ((c.tc : Thread Cert.KernelIdeal.nD Cert.KernelIdeal.τ).loc Cert.KernelIdeal.main_arg10) (ix1 r)) : EReal) :=
  funext fun r => congrArg (fun w : BitVec 32 => (FloatOps.sitofp (F := Ideal) .f32 w : EReal)) ((ent4 m' c r).trans (congrFun hA.a10 (ix1 r)))
theorem rfreq_eq (c : Dev Cert.ReferenceIdeal.nD) : freqM (Cert.ReferenceIdeal.Gen.V m' c Cert.ReferenceIdeal.main_v5) = fun t => Ideal.ofBits .f32 (Cert.ReferenceIdeal.lit0 t) :=
  funext fun t => ent5 m' c t

open Cert.ReferenceIdeal.Gen (dats) in
open Cert.ReferenceIdeal (cfg0) in
include hA in
/-- The reference's five results from the kernel's arguments. -/
theorem ref_vals :
    (∀ (r : Fin 8) (p : Fin 55552), ((dats m' 0 c).arrAt 7 cfg0.N (ix2 r p) : EReal) = projArg m c r p)
    ∧ (∀ (r : Fin 8) (l : Fin 6144), ((dats m' 0 c).arrAt 8 cfg0.N (ix2 r l) : EReal) = codeR (xArg m c) (gArg m c) (bArg m c) r l)
    ∧ (∀ (r : Fin 8) (z : Fin 1) (q : Fin 48), ((dats m' 0 c).arrAt 9 cfg0.N (ix3 r z q) : EReal) = scaleR (xArg m c) (gArg m c) (bArg m c) r q)
    ∧ (∀ (r : Fin 8) (t : Fin 128), ((dats m' 0 c).arrAt 10 cfg0.N (ix2 r t) : EReal) = clip57344 (rotV (projArg m c) (angArg m c) r t))
    ∧ ∀ (r : Fin 8) (t : Fin 128), ((dats m' 0 c).arrAt 11 cfg0.N (ix2 r t) : EReal) = clip57344 (projArg m c r ⟨6272 + t.val, by omega⟩) := by
  refine ⟨fun r p => ?_, fun r l => ?_, fun r z q => ?_, fun r t => ?_, fun r t => ?_⟩
  · exact (congrFun (Cert.ReferenceIdeal.Hand.arr7 m' c) (ix2 r p)).trans ((Cert.ReferenceIdeal.Hand.pay12_at _ _ _ _ _ r p).trans (rproj_eq m m' c hA r p))
  · refine (congrFun (Cert.ReferenceIdeal.Hand.arr8 m' c) (ix2 r l)).trans ((Cert.ReferenceIdeal.Hand.pay10_at _ _ _ r l).trans ?_)
    rw [rx_eq m m' c hA, rg_eq m m' c hA, rb_eq m m' c hA]
  · refine (congrFun (Cert.ReferenceIdeal.Hand.arr9 m' c) (ix3 r z q)).trans ((Cert.ReferenceIdeal.Hand.pay11_at _ _ _ r z q).trans ?_)
    rw [rx_eq m m' c hA, rg_eq m m' c hA, rb_eq m m' c hA]
  · refine (congrFun (Cert.ReferenceIdeal.Hand.arr10 m' c) (ix2 r t)).trans ((Cert.ReferenceIdeal.Hand.pay1_at _ _ _ _ _ _ _ r t).trans (congrArg clip57344 ?_))
    rw [rpos_eq m m' c hA, rfreq_eq m' c, show projR (Cert.ReferenceIdeal.Gen.V m' c Cert.ReferenceIdeal.main_v0) (Cert.ReferenceIdeal.Gen.V m' c Cert.ReferenceIdeal.main_v1) (Cert.ReferenceIdeal.Gen.V m' c Cert.ReferenceIdeal.main_v2)
      (Cert.ReferenceIdeal.Gen.V m' c Cert.ReferenceIdeal.main_arg3) (Cert.ReferenceIdeal.Gen.V m' c Cert.ReferenceIdeal.main_v3) = projArg m c from funext fun r => funext fun p => rproj_eq m m' c hA r p]
    exact rot_eq _ _ r t
  · exact (congrFun (Cert.ReferenceIdeal.Hand.arr11 m' c) (ix2 r t)).trans ((Cert.ReferenceIdeal.Hand.pay2_at _ _ _ _ _ r t).trans (congrArg clip57344 (rproj_eq m m' c hA r _)))
end

/-- From the same arguments with finite rows, gain and offset, the kernel and the reference leave equal results:
    the scaled product, the codes, the block scales, the new key row and the new value row. -/
theorem algebra : algebraic_KernelIdeal_ReferenceIdeal_pre_finite_rows (hKernelIdeal := Cert.KernelIdeal.Gen.facts) (hReferenceIdeal := Cert.ReferenceIdeal.Gen.facts) (hPre_finite_rows := preFacts) := by
  intro m g m' g' hpre hagree
  obtain ⟨hX, hg, hb⟩ := finite_args m hpre
  have hA : ∀ c : Dev Cert.KernelIdeal.nD, Agree m m' c := fun c => ⟨(hagree c).1, (hagree c).2.1, (hagree c).2.2.1, (hagree c).2.2.2.1, (hagree c).2.2.2.2.1, (hagree c).2.2.2.2.2.2.2.2.2.2⟩
  refine ⟨fun c => (Cert.ReferenceIdeal.Gen.dats m' 0 c).arrAt 7 Cert.ReferenceIdeal.cfg0.N, fun c => (Cert.ReferenceIdeal.Gen.dats m' 0 c).arrAt 8 Cert.ReferenceIdeal.cfg0.N,
    fun c => (Cert.ReferenceIdeal.Gen.dats m' 0 c).arrAt 9 Cert.ReferenceIdeal.cfg0.N, fun c => (Cert.ReferenceIdeal.Gen.dats m' 0 c).arrAt 10 Cert.ReferenceIdeal.cfg0.N, fun c => (Cert.ReferenceIdeal.Gen.dats m' 0 c).arrAt 11 Cert.ReferenceIdeal.cfg0.N, ?_, ?_⟩
  · refine (θ_run _ _ _).mono (fun r h c => ?_) (θ_run_and (Cert.KernelIdeal.Hand.run_main m g) (Cert.KernelIdeal.Hand.frame m g))
    obtain ⟨W, hn, hW⟩ := h.1.1.2 c
    obtain ⟨k1, k3, k4, k6, k5⟩ := Cert.KernelIdeal.Hand.named_vals m hX hg hb c W hn
    obtain ⟨r1, r3, r4, r5, r6⟩ := ref_vals m m' c (hA c)
    refine ⟨(hW _ (by decide)).trans (funext fun j => ?_), (hW _ (by decide)).trans (funext fun j => ?_), (hW _ (by decide)).trans (funext fun j => ?_), (hW _ (by decide)).trans (funext fun j => ?_), (hW _ (by decide)).trans (funext fun j => ?_), h.2.1 c⟩
    · obtain ⟨a, b, rfl⟩ := eta2 (a := 8) (b := 55552) j; exact (k1 a b).trans (r1 a b).symm
    · obtain ⟨a, b, rfl⟩ := eta2 (a := 8) (b := 6144) j; exact (k3 a b).trans (r3 a b).symm
    · obtain ⟨a, z, b, rfl⟩ := eta3 (a := 8) (b := 1) (d := 48) j; exact (k4 a z b).trans (r4 a z b).symm
    · obtain ⟨a, b, rfl⟩ := eta2 (a := 8) (b := 128) j; exact (k5 a b).trans (r5 a b).symm
    · obtain ⟨a, b, rfl⟩ := eta2 (a := 8) (b := 128) j; exact (k6 a b).trans (r6 a b).symm
  · exact Cert.ReferenceIdeal.Hand.run_blocks m' g'

end Cert.Proof

end
-- ==== Proof.lean ====
module

public import proofs.«01_k».proof.Defs
public import proofs.«01_k».proof.Proof.Launch
public import proofs.«01_k».proof.Proof.IdealLaunch
public import proofs.«01_k».proof.Proof.Algebra

@[expose] public section

noncomputable section

namespace Cert.Proof

open Idealize.ShloMosaic Idealize.SL.Sem

/-- All three programs terminate from every memory, with the arguments unchanged and the counters at zero; the kernel read
    at the real numbers is the same text; and on finite rows its five results are the reference's. -/
theorem claim : Cert.Claim :=
  ⟨Cert.Kernel.Gen.facts, Cert.KernelIdeal.Gen.facts, Cert.ReferenceIdeal.Gen.facts, preFacts,
    fun m g _ => Cert.Kernel.Hand.frame m g, fun m g _ => Cert.KernelIdeal.Hand.frame m g, fun m g _ => Cert.KernelIdeal.Hand.frame m g,
    fun m g _ => Cert.ReferenceIdeal.Gen.frame m g, fun m g _ => Cert.ReferenceIdeal.Gen.frame m g, trivial, algebra⟩

end Cert.Proof

end
